-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_pre_bwd_finite [hPre_conv_pre_bwd_finite : Cert.Pre_conv_pre_bwd_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_pre_bwd_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_pre_bwd_finite [hPre_conv_pre_bwd_finite : Cert.Pre_conv_pre_bwd_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_pre_bwd_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_bwd_finite [hPre_ffn_bwd_finite : Cert.Pre_ffn_bwd_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_bwd_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_bwd_finite [hPre_ffn_bwd_finite : Cert.Pre_ffn_bwd_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_bwd_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_ffn_loss_finite [hPre_ffn_loss_finite : Cert.Pre_ffn_loss_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_ffn_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_ffn_loss_finite [hPre_ffn_loss_finite : Cert.Pre_ffn_loss_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_ffn_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_attn_pre_bwd_finite [hPre_attn_pre_bwd_finite : Cert.Pre_attn_pre_bwd_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_attn_pre_bwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_attn_pre_bwd_finite [hPre_attn_pre_bwd_finite : Cert.Pre_attn_pre_bwd_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_attn_pre_bwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_conv_pre_bwd_finite [hKernelIdeal : Cert.KernelIdeal.Facts] [hPre_conv_pre_bwd_finite : Cert.Pre_conv_pre_bwd_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_pre_bwd_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_conv_pre_bwd_finite [hReferenceIdeal : Cert.ReferenceIdeal.Facts] [hPre_conv_pre_bwd_finite : Cert.Pre_conv_pre_bwd_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_pre_bwd_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ffn_bwd_finite [hKernel2Ideal : Cert.Kernel2Ideal.Facts] [hPre_ffn_bwd_finite : Cert.Pre_ffn_bwd_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_bwd_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ffn_bwd_finite [hReference2Ideal : Cert.Reference2Ideal.Facts] [hPre_ffn_bwd_finite : Cert.Pre_ffn_bwd_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_bwd_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_ffn_loss_finite [hKernel8Ideal : Cert.Kernel8Ideal.Facts] [hPre_ffn_loss_finite : Cert.Pre_ffn_loss_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_ffn_loss_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_ffn_loss_finite [hReference8Ideal : Cert.Reference8Ideal.Facts] [hPre_ffn_loss_finite : Cert.Pre_ffn_loss_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_ffn_loss_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_attn_pre_bwd_finite [hKernel9Ideal : Cert.Kernel9Ideal.Facts] [hPre_attn_pre_bwd_finite : Cert.Pre_attn_pre_bwd_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_attn_pre_bwd_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_attn_pre_bwd_finite [hReference9Ideal : Cert.Reference9Ideal.Facts] [hPre_attn_pre_bwd_finite : Cert.Pre_attn_pre_bwd_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_attn_pre_bwd_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_conv_pre_bwd_finite [hKernelIdeal : Cert.KernelIdeal.Facts] [hReferenceIdeal : Cert.ReferenceIdeal.Facts] [hPre_conv_pre_bwd_finite : Cert.Pre_conv_pre_bwd_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_pre_bwd_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_ffn_bwd_finite [hKernel2Ideal : Cert.Kernel2Ideal.Facts] [hReference2Ideal : Cert.Reference2Ideal.Facts] [hPre_ffn_bwd_finite : Cert.Pre_ffn_bwd_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_bwd_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_v40_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_ffn_loss_finite [hKernel8Ideal : Cert.Kernel8Ideal.Facts] [hReference8Ideal : Cert.Reference8Ideal.Facts] [hPre_ffn_loss_finite : Cert.Pre_ffn_loss_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_ffn_loss_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)) (v3 : (c : Dev Cert.Kernel8Ideal.nD) → Buf (Elt Ideal) ((c.tc : Thread Cert.Kernel8Ideal.nD Cert.Kernel8Ideal.τ).loc Cert.Kernel8Ideal.main_v7_3)) (v4 : (c : Dev Cert.Kernel8Ideal.nD) → Buf (Elt Ideal) ((c.tc : Thread Cert.Kernel8Ideal.nD Cert.Kernel8Ideal.τ).loc Cert.Kernel8Ideal.main_v7_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_v7_3) = v3 c
          ∧ r.2.mem ((c.tc : Thread Cert.Kernel8Ideal.nD Cert.Kernel8Ideal.τ).loc Cert.Kernel8Ideal.main_v7_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v86) = v0 c
          ∧ r.2.mem ((c.tc : Thread Cert.Reference8Ideal.nD Cert.Reference8Ideal.τ).loc Cert.Reference8Ideal.main_v89) = v1 c
          ∧ r.2.mem ((c.tc : Thread Cert.Reference8Ideal.nD Cert.Reference8Ideal.τ).loc Cert.Reference8Ideal.main_v70) = v2 c
          ∧ r.2.mem ((c.tc : Thread Cert.Reference8Ideal.nD Cert.Reference8Ideal.τ).loc Cert.Reference8Ideal.main_v90) = v3 c
          ∧ r.2.mem ((c.tc : Thread Cert.Reference8Ideal.nD Cert.Reference8Ideal.τ).loc Cert.Reference8Ideal.main_v83) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_attn_pre_bwd_finite [hKernel9Ideal : Cert.Kernel9Ideal.Facts] [hReference9Ideal : Cert.Reference9Ideal.Facts] [hPre_attn_pre_bwd_finite : Cert.Pre_attn_pre_bwd_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_attn_pre_bwd_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v36_0)) (v1 : (c : Dev Cert.Kernel9Ideal.nD) → Buf (Elt Ideal) ((c.tc : Thread Cert.Kernel9Ideal.nD Cert.Kernel9Ideal.τ).loc Cert.Kernel9Ideal.main_v36_1)) (v2 : (c : Dev Cert.Kernel9Ideal.nD) → Buf (Elt Ideal) ((c.tc : Thread Cert.Kernel9Ideal.nD Cert.Kernel9Ideal.τ).loc Cert.Kernel9Ideal.main_v36_2)) (v3 : (c : Dev Cert.Kernel9Ideal.nD) → Buf (Elt Ideal) ((c.tc : Thread Cert.Kernel9Ideal.nD Cert.Kernel9Ideal.τ).loc Cert.Kernel9Ideal.main_v36_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v36_0) = v0 c
          ∧ r.2.mem ((c.tc : Thread Cert.Kernel9Ideal.nD Cert.Kernel9Ideal.τ).loc Cert.Kernel9Ideal.main_v36_1) = v1 c
          ∧ r.2.mem ((c.tc : Thread Cert.Kernel9Ideal.nD Cert.Kernel9Ideal.τ).loc Cert.Kernel9Ideal.main_v36_2) = v2 c
          ∧ r.2.mem ((c.tc : Thread Cert.Kernel9Ideal.nD Cert.Kernel9Ideal.τ).loc Cert.Kernel9Ideal.main_v36_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v145) = v0 c
          ∧ r.2.mem ((c.tc : Thread Cert.Reference9Ideal.nD Cert.Reference9Ideal.τ).loc Cert.Reference9Ideal.main_v147) = v1 c
          ∧ r.2.mem ((c.tc : Thread Cert.Reference9Ideal.nD Cert.Reference9Ideal.τ).loc Cert.Reference9Ideal.main_v148) = v2 c
          ∧ r.2.mem ((c.tc : Thread Cert.Reference9Ideal.nD Cert.Reference9Ideal.τ).loc Cert.Reference9Ideal.main_v149) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v31) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v33) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v35) = v2 c
          ∧ r.2.mem ((c.tc : Thread Cert.Reference14Ideal.nD Cert.Reference14Ideal.τ).loc Cert.Reference14Ideal.main_v36) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_conv_pre_bwd_finite : Cert.Pre_conv_pre_bwd_finite.Facts) (hPre_ffn_bwd_finite : Cert.Pre_ffn_bwd_finite.Facts) (hPre_ffn_loss_finite : Cert.Pre_ffn_loss_finite.Facts) (hPre_attn_pre_bwd_finite : Cert.Pre_attn_pre_bwd_finite.Facts),
    quiescent_Kernel (hKernel := hKernel)
    ∧ quiescent_KernelIdeal (hKernelIdeal := hKernelIdeal)
    ∧ quiescent_KernelIdeal_pre_conv_pre_bwd_finite (hKernelIdeal := hKernelIdeal) (hPre_conv_pre_bwd_finite := hPre_conv_pre_bwd_finite)
    ∧ quiescent_ReferenceIdeal (hReferenceIdeal := hReferenceIdeal)
    ∧ quiescent_ReferenceIdeal_pre_conv_pre_bwd_finite (hReferenceIdeal := hReferenceIdeal) (hPre_conv_pre_bwd_finite := hPre_conv_pre_bwd_finite)
    ∧ quiescent_Kernel2 (hKernel2 := hKernel2)
    ∧ quiescent_Kernel2Ideal (hKernel2Ideal := hKernel2Ideal)
    ∧ quiescent_Kernel2Ideal_pre_ffn_bwd_finite (hKernel2Ideal := hKernel2Ideal) (hPre_ffn_bwd_finite := hPre_ffn_bwd_finite)
    ∧ quiescent_Reference2Ideal (hReference2Ideal := hReference2Ideal)
    ∧ quiescent_Reference2Ideal_pre_ffn_bwd_finite (hReference2Ideal := hReference2Ideal) (hPre_ffn_bwd_finite := hPre_ffn_bwd_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_ffn_loss_finite (hKernel8Ideal := hKernel8Ideal) (hPre_ffn_loss_finite := hPre_ffn_loss_finite)
    ∧ quiescent_Reference8Ideal (hReference8Ideal := hReference8Ideal)
    ∧ quiescent_Reference8Ideal_pre_ffn_loss_finite (hReference8Ideal := hReference8Ideal) (hPre_ffn_loss_finite := hPre_ffn_loss_finite)
    ∧ quiescent_Kernel9 (hKernel9 := hKernel9)
    ∧ quiescent_Kernel9Ideal (hKernel9Ideal := hKernel9Ideal)
    ∧ quiescent_Kernel9Ideal_pre_attn_pre_bwd_finite (hKernel9Ideal := hKernel9Ideal) (hPre_attn_pre_bwd_finite := hPre_attn_pre_bwd_finite)
    ∧ quiescent_Reference9Ideal (hReference9Ideal := hReference9Ideal)
    ∧ quiescent_Reference9Ideal_pre_attn_pre_bwd_finite (hReference9Ideal := hReference9Ideal) (hPre_attn_pre_bwd_finite := hPre_attn_pre_bwd_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_conv_pre_bwd_finite (hKernelIdeal := hKernelIdeal) (hReferenceIdeal := hReferenceIdeal) (hPre_conv_pre_bwd_finite := hPre_conv_pre_bwd_finite)
    ∧ preserves_Kernel2_Kernel2Ideal
    ∧ algebraic_Kernel2Ideal_Reference2Ideal_pre_ffn_bwd_finite (hKernel2Ideal := hKernel2Ideal) (hReference2Ideal := hReference2Ideal) (hPre_ffn_bwd_finite := hPre_ffn_bwd_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_ffn_loss_finite (hKernel8Ideal := hKernel8Ideal) (hReference8Ideal := hReference8Ideal) (hPre_ffn_loss_finite := hPre_ffn_loss_finite)
    ∧ preserves_Kernel9_Kernel9Ideal
    ∧ algebraic_Kernel9Ideal_Reference9Ideal_pre_attn_pre_bwd_finite (hKernel9Ideal := hKernel9Ideal) (hReference9Ideal := hReference9Ideal) (hPre_attn_pre_bwd_finite := hPre_attn_pre_bwd_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_attn_pre_bwd_finite.lean ====
abbrev S64x1024x128 : Shape := ⟨3, ![64, 1024, 128]⟩
abbrev S9216x256 : Shape := ⟨2, ![9216, 256]⟩
abbrev S8192x1024 : Shape := ⟨2, ![8192, 1024]⟩
abbrev S1024 : Shape := ⟨1, ![1024]⟩
abbrev S1024x1536 : Shape := ⟨2, ![1024, 1536]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S9216x256 : S_.BroadcastsInDim S9216x256 (![] : Fin 0 → Fin S9216x256.rank)
  reducesTo_S9216x256_S_d0_1 : S9216x256.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_

variable [Facts]

def fn_part1 {F : FTy → Type} [FloatOps F] (main_arg4 : FVec F S1024 .f32) (main_arg5 : FVec F S1024x1536 .f32) (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S1024x1536 .f32 := Host.absf main_arg5
  let main_cst_9 : FVec F S_ .f32 := constant S_ .f32 0x7F800000#32
  let main_v26 : FVec F S1024x1536 .f32 := broadcastInDim S1024x1536 ![] bcast_S_S1024x1536 main_cst_9
  let main_v27 : IVec S1024x1536 1 := cmpf .olt main_v25 main_v26
  let main_c_10 : IVec S_ 1 := constantI S_ 1 1#1
  let main_v28 : IVec S_ 1 := (fun x v => Host.reduce IntOp.andi x v reducesTo_S1024x1536_S_d0_1 h_S_) main_v27 main_c_10
  let main_v29 : IVec S_ 1 := andi main_v24 main_v28
  main_v29

def fn {F : FTy → Type} [FloatOps F] (main_arg0 : FVec F S64x1024x128 .f32) (main_arg1 : FVec F S9216x256 .f32) (main_arg2 : FVec F S9216x256 .f32) (main_arg3 : FVec F S8192x1024 .f32) (main_arg4 : FVec F S1024 .f32) (main_arg5 : FVec F S1024x1536 .f32) (main_arg6 : FVec F S8192x1024 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_c_0 : IVec S_ 1 := constantI S_ 1 1#1
  let main_v4 : IVec S_ 1 := andi main_c_0 main_v3
  let main_v5 : FVec F S9216x256 .f32 := Host.absf main_arg1
  let main_cst_1 : FVec F S_ .f32 := constant S_ .f32 0x7F800000#32
  let main_v6 : FVec F S9216x256 .f32 := broadcastInDim S9216x256 ![] bcast_S_S9216x256 main_cst_1
  let main_v7 : IVec S9216x256 1 := cmpf .olt main_v5 main_v6
  let main_c_2 : IVec S_ 1 := constantI S_ 1 1#1
  let main_v8 : IVec S_ 1 := (fun x v => Host.reduce IntOp.andi x v reducesTo_S9216x256_S_d0_1 h_S_) main_v7 main_c_2
  let main_v9 : IVec S_ 1 := andi main_v4 main_v8
  let main_v10 : FVec F S9216x256 .f32 := Host.absf main_arg2
  let main_cst_3 : FVec F S_ .f32 := constant S_ .f32 0x7F800000#32
  let main_v11 : FVec F S9216x256 .f32 := broadcastInDim S9216x256 ![] bcast_S_S9216x256 main_cst_3
  let main_v12 : IVec S9216x256 1 := cmpf .olt main_v10 main_v11
  let main_c_4 : IVec S_ 1 := constantI S_ 1 1#1
  let main_v13 : IVec S_ 1 := (fun x v => Host.reduce IntOp.andi x v reducesTo_S9216x256_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_arg4 main_arg5 main_v14 main_v15 main_cst_5
-- ==== Pre_conv_pre_bwd_finite.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192x1024 .f32) (main_v14 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .olt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  main_v24

def fn {F : FTy → Type} [FloatOps F] (main_arg0 : FVec F S8192x1024 .f32) (main_arg1 : FVec F S1024 .f32) (main_arg2 : FVec F S1024x2048 .f32) (main_arg3 : FVec F S2048 .f32) (main_arg4 : FVec F S8192x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x2048 .f32 := Host.absf main_arg2
  let main_cst_3 : FVec F S_ .f32 := constant S_ .f32 0x7F800000#32
  let main_v11 : FVec F S1024x2048 .f32 := broadcastInDim S1024x2048 ![] bcast_S_S1024x2048 main_cst_3
  let main_v12 : IVec S1024x2048 1 := cmpf .olt main_v10 main_v11
  let main_c_4 : IVec S_ 1 := constantI S_ 1 1#1
  let main_v13 : IVec S_ 1 := (fun x v => Host.reduce IntOp.andi x v reducesTo_S1024x2048_S_d0_1 h_S_) main_v12 main_c_4
  let main_v14 : IVec S_ 1 := andi main_v9 main_v13
  let main_v15 : FVec F S2048 .f32 := Host.absf main_arg3
  let main_cst_5 : FVec F S_ .f32 := constant S_ .f32 0x7F800000#32
  fn_part1 (F := F) main_arg4 main_v14 main_v15 main_cst_5
-- ==== Pre_ffn_bwd_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  main_v24

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_v14 main_v15 main_cst_5
-- ==== Pre_ffn_loss_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024 .f32) (main_arg5 : FVec F S8192x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x1024 .f32) (main_arg1 : FVec F S1024 .f32) (main_arg2 : FVec F S1024x5632 .f32) (main_arg3 : FVec F S2816x1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_arg5 main_v14 main_v15 main_cst_5
-- ==== Kernel.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S8192x8x256 : Shape := ⟨3, ![8192, 8, 256]⟩
abbrev S8x8192x256 : Shape := ⟨3, ![8, 8192, 256]⟩
abbrev S1024x8x256 : Shape := ⟨3, ![1024, 8, 256]⟩
abbrev S8x1024x256 : Shape := ⟨3, ![8, 1024, 256]⟩
abbrev S1024x8192 : Shape := ⟨2, ![1024, 8192]⟩
abbrev S512x1024 : Shape := ⟨2, ![512, 1024]⟩
abbrev S8x512x256 : Shape := ⟨3, ![8, 512, 256]⟩
abbrev S1024x512 : Shape := ⟨2, ![1024, 512]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S1x1024x256 : Shape := ⟨3, ![1, 1024, 256]⟩
abbrev S1024x256 : Shape := ⟨2, ![1024, 256]⟩

abbrev nBuf : Space → Nat
  | .hbm => 39
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x8x256, .f32⟩
  | .hbm, ⟨27, _⟩ => ⟨S8x8192x256, .f32⟩
  | .hbm, ⟨28, _⟩ => ⟨S8x8192x256, .bf16⟩
  | .hbm, ⟨29, _⟩ => ⟨S1x1024, .f32⟩
  | .hbm, ⟨30, _⟩ => ⟨S1024x8x256, .f32⟩
  | .hbm, ⟨31, _⟩ => ⟨S8x1024x256, .f32⟩
  | .hbm, ⟨32, _⟩ => ⟨S8x1024x256, .bf16⟩
  | .hbm, ⟨33, _⟩ => ⟨S8x8192x256, .bf16⟩
  | .hbm, ⟨34, _⟩ => ⟨S1024x8192, .bf16⟩
  | .hbm, ⟨35, _⟩ => ⟨S8192x1024, .f32⟩
  | .hbm, ⟨36, _⟩ => ⟨S8192x1024, .bf16⟩
  | .hbm, ⟨37, _⟩ => ⟨S1x1024, .f32⟩
  | .hbm, ⟨38, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S8x512x256, .bf16⟩
  | .local _ .vmem, ⟨3, _⟩ => ⟨S8x512x256, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x256, .bf16⟩
  | .local _ .vmem, ⟨8, _⟩ => ⟨S512x1024, .f32⟩
  | .local _ .vmem, ⟨9, _⟩ => ⟨S512x1024, .f32⟩
  | .local _ .vmem, ⟨10, _⟩ => ⟨S8x512x256, .bf16⟩
  | .local _ .vmem, ⟨11, _⟩ => ⟨S8x512x256, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S8192x8x256 : Shape := ⟨3, ![8192, 8, 256]⟩
abbrev S8x8192x256 : Shape := ⟨3, ![8, 8192, 256]⟩
abbrev S1024x8192 : Shape := ⟨2, ![1024, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x8x256, .f32⟩
  | .hbm, ⟨86, _⟩ => ⟨S8x8192x256, .f32⟩
  | .hbm, ⟨87, _⟩ => ⟨S8x8192x256, .bf16⟩
  | .hbm, ⟨88, _⟩ => ⟨S1024x8192, .f32⟩
  | .hbm, ⟨89, _⟩ => ⟨S1024x8192, .bf16⟩
  | .hbm, ⟨90, _⟩ => ⟨S8192x1024, .bf16⟩
  | .hbm, ⟨91, _⟩ => ⟨S1x1024, .f32⟩
  | .hbm, ⟨92, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S5632x1024 : Shape := ⟨2, ![5632, 1024]⟩
abbrev S8x704x1024 : Shape := ⟨3, ![8, 704, 1024]⟩
abbrev S4x704x1024 : Shape := ⟨3, ![4, 704, 1024]⟩
abbrev S8x704x8192 : Shape := ⟨3, ![8, 704, 8192]⟩
abbrev S256x1024 : Shape := ⟨2, ![256, 1024]⟩
abbrev S8x256x704 : Shape := ⟨3, ![8, 256, 704]⟩
abbrev S8x704x256 : Shape := ⟨3, ![8, 704, 256]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S704x256 : Shape := ⟨2, ![704, 256]⟩
abbrev S1x704x256 : Shape := ⟨3, ![1, 704, 256]⟩

abbrev nBuf : Space → Nat
  | .hbm => 56
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x5632, .f32⟩
  | .hbm, ⟨43, _⟩ => ⟨S8192x8x704, .f32⟩
  | .hbm, ⟨44, _⟩ => ⟨S8x8192x704, .f32⟩
  | .hbm, ⟨45, _⟩ => ⟨S8x8192x704, .bf16⟩
  | .hbm, ⟨46, _⟩ => ⟨S1x1024, .f32⟩
  | .hbm, ⟨47, _⟩ => ⟨S5632x1024, .f32⟩
  | .hbm, ⟨48, _⟩ => ⟨S8x704x1024, .f32⟩
  | .hbm, ⟨49, _⟩ => ⟨S8x704x1024, .bf16⟩
  | .hbm, ⟨50, _⟩ => ⟨S4x704x1024, .f32⟩
  | .hbm, ⟨51, _⟩ => ⟨S4x704x1024, .bf16⟩
  | .hbm, ⟨52, _⟩ => ⟨S8x704x8192, .bf16⟩
  | .hbm, ⟨53, _⟩ => ⟨S8192x1024, .bf16⟩
  | .hbm, ⟨54, _⟩ => ⟨S8192x1024, .f32⟩
  | .hbm, ⟨55, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S1x1024, .f32⟩
  | .local _ .vmem, ⟨7, _⟩ => ⟨S8x704x1024, .bf16⟩
  | .local _ .vmem, ⟨8, _⟩ => ⟨S4x704x1024, .bf16⟩
  | .local _ .vmem, ⟨9, _⟩ => ⟨S8x704x256, .bf16⟩
  | .local _ .vmem, ⟨10, _⟩ => ⟨S8x704x256, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x704x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S5632x8192 : Shape := ⟨2, ![5632, 8192]⟩
abbrev S8x704x8192 : Shape := ⟨3, ![8, 704, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x5632, .f32⟩
  | .hbm, ⟨54, _⟩ => ⟨S8192x5632, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S5632x8192, .f32⟩
  | .hbm, ⟨82, _⟩ => ⟨S8x704x8192, .f32⟩
  | .hbm, ⟨83, _⟩ => ⟨S8x704x8192, .bf16⟩
  | .hbm, ⟨84, _⟩ => ⟨S8192x1024, .bf16⟩
  | .hbm, ⟨85, _⟩ => ⟨S8192x1024, .f32⟩
  | .hbm, ⟨86, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Kernel3.lean ====
abbrev S8x704x8192 : Shape := ⟨3, ![8, 704, 8192]⟩
abbrev S1x8192x1024 : Shape := ⟨3, ![1, 8192, 1024]⟩
abbrev S8x704x1024 : Shape := ⟨3, ![8, 704, 1024]⟩
abbrev S1x704x4096 : Shape := ⟨3, ![1, 704, 4096]⟩
abbrev S1x4096x1024 : Shape := ⟨3, ![1, 4096, 1024]⟩
abbrev S1x704x1024 : Shape := ⟨3, ![1, 704, 1024]⟩
abbrev S704x1024 : Shape := ⟨2, ![704, 1024]⟩
abbrev S704x4096 : Shape := ⟨2, ![704, 4096]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x704x8192, .bf16⟩
  | .hbm, ⟨1, _⟩ => ⟨S1x8192x1024, .bf16⟩
  | .hbm, ⟨2, _⟩ => ⟨S8x704x1024, .bf16⟩
  | .local _ .vmem, ⟨0, _⟩ => ⟨S1x704x4096, .bf16⟩
  | .local _ .vmem, ⟨1, _⟩ => ⟨S1x704x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8x704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x704x8192 : Shape := ⟨3, ![8, 704, 8192]⟩
abbrev S1x8192x1024 : Shape := ⟨3, ![1, 8192, 1024]⟩
abbrev S_ : Shape := ⟨0, ![]⟩
abbrev S8x704x1024 : Shape := ⟨3, ![8, 704, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x704x8192, .bf16⟩
  | .hbm, ⟨1, _⟩ => ⟨S1x8192x1024, .bf16⟩
  | .hbm, ⟨2, _⟩ => ⟨S_, .f32⟩
  | .hbm, ⟨3, _⟩ => ⟨S8x704x1024, .f32⟩
  | .hbm, ⟨4, _⟩ => ⟨S8192x1024, .bf16⟩
  | .hbm, ⟨5, _⟩ => ⟨S8192x1024, .f32⟩
  | .hbm, ⟨6, _⟩ => ⟨S8x704x8192, .f32⟩
  | .hbm, ⟨7, _⟩ => ⟨S8x704x8192, .f32⟩
  | .hbm, ⟨8, _⟩ => ⟨S8x704x1024, .f32⟩
  | .hbm, ⟨9, _⟩ => ⟨S8x704x1024, .bf16⟩
  | _, _ => ⟨S8x704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4x704x8192 : Shape := ⟨3, ![4, 704, 8192]⟩
abbrev S1x8192x1024 : Shape := ⟨3, ![1, 8192, 1024]⟩
abbrev S4x704x1024 : Shape := ⟨3, ![4, 704, 1024]⟩
abbrev S1x704x4096 : Shape := ⟨3, ![1, 704, 4096]⟩
abbrev S1x4096x1024 : Shape := ⟨3, ![1, 4096, 1024]⟩
abbrev S1x704x1024 : Shape := ⟨3, ![1, 704, 1024]⟩
abbrev S704x1024 : Shape := ⟨2, ![704, 1024]⟩
abbrev S704x4096 : Shape := ⟨2, ![704, 4096]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x704x8192, .bf16⟩
  | .hbm, ⟨1, _⟩ => ⟨S1x8192x1024, .bf16⟩
  | .hbm, ⟨2, _⟩ => ⟨S4x704x1024, .bf16⟩
  | .local _ .vmem, ⟨0, _⟩ => ⟨S1x704x4096, .bf16⟩
  | .local _ .vmem, ⟨1, _⟩ => ⟨S1x704x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x704x8192 : Shape := ⟨3, ![4, 704, 8192]⟩
abbrev S1x8192x1024 : Shape := ⟨3, ![1, 8192, 1024]⟩
abbrev S_ : Shape := ⟨0, ![]⟩
abbrev S4x704x1024 : Shape := ⟨3, ![4, 704, 1024]⟩
abbrev S8192x1024 : Shape := ⟨2, ![8192, 1024]⟩
abbrev S1024x4x704 : Shape := ⟨3, ![1024, 4, 704]⟩

abbrev nBuf : Space → Nat
  | .hbm => 11
  | .vmem => 0
  | .smem => 0
  | _ => 0

abbrev bufTy : (tb : Table) → Fin (tcTables nBuf tb) → BufTy
  | .hbm, ⟨0, _⟩ => ⟨S4x704x8192, .bf16⟩
  | .hbm, ⟨1, _⟩ => ⟨S1x8192x1024, .bf16⟩
  | .hbm, ⟨2, _⟩ => ⟨S_, .f32⟩
  | .hbm, ⟨3, _⟩ => ⟨S4x704x1024, .f32⟩
  | .hbm, ⟨4, _⟩ => ⟨S4x704x8192, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S1024x4x704, .f32⟩
  | .hbm, ⟨9, _⟩ => ⟨S4x704x1024, .f32⟩
  | .hbm, ⟨10, _⟩ => ⟨S4x704x1024, .bf16⟩
  | _, _ => ⟨S4x704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S1x1024x8192 : Shape := ⟨3, ![1, 1024, 8192]⟩
abbrev S8x8192x256 : Shape := ⟨3, ![8, 8192, 256]⟩
abbrev S8x1024x256 : Shape := ⟨3, ![8, 1024, 256]⟩
abbrev S1x1024x4096 : Shape := ⟨3, ![1, 1024, 4096]⟩
abbrev S1x4096x256 : Shape := ⟨3, ![1, 4096, 256]⟩
abbrev S1x1024x256 : Shape := ⟨3, ![1, 1024, 256]⟩
abbrev S1024x256 : Shape := ⟨2, ![1024, 256]⟩
abbrev S1024x4096 : Shape := ⟨2, ![1024, 4096]⟩
abbrev S4096x256 : Shape := ⟨2, ![4096, 256]⟩

abbrev nBuf : Space → Nat
  | .hbm => 3
  | .vmem => 7
  | .smem => 0
  | _ => 0

abbrev bufTy : (tb : Table) → Fin (tcTables nBuf tb) → BufTy
  | .hbm, ⟨0, _⟩ => ⟨S1x1024x8192, .bf16⟩
  | .hbm, ⟨1, _⟩ => ⟨S8x8192x256, .bf16⟩
  | .hbm, ⟨2, _⟩ => ⟨S8x1024x256, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S1x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S1x1024x8192 : Shape := ⟨3, ![1, 1024, 8192]⟩
abbrev S8x8192x256 : Shape := ⟨3, ![8, 8192, 256]⟩
abbrev S_ : Shape := ⟨0, ![]⟩
abbrev S8x1024x256 : Shape := ⟨3, ![8, 1024, 256]⟩
abbrev S1024x8192 : Shape := ⟨2, ![1024, 8192]⟩
abbrev S8x256x8192 : Shape := ⟨3, ![8, 256, 8192]⟩
abbrev S8x256x1024 : Shape := ⟨3, ![8, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x8192, .bf16⟩
  | .hbm, ⟨1, _⟩ => ⟨S8x8192x256, .bf16⟩
  | .hbm, ⟨2, _⟩ => ⟨S_, .f32⟩
  | .hbm, ⟨3, _⟩ => ⟨S8x1024x256, .f32⟩
  | .hbm, ⟨4, _⟩ => ⟨S1024x8192, .bf16⟩
  | .hbm, ⟨5, _⟩ => ⟨S1024x8192, .f32⟩
  | .hbm, ⟨6, _⟩ => ⟨S8x256x8192, .f32⟩
  | .hbm, ⟨7, _⟩ => ⟨S8x8192x256, .f32⟩
  | .hbm, ⟨8, _⟩ => ⟨S8x8192x256, .f32⟩
  | .hbm, ⟨9, _⟩ => ⟨S8x256x8192, .f32⟩
  | .hbm, ⟨10, _⟩ => ⟨S8x256x1024, .f32⟩
  | .hbm, ⟨11, _⟩ => ⟨S8x1024x256, .f32⟩
  | .hbm, ⟨12, _⟩ => ⟨S8x1024x256, .bf16⟩
  | _, _ => ⟨S1x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S1x1024x8192 : Shape := ⟨3, ![1, 1024, 8192]⟩
abbrev S1x8192x1024 : Shape := ⟨3, ![1, 8192, 1024]⟩
abbrev S1x1024x1024 : Shape := ⟨3, ![1, 1024, 1024]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x1024x8192, .bf16⟩
  | .hbm, ⟨1, _⟩ => ⟨S1x8192x1024, .f32⟩
  | .hbm, ⟨2, _⟩ => ⟨S1x1024x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1024x1024, .f32⟩
  | _, _ => ⟨S1x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S1x1024x8192 : Shape := ⟨3, ![1, 1024, 8192]⟩
abbrev S1x8192x1024 : Shape := ⟨3, ![1, 8192, 1024]⟩
abbrev S_ : Shape := ⟨0, ![]⟩
abbrev S1024x1024 : Shape := ⟨2, ![1024, 1024]⟩
abbrev S1024x8192 : Shape := ⟨2, ![1024, 8192]⟩
abbrev S8192x1024 : Shape := ⟨2, ![8192, 1024]⟩
abbrev S1x1024x1024 : Shape := ⟨3, ![1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x8192, .bf16⟩
  | .hbm, ⟨1, _⟩ => ⟨S1x8192x1024, .f32⟩
  | .hbm, ⟨2, _⟩ => ⟨S_, .f32⟩
  | .hbm, ⟨3, _⟩ => ⟨S1024x1024, .f32⟩
  | .hbm, ⟨4, _⟩ => ⟨S1024x8192, .bf16⟩
  | .hbm, ⟨5, _⟩ => ⟨S1024x8192, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | _, _ => ⟨S1x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S64x1024x128 : Shape := ⟨3, ![64, 1024, 128]⟩
abbrev S1x8192x1024 : Shape := ⟨3, ![1, 8192, 1024]⟩
abbrev S1x1024x1024 : Shape := ⟨3, ![1, 1024, 1024]⟩
abbrev S16x1024x128 : Shape := ⟨3, ![16, 1024, 128]⟩
abbrev S1x2048x1024 : Shape := ⟨3, ![1, 2048, 1024]⟩
abbrev S1024x1024 : Shape := ⟨2, ![1024, 1024]⟩
abbrev S1x1024x128 : Shape := ⟨3, ![1, 1024, 128]⟩
abbrev S1024x128 : Shape := ⟨2, ![1024, 128]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S64x1024x128, .bf16⟩
  | .hbm, ⟨1, _⟩ => ⟨S1x8192x1024, .f32⟩
  | .hbm, ⟨2, _⟩ => ⟨S1x1024x1024, .bf16⟩
  | .local _ .vmem, ⟨0, _⟩ => ⟨S16x1024x128, .bf16⟩
  | .local _ .vmem, ⟨1, _⟩ => ⟨S16x1024x128, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1024x1024, .f32⟩
  | _, _ => ⟨S64x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_40 : BitVec 32 := 0#32
  let v47 : BitVec 1 := Scalar.cmpi .ne v46 c0_i32_40
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S64x1024x128 : Shape := ⟨3, ![64, 1024, 128]⟩
abbrev S1x8192x1024 : Shape := ⟨3, ![1, 8192, 1024]⟩
abbrev S64x128x1024 : Shape := ⟨3, ![64, 128, 1024]⟩
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S64x1024x128, .bf16⟩
  | .hbm, ⟨1, _⟩ => ⟨S1x8192x1024, .f32⟩
  | .hbm, ⟨2, _⟩ => ⟨S64x128x1024, .bf16⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | _, _ => ⟨S64x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S8x8192x704 : Shape := ⟨3, ![8, 8192, 704]⟩
abbrev S4x704x8192 : Shape := ⟨3, ![4, 704, 8192]⟩
abbrev S8x1024 : Shape := ⟨2, ![8, 1024]⟩
abbrev S512x1024 : Shape := ⟨2, ![512, 1024]⟩
abbrev S8x512x704 : Shape := ⟨3, ![8, 512, 704]⟩
abbrev S4x704x512 : Shape := ⟨3, ![4, 704, 512]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S704x512 : Shape := ⟨2, ![704, 512]⟩
abbrev S1x704x512 : Shape := ⟨3, ![1, 704, 512]⟩
abbrev S1 : Shape := ⟨1, ![1]⟩
abbrev S1x1 : Shape := ⟨2, ![1, 1]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S5632x1024, .f32⟩
  | .hbm, ⟨8, _⟩ => ⟨S8x704x1024, .f32⟩
  | .hbm, ⟨9, _⟩ => ⟨S8x704x1024, .bf16⟩
  | .hbm, ⟨10, _⟩ => ⟨S4x704x1024, .f32⟩
  | .hbm, ⟨11, _⟩ => ⟨S4x704x1024, .bf16⟩
  | .hbm, ⟨12, _⟩ => ⟨S1x1024, .f32⟩
  | .hbm, ⟨13, _⟩ => ⟨S8x8192x704, .bf16⟩
  | .hbm, ⟨14, _⟩ => ⟨S4x704x8192, .bf16⟩
  | .hbm, ⟨15, _⟩ => ⟨S8192x1024, .f32⟩
  | .hbm, ⟨16, _⟩ => ⟨S8192x1024, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x704x1024, .bf16⟩
  | .local _ .vmem, ⟨4, _⟩ => ⟨S4x704x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x512x704, .bf16⟩
  | .local _ .vmem, ⟨9, _⟩ => ⟨S8x512x704, .bf16⟩
  | .local _ .vmem, ⟨10, _⟩ => ⟨S4x704x512, .bf16⟩
  | .local _ .vmem, ⟨11, _⟩ => ⟨S4x704x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x704x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S6x1024 : Shape := ⟨2, ![6, 1024]⟩
abbrev S8x1024 : Shape := ⟨2, ![8, 1024]⟩
abbrev S8192x8x704 : Shape := ⟨3, ![8192, 8, 704]⟩
abbrev S8x8192x704 : Shape := ⟨3, ![8, 8192, 704]⟩
abbrev S2816x8192 : Shape := ⟨2, ![2816, 8192]⟩
abbrev S4x704x8192 : Shape := ⟨3, ![4, 704, 8192]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S2816x1024, .f32⟩
  | 4 => ⟨S1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x5632, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x2816, .f32⟩
  | 110 => ⟨S8192x2816, .f32⟩
  | 111 => ⟨S8192x2816, .f32⟩
  | 112 => ⟨S_, .f32⟩
  | 113 => ⟨S8192x2816, .f32⟩
  | 114 => ⟨S8192x2816, .f32⟩
  | 115 => ⟨S_, .f32⟩
  | 116 => ⟨S8192x2816, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x5632, .f32⟩
  | 127 => ⟨S1x1024, .i32⟩
  | _ => ⟨S8192x1024, .f32⟩

abbrev hbmTy0_1 (i : Nat) : BufTy := match i % 128 with
  | 0 => ⟨S_, .i32⟩
  | 1 => ⟨S1x1024, .i32⟩
  | 2 => ⟨S1x1024, .i1⟩
  | 3 => ⟨S1x1024, .f32⟩
  | 4 => ⟨S_, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S6x1024, .f32⟩
  | 11 => ⟨S8x1024, .f32⟩
  | 12 => ⟨S8192x8x704, .f32⟩
  | 13 => ⟨S8x8192x704, .f32⟩
  | 14 => ⟨S8x8192x704, .bf16⟩
  | 15 => ⟨S2816x8192, .f32⟩
  | 16 => ⟨S4x704x8192, .f32⟩
  | 17 => ⟨S4x704x8192, .bf16⟩
  | 18 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_cst_11 : Ref sig .tc := ⟨.hbm, 75, rfl⟩
abbrev main_cst_12 : Ref sig .tc := ⟨.hbm, 76, rfl⟩
abbrev main_v45 : Ref sig .tc := ⟨.hbm, 77, rfl⟩
abbrev main_v46 : Ref sig .tc := ⟨.hbm, 78, rfl⟩
abbrev main_cst_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v72 : Ref sig .tc := ⟨.hbm, 118, rfl⟩
abbrev main_cst_19 : Ref sig .tc := ⟨.hbm, 119, rfl⟩
abbrev main_v73 : Ref sig .tc := ⟨.hbm, 120, rfl⟩
abbrev main_v74 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_20 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v81 : Ref sig .tc := ⟨.hbm, 136, rfl⟩
abbrev main_cst_21 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩

abbrev nD : Nat := 1
abbrev τ : Topo := Topo.v7x

variable {F : FTy → Type} [FloatOps F]
-- ==== Kernel9.lean ====
abbrev S64x1024x128 : Shape := ⟨3, ![64, 1024, 128]⟩
abbrev S9216x256 : Shape := ⟨2, ![9216, 256]⟩
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x1536 : Shape := ⟨2, ![8192, 1536]⟩
abbrev S1024x8192 : Shape := ⟨2, ![1024, 8192]⟩
abbrev S4x1024x128 : Shape := ⟨3, ![4, 1024, 128]⟩
abbrev S512x256 : Shape := ⟨2, ![512, 256]⟩
abbrev S512x1024 : Shape := ⟨2, ![512, 1024]⟩
abbrev S512x128 : Shape := ⟨2, ![512, 128]⟩
abbrev S512x1536 : Shape := ⟨2, ![512, 1536]⟩
abbrev S1024x512 : Shape := ⟨2, ![1024, 512]⟩
abbrev S1x1024x128 : Shape := ⟨3, ![1, 1024, 128]⟩
abbrev S1024x128 : Shape := ⟨2, ![1024, 128]⟩
abbrev S512 : Shape := ⟨1, ![512]⟩
abbrev S512x1 : Shape := ⟨2, ![512, 1]⟩

abbrev nBuf : Space → Nat
  | .hbm => 54
  | .vmem => 25
  | .smem => 0
  | _ => 0

abbrev bufTy : (tb : Table) → Fin (tcTables nBuf tb) → BufTy
  | .hbm, ⟨0, _⟩ => ⟨S64x1024x128, .f32⟩
  | .hbm, ⟨1, _⟩ => ⟨S9216x256, .f32⟩
  | .hbm, ⟨2, _⟩ => ⟨S9216x256, .f32⟩
  | .hbm, ⟨3, _⟩ => ⟨S8192x1024, .f32⟩
  | .hbm, ⟨4, _⟩ => ⟨S1024, .f32⟩
  | .hbm, ⟨5, _⟩ => ⟨S1024x1536, .f32⟩
  | .hbm, ⟨6, _⟩ => ⟨S8192x1024, .f32⟩
  | .hbm, ⟨7, _⟩ => ⟨S1x1024, .f32⟩
  | .hbm, ⟨8, _⟩ => ⟨S1024x1536, .bf16⟩
  | .hbm, ⟨9, _⟩ => ⟨S8192, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8192x1, .f32⟩
  | .hbm, ⟨25, _⟩ => ⟨S1x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192x48, .f32⟩
  | .hbm, ⟨33, _⟩ => ⟨S_, .f32⟩
  | .hbm, ⟨34, _⟩ => ⟨S8192x48, .f32⟩
  | .hbm, ⟨35, _⟩ => ⟨S_, .f32⟩
  | .hbm, ⟨36, _⟩ => ⟨S8192x8, .f32⟩
  | .hbm, ⟨37, _⟩ => ⟨S8192x64, .f32⟩
  | .hbm, ⟨38, _⟩ => ⟨S8192x8, .f32⟩
  | .hbm, ⟨39, _⟩ => ⟨S8192x64, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S8192x1536, .bf16⟩
  | .hbm, ⟨51, _⟩ => ⟨S1024x8192, .bf16⟩
  | .hbm, ⟨52, _⟩ => ⟨S8192x1024, .f32⟩
  | .hbm, ⟨53, _⟩ => ⟨S1x1024, .f32⟩
  | .local _ .vmem, ⟨0, _⟩ => ⟨S4x1024x128, .f32⟩
  | .local _ .vmem, ⟨1, _⟩ => ⟨S4x1024x128, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1536, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x1536, .bf16⟩
  | .local _ .vmem, ⟨19, _⟩ => ⟨S512x1536, .bf16⟩
  | .local _ .vmem, ⟨20, _⟩ => ⟨S1024x512, .bf16⟩
  | .local _ .vmem, ⟨21, _⟩ => ⟨S1024x512, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference9Ideal.lean ====
abbrev S64x1024x128 : Shape := ⟨3, ![64, 1024, 128]⟩
abbrev S9216x256 : Shape := ⟨2, ![9216, 256]⟩
abbrev S8192x1024 : Shape := ⟨2, ![8192, 1024]⟩
abbrev S1024 : Shape := ⟨1, ![1024]⟩
abbrev S1024x1536 : Shape := ⟨2, ![1024, 1536]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S1x1024 : Shape := ⟨2, ![1, 1024]⟩
abbrev S8192x1536 : Shape := ⟨2, ![8192, 1536]⟩
abbrev S8192x256 : Shape := ⟨2, ![8192, 256]⟩
abbrev S8192x16x64 : Shape := ⟨3, ![8192, 16, 64]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x8 : Shape := ⟨3, ![8192, 4, 8]⟩
abbrev S8192x4x48 : Shape := ⟨3, ![8192, 4, 48]⟩
abbrev S64x128x1024 : Shape := ⟨3, ![64, 128, 1024]⟩
abbrev S1024x8192 : Shape := ⟨2, ![1024, 8192]⟩

abbrev nBuf : Space → Nat
  | .hbm => 181
  | .vmem => 0
  | .smem => 0
  | _ => 0

abbrev hbmTy0_0 (i : Nat) : BufTy := match i % 128 with
  | 0 => ⟨S64x1024x128, .f32⟩
  | 1 => ⟨S9216x256, .f32⟩
  | 2 => ⟨S9216x256, .f32⟩
  | 3 => ⟨S8192x1024, .f32⟩
  | 4 => ⟨S1024, .f32⟩
  | 5 => ⟨S1024x1536, .f32⟩
  | 6 => ⟨S8192x1024, .f32⟩
  | 7 => ⟨S8192, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x8, .f32⟩
  | 30 => ⟨S8192x1x8, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1536, .f32⟩
  | 52 => ⟨S8192x1024, .f32⟩
  | 53 => ⟨S8192x256, .f32⟩
  | 54 => ⟨S8192x256, .f32⟩
  | 55 => ⟨S8192x16x64, .f32⟩
  | 56 => ⟨S8192x16x8, .f32⟩
  | 57 => ⟨S8192x16x8, .f32⟩
  | 58 => ⟨S8192x16x8, .f32⟩
  | 59 => ⟨S8192x16x8, .f32⟩
  | 60 => ⟨S8192x16x8, .f32⟩
  | 61 => ⟨S8192x16x8, .f32⟩
  | 62 => ⟨S8192x16x8, .f32⟩
  | 63 => ⟨S8192x16x8, .f32⟩
  | 64 => ⟨S8192x16x8, .f32⟩
  | 65 => ⟨S8192x16x8, .f32⟩
  | 66 => ⟨S8192x16x8, .f32⟩
  | 67 => ⟨S8192x16x8, .f32⟩
  | 68 => ⟨S8192x16x48, .f32⟩
  | 69 => ⟨S8192x16x64, .f32⟩
  | 70 => ⟨S8192x4x64, .f32⟩
  | 71 => ⟨S8192x4x8, .f32⟩
  | 72 => ⟨S8192x4x8, .f32⟩
  | 73 => ⟨S8192x4x8, .f32⟩
  | 74 => ⟨S8192x4x8, .f32⟩
  | 75 => ⟨S8192x4x8, .f32⟩
  | 76 => ⟨S8192x4x8, .f32⟩
  | 77 => ⟨S8192x4x8, .f32⟩
  | 78 => ⟨S8192x4x8, .f32⟩
  | 79 => ⟨S8192x4x8, .f32⟩
  | 80 => ⟨S8192x4x8, .f32⟩
  | 81 => ⟨S8192x4x8, .f32⟩
  | 82 => ⟨S8192x4x8, .f32⟩
  | 83 => ⟨S8192x4x48, .f32⟩
  | 84 => ⟨S8192x4x64, .f32⟩
  | 85 => ⟨S_, .f32⟩
  | 86 => ⟨S8192x16x64, .f32⟩
  | 87 => ⟨S8192x16x64, .f32⟩
  | 88 => ⟨S64x128x1024, .f32⟩
  | 89 => ⟨S8192x16x64, .f32⟩
  | 90 => ⟨S8192x256, .f32⟩
  | 91 => ⟨S8192x4x64, .f32⟩
  | 92 => ⟨S8192x256, .f32⟩
  | 93 => ⟨S_, .f32⟩
  | 94 => ⟨S8192x16x64, .f32⟩
  | 95 => ⟨S8192x16x64, .f32⟩
  | 96 => ⟨S8192x4x8, .f32⟩
  | 97 => ⟨S8192x4x8, .f32⟩
  | 98 => ⟨S8192x4x48, .f32⟩
  | 99 => ⟨S_, .f32⟩
  | 100 => ⟨S8192x4x64, .f32⟩
  | 101 => ⟨S8192x4x8, .f32⟩
  | 102 => ⟨S8192x4x8, .f32⟩
  | 103 => ⟨S8192x4x8, .f32⟩
  | 104 => ⟨S8192x4x8, .f32⟩
  | 105 => ⟨S8192x4x8, .f32⟩
  | 106 => ⟨S8192x4x8, .f32⟩
  | 107 => ⟨S8192x4x8, .f32⟩
  | 108 => ⟨S8192x4x8, .f32⟩
  | 109 => ⟨S8192x4x8, .f32⟩
  | 110 => ⟨S8192x4x8, .f32⟩
  | 111 => ⟨S8192x4x8, .f32⟩
  | 112 => ⟨S_, .f32⟩
  | 113 => ⟨S8192x4x64, .f32⟩
  | 114 => ⟨S8192x4x64, .f32⟩
  | 115 => ⟨S_, .f32⟩
  | 116 => ⟨S8192x4x64, .f32⟩
  | 117 => ⟨S8192x4x64, .f32⟩
  | 118 => ⟨S8192x256, .f32⟩
  | 119 => ⟨S8192x16x8, .f32⟩
  | 120 => ⟨S8192x16x8, .f32⟩
  | 121 => ⟨S8192x16x48, .f32⟩
  | 122 => ⟨S_, .f32⟩
  | 123 => ⟨S8192x16x64, .f32⟩
  | 124 => ⟨S8192x16x8, .f32⟩
  | 125 => ⟨S8192x16x8, .f32⟩
  | 126 => ⟨S8192x16x8, .f32⟩
  | 127 => ⟨S8192x16x8, .f32⟩
  | _ => ⟨S64x1024x128, .f32⟩

abbrev hbmTy0_1 (i : Nat) : BufTy := match i % 128 with
  | 0 => ⟨S8192x16x8, .f32⟩
  | 1 => ⟨S8192x16x8, .f32⟩
  | 2 => ⟨S8192x16x8, .f32⟩
  | 3 => ⟨S8192x16x8, .f32⟩
  | 4 => ⟨S8192x16x8, .f32⟩
  | 5 => ⟨S8192x16x8, .f32⟩
  | 6 => ⟨S8192x16x8, .f32⟩
  | 7 => ⟨S_, .f32⟩
  | 8 => ⟨S8192x16x64, .f32⟩
  | 9 => ⟨S8192x16x64, .f32⟩
  | 10 => ⟨S_, .f32⟩
  | 11 => ⟨S8192x16x64, .f32⟩
  | 12 => ⟨S8192x16x64, .f32⟩
  | 13 => ⟨S8192x1024, .f32⟩
  | 14 => ⟨S_, .f32⟩
  | 15 => ⟨S8192x1536, .f32⟩
  | 16 => ⟨S_, .f32⟩
  | 17 => ⟨S8192x1536, .f32⟩
  | 18 => ⟨S8192x1536, .f32⟩
  | 19 => ⟨S_, .f32⟩
  | 20 => ⟨S8192x1536, .f32⟩
  | 21 => ⟨S8192x1536, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S_, .f32⟩
  | 30 => ⟨S1024, .f32⟩
  | 31 => ⟨S8192x1024, .f32⟩
  | 32 => ⟨S_, .f32⟩
  | 33 => ⟨S8192, .f32⟩
  | 34 => ⟨S8192x1, .f32⟩
  | 35 => ⟨S8192x1024, .f32⟩
  | 36 => ⟨S8192x1024, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1536, .bf16⟩
  | 49 => ⟨S1024x8192, .f32⟩
  | 50 => ⟨S1024x8192, .bf16⟩
  | 51 => ⟨S8192x1024, .f32⟩
  | 52 => ⟨S1x1024, .f32⟩
  | _ => ⟨S64x1024x128, .f32⟩

abbrev hbmTy (i : Nat) : BufTy := match i / 128 with
  | 0 => hbmTy0_0 i
  | 1 => hbmTy0_1 i
  | _ => ⟨S64x1024x128, .f32⟩

abbrev bufTy : (tb : Table) → Fin (tcTables nBuf tb) → BufTy
  | .hbm, ⟨i, _⟩ => hbmTy i
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_10 : Ref sig .tc := ⟨.hbm, 112, rfl⟩
abbrev main_v94 : Ref sig .tc := ⟨.hbm, 113, rfl⟩
abbrev main_v95 : Ref sig .tc := ⟨.hbm, 114, rfl⟩
abbrev main_cst_11 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_12 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_13 : Ref sig .tc := ⟨.hbm, 135, rfl⟩
abbrev main_v114 : Ref sig .tc := ⟨.hbm, 136, rfl⟩
abbrev main_v115 : Ref sig .tc := ⟨.hbm, 137, rfl⟩
abbrev main_cst_14 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_15 : Ref sig .tc := ⟨.hbm, 142, rfl⟩
abbrev main_v119 : Ref sig .tc := ⟨.hbm, 143, rfl⟩
abbrev main_cst_16 : Ref sig .tc := ⟨.hbm, 144, rfl⟩
abbrev main_v120 : Ref sig .tc := ⟨.hbm, 145, rfl⟩
abbrev main_v121 : Ref sig .tc := ⟨.hbm, 146, rfl⟩
abbrev main_cst_17 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_18 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_19 : Ref sig .tc := ⟨.hbm, 157, rfl⟩
abbrev main_v130 : Ref sig .tc := ⟨.hbm, 158, rfl⟩
abbrev main_v131 : Ref sig .tc := ⟨.hbm, 159, rfl⟩
abbrev main_cst_20 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_21 : Ref sig .tc := ⟨.hbm, 166, rfl⟩
abbrev main_v137 : Ref sig .tc := ⟨.hbm, 167, rfl⟩
abbrev main_v138 : Ref sig .tc := ⟨.hbm, 168, rfl⟩
abbrev main_cst_22 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S1024x8192, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x8192, .f32⟩
  | .hbm, ⟨45, _⟩ => ⟨S1024x8192, .bf16⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel11.lean ====
abbrev S8x1024x192 : Shape := ⟨3, ![8, 1024, 192]⟩
abbrev S1x1024x192 : Shape := ⟨3, ![1, 1024, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x192, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1x1024x192, .f32⟩
  | .hbm, ⟨5, _⟩ => ⟨S1x1024x192, .f32⟩
  | .hbm, ⟨6, _⟩ => ⟨S1x1024x192, .f32⟩
  | .hbm, ⟨7, _⟩ => ⟨S1x1024x192, .f32⟩
  | .local _ .vmem, ⟨0, _⟩ => ⟨S8x256x192, .bf16⟩
  | .local _ .vmem, ⟨1, _⟩ => ⟨S8x256x192, .bf16⟩
  | .local _ .vmem, ⟨2, _⟩ => ⟨S1x256x192, .f32⟩
  | .local _ .vmem, ⟨3, _⟩ => ⟨S1x256x192, .f32⟩
  | .local _ .vmem, ⟨4, _⟩ => ⟨S1x256x192, .f32⟩
  | .local _ .vmem, ⟨5, _⟩ => ⟨S1x256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | _, _ => ⟨S8x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S8x1024x192 : Shape := ⟨3, ![8, 1024, 192]⟩
abbrev S1x1024x192 : Shape := ⟨3, ![1, 1024, 192]⟩
abbrev S_ : Shape := ⟨0, ![]⟩
abbrev S1024x192 : Shape := ⟨2, ![1024, 192]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x192, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S8x1024x192, .f32⟩
  | .hbm, ⟨5, _⟩ => ⟨S_, .f32⟩
  | .hbm, ⟨6, _⟩ => ⟨S1024x192, .f32⟩
  | .hbm, ⟨7, _⟩ => ⟨S1x1024x192, .f32⟩
  | .hbm, ⟨8, _⟩ => ⟨S_, .f32⟩
  | .hbm, ⟨9, _⟩ => ⟨S1x1024x192, .f32⟩
  | .hbm, ⟨10, _⟩ => ⟨S1x1024x192, .f32⟩
  | .hbm, ⟨11, _⟩ => ⟨S_, .f32⟩
  | .hbm, ⟨12, _⟩ => ⟨S1x1024x192, .f32⟩
  | .hbm, ⟨13, _⟩ => ⟨S1x1024x192, .f32⟩
  | .hbm, ⟨14, _⟩ => ⟨S1x1024x192, .f32⟩
  | .hbm, ⟨15, _⟩ => ⟨S_, .f32⟩
  | .hbm, ⟨16, _⟩ => ⟨S1x1024x192, .f32⟩
  | .hbm, ⟨17, _⟩ => ⟨S1x1024x192, .f32⟩
  | .hbm, ⟨18, _⟩ => ⟨S1x1024x192, .f32⟩
  | .hbm, ⟨19, _⟩ => ⟨S_, .f32⟩
  | .hbm, ⟨20, _⟩ => ⟨S1x1024x192, .f32⟩
  | .hbm, ⟨21, _⟩ => ⟨S1x1024x192, .f32⟩
  | .hbm, ⟨22, _⟩ => ⟨S1x1024x192, .f32⟩
  | .hbm, ⟨23, _⟩ => ⟨S_, .f32⟩
  | .hbm, ⟨24, _⟩ => ⟨S1x1024x192, .f32⟩
  | .hbm, ⟨25, _⟩ => ⟨S1x1024x192, .f32⟩
  | .hbm, ⟨26, _⟩ => ⟨S_, .f32⟩
  | .hbm, ⟨27, _⟩ => ⟨S1x1024x192, .f32⟩
  | .hbm, ⟨28, _⟩ => ⟨S1x1024x192, .f32⟩
  | .hbm, ⟨29, _⟩ => ⟨S1x1024x192, .f32⟩
  | .hbm, ⟨30, _⟩ => ⟨S_, .f32⟩
  | .hbm, ⟨31, _⟩ => ⟨S1x1024x192, .f32⟩
  | .hbm, ⟨32, _⟩ => ⟨S1x1024x192, .f32⟩
  | .hbm, ⟨33, _⟩ => ⟨S1x1024x192, .f32⟩
  | .hbm, ⟨34, _⟩ => ⟨S_, .f32⟩
  | .hbm, ⟨35, _⟩ => ⟨S1x1024x192, .f32⟩
  | .hbm, ⟨36, _⟩ => ⟨S1x1024x192, .f32⟩
  | .hbm, ⟨37, _⟩ => ⟨S1x1024x192, .f32⟩
  | .hbm, ⟨38, _⟩ => ⟨S_, .f32⟩
  | .hbm, ⟨39, _⟩ => ⟨S1x1024x192, .f32⟩
  | .hbm, ⟨40, _⟩ => ⟨S1x1024x192, .f32⟩
  | _, _ => ⟨S8x1024x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel12.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference12Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S8x1024x256 : Shape := ⟨3, ![8, 1024, 256]⟩
abbrev S1x1024x256 : Shape := ⟨3, ![1, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩
abbrev S2x704x1024 : Shape := ⟨3, ![2, 704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S1024x704, .f32⟩
  | .hbm, ⟨9, _⟩ => ⟨S8x704x1024, .f32⟩
  | .hbm, ⟨10, _⟩ => ⟨S_, .f32⟩
  | .hbm, ⟨11, _⟩ => ⟨S704x1024, .f32⟩
  | .hbm, ⟨12, _⟩ => ⟨S1024x704, .f32⟩
  | .hbm, ⟨13, _⟩ => ⟨S1x1024x704, .f32⟩
  | .hbm, ⟨14, _⟩ => ⟨S1x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | .hbm, ⟨49, _⟩ => ⟨S2x704x1024, .f32⟩
  | .hbm, ⟨50, _⟩ => ⟨S2x704x1024, .f32⟩
  | .hbm, ⟨51, _⟩ => ⟨S2x704x1024, .f32⟩
  | .hbm, ⟨52, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel15.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S8x352x128 : Shape := ⟨3, ![8, 352, 128]⟩
abbrev S352x128 : Shape := ⟨2, ![352, 128]⟩
abbrev S1x352x128 : Shape := ⟨3, ![1, 352, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x352x128, .f32⟩
  | .hbm, ⟨1, _⟩ => ⟨S352x128, .f32⟩
  | .local _ .vmem, ⟨0, _⟩ => ⟨S8x352x128, .f32⟩
  | .local _ .vmem, ⟨1, _⟩ => ⟨S352x128, .f32⟩
  | _, _ => ⟨S8x352x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x352x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x352x128 : Shape := ⟨3, ![8, 352, 128]⟩
abbrev S_ : Shape := ⟨0, ![]⟩
abbrev S352x128 : Shape := ⟨2, ![352, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x352x128, .f32⟩
  | .hbm, ⟨1, _⟩ => ⟨S_, .f32⟩
  | .hbm, ⟨2, _⟩ => ⟨S352x128, .f32⟩
  | _, _ => ⟨S8x352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S72x128 : Shape := ⟨2, ![72, 128]⟩

abbrev nBuf : Space → Nat
  | .hbm => 7
  | .vmem => 7
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference17Ideal.lean ====
abbrev S72x128 : Shape := ⟨2, ![72, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S72x128, .f32⟩
  | .hbm, ⟨7, _⟩ => ⟨S_, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S_, .f32⟩
  | .hbm, ⟨12, _⟩ => ⟨S72x128, .f32⟩
  | .hbm, ⟨13, _⟩ => ⟨S72x128, .f32⟩
  | .hbm, ⟨14, _⟩ => ⟨S72x128, .f32⟩
  | .hbm, ⟨15, _⟩ => ⟨S_, .f32⟩
  | .hbm, ⟨16, _⟩ => ⟨S72x128, .f32⟩
  | .hbm, ⟨17, _⟩ => ⟨S72x128, .f32⟩
  | .hbm, ⟨18, _⟩ => ⟨S72x128, .f32⟩
  | .hbm, ⟨19, _⟩ => ⟨S_, .f32⟩
  | .hbm, ⟨20, _⟩ => ⟨S72x128, .f32⟩
  | .hbm, ⟨21, _⟩ => ⟨S72x128, .f32⟩
  | .hbm, ⟨22, _⟩ => ⟨S_, .f32⟩
  | .hbm, ⟨23, _⟩ => ⟨S72x128, .f32⟩
  | .hbm, ⟨24, _⟩ => ⟨S72x128, .f32⟩
  | .hbm, ⟨25, _⟩ => ⟨S72x128, .f32⟩
  | .hbm, ⟨26, _⟩ => ⟨S_, .f32⟩
  | .hbm, ⟨27, _⟩ => ⟨S72x128, .f32⟩
  | .hbm, ⟨28, _⟩ => ⟨S72x128, .f32⟩
  | .hbm, ⟨29, _⟩ => ⟨S72x128, .f32⟩
  | .hbm, ⟨30, _⟩ => ⟨S_, .f32⟩
  | .hbm, ⟨31, _⟩ => ⟨S72x128, .f32⟩
  | .hbm, ⟨32, _⟩ => ⟨S72x128, .f32⟩
  | .hbm, ⟨33, _⟩ => ⟨S72x128, .f32⟩
  | .hbm, ⟨34, _⟩ => ⟨S_, .f32⟩
  | .hbm, ⟨35, _⟩ => ⟨S72x128, .f32⟩
  | .hbm, ⟨36, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.ReduceAll
public import Idealize.ShloMosaic.Lib.IdealHost
public import Idealize.ShloMosaic.Lib.KernelVsHost

@[expose] public section

noncomputable section

/-! # Real arrays among extended real ones

The gradients of a normalisation and of a gate agree with their kernels only where the distributive law holds, which is over
the reals. Here are the few facts that carry finite arrays of extended reals over to the reals: which arrays are finite, and
how each operation acts on them. -/

namespace Cert.Reals

open Idealize.ShloMosaic Idealize.SL.Sem

/-- The real vector `f` as an array of extended reals. -/
def lift1 {a : ℕ} {φ : FTy} (f : Fin a → ℝ) : FVec Ideal ⟨1, ![a]⟩ φ := fun i => ((f (i 0) : ℝ) : EReal)
/-- The real matrix `f` as an array of extended reals. -/
def lift2 {a b : ℕ} {φ : FTy} (f : Fin a → Fin b → ℝ) : FVec Ideal ⟨2, ![a, b]⟩ φ := fun i => ((f (i 0) (i 1) : ℝ) : EReal)
/-- The real array `f` of rank three as an array of extended reals. -/
def lift3 {a b c : ℕ} {φ : FTy} (f : Fin a → Fin b → Fin c → ℝ) : FVec Ideal ⟨3, ![a, b, c]⟩ φ :=
  fun i => ((f (i 0) (i 1) (i 2) : ℝ) : EReal)

@[simp] theorem lift1_apply {a : ℕ} {φ : FTy} (f : Fin a → ℝ) (i : Fin a) : lift1 (φ := φ) f (ix1 i) = ((f i : ℝ) : EReal) := rfl
@[simp] theorem lift2_apply {a b : ℕ} {φ : FTy} (f : Fin a → Fin b → ℝ) (i : Fin a) (j : Fin b) :
    lift2 (φ := φ) f (ix2 i j) = ((f i j : ℝ) : EReal) := rfl
@[simp] theorem lift3_apply {a b c : ℕ} {φ : FTy} (f : Fin a → Fin b → Fin c → ℝ) (i : Fin a) (j : Fin b) (k : Fin c) :
    lift3 (φ := φ) f (ix3 i j k) = ((f i j k : ℝ) : EReal) := rfl

/-- A finite sum of reals, summed among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals, among the extended reals. -/
theorem div_real (x y : ℝ) (h : y ≠ 0) : Ideal.div (x : EReal) (y : EReal) = ((x / y : ℝ) : EReal) := by
  rw [Ideal.div_coe h, ← EReal.coe_mul]; congr 1; ring

/-- The reciprocal square root of a positive real. -/
theorem rsqrt_real (x : ℝ) (h : 0 < x) : Ideal.rsqrt (x : EReal) = (((√x)⁻¹ : ℝ) : EReal) := by
  rw [Ideal.rsqrt_coe, if_neg (not_lt.mpr h.le), if_neg h.ne']

/-- The sigmoid. -/
def sigmoid (x : ℝ) : ℝ := 1 / (1 + Real.exp (-x))

theorem sigmoid_real (x : ℝ) : Ideal.div 1 (1 + Ideal.exp (-(x : EReal))) = ((sigmoid x : ℝ) : EReal) := by
  have h : (1 + Real.exp (-x)) ≠ 0 := (by positivity : (0 : ℝ) < 1 + Real.exp (-x)).ne'
  rw [← EReal.coe_neg, Ideal.exp_coe, ← EReal.coe_one, ← EReal.coe_add, div_real _ _ h]; rfl

theorem logistic_real (x : ℝ) : Ideal.logistic (x : EReal) = ((sigmoid x : ℝ) : EReal) := sigmoid_real x

/-- The number the normalisation adds to a mean square: the f32 number nearest to one millionth. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, eps, -EReal.coe_mul]; norm_num
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_one : Ideal.ofBits .f32 0x3F800000#32 = ((1 : ℝ) : EReal) := by
  rw [Ideal.ofBits_one_f32]; rfl
theorem ofBits_zero : Ideal.ofBits .f32 0x00000000#32 = ((0 : ℝ) : EReal) := by
  rw [Ideal.ofBits_zero_f32]; rfl

/-- An extended real whose absolute value is below `⊤` is a real. -/
theorem coe_toReal_of_abs_lt (x : EReal) (h : Ideal.cmp .olt (max x (-x)) (Ideal.ofBits .f32 0x7F800000#32) = 1#1) :
    ((x.toReal : ℝ) : EReal) = x := by
  have htop : Ideal.ofBits .f32 0x7F800000#32 = ⊤ := by simp [Ideal.ofBits, Ideal.ieee]
  rw [htop] at h
  induction x with
  | bot => simp [Ideal.cmp] at h
  | top => simp [Ideal.cmp] at h
  | coe r => rfl

end Cert.Reals

end
-- ==== Proof.Finite.lean ====
module

public import proofs.«01_k».proof.Proof.Reals

@[expose] public section

noncomputable section

/-! # What a precondition of finite arguments says

A precondition tests every element's absolute value against infinity and takes the conjunction. Read back, each argument is
the image of an array of reals. -/

namespace Cert.Reals

open Idealize.ShloMosaic Idealize.SL.Sem

/-- The scalar shape. -/
abbrev SS : Shape := ⟨0, ![]⟩

/-- The test of one argument: every element's absolute value is below infinity. -/
def allFinite {s : Shape} {axes : List (Fin s.rank)} (x : FVec Ideal s .f32) (hb : SS.BroadcastsInDim s (![] : Fin 0 → Fin s.rank))
    (hr : s.ReducesTo axes SS) (h0 : 0 < SS.numel) : IVec SS 1 :=
  Host.reduce IntOp.andi (cmpf .olt (Host.absf x) (broadcastInDim s ![] hb (constant SS .f32 0x7F800000#32))) (constantI SS 1 1#1) hr h0

theorem real_of_allFinite {s : Shape} {axes : List (Fin s.rank)} (x : FVec Ideal s .f32)
    (hb : SS.BroadcastsInDim s (![] : Fin 0 → Fin s.rank)) (hr : s.ReducesTo axes SS) (h0 : 0 < SS.numel)
    (h : allFinite x hb hr h0 (fun a => a.elim0) = 1#1) (i : s.Idx) : (((x i : EReal).toReal : ℝ) : EReal) = x i := by
  haveI : Subsingleton SS.Idx := ⟨fun a b => funext fun k => k.elim0⟩
  exact coe_toReal_of_abs_lt _ (Host.reduce_andi_all _ _ hr h0 _ h i)

/-- A conjunction of two bits that is one. -/
theorem both {p q : IVec SS 1} (h : andi p q (fun a => a.elim0) = 1#1) :
    p (fun a => a.elim0) = 1#1 ∧ q (fun a => a.elim0) = 1#1 := by
  have : ∀ a b : BitVec 1, a &&& b = 1#1 → a = 1#1 ∧ b = 1#1 := by decide
  exact this _ _ h

/-- A vector whose elements are real is the image of a real vector. -/
theorem exists_lift1 {a : ℕ} (x : FVec Ideal ⟨1, ![a]⟩ .f32) (h : ∀ i, (((x i : EReal).toReal : ℝ) : EReal) = x i) :
    ∃ f : Fin a → ℝ, x = lift1 f :=
  ⟨fun p => (x (ix1 p) : EReal).toReal, by
    funext i; obtain ⟨p, rfl⟩ : ∃ p, i = ix1 p := ⟨_, eq_ix1 i⟩; exact (h _).symm⟩
theorem exists_lift2 {a b : ℕ} (x : FVec Ideal ⟨2, ![a, b]⟩ .f32) (h : ∀ i, (((x i : EReal).toReal : ℝ) : EReal) = x i) :
    ∃ f : Fin a → Fin b → ℝ, x = lift2 f :=
  ⟨fun p q => (x (ix2 p q) : EReal).toReal, by
    funext i; obtain ⟨p, q, rfl⟩ : ∃ p q, i = ix2 p q := ⟨_, _, eq_ix2 i⟩; exact (h _).symm⟩
theorem exists_lift3 {a b c : ℕ} (x : FVec Ideal ⟨3, ![a, b, c]⟩ .f32) (h : ∀ i, (((x i : EReal).toReal : ℝ) : EReal) = x i) :
    ∃ f : Fin a → Fin b → Fin c → ℝ, x = lift3 f :=
  ⟨fun p q r => (x (ix3 p q r) : EReal).toReal, by
    funext i; obtain ⟨p, q, r, rfl⟩ : ∃ p q r, i = ix3 p q r := ⟨_, _, _, eq_ix3 i⟩; exact (h _).symm⟩

end Cert.Reals

end
-- ==== Proof.Rms.lean ====
module

public import proofs.«01_k».proof.Proof.Reals

@[expose] public section

set_option maxRecDepth 16384

noncomputable section

/-! # The normalisation of a token and its gradient

A token `x` of 1024 numbers is divided by the square root of its mean square (plus `eps`) and multiplied by gains `g`. -/

namespace Cert.Rms

open Idealize.ShloMosaic Idealize.SL.Sem Cert.Reals

/-! ## Over the reals -/

/-- The mean square of a token plus `eps`. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg (x k)) (by norm_num)) eps_pos

/-- The factor that normalises a token. -/
def rstd (x : Fin 1024 → ℝ) : ℝ := (√(meanSq x))⁻¹

/-- The token normalised. -/
def unit (x : Fin 1024 → ℝ) (k : Fin 1024) : ℝ := x k * rstd x

/-- The token normalised and scaled. -/
def norm (x g : Fin 1024 → ℝ) (k : Fin 1024) : ℝ := unit x k * g k

/-- What the token receives when its normalised and scaled form receives `dh`. -/
def pull (x g dh : Fin 1024 → ℝ) (k : Fin 1024) : ℝ :=
  rstd x * (dh k * g k - unit x k * ((∑ l, dh l * g l * unit x l) / 1024))

/-- The same as differentiation writes it: through the factor and through the token. -/
def pullParts (x g dh : Fin 1024 → ℝ) (k : Fin 1024) : ℝ :=
  let q := (∑ l, x l * (dh l * g l)) * (-(1 / 2) * (rstd x / meanSq x)) / 1024
  dh k * g k * rstd x + x k * q + q * x k

theorem pullParts_eq (x g dh : Fin 1024 → ℝ) : pullParts x g dh = pull x g dh := by
  funext k
  have hm := meanSq_pos x
  have hr : rstd x / meanSq x = rstd x * rstd x * rstd x := by
    have hs : √(meanSq x) * √(meanSq x) = meanSq x := Real.mul_self_sqrt hm.le
    have h0 : √(meanSq x) ≠ 0 := (Real.sqrt_pos.mpr hm).ne'
    have : rstd x * rstd x = (meanSq x)⁻¹ := by
      unfold rstd; rw [← mul_inv, hs]
    rw [this]; field_simp
  have hsum : ∑ l, dh l * g l * unit x l = rstd x * ∑ l, x l * (dh l * g l) := by
    rw [Finset.mul_sum]; refine Finset.sum_congr rfl fun l _ => ?_
    unfold unit; ring
  unfold pullParts pull
  rw [hsum, hr]; dsimp only; unfold unit; ring

/-! ## As the reference program writes it -/

abbrev STD : Shape := ⟨2, ![8192, 1024]⟩
abbrev ST1 : Shape := ⟨2, ![8192, 1]⟩
abbrev S1D : Shape := ⟨2, ![1, 1024]⟩
abbrev ST : Shape := ⟨1, ![8192]⟩
abbrev SD : Shape := ⟨1, ![1024]⟩
abbrev S0 : Shape := ⟨0, ![]⟩

theorem red1 : STD.ReducesTo [1] ST := by decide
theorem red0 : STD.ReducesTo [0] SD := by decide
theorem redT : ST1.ReducesTo [1] ST := by decide
theorem redD : S1D.ReducesTo [0] SD := by decide
theorem pos0 : 0 < S0.numel := by decide
theorem bT : ST.BroadcastsInDim ST1 (![0] : Fin 1 → Fin ST1.rank) := by decide
theorem b0 : S0.BroadcastsInDim ST1 (![] : Fin 0 → Fin ST1.rank) := by decide
theorem bRow : ST1.BroadcastsInDim STD (![0, 1] : Fin 2 → Fin STD.rank) := by decide
theorem bTD : ST.BroadcastsInDim STD (![0] : Fin 1 → Fin STD.rank) := by decide
theorem bD : SD.BroadcastsInDim S1D (![1] : Fin 1 → Fin S1D.rank) := by decide
theorem bCol : S1D.BroadcastsInDim STD (![0, 1] : Fin 2 → Fin STD.rank) := by decide
theorem castT : ST.ShapeCasts ST1 := by decide
theorem castD : SD.ShapeCasts S1D := by decide

abbrev A := FVec Ideal STD .f32

/-- The mean squares plus `eps`. -/
def meanSqT (x : A) : FVec Ideal ST1 .f32 :=
  addf (Host.divf (broadcastInDim ST1 ![0] bT (Host.reduceAdd (mulf x x) (constant S0 .f32 0x00000000#32) red1 pos0))
    (broadcastInDim ST1 ![] b0 (constant S0 .f32 0x44800000#32))) (broadcastInDim ST1 ![] b0 (constant S0 .f32 0x358637BD#32))
/-- The normalising factors. -/
def rstdT (x : A) : FVec Ideal ST1 .f32 := Host.rsqrt (meanSqT x)
/-- The tokens normalised. -/
def unitT (x : A) : A := mulf x (broadcastInDim STD ![0, 1] bRow (rstdT x))
/-- The gains, one row. -/
def gainT (g : FVec Ideal SD .f32) : FVec Ideal S1D .f32 := broadcastInDim S1D ![1] bD g
/-- The tokens normalised and scaled. -/
def normT (x : A) (g : FVec Ideal SD .f32) : A := mulf (unitT x) (broadcastInDim STD ![0, 1] bCol (gainT g))
/-- What the gains receive. -/
def gainsT (x dh : A) : FVec Ideal SD .f32 :=
  Host.reduceAdd (shapeCast S1D (Host.reduceAdd (mulf (unitT x) dh) (constant S0 .f32 0x00000000#32) red0 pos0) castD)
    (constant S0 .f32 0x00000000#32) redD pos0
/-- What the normalised tokens receive. -/
def scaledT (g : FVec Ideal SD .f32) (dh : A) : A := mulf dh (broadcastInDim STD ![0, 1] bCol (gainT g))
/-- The part of the gradient that passes through the factor, one number for each token. -/
def factorT (x : A) (g : FVec Ideal SD .f32) (dh : A) : A :=
  broadcastInDim STD ![0] bTD (Host.reduceAdd (Host.divf
    (mulf (shapeCast ST1 (Host.reduceAdd (mulf x (scaledT g dh)) (constant S0 .f32 0x00000000#32) red1 pos0) castT)
      (mulf (broadcastInDim ST1 ![] b0 (constant S0 .f32 0xBF000000#32)) (Host.divf (rstdT x) (meanSqT x))))
    (broadcastInDim ST1 ![] b0 (constant S0 .f32 0x44800000#32))) (constant S0 .f32 0x00000000#32) redT pos0)
/-- What the tokens receive. -/
def pullT (x : A) (g : FVec Ideal SD .f32) (dh : A) : A :=
  addf (addf (mulf (scaledT g dh) (broadcastInDim STD ![0, 1] bRow (rstdT x))) (mulf x (factorT x g dh))) (mulf (factorT x g dh) x)

section
variable (x dh : Fin 8192 → Fin 1024 → ℝ) (g : Fin 1024 → ℝ)

theorem div_1024 (a : ℝ) : Ideal.div (a : EReal) ((1024 : ℝ) : EReal) = ((a / 1024 : ℝ) : EReal) :=
  div_real _ _ (by norm_num)

theorem meanSqT_lift : meanSqT (lift2 x) = lift2 fun t _ => meanSq (x t) := by
  funext i; idx_vars i
  pointwise [meanSqT]
  simp only [lift2_apply, ofBits_eps, ofBits_1024, ← EReal.coe_mul, coe_sum, div_1024, ← EReal.coe_add]
  rfl

theorem rstdT_lift : rstdT (lift2 x) = lift2 fun t _ => rstd (x t) := by
  unfold rstdT; rw [meanSqT_lift]
  funext i; idx_vars i
  pointwise []
  simp only [lift2_apply]
  exact rsqrt_real _ (meanSq_pos _)

theorem unitT_lift : unitT (lift2 x) = lift2 fun t => unit (x t) := by
  unfold unitT; rw [rstdT_lift]
  funext i; idx_vars i
  pointwise []
  simp only [lift2_apply, ← EReal.coe_mul]
  rfl

theorem normT_lift : normT (lift2 x) (lift1 g) = lift2 fun t => norm (x t) g := by
  unfold normT gainT; rw [unitT_lift]
  funext i; idx_vars i
  pointwise []
  simp only [lift2_apply, lift1_apply, ← EReal.coe_mul]
  rfl

theorem scaledT_lift : scaledT (lift1 g) (lift2 dh) = lift2 fun t k => dh t k * g k := by
  unfold scaledT gainT
  funext i; idx_vars i
  pointwise []
  simp only [lift2_apply, lift1_apply, ← EReal.coe_mul]

theorem gainsT_lift : gainsT (lift2 x) (lift2 dh) = lift1 fun k => ∑ t, unit (x t) k * dh t k := by
  unfold gainsT; rw [unitT_lift]
  funext i; idx_vars i
  pointwise []
  simp only [lift2_apply, lift1_apply, ← EReal.coe_mul, coe_sum, Fin.sum_univ_one]

theorem factorT_lift : factorT (lift2 x) (lift1 g) (lift2 dh)
    = lift2 fun t _ => (∑ l, x t l * (dh t l * g l)) * (-(1 / 2) * (rstd (x t) / meanSq (x t))) / 1024 := by
  unfold factorT; rw [scaledT_lift, rstdT_lift, meanSqT_lift]
  funext i; idx_vars i
  pointwise []
  simp only [lift2_apply, ofBits_neg_half, ofBits_1024, div_real _ _ (meanSq_pos _).ne', ← EReal.coe_mul, coe_sum,
    div_1024, Fin.sum_univ_one]

theorem pullT_lift : pullT (lift2 x) (lift1 g) (lift2 dh) = lift2 fun t => pull (x t) g (dh t) := by
  unfold pullT; rw [scaledT_lift, rstdT_lift, factorT_lift]
  funext i; idx_vars i
  pointwise []
  simp only [lift2_apply, ← pullParts_eq, ← EReal.coe_mul, ← EReal.coe_add]
  rfl

end

end Cert.Rms

end
-- ==== Proof.Rope.lean ====
module

public import proofs.«01_k».proof.Proof.Rms

@[expose] public section

set_option maxRecDepth 16384

noncomputable section

/-! # The rotary embedding and its gradient

A head has 64 numbers. The embedding turns the first eight against the next eight by eight angles and leaves the others. Its
gradient turns back. A kernel may write that as three products of the whole row with tables, two of them moved by eight
places. -/

namespace Cert.Rope

open Idealize.ShloMosaic Idealize.SL.Sem Cert.Reals

/-- The head turned back by angles of cosines `c` and sines `s`. -/
def turned (c s : Fin 8 → ℝ) (z : Fin 64 → ℝ) (l : Fin 64) : ℝ :=
  if h : l.val < 8 then z ⟨l.val + 8, by omega⟩ * s ⟨l.val, h⟩ + z l * c ⟨l.val, h⟩
  else if h' : l.val < 16 then z l * c ⟨l.val - 8, by omega⟩ + -z ⟨l.val - 8, by omega⟩ * s ⟨l.val - 8, by omega⟩
  else z l

/-- The table each number is multiplied with. -/
def tabC (c : Fin 8 → ℝ) (l : Fin 64) : ℝ :=
  if h : l.val < 8 then c ⟨l.val, h⟩ else if h' : l.val < 16 then c ⟨l.val - 8, by omega⟩ else 1
/-- The table of what moves eight places up. -/
def tabA (s : Fin 8 → ℝ) (l : Fin 64) : ℝ := if h : l.val < 8 then -s ⟨l.val, h⟩ else 0
/-- The table of what moves eight places down. -/
def tabB (s : Fin 8 → ℝ) (l : Fin 64) : ℝ :=
  if h : l.val < 8 then 0 else if h' : l.val < 16 then s ⟨l.val - 8, by omega⟩ else 0

/-- The three products are the head turned back, whatever comes around from another head. -/
theorem turned_eq (c s : Fin 8 → ℝ) (z : Fin 64 → ℝ) (l p q : Fin 64) (a b : ℝ)
    (hp : p.val = (l.val + 56) % 64) (hq : q.val = (l.val + 8) % 64)
    (ha : ∀ h : 8 ≤ l.val, a = z ⟨l.val - 8, by omega⟩) (hb : ∀ h : l.val < 56, b = z ⟨l.val + 8, by omega⟩) :
    z l * tabC c l + a * tabA s p + b * tabB s q = turned c s z l := by
  have hl := l.isLt
  unfold turned tabC tabA tabB
  by_cases h : l.val < 8
  · have e : (⟨q.val - 8, by omega⟩ : Fin 8) = ⟨l.val, h⟩ := Fin.ext (by dsimp only; omega)
    rw [dif_pos h, dif_neg (by omega), dif_neg (by omega), dif_pos (by omega), dif_pos h, hb (by omega), e]; ring
  · by_cases h' : l.val < 16
    · have e : (⟨p.val, by omega⟩ : Fin 8) = ⟨l.val - 8, by omega⟩ := Fin.ext (by dsimp only; omega)
      rw [dif_neg h, dif_pos h', dif_pos (by omega), dif_neg (by omega), dif_neg (by omega), dif_neg h, dif_pos h', ha (by omega), e]; ring
    · rw [dif_neg h, dif_neg h', dif_neg (by omega), dif_neg h, dif_neg h']
      by_cases h8 : q.val < 8
      · rw [dif_pos h8]; ring
      · rw [dif_neg h8, dif_neg (by omega)]; ring

/-- What a token's projection receives: the queries' and keys' heads turned back, the queries scaled, and the values. -/
def dqkv (c s : Fin 8 → ℝ) (q : Fin 1024 → ℝ) (k v : Fin 256 → ℝ) (n : Fin 1536) : ℝ :=
  if h : n.val < 1024 then turned c s (fun l => q ⟨n.val / 64 * 64 + l.val, by omega⟩ * (1 / 8)) ⟨n.val % 64, Nat.mod_lt _ (by norm_num)⟩
  else if h' : n.val < 1280 then turned c s (fun l => k ⟨(n.val - 1024) / 64 * 64 + l.val, by omega⟩) ⟨n.val % 64, Nat.mod_lt _ (by norm_num)⟩
  else v ⟨n.val - 1280, by omega⟩

/-- What the normalised token receives. -/
def dnorm (w : Fin 1024 → Fin 1536 → ℝ) (d : Fin 1536 → ℝ) (k : Fin 1024) : ℝ := ∑ n, d n * w k n

end Cert.Rope

end
-- ==== Proof.AttnPreRef.lean ====
module

public import proofs.«01_k».proof.Proof.Rope
public import proofs.«01_k».proof.Proof.Finite
public import proofs.«01_k».proof.Proof.Gen.Reference9Ideal.Run

@[expose] public section

set_option maxRecDepth 16384

noncomputable section

/-! # What the reference of the attention projection's gradient computes, on real arrays -/

namespace Cert.AttnPreRef

open Cert.Reference9Ideal Cert.Reference9Ideal.Gen Idealize.ShloMosaic Idealize.ShloMosaic.TcCoe Idealize.SL.Sem
open Cert.Reals Cert.Rms Cert.Rope

abbrev Z0 : FVec Ideal S_ .f32 := constant S_ .f32 0x00000000#32

theorem ofBits_2 : Ideal.ofBits .f32 1073741824#32 = ((2 : ℝ) : EReal) := by
  simp [Ideal.ofBits, Ideal.ieee, -EReal.coe_mul]; norm_num
theorem ofBits_16 : Ideal.ofBits .f32 1098907648#32 = ((16 : ℝ) : EReal) := by
  simp [Ideal.ofBits, Ideal.ieee, -EReal.coe_mul]; norm_num
theorem ofBits_base : Ideal.ofBits .f32 1223959552#32 = ((500000 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

/-- The angles of all tokens. -/
def angT : FVec Ideal S8192x8 .f32 :=
  (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- They are real. -/
theorem angT_real : ∃ a : Fin 8192 → Fin 8 → ℝ, angT = lift2 a := by
  have key : ∀ i : S8192x8.Idx, ∃ r : ℝ, angT i = (r : EReal) := by
    intro i; idx_vars i
    pointwise [angT]
    have h2 : ∀ b : BitVec 32, FloatOps.sitofp (F := Ideal) FTy.f32 b = (((b.toInt : ℤ) : ℝ) : EReal) := fun _ => rfl
    simp only [h2, ofBits_2, ofBits_16, ofBits_base, ← EReal.coe_mul, ← EReal.coe_neg, div_real _ _ (by norm_num : (16 : ℝ) ≠ 0), Ideal.pow_coe_coe]
    exact ⟨_, rfl⟩
  refine exists_lift2 angT fun i => ?_
  obtain ⟨r, hr⟩ := key i
  rw [hr, EReal.toReal_coe]

/-- The heads of queries turned back. -/
def turnQ (a : FVec Ideal S8192x8 .f32) (z : FVec Ideal S8192x16x64 .f32) : FVec Ideal S8192x16x64 .f32 :=
  (addf (addf (pad S8192x16x64 ![0, 0, 16] ![0, 0, 0] ![0, 0, 0] (extractStridedSlice S8192x16x48 ![0, 0, 16] z slices_S8192x16x64_S8192x16x48_0_0_16) Z0 pads_S8192x16x48_S8192x16x64_000_000_1600 h_S_) (pad S8192x16x64 ![0, 0, 8] ![0, 0, 48] ![0, 0, 0] (addf (mulf (extractStridedSlice S8192x16x8 ![0, 0, 8] z slices_S8192x16x64_S8192x16x8_0_0_8) (broadcastInDim S8192x16x8 ![0, 1, 2] bcast_S8192x1x8_S8192x16x8_0_1_2 (broadcastInDim S8192x1x8 ![0, 2] bcast_S8192x8_S8192x1x8_0_2 (Host.cos a)))) (mulf (Host.negf (extractStridedSlice S8192x16x8 ![0, 0, 0] z slices_S8192x16x64_S8192x16x8_0_0_0)) (broadcastInDim S8192x16x8 ![0, 1, 2] bcast_S8192x1x8_S8192x16x8_0_1_2 (broadcastInDim S8192x1x8 ![0, 2] bcast_S8192x8_S8192x1x8_0_2 (Host.sin a))))) Z0 pads_S8192x16x8_S8192x16x64_000_000_8480 h_S_)) (pad S8192x16x64 ![0, 0, 0] ![0, 0, 56] ![0, 0, 0] (addf (mulf (extractStridedSlice S8192x16x8 ![0, 0, 8] z slices_S8192x16x64_S8192x16x8_0_0_8) (broadcastInDim S8192x16x8 ![0, 1, 2] bcast_S8192x1x8_S8192x16x8_0_1_2 (broadcastInDim S8192x1x8 ![0, 2] bcast_S8192x8_S8192x1x8_0_2 (Host.sin a)))) (mulf (extractStridedSlice S8192x16x8 ![0, 0, 0] z slices_S8192x16x64_S8192x16x8_0_0_0) (broadcastInDim S8192x16x8 ![0, 1, 2] bcast_S8192x1x8_S8192x16x8_0_1_2 (broadcastInDim S8192x1x8 ![0, 2] bcast_S8192x8_S8192x1x8_0_2 (Host.cos a))))) Z0 pads_S8192x16x8_S8192x16x64_000_000_0560 h_S_))
/-- The heads of keys turned back. -/
def turnK (a : FVec Ideal S8192x8 .f32) (z : FVec Ideal S8192x4x64 .f32) : FVec Ideal S8192x4x64 .f32 :=
  (addf (addf (pad S8192x4x64 ![0, 0, 16] ![0, 0, 0] ![0, 0, 0] (extractStridedSlice S8192x4x48 ![0, 0, 16] z slices_S8192x4x64_S8192x4x48_0_0_16) Z0 pads_S8192x4x48_S8192x4x64_000_000_1600 h_S_) (pad S8192x4x64 ![0, 0, 8] ![0, 0, 48] ![0, 0, 0] (addf (mulf (extractStridedSlice S8192x4x8 ![0, 0, 8] z slices_S8192x4x64_S8192x4x8_0_0_8) (broadcastInDim S8192x4x8 ![0, 1, 2] bcast_S8192x1x8_S8192x4x8_0_1_2 (broadcastInDim S8192x1x8 ![0, 2] bcast_S8192x8_S8192x1x8_0_2 (Host.cos a)))) (mulf (Host.negf (extractStridedSlice S8192x4x8 ![0, 0, 0] z slices_S8192x4x64_S8192x4x8_0_0_0)) (broadcastInDim S8192x4x8 ![0, 1, 2] bcast_S8192x1x8_S8192x4x8_0_1_2 (broadcastInDim S8192x1x8 ![0, 2] bcast_S8192x8_S8192x1x8_0_2 (Host.sin a))))) Z0 pads_S8192x4x8_S8192x4x64_000_000_8480 h_S_)) (pad S8192x4x64 ![0, 0, 0] ![0, 0, 56] ![0, 0, 0] (addf (mulf (extractStridedSlice S8192x4x8 ![0, 0, 8] z slices_S8192x4x64_S8192x4x8_0_0_8) (broadcastInDim S8192x4x8 ![0, 1, 2] bcast_S8192x1x8_S8192x4x8_0_1_2 (broadcastInDim S8192x1x8 ![0, 2] bcast_S8192x8_S8192x1x8_0_2 (Host.sin a)))) (mulf (extractStridedSlice S8192x4x8 ![0, 0, 0] z slices_S8192x4x64_S8192x4x8_0_0_0) (broadcastInDim S8192x4x8 ![0, 1, 2] bcast_S8192x1x8_S8192x4x8_0_1_2 (broadcastInDim S8192x1x8 ![0, 2] bcast_S8192x8_S8192x1x8_0_2 (Host.cos a))))) Z0 pads_S8192x4x8_S8192x4x64_000_000_0560 h_S_))

/-- The three parts of a head, each alone at its places. -/
theorem turn_cases (c s : Fin 8 → ℝ) (z : Fin 64 → ℝ) (l : Fin 64) :
    (((if h : 16 ≤ l.val ∧ l.val - 16 < 48 then ((z ⟨16 + (l.val - 16), by omega⟩ : ℝ) : EReal) else 0)
      + if h : 8 ≤ l.val ∧ l.val - 8 < 8 then ((z ⟨8 + (l.val - 8), by omega⟩ * c ⟨l.val - 8, by omega⟩ + -z ⟨l.val - 8, by omega⟩ * s ⟨l.val - 8, by omega⟩ : ℝ) : EReal) else 0)
      + if h : l.val < 8 then ((z ⟨8 + l.val, by omega⟩ * s ⟨l.val, h⟩ + z l * c ⟨l.val, h⟩ : ℝ) : EReal) else 0) = ((turned c s z l : ℝ) : EReal) := by
  have hl := l.isLt
  unfold turned
  by_cases h : l.val < 8
  · have e : (⟨8 + l.val, by omega⟩ : Fin 64) = ⟨l.val + 8, by omega⟩ := Fin.ext (Nat.add_comm _ _)
    rw [dif_neg (by omega), dif_neg (by omega), dif_pos h, dif_pos h, zero_add, zero_add, e]
  · by_cases h' : l.val < 16
    · have e : (⟨8 + (l.val - 8), by omega⟩ : Fin 64) = l := Fin.ext (by dsimp only; omega)
      rw [dif_neg (by omega), dif_pos (by omega), dif_neg h, dif_neg h, dif_pos h', zero_add, add_zero, e]
    · have e : (⟨16 + (l.val - 16), by omega⟩ : Fin 64) = l := Fin.ext (by dsimp only; omega)
      rw [dif_pos (by omega), dif_neg (by omega), dif_neg h, dif_neg h, dif_neg h', add_zero, add_zero, e]

theorem turnQ_lift (a : Fin 8192 → Fin 8 → ℝ) (z : Fin 8192 → Fin 16 → Fin 64 → ℝ) :
    turnQ (lift2 a) (lift3 z) = lift3 fun t h => turned (fun j => Real.cos (a t j)) (fun j => Real.sin (a t j)) (z t h) := by
  funext i; idx_vars i
  pointwise [turnQ]
  simp only [lift2_apply, lift3_apply, Ideal.ofBits_zero_f32, Ideal.cos_coe, Ideal.sin_coe, ← EReal.coe_mul, ← EReal.coe_neg, ← EReal.coe_add]
  exact turn_cases (fun j => Real.cos (a i0 j)) (fun j => Real.sin (a i0 j)) (z i0 i1) i2

theorem turnK_lift (a : Fin 8192 → Fin 8 → ℝ) (z : Fin 8192 → Fin 4 → Fin 64 → ℝ) :
    turnK (lift2 a) (lift3 z) = lift3 fun t h => turned (fun j => Real.cos (a t j)) (fun j => Real.sin (a t j)) (z t h) := by
  funext i; idx_vars i
  pointwise [turnK]
  simp only [lift2_apply, lift3_apply, Ideal.ofBits_zero_f32, Ideal.cos_coe, Ideal.sin_coe, ← EReal.coe_mul, ← EReal.coe_neg, ← EReal.coe_add]
  exact turn_cases (fun j => Real.cos (a i0 j)) (fun j => Real.sin (a i0 j)) (z i0 i1) i2

/-- The queries' heads, scaled. -/
def headQ (q : FVec Ideal S64x1024x128 .f32) : FVec Ideal S8192x16x64 .f32 :=
  mulf (shapeCast _ (transpose S64x128x1024 [0, 2, 1] q transposes_S64x1024x128_S64x128x1024_0_2_1) shapeCasts_S64x128x1024_S8192x16x64)
    (broadcastInDim S8192x16x64 ![] bcast_S_S8192x16x64 (constant S_ .f32 0x3E000000#32))
/-- The rows the step uses, without the rows of the neighbour. -/
def own (k : FVec Ideal S9216x256 .f32) : FVec Ideal S8192x256 .f32 := extractStridedSlice S8192x256 ![512, 0] k slices_S9216x256_S8192x256_512_0

/-- What the projection receives. -/
def dqkvT (a : FVec Ideal S8192x8 .f32) (q : FVec Ideal S64x1024x128 .f32) (k v : FVec Ideal S9216x256 .f32) : FVec Ideal S8192x1536 .f32 :=
  addf (addf (pad S8192x1536 ![0, 1280] ![0, 0] ![0, 0] (own v) Z0 pads_S8192x256_S8192x1536_000_128000 h_S_)
      (pad S8192x1536 ![0, 1024] ![0, 256] ![0, 0] (shapeCast _ (turnK a (shapeCast _ (own k) shapeCasts_S8192x256_S8192x4x64)) shapeCasts_S8192x4x64_S8192x256) Z0 pads_S8192x256_S8192x1536_000_10242560 h_S_))
    (pad S8192x1536 ![0, 0] ![0, 512] ![0, 0] (shapeCast _ (turnQ a (headQ q)) shapeCasts_S8192x16x64_S8192x1024) Z0 pads_S8192x1024_S8192x1536_000_05120 h_S_)

/-- A token's queries among the blocks of 128 tokens. -/
abbrev qTok (q : Fin 64 → Fin 1024 → Fin 128 → ℝ) (t : Fin 8192) (n : Fin 1024) : ℝ := q ⟨t.val / 128, by omega⟩ n ⟨t.val % 128, Nat.mod_lt _ (by norm_num)⟩
/-- A token's keys or values after the neighbour's. -/
abbrev kTok (k : Fin 9216 → Fin 256 → ℝ) (t : Fin 8192) (n : Fin 256) : ℝ := k ⟨512 + t.val, by omega⟩ n
/-- What a token's projection receives. -/
abbrev dOfTok (a : Fin 8192 → Fin 8 → ℝ) (q : Fin 64 → Fin 1024 → Fin 128 → ℝ) (k v : Fin 9216 → Fin 256 → ℝ) (t : Fin 8192) : Fin 1536 → ℝ :=
  dqkv (fun j => Real.cos (a t j)) (fun j => Real.sin (a t j)) (qTok q t) (kTok k t) (kTok v t)

section
variable (a : Fin 8192 → Fin 8 → ℝ) (q : Fin 64 → Fin 1024 → Fin 128 → ℝ) (k v : Fin 9216 → Fin 256 → ℝ)
  (w : Fin 1024 → Fin 1536 → ℝ)

theorem headQ_lift : headQ (lift3 q) = lift3 fun t h l => qTok q t ⟨h.val * 64 + l.val, by omega⟩ * (1 / 8) := by
  funext i; idx_vars i
  pointwise [headQ]
  simp only [lift3_apply, ofBits_eighth, ← EReal.coe_mul]

theorem own_lift : own (lift2 k) = lift2 (kTok k) := by
  funext i; idx_vars i
  pointwise [own]
  rfl

theorem dqkvT_lift : dqkvT (lift2 a) (lift3 q) (lift2 k) (lift2 v) = lift2 (dOfTok a q k v) := by
  have e : (shapeCast S8192x4x64 (lift2 (kTok k) : FVec Ideal S8192x256 .f32) shapeCasts_S8192x256_S8192x4x64 : FVec Ideal S8192x4x64 .f32)
      = lift3 fun t h l => kTok k t ⟨h.val * 64 + l.val, by omega⟩ := by
    funext i; idx_vars i
    pointwise []
    rfl
  unfold dqkvT
  rw [headQ_lift, own_lift, own_lift, e, turnQ_lift, turnK_lift]
  funext i; idx_vars i
  pointwise []
  simp only [lift2_apply, lift3_apply, Ideal.ofBits_zero_f32]
  have hi := i1.isLt
  unfold dOfTok dqkv
  by_cases h : i1.val < 1024
  · rw [dif_neg (by omega), dif_neg (by omega), dif_pos h, dif_pos h, zero_add, zero_add]
  · by_cases h' : i1.val < 1280
    · have e' : (⟨(i1.val - 1024) % 64, Nat.mod_lt _ (by norm_num)⟩ : Fin 64) = ⟨i1.val % 64, Nat.mod_lt _ (by norm_num)⟩ := Fin.ext (by dsimp only; omega)
      rw [dif_neg (by omega), dif_pos (by omega), dif_neg h, dif_neg h, dif_pos h', zero_add, add_zero, e']
    · rw [dif_pos (by omega), dif_neg (by omega), dif_neg h, dif_neg h, dif_neg h', add_zero, add_zero]

end

section
variable (m : (ℓ : Loc nD τ sig) → Buf (Elt Ideal) ℓ) (c : Dev nD)

/-- The seven arrays the program takes. -/
abbrev qOf : FVec Ideal S64x1024x128 .f32 := m ((c.tc : Thread nD τ).loc main_arg0)
abbrev kOf : FVec Ideal S9216x256 .f32 := m ((c.tc : Thread nD τ).loc main_arg1)
abbrev vOf : FVec Ideal S9216x256 .f32 := m ((c.tc : Thread nD τ).loc main_arg2)
abbrev xOf : A := m ((c.tc : Thread nD τ).loc main_arg3)
abbrev gOf : FVec Ideal SD .f32 := m ((c.tc : Thread nD τ).loc main_arg4)
abbrev wOf : FVec Ideal S1024x1536 .f32 := m ((c.tc : Thread nD τ).loc main_arg5)
abbrev dOf : A := m ((c.tc : Thread nD τ).loc main_arg6)

abbrev dqkvOf : FVec Ideal S8192x1536 .f32 := dqkvT angT (qOf m c) (kOf m c) (vOf m c)
/-- What the normalised tokens receive. -/
def dnormT (d : FVec Ideal S8192x1536 .f32) (w : FVec Ideal S1024x1536 .f32) : A :=
  Host.dotGeneral dot_S8192x1536_S1024x1536_S8192x1024_1_1_0_0_n_n none d w

theorem dnormT_lift (d : Fin 8192 → Fin 1536 → ℝ) (w : Fin 1024 → Fin 1536 → ℝ) : dnormT (lift2 d) (lift2 w) = lift2 fun t => Rope.dnorm w (d t) := by
  funext i; idx_vars i
  pointwise [dnormT]
  simp only [lift2_apply, ← EReal.coe_mul, coe_sum]
  rfl

theorem res0_eq : (Value.res_out0 m c : FVec Ideal S8192x1536 .bf16) = truncf .bf16 (dqkvOf m c) bitsLt_bf16_f32 := rfl
theorem res2_eq : (Value.res_out2 m c : A) = addf (dOf m c) (pullT (xOf m c) (gOf m c) (dnormT (dqkvOf m c) (wOf m c))) := rfl
theorem res3_eq : (Value.res_out3 m c : FVec Ideal S1x1024 .f32) = broadcastInDim S1x1024 ![1] bcast_S1024_S1x1024_1
    (gainsT (xOf m c) (dnormT (dqkvOf m c) (wOf m c))) := rfl

variable (a : Fin 8192 → Fin 8 → ℝ) (q : Fin 64 → Fin 1024 → Fin 128 → ℝ) (k v : Fin 9216 → Fin 256 → ℝ) (x : Fin 8192 → Fin 1024 → ℝ) (g : Fin 1024 → ℝ)
  (w : Fin 1024 → Fin 1536 → ℝ)
  (ha : angT = lift2 a) (hq : qOf m c = lift3 q) (hk : kOf m c = lift2 k) (hv : vOf m c = lift2 v) (hx : xOf m c = lift2 x) (hg : gOf m c = lift1 g) (hw : wOf m c = lift2 w)

theorem res1 (hx : xOf m c = lift2 x) (hg : gOf m c = lift1 g) : truncf .bf16 (transpose S1024x8192 [1, 0] (normT (xOf m c) (gOf m c)) transposes_S8192x1024_S1024x8192_1_0) bitsLt_bf16_f32
    = lift2 (φ := .bf16) fun k t => norm (x t) g k := by
  rw [hx, hg, normT_lift]
  funext i; idx_vars i
  pointwise []
  rfl

include ha hq hk hv

theorem dqkv_all : dqkvOf m c = lift2 (φ := .f32) (dOfTok a q k v) := by
  unfold dqkvOf
  rw [ha, hq, hk, hv]
  exact dqkvT_lift a q k v

theorem res0 : (Value.res_out0 m c : FVec Ideal S8192x1536 .bf16) = lift2 (φ := .bf16) (dOfTok a q k v) := by
  rw [res0_eq, dqkv_all m c a q k v ha hq hk hv]; rfl

include hx hg hw

theorem dnorm_all : dnormT (dqkvOf m c) (wOf m c) = lift2 (φ := .f32) fun t => Rope.dnorm w (dOfTok a q k v t) := by
  rw [dqkv_all m c a q k v ha hq hk hv, hw, dnormT_lift]

theorem res2 : (Value.res_out2 m c : A) = addf (dOf m c) (lift2 (φ := .f32) fun t => Rms.pull (x t) g (Rope.dnorm w (dOfTok a q k v t))) := by
  rw [res2_eq, dnorm_all m c a q k v x g w ha hq hk hv hx hg hw, hx, hg, pullT_lift]

theorem res3 : (Value.res_out3 m c : FVec Ideal S1x1024 .f32) = lift2 (φ := .f32) fun _ n => ∑ t, Rms.unit (x t) n * Rope.dnorm w (dOfTok a q k v t) n := by
  rw [res3_eq, dnorm_all m c a q k v x g w ha hq hk hv hx hg hw, hx, gainsT_lift]
  funext i; idx_vars i
  pointwise []
  rfl

end

end Cert.AttnPreRef

end
-- ==== Proof.Ffn.lean ====
module

public import proofs.«01_k».proof.Proof.Rms

@[expose] public section

set_option maxRecDepth 16384

noncomputable section

/-! # The feed-forward of one token and its gradient, over the reals

`w` holds the 2816 columns of the gates and then the 2816 columns of the values they gate, `v` the rows that lead back. -/

namespace Cert.Ffn

open Cert.Reals Cert.Rms

/-- Column `f` of the gates. -/
def lo (f : Fin 2816) : Fin 5632 := ⟨f.val, by omega⟩
/-- Column `f` of the gated values. -/
def hi (f : Fin 2816) : Fin 5632 := ⟨2816 + f.val, by omega⟩

section
variable (x g : Fin 1024 → ℝ) (w : Fin 1024 → Fin 5632 → ℝ) (v : Fin 2816 → Fin 1024 → ℝ) (dy : Fin 1024 → ℝ)

/-- The normalised token through all columns. -/
def proj (n : Fin 5632) : ℝ := ∑ k, norm x g k * w k n
def gate (f : Fin 2816) : ℝ := proj x g w (lo f)
def up (f : Fin 2816) : ℝ := proj x g w (hi f)
/-- The gate's factor. -/
def sig (f : Fin 2816) : ℝ := sigmoid (gate x g w f)
/-- What the gated products receive. -/
def dact (f : Fin 2816) : ℝ := ∑ d, dy d * v f d
/-- The derivative of the gated product by its gate, divided by what it receives. -/
def gateSlope (f : Fin 2816) : ℝ := sig x g w f * (1 + gate x g w f * (1 - sig x g w f)) * up x g w f
/-- The derivative by the gated value. -/
def silu (f : Fin 2816) : ℝ := gate x g w f * sig x g w f
/-- What the columns receive. -/
def dproj (n : Fin 5632) : ℝ :=
  if h : n.val < 2816 then dact v dy ⟨n.val, h⟩ * gateSlope x g w ⟨n.val, h⟩
  else dact v dy ⟨n.val - 2816, by omega⟩ * silu x g w ⟨n.val - 2816, by omega⟩
/-- What the normalised token receives. -/
def dnorm (k : Fin 1024) : ℝ := ∑ n, dproj x g w v dy n * w k n
/-- What the token receives, with what passes beside the feed-forward. -/
def dtoken (k : Fin 1024) : ℝ := dy k + pull x g (dnorm x g w v dy) k
/-- The token's part of what the gains receive. -/
def dgain (k : Fin 1024) : ℝ := unit x k * dnorm x g w v dy k
end

end Cert.Ffn

end
-- ==== Proof.FfnBwdPays.lean ====
module

public import proofs.«01_k».proof.Proof.Ffn
public import proofs.«01_k».proof.Proof.Gen.Kernel2Ideal.Value
public import Idealize.ShloMosaic.Lib.Tactic
public import Idealize.ShloMosaic.Lib.Pipeline.ValueKit.Tiles

@[expose] public section

set_option maxRecDepth 16384

noncomputable section

/-! # One block of the feed-forward's gradient kernel, on real arrays

A block is 256 tokens. The 5632 columns come as eight groups of 704, four of gates and four of gated values; the rows that
lead back come as four groups of 704. -/

namespace Cert.FfnBwdKernel

open Cert.Kernel2Ideal Cert.Kernel2Ideal.Gen Cert.Kernel2Ideal.Value Idealize.ShloMosaic Idealize.ShloMosaic.TcCoe
  Idealize.SL.Sem Cert.Reals

abbrev Mat (a b : ℕ) := Fin a → Fin b → ℝ
abbrev Cube (a b c : ℕ) := Fin a → Fin b → Fin c → ℝ

/-- Loading one slice of a real array. -/
theorem ld_lift {a b c : ℕ} (f : Cube a b c) (n : ℕ)
    (h : ∀ x : Fin 3, ((![n, 0, 0] : Fin 3 → ℕ) x) + (![1, b, c] : Fin 3 → ℕ) x ≤ (⟨3, ![a, b, c]⟩ : Shape).size x) :
    (View.ld (Val := Elt Ideal) (e' := .bf16) (lift3 (φ := .bf16) f : FVec Ideal ⟨3, ![a, b, c]⟩ .bf16) (Rect.unit (s := ⟨3, ![a, b, c]⟩) ![n, 0, 0] ![1, b, c] h) : FVec Ideal ⟨3, ![1, b, c]⟩ .bf16) = lift3 (a := 1) (φ := .bf16) fun _ => f ⟨n, h 0⟩ := by
  funext x
  rw [View.ld_apply]
  refine congrArg (lift3 (φ := .bf16) f) (?_ : _ = ix3 ⟨n, h 0⟩ (x 1) (x 2))
  funext a'; apply Fin.ext; rw [Rect.idx_unit_val]
  have h0 : (x 0).val = 0 := by have := (x 0).isLt; simpa using this
  fin_cases a'
  · show n + (x 0).val = n; rw [h0, Nat.add_zero]
  · show 0 + (x 1).val = (x 1).val; rw [Nat.zero_add]
  · show 0 + (x 2).val = (x 2).val; rw [Nat.zero_add]

/-! ## The parts of the block -/

section
variable (y x : Mat 256 1024) (V : Cube 1 704 1024) (S : Cube 1 256 704) (g : Mat 1 1024)

/-- What a group of gated products receives. -/
def back (y : Mat 256 1024) (V : Mat 704 1024) : Mat 256 704 := fun r f => ∑ d, y r d * V f d
/-- That times the saved derivatives. -/
def grad (y : Mat 256 1024) (V : Mat 704 1024) (S : Mat 256 704) : Mat 256 704 := fun r f => back y V r f * S r f

theorem pay6_lift : k0_pay6 (lift2 (φ := .f32) y : FVec Ideal S256x1024 .f32) = lift2 (φ := .bf16) y := rfl

theorem pay12_lift : k0_pay12 (lift2 (φ := .f32) y : FVec Ideal S256x1024 .f32) (lift3 (φ := .bf16) V : FVec Ideal S1x704x1024 .bf16) = lift2 (φ := .f32) (back y (V 0)) := by
  funext i; idx_vars i
  pointwise [k0_pay12, k0_pay6]
  simp only [lift2_apply, lift3_apply, ← EReal.coe_mul, coe_sum]
  rfl

theorem pay13_lift : k0_pay13 (lift2 (φ := .f32) y : FVec Ideal S256x1024 .f32) (lift3 (φ := .bf16) V : FVec Ideal S1x704x1024 .bf16) (lift3 (φ := .bf16) S : FVec Ideal S1x256x704 .bf16) = lift2 (φ := .bf16) (grad y (V 0) (S 0)) := by
  unfold k0_pay13; rw [pay12_lift]
  funext i; idx_vars i
  pointwise []
  simp only [lift2_apply, lift3_apply, ← EReal.coe_mul]
  rfl

theorem pay14_lift : k0_pay14 (lift3 (φ := .bf16) S : FVec Ideal S1x256x704 .bf16) = lift2 (φ := .bf16) (S 0) := by
  funext i; idx_vars i
  pointwise [k0_pay14]
  rfl

theorem pay20_lift : k0_pay20 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl

theorem pay21_lift : k0_pay21 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl

theorem pay27_lift : k0_pay27 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl

theorem pay28_lift : k0_pay28 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl

theorem pay33_lift : k0_pay33 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl

theorem pay34_lift : k0_pay34 (lift2 (φ := .bf16) y : FVec Ideal S256x1024 .bf16) (lift3 (φ := .bf16) V : FVec Ideal S1x704x1024 .bf16) (lift3 (φ := .bf16) S : FVec Ideal S1x256x704 .bf16) = lift2 (φ := .bf16) (grad y (V 0) (S 0)) := by
  rw [← pay13_lift]; rfl
end

section
variable (a : Mat 256 1024) (p q s : Mat 256 704) (Wa Wb : Cube 1 704 1024)

/-- Two groups of columns led back and added. -/
def plus (a : Mat 256 1024) (p q : Mat 256 704) (Wa Wb : Mat 704 1024) : Mat 256 1024 :=
  fun r k => a r k + ∑ f, p r f * Wa f k + ∑ f, q r f * Wb f k

theorem pay11_lift : (k0_pay11 : FVec Ideal S256x1024 .f32) = lift2 (φ := .f32) fun _ _ => (0 : ℝ) := by
  funext i; idx_vars i
  pointwise [k0_pay11]
  simp only [lift2_apply, Ideal.ofBits_zero_f32, EReal.coe_zero]

theorem pay5_lift : (k0_pay5 : FVec Ideal S1x1024 .f32) = lift2 (φ := .f32) fun _ _ => (0 : ℝ) := by
  funext i; idx_vars i
  pointwise [k0_pay5]
  simp only [lift2_apply, Ideal.ofBits_zero_f32, EReal.coe_zero]

theorem pay2_lift : k0_pay2 (lift2 (φ := .f32) a : FVec Ideal S256x1024 .f32) (lift2 (φ := .bf16) p : FVec Ideal S256x704 .bf16) (lift2 (φ := .bf16) q : FVec Ideal S256x704 .bf16) (lift3 (φ := .bf16) Wa : FVec Ideal S1x704x1024 .bf16) (lift3 (φ := .bf16) Wb : FVec Ideal S1x704x1024 .bf16) = lift2 (φ := .f32) (plus a p q (Wa 0) (Wb 0)) := by
  funext i; idx_vars i
  pointwise [k0_pay2]
  simp only [lift2_apply, lift3_apply, ← EReal.coe_mul, coe_sum, ← EReal.coe_add]
  rfl

theorem pay25_lift : k0_pay25 (lift2 (φ := .f32) a : FVec Ideal S256x1024 .f32) (lift2 (φ := .bf16) p : FVec Ideal S256x704 .bf16) (lift2 (φ := .bf16) q : FVec Ideal S256x704 .bf16) (lift3 (φ := .bf16) Wa : FVec Ideal S1x704x1024 .bf16) (lift3 (φ := .bf16) Wb : FVec Ideal S1x704x1024 .bf16) = lift2 (φ := .f32) (plus a p q (Wa 0) (Wb 0)) := by
  rw [← pay2_lift]; rfl

theorem pay31_lift : k0_pay31 (lift2 (φ := .f32) a : FVec Ideal S256x1024 .f32) (lift2 (φ := .bf16) p : FVec Ideal S256x704 .bf16) (lift2 (φ := .bf16) q : FVec Ideal S256x704 .bf16) (lift3 (φ := .bf16) Wa : FVec Ideal S1x704x1024 .bf16) (lift3 (φ := .bf16) Wb : FVec Ideal S1x704x1024 .bf16) = lift2 (φ := .f32) (plus a p q (Wa 0) (Wb 0)) := by
  rw [← pay2_lift]; rfl

theorem pay15_lift : k0_pay15 (lift2 (φ := .f32) p : FVec Ideal S256x704 .f32) (lift2 (φ := .bf16) s : FVec Ideal S256x704 .bf16) = lift2 (φ := .bf16) fun r f => p r f * s r f := by
  funext i; idx_vars i
  pointwise [k0_pay15]
  simp only [lift2_apply, ← EReal.coe_mul]

theorem pay18_lift : k0_pay18 (lift2 (φ := .f32) a : FVec Ideal S256x1024 .f32) (lift2 (φ := .f32) q : FVec Ideal S256x704 .f32) (lift2 (φ := .bf16) p : FVec Ideal S256x704 .bf16) (lift2 (φ := .bf16) s : FVec Ideal S256x704 .bf16) (lift3 (φ := .bf16) Wa : FVec Ideal S1x704x1024 .bf16) (lift3 (φ := .bf16) Wb : FVec Ideal S1x704x1024 .bf16) = lift2 (φ := .f32) (plus a p (fun r f => q r f * s r f) (Wa 0) (Wb 0)) := by
  rw [← pay2_lift, ← pay15_lift]; rfl

/-- Columns by tokens instead of tokens by columns. -/
theorem pay16_lift : k0_pay16 (lift2 (φ := .bf16) p : FVec Ideal S256x704 .bf16) = lift3 (a := 1) (φ := .bf16) fun _ f r => p r f := by
  funext i; idx_vars i
  pointwise [k0_pay16]
  rfl
theorem pay24_lift : k0_pay24 (lift2 (φ := .bf16) p : FVec Ideal S256x704 .bf16) = lift3 (a := 1) (φ := .bf16) fun _ f r => p r f := pay16_lift p
theorem pay30_lift : k0_pay30 (lift2 (φ := .bf16) p : FVec Ideal S256x704 .bf16) = lift3 (a := 1) (φ := .bf16) fun _ f r => p r f := pay16_lift p
theorem pay17_lift : k0_pay17 (lift2 (φ := .f32) p : FVec Ideal S256x704 .f32) (lift2 (φ := .bf16) s : FVec Ideal S256x704 .bf16) = lift3 (a := 1) (φ := .bf16) fun _ f r => p r f * s r f := by
  rw [← pay16_lift fun r f => p r f * s r f, ← pay15_lift]; rfl
end

section
variable (y x : Mat 256 1024) (V : Cube 1 704 1024) (S : Cube 1 256 704)
theorem pay22_lift : k0_pay23 (k0_pay22 (lift2 (φ := .bf16) y : FVec Ideal S256x1024 .bf16) (lift3 (φ := .bf16) V : FVec Ideal S1x704x1024 .bf16) (lift3 (φ := .bf16) S : FVec Ideal S1x256x704 .bf16)) = lift3 (a := 1) (φ := .bf16) fun _ f r => grad y (V 0) (S 0) r f := by
  rw [← pay16_lift, ← pay20_lift]; rfl
theorem pay29_lift : k0_pay29 (lift2 (φ := .bf16) y : FVec Ideal S256x1024 .bf16) (lift3 (φ := .bf16) V : FVec Ideal S1x704x1024 .bf16) (lift3 (φ := .bf16) S : FVec Ideal S1x256x704 .bf16) = lift3 (a := 1) (φ := .bf16) fun _ f r => grad y (V 0) (S 0) r f := by
  rw [← pay16_lift, ← pay27_lift]; rfl
theorem pay35_lift : k0_pay35 (lift2 (φ := .bf16) y : FVec Ideal S256x1024 .bf16) (lift3 (φ := .bf16) V : FVec Ideal S1x704x1024 .bf16) (lift3 (φ := .bf16) S : FVec Ideal S1x256x704 .bf16) = lift3 (a := 1) (φ := .bf16) fun _ f r => grad y (V 0) (S 0) r f := by
  rw [← pay16_lift, ← pay33_lift]; rfl
theorem pay36_lift : k0_pay1 (k0_pay36 (lift2 (φ := .bf16) y : FVec Ideal S256x1024 .bf16) (lift3 (φ := .bf16) V : FVec Ideal S1x704x1024 .bf16) (lift3 (φ := .bf16) S : FVec Ideal S1x256x704 .bf16)) = lift3 (a := 1) (φ := .bf16) fun _ f r => grad y (V 0) (S 0) r f := by
  rw [← pay16_lift, ← pay34_lift]; rfl
end

/-! ## The normalisation -/

section
variable (y x : Mat 256 1024) (g dg : Mat 1 1024)

theorem pay7_lift : k0_pay7 (lift2 (φ := .f32) g : FVec Ideal S1x1024 .f32) = lift2 (φ := .f32) g := by
  funext i; idx_vars i
  pointwise [k0_pay7]

theorem pay8_lift : k0_pay8 (lift2 (φ := .f32) x : FVec Ideal S256x1024 .f32) = lift2 (φ := .f32) fun r _ => Rms.rstd (x r) := by
  funext i; idx_vars i
  pointwise [k0_pay8]
  simp only [lift2_apply, ← EReal.coe_mul, coe_sum, ofBits_1024, ofBits_eps, div_real _ _ (by norm_num : (1024 : ℝ) ≠ 0), ← EReal.coe_add]
  exact rsqrt_real _ (Rms.meanSq_pos (x i0))

theorem pay9_lift : k0_pay9 (lift2 (φ := .f32) x : FVec Ideal S256x1024 .f32) = lift2 (φ := .f32) fun r => Rms.unit (x r) := by
  unfold k0_pay9; rw [pay8_lift]
  funext i; idx_vars i
  pointwise []
  simp only [lift2_apply, ← EReal.coe_mul]
  rfl

theorem pay10_lift : k0_pay10 (lift2 (φ := .f32) g : FVec Ideal S1x1024 .f32) (lift2 (φ := .f32) x : FVec Ideal S256x1024 .f32) = lift2 (φ := .bf16) fun r => Rms.norm (x r) (g 0) := by
  unfold k0_pay10; rw [pay9_lift, pay7_lift]
  funext i; idx_vars i
  pointwise []
  simp only [lift2_apply, ← EReal.coe_mul]
  rfl

variable (a d : Mat 256 1024) (p q : Mat 256 704) (Wa Wb : Cube 1 704 1024) (hd : plus a p q (Wa 0) (Wb 0) = d)
include hd

theorem pay3_lift : k0_pay3 (lift2 (φ := .f32) y : FVec Ideal S256x1024 .f32) (lift2 (φ := .f32) g : FVec Ideal S1x1024 .f32) (lift2 (φ := .f32) (fun r _ => Rms.rstd (x r)) : FVec Ideal S256x1 .f32) (lift2 (φ := .f32) (fun r => Rms.unit (x r)) : FVec Ideal S256x1024 .f32)
    (lift2 (φ := .f32) a : FVec Ideal S256x1024 .f32) (lift2 (φ := .bf16) p : FVec Ideal S256x704 .bf16) (lift2 (φ := .bf16) q : FVec Ideal S256x704 .bf16) (lift3 (φ := .bf16) Wa : FVec Ideal S1x704x1024 .bf16) (lift3 (φ := .bf16) Wb : FVec Ideal S1x704x1024 .bf16)
    = lift2 (φ := .f32) fun r k => y r k + Rms.pull (x r) (g 0) (d r) k := by
  unfold k0_pay3; rw [pay2_lift, hd]
  funext i; idx_vars i
  pointwise []
  simp only [lift2_apply, ← EReal.coe_mul, coe_sum, ofBits_1024, div_real _ _ (by norm_num : (1024 : ℝ) ≠ 0), ← EReal.coe_add, ← EReal.coe_sub]
  rfl

theorem pay4_lift : k0_pay4 (lift2 (φ := .f32) (fun r => Rms.unit (x r)) : FVec Ideal S256x1024 .f32)
    (lift2 (φ := .f32) a : FVec Ideal S256x1024 .f32) (lift2 (φ := .bf16) p : FVec Ideal S256x704 .bf16) (lift2 (φ := .bf16) q : FVec Ideal S256x704 .bf16) (lift3 (φ := .bf16) Wa : FVec Ideal S1x704x1024 .bf16) (lift3 (φ := .bf16) Wb : FVec Ideal S1x704x1024 .bf16) (lift2 (φ := .f32) dg : FVec Ideal S1x1024 .f32)
    = lift2 (φ := .f32) fun _ k => dg 0 k + ∑ r, Rms.unit (x r) k * d r k := by
  unfold k0_pay4; rw [pay2_lift, hd]
  funext i; idx_vars i
  obtain rfl : i0 = 0 := Subsingleton.elim _ _
  pointwise []
  simp only [lift2_apply, ← EReal.coe_mul, coe_sum, ← EReal.coe_add]
  congr 2; refine Finset.sum_congr rfl fun r _ => mul_comm _ _
end

/-! ## The block -/

/-- What the columns of group `n` receive. -/
def cols (y : Mat 256 1024) (S : Cube 8 256 704) (V : Cube 4 704 1024) (n : Fin 8) : Mat 256 704 :=
  grad y (V ⟨n.val % 4, Nat.mod_lt _ (by norm_num)⟩) (S ⟨(n.val + 4) % 8, Nat.mod_lt _ (by norm_num)⟩)
/-- What the normalised tokens receive. -/
def dnorm (y : Mat 256 1024) (S : Cube 8 256 704) (W : Cube 8 704 1024) (V : Cube 4 704 1024) : Mat 256 1024 :=
  fun r k => ∑ n, ∑ f, cols y S V n r f * W n f k

theorem dnorm_eq (y : Mat 256 1024) (S : Cube 8 256 704) (W : Cube 8 704 1024) (V : Cube 4 704 1024) :
    plus (plus (plus (plus (fun _ _ => 0) (grad y (V 0) (S 4)) (fun r f => back y (V 0) r f * S 0 r f) (W 0) (W 4))
      (grad y (V 1) (S 5)) (grad y (V 1) (S 1)) (W 1) (W 5)) (grad y (V 2) (S 6)) (grad y (V 2) (S 2)) (W 2) (W 6))
      (grad y (V 3) (S 7)) (grad y (V 3) (S 3)) (W 3) (W 7) = dnorm y S W V := by
  funext r k
  unfold dnorm; rw [Fin.sum_univ_eight]
  change _ = ∑ f, grad y (V 0) (S 4) r f * W 0 f k + ∑ f, grad y (V 1) (S 5) r f * W 1 f k + ∑ f, grad y (V 2) (S 6) r f * W 2 f k
    + ∑ f, grad y (V 3) (S 7) r f * W 3 f k + ∑ f, grad y (V 0) (S 0) r f * W 4 f k + ∑ f, grad y (V 1) (S 1) r f * W 5 f k
    + ∑ f, grad y (V 2) (S 2) r f * W 6 f k + ∑ f, grad y (V 3) (S 3) r f * W 7 f k
  have : (fun r f => back y (V 0) r f * S 0 r f) = grad y (V 0) (S 0) := rfl
  rw [this]; unfold plus; ring

end Cert.FfnBwdKernel

end
-- ==== Proof.AttnPrePays.lean ====
module

public import proofs.«01_k».proof.Proof.Rope
public import proofs.«01_k».proof.Proof.FfnBwdPays
public import proofs.«01_k».proof.Proof.Gen.Kernel9Ideal.Value
public import Idealize.ShloMosaic.Lib.Tactic
public import Idealize.ShloMosaic.Lib.ValueLayout
public import Idealize.ShloMosaic.Lib.Pipeline.ReadBack
public import Idealize.ShloMosaic.Lib.Pipeline.ValueKit.Tiles

@[expose] public section

set_option maxRecDepth 16384

noncomputable section

/-! # One block of the attention projection's gradient kernel, on real arrays

A block is 512 tokens. Queries come as four blocks of 128 tokens, turned on their side; the rotary tables come 128 columns wide
and are repeated along the heads. -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

/-- Loading one block of 128 tokens. -/
theorem ld_q (f : Cube 4 1024 128) (n : ℕ) (h : ∀ x : Fin 3, ((![n, 0, 0] : Fin 3 → ℕ) x) + S1x1024x128.size x ≤ S4x1024x128.size x) :
    (View.ld (Val := Elt Ideal) (e' := .f32) (lift3 (φ := .f32) f : FVec Ideal S4x1024x128 .f32) (Rect.unit (s := S4x1024x128) ![n, 0, 0] S1x1024x128.size h) : FVec Ideal S1x1024x128 .f32) = lift3 (a := 1) (b := 1024) (c := 128) (φ := .f32) fun _ => f ⟨n, h 0⟩ := by
  funext x
  rw [View.ld_apply]
  refine congrArg (lift3 (φ := .f32) f) (?_ : _ = ix3 ⟨n, h 0⟩ (x 1) (x 2))
  funext a'; apply Fin.ext; rw [Rect.idx_unit_val]
  have h0 : (x 0).val = 0 := by have := (x 0).isLt; simpa using this
  fin_cases a'
  · show n + (x 0).val = n; rw [h0, Nat.add_zero]
  · show 0 + (x 1).val = (x 1).val; rw [Nat.zero_add]
  · show 0 + (x 2).val = (x 2).val; rw [Nat.zero_add]

/-- A table repeated eight times along the columns, and twice. -/
theorem rep8 (T : Mat 512 128) : concatenate S512x1024 1 [⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩, ⟨S512x128, (lift2 (φ := .f32) T : FVec Ideal S512x128 .f32)⟩] concatenates_S512x128_S512x128_S512x128_S512x128_S512x128_S512x128_S512x128_S512x128_S512x1024_d1
      = (lift2 (φ := .f32) (fun r n => T r ⟨n.val % 128, Nat.mod_lt _ (by norm_num)⟩) : FVec Ideal S512x1024 .f32) := by
  funext i; idx_vars i
  refine (concatenate_replicate_apply (t := S512x1024) (s₁ := S512x128) 1 8 (lift2 (φ := .f32) T : FVec Ideal S512x128 .f32) _ rfl (ix2 i0 i1) (ix2 i0 ⟨i1.val % 128, Nat.mod_lt _ (by norm_num)⟩) rfl ?_).trans rfl
  intro b hb
  match b with
  | ⟨0, _⟩ => rfl
  | ⟨1, _⟩ => exact absurd rfl hb
theorem rep2 (T : Mat 512 128) : concatenate S512x256 1 [⟨S512x128, (lift2 (φ := .f32) T : FVec Ideal S512x128 .f32)⟩, ⟨S512x128, (lift2 (φ := .f32) T : FVec Ideal S512x128 .f32)⟩] concatenates_S512x128_S512x128_S512x256_d1
      = (lift2 (φ := .f32) (fun r n => T r ⟨n.val % 128, Nat.mod_lt _ (by norm_num)⟩) : FVec Ideal S512x256 .f32) := by
  funext i; idx_vars i
  refine (concatenate_replicate_apply (t := S512x256) (s₁ := S512x128) 1 2 (lift2 (φ := .f32) T : FVec Ideal S512x128 .f32) _ rfl (ix2 i0 i1) (ix2 i0 ⟨i1.val % 128, Nat.mod_lt _ (by norm_num)⟩) rfl ?_).trans rfl
  intro b hb
  match b with
  | ⟨0, _⟩ => rfl
  | ⟨1, _⟩ => exact absurd rfl hb

/-- A row moved around its end. -/
theorem move {W : ℕ} (s : ℕ) (sb : BitVec 32) (hs : sb.toNat = s) (hW : 0 < W) (f : Mat 512 W) (h : (⟨2, ![512, W]⟩ : Shape).Rotates (1 : Fin 2) none) :
    dynamicRotate (1 : Fin 2) sb none (lift2 (φ := .f32) f : FVec Ideal ⟨2, ![512, W]⟩ .f32) h = (lift2 (φ := .f32) (fun r n => f r ⟨(n.val + W - s % W) % W, Nat.mod_lt _ hW⟩) : FVec Ideal ⟨2, ![512, W]⟩ .f32) := by
  funext i
  obtain ⟨i0, i1, rfl⟩ : ∃ (i0 : Fin 512) (i1 : Fin W), i = ix2 i0 i1 := ⟨_, _, eq_ix2 i⟩
  refine (dynamicRotate_apply (1 : Fin 2) sb _ h (ix2 i0 i1) (ix2 i0 ⟨(i1.val + W - s % W) % W, Nat.mod_lt _ hW⟩) ?_).trans rfl
  intro b
  match b with
  | ⟨0, _⟩ => rfl
  | ⟨1, _⟩ => show (i1.val + W - s % W) % W = (i1.val + W - sb.toNat % W) % W; rw [hs]

theorem mul_lift {a b : ℕ} (p q : Mat a b) : mulf (lift2 (φ := .f32) p : FVec Ideal ⟨2, ![a, b]⟩ .f32) (lift2 (φ := .f32) q) = lift2 (φ := .f32) fun r n => p r n * q r n := by
  funext i; exact (EReal.coe_mul _ _).symm
theorem add_lift {a b : ℕ} (p q : Mat a b) : addf (lift2 (φ := .f32) p : FVec Ideal ⟨2, ![a, b]⟩ .f32) (lift2 (φ := .f32) q) = lift2 (φ := .f32) fun r n => p r n + q r n := by
  funext i; exact (EReal.coe_add _ _).symm

theorem ofBits_eighth : Ideal.ofBits .f32 0x3E000000#32 = ((1 / 8 : ℝ) : EReal) := by
  simp [Ideal.ofBits, Ideal.ieee, -EReal.coe_mul]; norm_num

/-- Four blocks of 128 tokens, side by side. -/
theorem joined (Q : Cube 4 1024 128) :
    concatenate S1024x512 1 [⟨S1024x128, (lift2 (φ := .f32) (Q 0) : FVec Ideal S1024x128 .f32)⟩, ⟨S1024x128, (lift2 (φ := .f32) (Q 1) : FVec Ideal S1024x128 .f32)⟩, ⟨S1024x128, (lift2 (φ := .f32) (Q 2) : FVec Ideal S1024x128 .f32)⟩, ⟨S1024x128, (lift2 (φ := .f32) (Q 3) : FVec Ideal S1024x128 .f32)⟩] concatenates_S1024x128_S1024x128_S1024x128_S1024x128_S1024x512_d1
      = (lift2 (φ := .f32) (fun n r => Q ⟨r.val / 128, by omega⟩ n ⟨r.val % 128, Nat.mod_lt _ (by norm_num)⟩) : FVec Ideal S1024x512 .f32) := by
  funext i; idx_vars i
  pointwise []
  simp only [lift2_apply]
  have key : ∀ (n n' : Fin 4) (l l' : Fin 128), n.val = n'.val → l.val = l'.val → ((Q n i0 l : ℝ) : EReal) = (Q n' i0 l' : ℝ) :=
    fun n n' l l' h h' => by rw [Fin.ext h, Fin.ext h']
  have hi := i1.isLt
  split
  · exact key _ _ _ _ (by show 0 = i1.val / 128; omega) (by dsimp only; omega)
  · split
    · exact key _ _ _ _ (by show 1 = i1.val / 128; omega) (by dsimp only; omega)
    · split
      · exact key _ _ _ _ (by show 2 = i1.val / 128; omega) (by dsimp only; omega)
      · exact key _ _ _ _ (by show 3 = i1.val / 128; omega) (by dsimp only; omega)

/-! ## What the columns receive, by the tables -/

/-- A row's three products with the tables, two of them moved by eight places. -/
def mixed {W : ℕ} (hW : 0 < W) (z : Mat 512 W) (C A B : Mat 512 128) (r : Fin 512) (n : Fin W) : ℝ :=
  z r n * C r ⟨n.val % 128, Nat.mod_lt _ (by norm_num)⟩
    + z r ⟨(n.val + W - 8 % W) % W, Nat.mod_lt _ hW⟩ * A r ⟨(n.val + W - 8 % W) % W % 128, Nat.mod_lt _ (by norm_num)⟩
    + z r ⟨(n.val + W - (W - 8) % W) % W, Nat.mod_lt _ hW⟩ * B r ⟨(n.val + W - (W - 8) % W) % W % 128, Nat.mod_lt _ (by norm_num)⟩

/-- The block's queries, token by token and scaled. -/
def scaled (Q : Cube 4 1024 128) : Mat 512 1024 := fun r n => Q ⟨r.val / 128, by omega⟩ n ⟨r.val % 128, Nat.mod_lt _ (by norm_num)⟩ * (1 / 8)

section
variable (C A B : Mat 512 128) (Q : Cube 4 1024 128) (K V : Mat 512 256)

theorem pay5_lift : k0_pay5 (lift2 (φ := .f32) C : FVec Ideal S512x128 .f32) = lift2 (φ := .f32) C := by
  funext i; idx_vars i
  pointwise [k0_pay5]
theorem pay6_lift : k0_pay6 (lift2 (φ := .f32) C : FVec Ideal S512x128 .f32) = lift2 (φ := .f32) C := by
  funext i; idx_vars i
  pointwise [k0_pay6]
theorem pay7_lift : k0_pay7 (lift2 (φ := .f32) C : FVec Ideal S512x128 .f32) = lift2 (φ := .f32) C := by
  funext i; idx_vars i
  pointwise [k0_pay7]

theorem flat (q : Mat 1024 128) : (shapeCast S1024x128 (lift3 (a := 1) (φ := .f32) (fun _ => q) : FVec Ideal S1x1024x128 .f32) shapeCasts_S1x1024x128_S1024x128 : FVec Ideal S1024x128 .f32) = lift2 (φ := .f32) q := by
  funext i; idx_vars i
  pointwise []
  rfl

theorem scaled_lift : mulf (transpose S512x1024 [1, 0] (lift2 (φ := .f32) (fun n r => Q ⟨r.val / 128, by omega⟩ n ⟨r.val % 128, Nat.mod_lt _ (by norm_num)⟩) : FVec Ideal S1024x512 .f32) transposes_S1024x512_p1_0_S512x1024)
    (broadcast S512x1024 (Scalar.ofBits .f32 0x3E000000#32 : Ideal .f32)) = (lift2 (φ := .f32) (scaled Q) : FVec Ideal S512x1024 .f32) := by
  funext i; idx_vars i
  pointwise []
  simp only [lift2_apply, ofBits_eighth, ← EReal.coe_mul]
  rfl

theorem pay8_lift : k0_pay8 (lift2 (φ := .f32) C : FVec Ideal S512x128 .f32) (lift2 (φ := .f32) A : FVec Ideal S512x128 .f32) (lift2 (φ := .f32) B : FVec Ideal S512x128 .f32)
    (lift3 (a := 1) (φ := .f32) (fun _ => Q 0) : FVec Ideal S1x1024x128 .f32) (lift3 (a := 1) (φ := .f32) (fun _ => Q 1) : FVec Ideal S1x1024x128 .f32)
    (lift3 (a := 1) (φ := .f32) (fun _ => Q 2) : FVec Ideal S1x1024x128 .f32) (lift3 (a := 1) (φ := .f32) (fun _ => Q 3) : FVec Ideal S1x1024x128 .f32)
    = lift2 (φ := .bf16) (mixed (by norm_num) (scaled Q) C A B) := by
  unfold k0_pay8
  dsimp only
  rw [flat, flat, flat, flat, joined, scaled_lift, pay5_lift, pay6_lift, pay7_lift, rep8, rep8, rep8, mul_lift, mul_lift, mul_lift,
    move (W := 1024) 8 8#32 rfl (by norm_num), move (W := 1024) 1016 1016#32 rfl (by norm_num), add_lift, add_lift]
  rfl

theorem pay9_lift : k0_pay9 (lift2 (φ := .f32) C : FVec Ideal S512x128 .f32) (lift2 (φ := .f32) A : FVec Ideal S512x128 .f32) (lift2 (φ := .f32) B : FVec Ideal S512x128 .f32)
    (lift2 (φ := .f32) K : FVec Ideal S512x256 .f32) = lift2 (φ := .bf16) (mixed (by norm_num) K C A B) := by
  unfold k0_pay9
  dsimp only
  rw [rep2, rep2, rep2, mul_lift, mul_lift, mul_lift,
    move (W := 256) 8 8#32 rfl (by norm_num), move (W := 256) 248 248#32 rfl (by norm_num), add_lift, add_lift]
  rfl

theorem pay10_lift : k0_pay10 (lift2 (φ := .f32) V : FVec Ideal S512x256 .f32) = lift2 (φ := .bf16) V := rfl
end

/-! ## The normalisation -/

section
variable (x : Mat 512 1024) (g dg : Mat 1 1024) (D : Mat 512 1536) (w : Mat 1024 1536) (d : Vec Ideal S512x1024 .f32)

theorem pay4_lift : (k0_pay4 : FVec Ideal S1x1024 .f32) = lift2 (φ := .f32) fun _ _ => (0 : ℝ) := by
  funext i; idx_vars i
  pointwise [k0_pay4]
  simp only [lift2_apply, Ideal.ofBits_zero_f32, EReal.coe_zero]

theorem pay11_lift : k0_pay11 (lift2 (φ := .f32) g : FVec Ideal S1x1024 .f32) = lift2 (φ := .f32) g := by
  funext i; idx_vars i
  pointwise [k0_pay11]

theorem pay12_lift : k0_pay12 (lift2 (φ := .f32) x : FVec Ideal S512x1024 .f32) = lift2 (φ := .f32) fun r _ => Rms.rstd (x r) := by
  funext i; idx_vars i
  pointwise [k0_pay12]
  simp only [lift2_apply, ← EReal.coe_mul, coe_sum, ofBits_1024, ofBits_eps, div_real _ _ (by norm_num : (1024 : ℝ) ≠ 0), ← EReal.coe_add]
  exact rsqrt_real _ (Rms.meanSq_pos (x i0))

theorem pay13_lift : k0_pay13 (lift2 (φ := .f32) x : FVec Ideal S512x1024 .f32) = lift2 (φ := .f32) fun r => Rms.unit (x r) := by
  unfold k0_pay13; rw [pay12_lift]
  funext i; idx_vars i
  pointwise []
  simp only [lift2_apply, ← EReal.coe_mul]
  rfl

theorem pay14_lift : k0_pay14 (lift2 (φ := .f32) g : FVec Ideal S1x1024 .f32) (lift2 (φ := .f32) x : FVec Ideal S512x1024 .f32) = lift2 (φ := .bf16) fun k r => Rms.norm (x r) (g 0) k := by
  unfold k0_pay14; rw [pay13_lift, pay11_lift]
  funext i; idx_vars i
  pointwise []
  simp only [lift2_apply, ← EReal.coe_mul]
  rfl

theorem pay1_lift : k0_pay1 (lift2 (φ := .bf16) D : FVec Ideal S512x1536 .bf16) (lift2 (φ := .bf16) w : FVec Ideal S1024x1536 .bf16) = lift2 (φ := .f32) fun r => Rope.dnorm w (D r) := by
  funext i; idx_vars i
  pointwise [k0_pay1]
  simp only [lift2_apply, ← EReal.coe_mul, coe_sum]
  rfl

theorem pay2_lift : k0_pay2 (lift2 (φ := .f32) g : FVec Ideal S1x1024 .f32) (lift2 (φ := .f32) (fun r _ => Rms.rstd (x r)) : FVec Ideal S512x1 .f32) (lift2 (φ := .f32) (fun r => Rms.unit (x r)) : FVec Ideal S512x1024 .f32)
    (lift2 (φ := .bf16) D : FVec Ideal S512x1536 .bf16) (lift2 (φ := .bf16) w : FVec Ideal S1024x1536 .bf16) d = addf (d : FVec Ideal S512x1024 .f32) (lift2 (φ := .f32) fun r => Rms.pull (x r) (g 0) (Rope.dnorm w (D r))) := by
  unfold k0_pay2; rw [pay1_lift]
  funext i; idx_vars i
  pointwise []
  simp only [lift2_apply, ← EReal.coe_mul, coe_sum, ofBits_1024, div_real _ _ (by norm_num : (1024 : ℝ) ≠ 0), ← EReal.coe_sub]
  rfl

theorem pay3_lift : k0_pay3 (lift2 (φ := .f32) (fun r => Rms.unit (x r)) : FVec Ideal S512x1024 .f32)
    (lift2 (φ := .bf16) D : FVec Ideal S512x1536 .bf16) (lift2 (φ := .bf16) w : FVec Ideal S1024x1536 .bf16) (lift2 (φ := .f32) dg : FVec Ideal S1x1024 .f32) = lift2 (φ := .f32) fun u k => dg u k + ∑ r, Rms.unit (x r) k * Rope.dnorm w (D r) k := by
  unfold k0_pay3; rw [pay1_lift]
  funext i; idx_vars i
  pointwise []
  simp only [lift2_apply, ← EReal.coe_mul, coe_sum, ← EReal.coe_add]
  congr 2; refine Finset.sum_congr rfl fun r _ => mul_comm _ _
end

/-- What the block's columns receive. -/
def cols (C A B : Mat 512 128) (Q : Cube 4 1024 128) (K V : Mat 512 256) : Mat 512 1536 := fun r n =>
  if h : n.val < 1024 then mixed (by norm_num) (scaled Q) C A B r ⟨n.val, h⟩
  else if h' : n.val < 1280 then mixed (by norm_num) K C A B r ⟨n.val - 1024, by omega⟩
  else V r ⟨n.val - 1280, by omega⟩

end Cert.AttnPreKernel

end
-- ==== Proof.AttnPreBlock.lean ====
module

public import proofs.«01_k».proof.Proof.AttnPrePays

@[expose] public section

set_option maxRecDepth 16384

noncomputable section

/-! # How the columns come together in one block of the attention projection's gradient -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

theorem hz2 : (![0, 0] : Fin 2 → Nat) = fun _ => 0 := funext fun a => by fin_cases a <;> rfl

/-! ## The columns are the heads turned back -/

/-- A table over 128 columns, the same for each head. -/
def wide (T : Fin 512 → Fin 64 → ℝ) : Mat 512 128 := fun r l => T r ⟨l.val % 64, Nat.mod_lt _ (by norm_num)⟩

theorem mixed_turned {W : ℕ} (hW : 0 < W) (hw : W % 128 = 0) (z : Mat 512 W) (c s : Fin 512 → Fin 8 → ℝ) (r : Fin 512) (n : Fin W) :
    mixed hW z (wide fun r => Rope.tabC (c r)) (wide fun r => Rope.tabA (s r)) (wide fun r => Rope.tabB (s r)) r n
      = Rope.turned (c r) (s r) (fun l => z r ⟨n.val / 64 * 64 + l.val, by have := n.isLt; have := l.isLt; omega⟩) ⟨n.val % 64, Nat.mod_lt _ (by norm_num)⟩ := by
  have hn := n.isLt
  rw [← Rope.turned_eq (c r) (s r) (fun l => z r ⟨n.val / 64 * 64 + l.val, by have := l.isLt; omega⟩) ⟨n.val % 64, Nat.mod_lt _ (by norm_num)⟩
    ⟨(n.val + W - 8 % W) % W % 128 % 64, Nat.mod_lt _ (by norm_num)⟩ ⟨(n.val + W - (W - 8) % W) % W % 128 % 64, Nat.mod_lt _ (by norm_num)⟩
    (z r ⟨(n.val + W - 8 % W) % W, Nat.mod_lt _ hW⟩) (z r ⟨(n.val + W - (W - 8) % W) % W, Nat.mod_lt _ hW⟩)]
  · unfold mixed wide
    have e1 : (⟨n.val / 64 * 64 + n.val % 64, by omega⟩ : Fin W) = n := Fin.ext (by dsimp only; omega)
    have e2 : (⟨n.val % 128 % 64, Nat.mod_lt _ (by norm_num)⟩ : Fin 64) = ⟨n.val % 64, Nat.mod_lt _ (by norm_num)⟩ := Fin.ext (by dsimp only; omega)
    dsimp only
    rw [e1, e2]
  · have h8 : 8 % W = 8 := Nat.mod_eq_of_lt (by omega)
    dsimp only; rw [h8]
    obtain h | h := Nat.lt_or_ge n.val 8
    · rw [Nat.mod_eq_of_lt (by omega : n.val + W - 8 < W)]; omega
    · rw [(by omega : n.val + W - 8 = n.val - 8 + W), Nat.add_mod_right, Nat.mod_eq_of_lt (by omega : n.val - 8 < W)]; omega
  · have h8 : (W - 8) % W = W - 8 := Nat.mod_eq_of_lt (by omega)
    dsimp only; rw [h8, (by omega : n.val + W - (W - 8) = n.val + 8)]
    obtain h | h := Nat.lt_or_ge (n.val + 8) W
    · rw [Nat.mod_eq_of_lt h]; omega
    · rw [(by omega : n.val + 8 = n.val + 8 - W + W), Nat.add_mod_right, Nat.mod_eq_of_lt (by omega : n.val + 8 - W < W)]; omega
  · intro h
    have h8 : 8 % W = 8 := Nat.mod_eq_of_lt (by omega)
    refine congrArg (z r) (Fin.ext ?_)
    dsimp only at h ⊢
    rw [h8, (by omega : n.val + W - 8 = n.val - 8 + W), Nat.add_mod_right, Nat.mod_eq_of_lt (by omega : n.val - 8 < W)]; omega
  · intro h
    have h8 : (W - 8) % W = W - 8 := Nat.mod_eq_of_lt (by omega)
    refine congrArg (z r) (Fin.ext ?_)
    dsimp only at h ⊢
    rw [h8, (by omega : n.val + W - (W - 8) = n.val + 8), Nat.mod_eq_of_lt (by omega)]; omega

/-- With the tables of the tokens' angles, the columns receive the tokens' gradients. -/
theorem cols_eq (c s : Fin 512 → Fin 8 → ℝ) (Q : Cube 4 1024 128) (K V : Mat 512 256) (r : Fin 512) :
    cols (wide fun r => Rope.tabC (c r)) (wide fun r => Rope.tabA (s r)) (wide fun r => Rope.tabB (s r)) Q K V r
      = Rope.dqkv (c r) (s r) (fun n => Q ⟨r.val / 128, by omega⟩ n ⟨r.val % 128, Nat.mod_lt _ (by norm_num)⟩) (K r) (V r) := by
  funext n
  unfold cols Rope.dqkv
  split
  · rw [mixed_turned (W := 1024) _ (by norm_num)]; rfl
  · split
    · rw [mixed_turned (W := 256) _ (by norm_num)]
      refine congrArg _ (Fin.ext ?_)
      dsimp only; omega
    · rfl

/-! ## The three groups of columns -/

section
variable (C A B : Mat 512 128) (Q : Cube 4 1024 128) (K V : Mat 512 256) (w8 : FVec Ideal S512x1024 .bf16) (w9 w10 : FVec Ideal S512x256 .bf16)
  (e8 : w8 = lift2 (φ := .bf16) (mixed (by norm_num) (scaled Q) C A B)) (e9 : w9 = lift2 (φ := .bf16) (mixed (by norm_num) K C A B)) (e10 : w10 = lift2 (φ := .bf16) V)
  (b8 : ∀ a, (![0, 0] : Fin 2 → ℕ) a + (![512, 1024] : Fin 2 → ℕ) a ≤ S512x1536.size a) (b9 : ∀ a, (![0, 1024] : Fin 2 → ℕ) a + (![512, 256] : Fin 2 → ℕ) a ≤ S512x1536.size a)
  (b10 : ∀ a, (![0, 1280] : Fin 2 → ℕ) a + (![512, 256] : Fin 2 → ℕ) a ≤ S512x1536.size a)

theorem at8 (u : S512x1024.Idx) (z : S512x1536.Idx) (h0 : (z 0).val = 0 + 1 * (u 0).val) (h1 : (z 1).val = 0 + 1 * (u 1).val) : (lift2 (φ := .bf16) (mixed (W := 1024) (by norm_num) (scaled Q) C A B) : FVec Ideal S512x1024 .bf16) u = (lift2 (φ := .bf16) (cols C A B Q K V) : FVec Ideal S512x1536 .bf16) z := by
  idx_vars u; idx_vars z
  have a0 : z0.val = 0 + 1 * u0.val := h0
  have a1 : z1.val = 0 + 1 * u1.val := h1
  have hu := u1.isLt
  obtain rfl : z0 = u0 := Fin.ext (by omega)
  refine congrArg (fun v : ℝ => (v : EReal)) ?_
  show _ = cols C A B Q K V z0 z1
  unfold cols
  rw [dif_pos (by omega)]
  exact congrArg _ (Fin.ext (by show u1.val = z1.val; omega))

theorem at9 (u : S512x256.Idx) (z : S512x1536.Idx) (h0 : (z 0).val = 0 + 1 * (u 0).val) (h1 : (z 1).val = 1024 + 1 * (u 1).val) : (lift2 (φ := .bf16) (mixed (W := 256) (by norm_num) K C A B) : FVec Ideal S512x256 .bf16) u = (lift2 (φ := .bf16) (cols C A B Q K V) : FVec Ideal S512x1536 .bf16) z := by
  idx_vars u; idx_vars z
  have a0 : z0.val = 0 + 1 * u0.val := h0
  have a1 : z1.val = 1024 + 1 * u1.val := h1
  have hu := u1.isLt
  obtain rfl : z0 = u0 := Fin.ext (by omega)
  refine congrArg (fun v : ℝ => (v : EReal)) ?_
  show _ = cols C A B Q K V z0 z1
  unfold cols
  rw [dif_neg (by omega), dif_pos (by omega)]
  exact congrArg _ (Fin.ext (by show u1.val = z1.val - 1024; omega))

theorem at10 (u : S512x256.Idx) (z : S512x1536.Idx) (h0 : (z 0).val = 0 + 1 * (u 0).val) (h1 : (z 1).val = 1280 + 1 * (u 1).val) : (lift2 (φ := .bf16) V : FVec Ideal S512x256 .bf16) u = (lift2 (φ := .bf16) (cols C A B Q K V) : FVec Ideal S512x1536 .bf16) z := by
  idx_vars u; idx_vars z
  have a0 : z0.val = 0 + 1 * u0.val := h0
  have a1 : z1.val = 1280 + 1 * u1.val := h1
  have hu := u1.isLt
  obtain rfl : z0 = u0 := Fin.ext (by omega)
  refine congrArg (fun v : ℝ => (v : EReal)) ?_
  show _ = cols C A B Q K V z0 z1
  unfold cols
  rw [dif_neg (by omega), dif_neg (by omega)]
  exact congrArg _ (Fin.ext (by show u1.val = z1.val - 1280; omega))

include e8 e9 e10 in
/-- The three groups stored side by side are the columns. -/
theorem three : View.canon ([⟨Rect.unit ![0, 1280] ![512, 256] b10, w10⟩, ⟨Rect.unit ![0, 1024] ![512, 256] b9, w9⟩, ⟨Rect.unit ![0, 0] ![512, 1024] b8, w8⟩] : List (View.Piece (Elt Ideal) S512x1536 .bf16))
    = (lift2 (φ := .bf16) (cols C A B Q K V) : FVec Ideal S512x1536 .bf16) := by
  subst e8 e9 e10
  funext z
  refine View.canon_append_of_piecesOf (Val := Elt Ideal) (lift2 (φ := .bf16) (cols C A B Q K V) : FVec Ideal S512x1536 .bf16) ([] : List (View.Piece (Elt Ideal) S512x1536 .bf16)) [_, _, _] ?_ z (View.cover_of_tiledBy (s := S512x1536) _ ![512, 256] (by sl_kernel_rfl) z)
  exact ⟨fun u => at10 C A B Q K V u _ rfl rfl, fun u => at9 C A B Q K V u _ rfl rfl, fun u => at8 C A B Q K V u _ rfl rfl, trivial⟩

include e8 e9 e10 in
theorem three_read {sp : Space} (v : View sig .tc sp S512x1536 .bf16) (h : ∀ a, (![0, 0] : Fin 2 → ℕ) a + (![512, 1536] : Fin 2 → ℕ) a ≤ S512x1536.size a) :
    v.readCov ([⟨Rect.unit ![0, 1280] ![512, 256] b10, w10⟩, ⟨Rect.unit ![0, 1024] ![512, 256] b9, w9⟩, ⟨Rect.unit ![0, 0] ![512, 1024] b8, w8⟩] : List (View.Piece (Elt Ideal) S512x1536 .bf16)) (Rect.unit ![0, 0] ![512, 1536] h).toLoadRect
    = (lift2 (φ := .bf16) (cols C A B Q K V) : FVec Ideal S512x1536 .bf16) := by
  rw [View.readCov_eq_canon']
  exact (View.ld_unit_zero (Val := Elt Ideal) (S := S512x1536) (e := .bf16) hz2 h _).trans (three C A B Q K V w8 w9 w10 e8 e9 e10 b8 b9 b10)
end

/-! ## What comes from the stored columns -/

section
variable (x : Mat 512 1024) (g dg : Mat 1 1024) (D : Mat 512 1536) (w : Mat 1024 1536) (d : Vec Ideal S512x1024 .f32)

theorem pay2_of (p0 : FVec Ideal S1x1024 .f32) (p1 : FVec Ideal S512x1 .f32) (p2 : FVec Ideal S512x1024 .f32) (p3 : Vec Ideal S512x1536 .bf16) (p4 : Vec Ideal S1024x1536 .bf16)
    (h0 : p0 = lift2 (φ := .f32) g) (h1 : p1 = lift2 (φ := .f32) fun r _ => Rms.rstd (x r)) (h2 : p2 = lift2 (φ := .f32) fun r => Rms.unit (x r)) (h3 : p3 = lift2 (φ := .bf16) D) (h4 : p4 = lift2 (φ := .bf16) w) :
    k0_pay2 p0 p1 p2 p3 p4 d = addf (d : FVec Ideal S512x1024 .f32) (lift2 (φ := .f32) fun r => Rms.pull (x r) (g 0) (Rope.dnorm w (D r))) := by
  subst h0 h1 h2 h3 h4; exact pay2_lift x g D w d

theorem pay3_of (p2 : FVec Ideal S512x1024 .f32) (p3 : Vec Ideal S512x1536 .bf16) (p4 : Vec Ideal S1024x1536 .bf16) (p5 : Vec Ideal S1x1024 .f32)
    (h2 : p2 = lift2 (φ := .f32) fun r => Rms.unit (x r)) (h3 : p3 = lift2 (φ := .bf16) D) (h4 : p4 = lift2 (φ := .bf16) w) (h5 : p5 = lift2 (φ := .f32) dg) :
    k0_pay3 p2 p3 p4 p5 = lift2 (φ := .f32) fun u k => dg u k + ∑ r, Rms.unit (x r) k * Rope.dnorm w (D r) k := by
  subst h2 h3 h4 h5; exact pay3_lift x dg D w

theorem pay8_of (C A B : Mat 512 128) (Q : Cube 4 1024 128) (p0 p1 p2 : Vec Ideal S512x128 .f32) (q0 q1 q2 q3 : Vec Ideal S1x1024x128 .f32)
    (h0 : p0 = lift2 (φ := .f32) C) (h1 : p1 = lift2 (φ := .f32) A) (h2 : p2 = lift2 (φ := .f32) B) (e0 : q0 = lift3 (a := 1) (φ := .f32) fun _ => Q 0) (e1 : q1 = lift3 (a := 1) (φ := .f32) fun _ => Q 1)
    (e2 : q2 = lift3 (a := 1) (φ := .f32) fun _ => Q 2) (e3 : q3 = lift3 (a := 1) (φ := .f32) fun _ => Q 3) :
    k0_pay8 p0 p1 p2 q0 q1 q2 q3 = lift2 (φ := .bf16) (mixed (by norm_num) (scaled Q) C A B) := by
  subst h0 h1 h2 e0 e1 e2 e3; exact pay8_lift C A B Q

theorem pay9_of (C A B : Mat 512 128) (K : Mat 512 256) (p0 p1 p2 : FVec Ideal S512x128 .f32) (q : Vec Ideal S512x256 .f32)
    (h0 : p0 = lift2 (φ := .f32) C) (h1 : p1 = lift2 (φ := .f32) A) (h2 : p2 = lift2 (φ := .f32) B) (e : q = lift2 (φ := .f32) K) :
    k0_pay9 p0 p1 p2 q = lift2 (φ := .bf16) (mixed (by norm_num) K C A B) := by
  subst h0 h1 h2 e; exact pay9_lift C A B K
end

end Cert.AttnPreKernel

end
-- ==== Proof.AttnPreFirst.lean ====
module

public import proofs.«01_k».proof.Proof.AttnPreBlock

@[expose] public section

set_option maxRecDepth 16384

noncomputable section

/-! # What the first point of the attention projection's gradient kernel leaves, on real blocks

It starts the gradient of the gains from zero. -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

variable {c : Dev nD} {i : grid0.Coords} {a1 : Memref sig .tc .vmem S4x1024x128 .f32} {h1 : a1.IsWhole} {a2 : Memref sig .tc .vmem S512x256 .f32} {h2 : a2.IsWhole} {a3 : Memref sig .tc .vmem S512x256 .f32} {h3 : a3.IsWhole} {a4 : Memref sig .tc .vmem S512x1024 .f32} {h4 : a4.IsWhole} {a5 : Memref sig .tc .vmem S1x1024 .f32} {h5 : a5.IsWhole} {a6 : Memref sig .tc .vmem S1024x1536 .bf16} {h6 : a6.IsWhole} {a7 : Memref sig .tc .vmem S512x128 .f32} {h7 : a7.IsWhole} {a8 : Memref sig .tc .vmem S512x128 .f32} {h8 : a8.IsWhole} {a9 : Memref sig .tc .vmem S512x128 .f32} {h9 : a9.IsWhole} {a10 : Memref sig .tc .vmem S512x1024 .f32} {h10 : a10.IsWhole} {a11 : Memref sig .tc .vmem S512x1536 .bf16} {h11 : a11.IsWhole} {a12 : Memref sig .tc .vmem S1024x512 .bf16} {h12 : a12.IsWhole} {a13 : Memref sig .tc .vmem S512x1024 .f32} {h13 : a13.IsWhole} {a14 : Memref sig .tc .vmem S1x1024 .f32} {h14 : a14.IsWhole}
  (Q : Cube 4 1024 128) (K V : Mat 512 256) (x : Mat 512 1024) (g dg : Mat 1 1024) (w : Mat 1024 1536) (C A B : Mat 512 128)
  (x0 : Vec Ideal S4x1024x128 .f32) (x1 x2 : Vec Ideal S512x256 .f32) (x3 : Vec Ideal S512x1024 .f32) (x4 : Vec Ideal S1x1024 .f32) (x5 : Vec Ideal S1024x1536 .bf16) (x6 x7 x8 : Vec Ideal S512x128 .f32) (x9 : Vec Ideal S512x1024 .f32) (xo13 : Vec Ideal S1x1024 .f32)
  (hQ : x0 = lift3 (φ := .f32) Q) (hK : x1 = lift2 (φ := .f32) K) (hV : x2 = lift2 (φ := .f32) V) (hx : x3 = lift2 (φ := .f32) x) (hg : x4 = lift2 (φ := .f32) g) (hw : x5 = lift2 (φ := .bf16) w)
  (hC : x6 = lift2 (φ := .f32) C) (hA : x7 = lift2 (φ := .f32) A) (hB : x8 = lift2 (φ := .f32) B) (hdg : xo13 = lift2 (φ := .f32) dg)

set_option maxHeartbeats 4000000 in
include hQ hK hV hx hg hw hC hA hB in
theorem outA10 {hc0 : cond0_0 i} : out0_A_10 c i a1 h1 a2 h2 a3 h3 a4 h4 a5 h5 a6 h6 a7 h7 a8 h8 a9 h9 a10 h10 a11 h11 a12 h12 a13 h13 a14 h14 hc0 x0 x1 x2 x3 x4 x5 x6 x7 x8 x9 = lift2 (φ := .bf16) (cols C A B Q K V) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB
  exact three C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _

set_option maxHeartbeats 4000000 in
include hQ hK hV hx hg hw hC hA hB in
theorem outA11 {hc0 : cond0_0 i} : out0_A_11 c i a1 h1 a2 h2 a3 h3 a4 h4 a5 h5 a6 h6 a7 h7 a8 h8 a9 h9 a10 h10 a11 h11 a12 h12 a13 h13 a14 h14 hc0 x0 x1 x2 x3 x4 x5 x6 x7 x8 x9 = lift2 (φ := .bf16) fun k r => Rms.norm (x r) (g 0) k := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB
  rw [View.canon_unit_zero (S := S1024x512) hz2]
  exact pay14_lift x g

set_option maxHeartbeats 4000000 in
include hQ hK hV hx hg hw hC hA hB in
theorem outA12 {hc0 : cond0_0 i} : out0_A_12 c i a1 h1 a2 h2 a3 h3 a4 h4 a5 h5 a6 h6 a7 h7 a8 h8 a9 h9 a10 h10 a11 h11 a12 h12 a13 h13 a14 h14 hc0 x0 x1 x2 x3 x4 x5 x6 x7 x8 x9 = (addf (x9 : FVec Ideal S512x1024 .f32) (lift2 (φ := .f32) fun r => Rms.pull (x r) (g 0) (Rope.dnorm w (cols C A B Q K V r)))) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB
  rw [View.canon_unit_zero (S := S512x1024) hz2]
  exact pay2_of x g (cols C A B Q K V) w _ _ _ _ _ _ (pay11_lift g) (pay12_lift x) (pay13_lift x) (three_read C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _ _ _) rfl

set_option maxHeartbeats 4000000 in
include hQ hK hV hx hg hw hC hA hB in
theorem outA13 {hc0 : cond0_0 i} : out0_A_13 c i a1 h1 a2 h2 a3 h3 a4 h4 a5 h5 a6 h6 a7 h7 a8 h8 a9 h9 a10 h10 a11 h11 a12 h12 a13 h13 a14 h14 hc0 x0 x1 x2 x3 x4 x5 x6 x7 x8 x9 = lift2 (φ := .f32) fun u k => 0 + ∑ r, Rms.unit (x r) k * Rope.dnorm w (cols C A B Q K V r) k := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc0 x0 x1 x2 x3 x4 x5 x6 x7 x8 x9)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB
  rw [View.canon_cons_unit_zero (S := S1x1024) hz2, View.readCov_unit_zero (S := S1x1024) _ hz2]
  exact pay3_of x (fun _ _ => 0) (cols C A B Q K V) w _ _ _ _ (pay13_lift x) (three_read C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _ _ _) rfl pay4_lift

end Cert.AttnPreKernel

end
-- ==== Proof.AttnPreLater.lean ====
module

public import proofs.«01_k».proof.Proof.AttnPreBlock

@[expose] public section

set_option maxRecDepth 16384

noncomputable section

/-! # What a later point of the attention projection's gradient kernel leaves, on real blocks

It adds to the gradient of the gains the points before it left. -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

variable {c : Dev nD} {i : grid0.Coords} {a1 : Memref sig .tc .vmem S4x1024x128 .f32} {h1 : a1.IsWhole} {a2 : Memref sig .tc .vmem S512x256 .f32} {h2 : a2.IsWhole} {a3 : Memref sig .tc .vmem S512x256 .f32} {h3 : a3.IsWhole} {a4 : Memref sig .tc .vmem S512x1024 .f32} {h4 : a4.IsWhole} {a5 : Memref sig .tc .vmem S1x1024 .f32} {h5 : a5.IsWhole} {a6 : Memref sig .tc .vmem S1024x1536 .bf16} {h6 : a6.IsWhole} {a7 : Memref sig .tc .vmem S512x128 .f32} {h7 : a7.IsWhole} {a8 : Memref sig .tc .vmem S512x128 .f32} {h8 : a8.IsWhole} {a9 : Memref sig .tc .vmem S512x128 .f32} {h9 : a9.IsWhole} {a10 : Memref sig .tc .vmem S512x1024 .f32} {h10 : a10.IsWhole} {a11 : Memref sig .tc .vmem S512x1536 .bf16} {h11 : a11.IsWhole} {a12 : Memref sig .tc .vmem S1024x512 .bf16} {h12 : a12.IsWhole} {a13 : Memref sig .tc .vmem S512x1024 .f32} {h13 : a13.IsWhole} {a14 : Memref sig .tc .vmem S1x1024 .f32} {h14 : a14.IsWhole}
  (Q : Cube 4 1024 128) (K V : Mat 512 256) (x : Mat 512 1024) (g dg : Mat 1 1024) (w : Mat 1024 1536) (C A B : Mat 512 128)
  (x0 : Vec Ideal S4x1024x128 .f32) (x1 x2 : Vec Ideal S512x256 .f32) (x3 : Vec Ideal S512x1024 .f32) (x4 : Vec Ideal S1x1024 .f32) (x5 : Vec Ideal S1024x1536 .bf16) (x6 x7 x8 : Vec Ideal S512x128 .f32) (x9 : Vec Ideal S512x1024 .f32) (xo13 : Vec Ideal S1x1024 .f32)
  (hQ : x0 = lift3 (φ := .f32) Q) (hK : x1 = lift2 (φ := .f32) K) (hV : x2 = lift2 (φ := .f32) V) (hx : x3 = lift2 (φ := .f32) x) (hg : x4 = lift2 (φ := .f32) g) (hw : x5 = lift2 (φ := .bf16) w)
  (hC : x6 = lift2 (φ := .f32) C) (hA : x7 = lift2 (φ := .f32) A) (hB : x8 = lift2 (φ := .f32) B) (hdg : xo13 = lift2 (φ := .f32) dg)

set_option maxHeartbeats 4000000 in
include hQ hK hV hx hg hw hC hA hB hdg in
theorem outB10 {hc0 : ¬cond0_0 i} : out0_B_10 c i a1 h1 a2 h2 a3 h3 a4 h4 a5 h5 a6 h6 a7 h7 a8 h8 a9 h9 a10 h10 a11 h11 a12 h12 a13 h13 a14 h14 hc0 x0 x1 x2 x3 x4 x5 x6 x7 x8 x9 xo13 = lift2 (φ := .bf16) (cols C A B Q K V) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc0 x0 x1 x2 x3 x4 x5 x6 x7 x8 x9 xo13)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB hdg
  exact three C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _

set_option maxHeartbeats 4000000 in
include hQ hK hV hx hg hw hC hA hB hdg in
theorem outB11 {hc0 : ¬cond0_0 i} : out0_B_11 c i a1 h1 a2 h2 a3 h3 a4 h4 a5 h5 a6 h6 a7 h7 a8 h8 a9 h9 a10 h10 a11 h11 a12 h12 a13 h13 a14 h14 hc0 x0 x1 x2 x3 x4 x5 x6 x7 x8 x9 xo13 = lift2 (φ := .bf16) fun k r => Rms.norm (x r) (g 0) k := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 x0 x1 x2 x3 x4 x5 x6 x7 x8 x9 xo13)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB hdg
  rw [View.canon_unit_zero (S := S1024x512) hz2]
  exact pay14_lift x g

set_option maxHeartbeats 4000000 in
include hQ hK hV hx hg hw hC hA hB hdg in
theorem outB12 {hc0 : ¬cond0_0 i} : out0_B_12 c i a1 h1 a2 h2 a3 h3 a4 h4 a5 h5 a6 h6 a7 h7 a8 h8 a9 h9 a10 h10 a11 h11 a12 h12 a13 h13 a14 h14 hc0 x0 x1 x2 x3 x4 x5 x6 x7 x8 x9 xo13 = (addf (x9 : FVec Ideal S512x1024 .f32) (lift2 (φ := .f32) fun r => Rms.pull (x r) (g 0) (Rope.dnorm w (cols C A B Q K V r)))) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 x0 x1 x2 x3 x4 x5 x6 x7 x8 x9 xo13)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB hdg
  rw [View.canon_unit_zero (S := S512x1024) hz2]
  exact pay2_of x g (cols C A B Q K V) w _ _ _ _ _ _ (pay11_lift g) (pay12_lift x) (pay13_lift x) (three_read C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _ _ _) rfl

set_option maxHeartbeats 4000000 in
include hQ hK hV hx hg hw hC hA hB hdg in
theorem outB13 {hc0 : ¬cond0_0 i} : out0_B_13 c i a1 h1 a2 h2 a3 h3 a4 h4 a5 h5 a6 h6 a7 h7 a8 h8 a9 h9 a10 h10 a11 h11 a12 h12 a13 h13 a14 h14 hc0 x0 x1 x2 x3 x4 x5 x6 x7 x8 x9 xo13 = lift2 (φ := .f32) fun u k => dg u k + ∑ r, Rms.unit (x r) k * Rope.dnorm w (cols C A B Q K V r) k := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc0 x0 x1 x2 x3 x4 x5 x6 x7 x8 x9 xo13)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h14.read_unread, View.ld_unit_zero (S := S512x1024) hz2, View.ld_unit_zero (S := S1x1024) hz2, View.ld_unit_zero (S := S512x256) hz2, View.ld_unit_zero (S := S512x128) hz2, View.ld_unit_zero (S := S1024x1536) hz2]
  subst hQ hK hV hx hg hw hC hA hB hdg
  rw [View.canon_unit_zero (S := S1x1024) hz2]
  exact pay3_of x dg (cols C A B Q K V) w _ _ _ _ (pay13_lift x) (three_read C A B Q K V _ _ _ (pay8_of C A B Q _ _ _ _ _ _ _ rfl rfl rfl (ld_q Q 0 _) (ld_q Q 1 _) (ld_q Q 2 _) (ld_q Q 3 _)) (pay9_of C A B K _ _ _ _ (pay5_lift C) (pay6_lift A) (pay7_lift B) rfl) (pay10_lift V) _ _ _ _ _) rfl rfl

end Cert.AttnPreKernel

end
-- ==== Proof.AttnPreHost.lean ====
module

public import proofs.«01_k».proof.Proof.AttnPreRef
public import proofs.«01_k».proof.Proof.AttnPreFirst
public import proofs.«01_k».proof.Proof.AttnPreLater
public import Idealize.ShloMosaic.Lib.Claim

@[expose] public section

set_option maxRecDepth 16384

noncomputable section

/-! # What the attention projection's gradient kernel is handed, on real arrays

The host prepares the rotary tables, two heads wide. -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

variable (m : (ℓ : Loc nD τ sig) → Buf (Elt Ideal) ℓ) (c : Dev nD)

abbrev qOf : FVec Ideal S64x1024x128 .f32 := m ((c : Thread nD τ).loc main_arg0)
abbrev kOf : FVec Ideal S9216x256 .f32 := m ((c : Thread nD τ).loc main_arg1)
abbrev vOf : FVec Ideal S9216x256 .f32 := m ((c : Thread nD τ).loc main_arg2)
abbrev xOf : FVec Ideal S8192x1024 .f32 := m ((c : Thread nD τ).loc main_arg3)
abbrev gOf : FVec Ideal S1024 .f32 := m ((c : Thread nD τ).loc main_arg4)
abbrev wOf : FVec Ideal S1024x1536 .f32 := m ((c : Thread nD τ).loc main_arg5)
abbrev dOf : FVec Ideal S8192x1024 .f32 := m ((c : Thread nD τ).loc main_arg6)

theorem gains_eq : (V m c main_v0 : FVec Ideal S1x1024 .f32) = broadcastInDim S1x1024 ![1] bcast_S1024_S1x1024_1 (gOf m c) := by
  unfold V
  after_results

theorem weights_eq : (V m c main_v1 : FVec Ideal S1024x1536 .bf16) = truncf .bf16 (wOf m c) bitsLt_bf16_f32 := by
  unfold V
  after_results

/-! ## The rotary tables -/

/-- A head's table beside itself. -/
def spread (T : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 T shapeCasts_S8192x64_S1x8192x1x64)) shapeCasts_S1x8192x2x64_S8192x128

abbrev fill8 : FVec Ideal S8192x8 .f32 := broadcastInDim S8192x8 ![] bcast_S_S8192x8 (constant S_ .f32 0x00000000#32)
abbrev fill48 : FVec Ideal S8192x48 .f32 := broadcastInDim S8192x48 ![] bcast_S_S8192x48 (constant S_ .f32 0x00000000#32)
abbrev ones48 : FVec Ideal S8192x48 .f32 := broadcastInDim S8192x48 ![] bcast_S_S8192x48 (constant S_ .f32 0x3F800000#32)

/-- Three pieces of 8, 8 and 48 columns side by side. -/
def beside (p q : FVec Ideal S8192x8 .f32) (r : FVec Ideal S8192x48 .f32) : FVec Ideal S8192x64 .f32 :=
  concatenate S8192x64 1 [⟨S8192x8, p⟩, ⟨S8192x8, q⟩, ⟨S8192x48, r⟩] concatenates_S8192x8_S8192x8_S8192x48_S8192x64_d1

theorem tabC_eq : (V m c main_v29 : FVec Ideal S8192x128 .f32) = spread (beside (Host.cos AttnPreRef.angT) (Host.cos AttnPreRef.angT) ones48) := by
  unfold V
  after_results
  rfl
theorem tabA_eq : (V m c main_v32 : FVec Ideal S8192x128 .f32) = spread (beside (Host.negf (Host.sin AttnPreRef.angT)) fill8 fill48) := by
  unfold V
  after_results
  rfl
theorem tabB_eq : (V m c main_v35 : FVec Ideal S8192x128 .f32) = spread (beside fill8 (Host.sin AttnPreRef.angT) fill48) := by
  unfold V
  after_results
  rfl

theorem spread_lift (T : Mat 8192 64) : spread (lift2 T) = lift2 (φ := .f32) fun t l => T t ⟨l.val % 64, Nat.mod_lt _ (by norm_num)⟩ := by
  funext i; idx_vars i
  pointwise [spread]
  rfl

theorem ofBits_f1 : Ideal.ofBits .f32 0x3F800000#32 = ((1 : ℝ) : EReal) := by
  simp [Ideal.ofBits, Ideal.ieee, -EReal.coe_mul]; norm_num

theorem tabC_lift (a : Mat 8192 8) : beside (Host.cos (lift2 a)) (Host.cos (lift2 a)) ones48 = lift2 (φ := .f32) fun t => Rope.tabC fun j => Real.cos (a t j) := by
  funext i; idx_vars i
  pointwise [beside]
  have hi := i1.isLt
  simp only [lift2_apply, Ideal.cos_coe, ofBits_f1]
  unfold Rope.tabC
  by_cases h : i1.val < 8
  · rw [dif_pos h, dif_pos h]
  · by_cases h' : i1.val < 16
    · rw [dif_neg h, dif_neg h, dif_pos (by omega), dif_pos h']
    · rw [dif_neg h, dif_neg h, dif_neg (by omega), dif_neg h', EReal.coe_one]
theorem tabA_lift (a : Mat 8192 8) : beside (Host.negf (Host.sin (lift2 a))) fill8 fill48 = lift2 (φ := .f32) fun t => Rope.tabA fun j => Real.sin (a t j) := by
  funext i; idx_vars i
  pointwise [beside]
  have hi := i1.isLt
  simp only [lift2_apply, Ideal.sin_coe, Ideal.ofBits_zero_f32, ← EReal.coe_neg]
  unfold Rope.tabA
  by_cases h : i1.val < 8
  · rw [dif_pos h, dif_pos h]
  · rw [dif_neg h, dif_neg h, EReal.coe_zero]
    split <;> rfl
theorem tabB_lift (a : Mat 8192 8) : beside fill8 (Host.sin (lift2 a)) fill48 = lift2 (φ := .f32) fun t => Rope.tabB fun j => Real.sin (a t j) := by
  funext i; idx_vars i
  pointwise [beside]
  have hi := i1.isLt
  simp only [lift2_apply, Ideal.sin_coe, Ideal.ofBits_zero_f32]
  unfold Rope.tabB
  by_cases h : i1.val < 8
  · rw [dif_pos h, dif_pos h, EReal.coe_zero]
  · by_cases h' : i1.val < 16
    · rw [dif_neg h, dif_neg h, dif_pos (by omega), dif_pos h']
    · rw [dif_neg h, dif_neg h, dif_neg (by omega), dif_neg h', EReal.coe_zero]

section
variable (g : Fin 1024 → ℝ) (w : Mat 1024 1536) (a : Mat 8192 8)

theorem gains_lift (hg : gOf m c = lift1 g) : (V m c main_v0 : FVec Ideal S1x1024 .f32) = lift2 (φ := .f32) fun _ => g := by
  rw [gains_eq, hg]
  funext i; idx_vars i
  pointwise []
  rfl
theorem weights_lift (hw : wOf m c = lift2 w) : (V m c main_v1 : FVec Ideal S1024x1536 .bf16) = lift2 (φ := .bf16) w := by
  rw [weights_eq, hw]; rfl
theorem tableC (ha : AttnPreRef.angT = lift2 a) : (V m c main_v29 : FVec Ideal S8192x128 .f32) = lift2 (φ := .f32) fun t l => Rope.tabC (fun j => Real.cos (a t j)) ⟨l.val % 64, Nat.mod_lt _ (by norm_num)⟩ := by
  rw [tabC_eq, ha, tabC_lift, spread_lift]
theorem tableA (ha : AttnPreRef.angT = lift2 a) : (V m c main_v32 : FVec Ideal S8192x128 .f32) = lift2 (φ := .f32) fun t l => Rope.tabA (fun j => Real.sin (a t j)) ⟨l.val % 64, Nat.mod_lt _ (by norm_num)⟩ := by
  rw [tabA_eq, ha, tabA_lift, spread_lift]
theorem tableB (ha : AttnPreRef.angT = lift2 a) : (V m c main_v35 : FVec Ideal S8192x128 .f32) = lift2 (φ := .f32) fun t l => Rope.tabB (fun j => Real.sin (a t j)) ⟨l.val % 64, Nat.mod_lt _ (by norm_num)⟩ := by
  rw [tabB_eq, ha, tabB_lift, spread_lift]
end

/-! ## The blocks of a point -/

/-- Token `r` of the block at point `t`. -/
def row (t : Fin cfg0.N) (r : Fin 512) : Fin 8192 := ⟨t.val * 512 + r.val, by have := t.isLt; have : cfg0.N = 16 := N_0; omega⟩

/-- Which block of each array a point reads. -/
theorem idx_q : ∀ t : Fin cfg0.N, win0_0.index t (0 : Fin 3) = t.val ∧ win0_0.index t (1 : Fin 3) = 0 ∧ win0_0.index t (2 : Fin 3) = 0 := (by decide +kernel : ∀ t : Fin grid0.N, _)
theorem idx_1 : ∀ t : Fin cfg0.N, win0_1.index t (0 : Fin 2) = t.val + 1 ∧ win0_1.index t (1 : Fin 2) = 0 := (by decide +kernel : ∀ t : Fin grid0.N, _)
theorem idx_2 : ∀ t : Fin cfg0.N, win0_2.index t (0 : Fin 2) = t.val + 1 ∧ win0_2.index t (1 : Fin 2) = 0 := (by decide +kernel : ∀ t : Fin grid0.N, _)
theorem idx_3 : ∀ t : Fin cfg0.N, win0_3.index t (0 : Fin 2) = t.val ∧ win0_3.index t (1 : Fin 2) = 0 := (by decide +kernel : ∀ t : Fin grid0.N, _)
theorem idx_4 : ∀ t : Fin cfg0.N, win0_4.index t (0 : Fin 2) = 0 ∧ win0_4.index t (1 : Fin 2) = 0 := (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = t.val ∧ win0_6.index t (1 : Fin 2) = 0 := (by decide +kernel : ∀ t : Fin grid0.N, _)
theorem idx_7 : ∀ t : Fin cfg0.N, win0_7.index t (0 : Fin 2) = t.val ∧ win0_7.index t (1 : Fin 2) = 0 := (by decide +kernel : ∀ t : Fin grid0.N, _)
theorem idx_8 : ∀ t : Fin cfg0.N, win0_8.index t (0 : Fin 2) = t.val ∧ win0_8.index t (1 : Fin 2) = 0 := (by decide +kernel : ∀ t : Fin grid0.N, _)
theorem idx_9 : ∀ t : Fin cfg0.N, win0_9.index t (0 : Fin 2) = t.val ∧ win0_9.index t (1 : Fin 2) = 0 := (by decide +kernel : ∀ t : Fin grid0.N, _)

theorem blk0 (q : Cube 64 1024 128) (hq : qOf m c = lift3 q) (t : Fin cfg0.N) : (iblk m c 0 t : Vec Ideal S4x1024x128 .f32) = lift3 (φ := .f32) fun b => q ⟨t.val * 4 + b.val, by have := t.isLt; have : cfg0.N = 16 := N_0; have := b.isLt; omega⟩ := by
  obtain ⟨e0, e1, e2⟩ := idx_q t
  have hN : cfg0.N = 16 := N_0
  have := t.isLt
  funext i; idx_vars i
  unfold iblk; rw [View.read_apply]
  show qOf m c _ = _
  rw [hq]
  refine congrArg (lift3 (φ := .f32) q) (?_ : _ = ix3 ⟨t.val * 4 + i0.val, by have := i0.isLt; omega⟩ i1 i2)
  funext a; apply Fin.ext
  match a with
  | ⟨0, _⟩ => show win0_0.index t (0 : Fin 3) * 4 + 1 * i0.val = t.val * 4 + i0.val; omega
  | ⟨1, _⟩ => show win0_0.index t (1 : Fin 3) * 1024 + 1 * i1.val = i1.val; omega
  | ⟨2, _⟩ => show win0_0.index t (2 : Fin 3) * 128 + 1 * i2.val = i2.val; omega

/-- The token's row after the neighbour's rows. -/
def nrow (t : Fin cfg0.N) (r : Fin 512) : Fin 9216 := ⟨512 + (t.val * 512 + r.val), by have := t.isLt; have : cfg0.N = 16 := N_0; omega⟩

theorem blk1 (s : Mat 9216 256) (hs : (kOf m c : FVec Ideal S9216x256 .f32) = lift2 (φ := .f32) s) (t : Fin cfg0.N) : (iblk m c 1 t : Vec Ideal S512x256 .f32) = lift2 (φ := .f32) fun r => s (nrow t r) := by
  obtain ⟨e0, e1⟩ := idx_1 t
  funext i; idx_vars i
  unfold iblk; rw [View.read_apply]
  show kOf m c _ = _
  rw [hs]
  refine congrArg (lift2 (φ := .f32) s) (?_ : _ = ix2 (nrow t i0) i1)
  funext a; apply Fin.ext
  match a with
  | ⟨0, _⟩ => show win0_1.index t (0 : Fin 2) * 512 + 1 * i0.val = 512 + (t.val * 512 + i0.val); omega
  | ⟨1, _⟩ => show win0_1.index t (1 : Fin 2) * 256 + 1 * i1.val = i1.val; omega

theorem blk2 (s : Mat 9216 256) (hs : (vOf m c : FVec Ideal S9216x256 .f32) = lift2 (φ := .f32) s) (t : Fin cfg0.N) : (iblk m c 2 t : Vec Ideal S512x256 .f32) = lift2 (φ := .f32) fun r => s (nrow t r) := by
  obtain ⟨e0, e1⟩ := idx_2 t
  funext i; idx_vars i
  unfold iblk; rw [View.read_apply]
  show vOf m c _ = _
  rw [hs]
  refine congrArg (lift2 (φ := .f32) s) (?_ : _ = ix2 (nrow t i0) i1)
  funext a; apply Fin.ext
  match a with
  | ⟨0, _⟩ => show win0_2.index t (0 : Fin 2) * 512 + 1 * i0.val = 512 + (t.val * 512 + i0.val); omega
  | ⟨1, _⟩ => show win0_2.index t (1 : Fin 2) * 256 + 1 * i1.val = i1.val; omega

theorem blk3 (s : Mat 8192 1024) (hs : (xOf m c : FVec Ideal S8192x1024 .f32) = lift2 (φ := .f32) s) (t : Fin cfg0.N) : (iblk m c 3 t : Vec Ideal S512x1024 .f32) = lift2 (φ := .f32) fun r => s (row t r) := by
  obtain ⟨e0, e1⟩ := idx_3 t
  funext i; idx_vars i
  unfold iblk; rw [View.read_apply]
  show xOf m c _ = _
  rw [hs]
  refine congrArg (lift2 (φ := .f32) s) (?_ : _ = ix2 (row t i0) i1)
  funext a; apply Fin.ext
  match a with
  | ⟨0, _⟩ => show win0_3.index t (0 : Fin 2) * 512 + 1 * i0.val = t.val * 512 + i0.val; omega
  | ⟨1, _⟩ => show win0_3.index t (1 : Fin 2) * 1024 + 1 * i1.val = i1.val; omega

theorem blk4 (s : Mat 1 1024) (hs : (V m c main_v0 : FVec Ideal S1x1024 .f32) = lift2 (φ := .f32) s) (t : Fin cfg0.N) : (iblk m c 4 t : Vec Ideal S1x1024 .f32) = lift2 (φ := .f32) fun r => s (r) := by
  obtain ⟨e0, e1⟩ := idx_4 t
  funext i; idx_vars i
  unfold iblk; rw [View.read_apply]
  show V m c main_v0 _ = _
  rw [hs]
  refine congrArg (lift2 (φ := .f32) s) (?_ : _ = ix2 (i0) i1)
  funext a; apply Fin.ext
  match a with
  | ⟨0, _⟩ => show win0_4.index t (0 : Fin 2) * 1 + 1 * i0.val = i0.val; omega
  | ⟨1, _⟩ => show win0_4.index t (1 : Fin 2) * 1024 + 1 * i1.val = i1.val; omega

theorem blk5 (s : Mat 1024 1536) (hs : (V m c main_v1 : FVec Ideal S1024x1536 .bf16) = lift2 (φ := .bf16) s) (t : Fin cfg0.N) : (iblk m c 5 t : Vec Ideal S1024x1536 .bf16) = lift2 (φ := .bf16) fun r => s (r) := by
  obtain ⟨e0, e1⟩ := idx_5 t
  funext i; idx_vars i
  unfold iblk; rw [View.read_apply]
  show V m c main_v1 _ = _
  rw [hs]
  refine congrArg (lift2 (φ := .bf16) s) (?_ : _ = ix2 (i0) i1)
  funext a; apply Fin.ext
  match a with
  | ⟨0, _⟩ => show win0_5.index t (0 : Fin 2) * 1024 + 1 * i0.val = i0.val; omega
  | ⟨1, _⟩ => show win0_5.index t (1 : Fin 2) * 1536 + 1 * i1.val = i1.val; omega

theorem blk6 (s : Mat 8192 128) (hs : (V m c main_v29 : FVec Ideal S8192x128 .f32) = lift2 (φ := .f32) s) (t : Fin cfg0.N) : (iblk m c 6 t : Vec Ideal S512x128 .f32) = lift2 (φ := .f32) fun r => s (row t r) := by
  obtain ⟨e0, e1⟩ := idx_6 t
  funext i; idx_vars i
  unfold iblk; rw [View.read_apply]
  show V m c main_v29 _ = _
  rw [hs]
  refine congrArg (lift2 (φ := .f32) s) (?_ : _ = ix2 (row t i0) i1)
  funext a; apply Fin.ext
  match a with
  | ⟨0, _⟩ => show win0_6.index t (0 : Fin 2) * 512 + 1 * i0.val = t.val * 512 + i0.val; omega
  | ⟨1, _⟩ => show win0_6.index t (1 : Fin 2) * 128 + 1 * i1.val = i1.val; omega

theorem blk7 (s : Mat 8192 128) (hs : (V m c main_v32 : FVec Ideal S8192x128 .f32) = lift2 (φ := .f32) s) (t : Fin cfg0.N) : (iblk m c 7 t : Vec Ideal S512x128 .f32) = lift2 (φ := .f32) fun r => s (row t r) := by
  obtain ⟨e0, e1⟩ := idx_7 t
  funext i; idx_vars i
  unfold iblk; rw [View.read_apply]
  show V m c main_v32 _ = _
  rw [hs]
  refine congrArg (lift2 (φ := .f32) s) (?_ : _ = ix2 (row t i0) i1)
  funext a; apply Fin.ext
  match a with
  | ⟨0, _⟩ => show win0_7.index t (0 : Fin 2) * 512 + 1 * i0.val = t.val * 512 + i0.val; omega
  | ⟨1, _⟩ => show win0_7.index t (1 : Fin 2) * 128 + 1 * i1.val = i1.val; omega

theorem blk8 (s : Mat 8192 128) (hs : (V m c main_v35 : FVec Ideal S8192x128 .f32) = lift2 (φ := .f32) s) (t : Fin cfg0.N) : (iblk m c 8 t : Vec Ideal S512x128 .f32) = lift2 (φ := .f32) fun r => s (row t r) := by
  obtain ⟨e0, e1⟩ := idx_8 t
  funext i; idx_vars i
  unfold iblk; rw [View.read_apply]
  show V m c main_v35 _ = _
  rw [hs]
  refine congrArg (lift2 (φ := .f32) s) (?_ : _ = ix2 (row t i0) i1)
  funext a; apply Fin.ext
  match a with
  | ⟨0, _⟩ => show win0_8.index t (0 : Fin 2) * 512 + 1 * i0.val = t.val * 512 + i0.val; omega
  | ⟨1, _⟩ => show win0_8.index t (1 : Fin 2) * 128 + 1 * i1.val = i1.val; omega

theorem blk9 (t : Fin cfg0.N) : (iblk m c 9 t : Vec Ideal S512x1024 .f32) = fun i => dOf m c (ix2 (row t (i 0)) (i 1)) := by
  obtain ⟨e0, e1⟩ := idx_9 t
  funext i; idx_vars i
  unfold iblk; rw [View.read_apply]
  show dOf m c _ = _
  refine congrArg (dOf m c) (?_ : _ = ix2 (row t i0) i1)
  funext a; apply Fin.ext
  match a with
  | ⟨0, _⟩ => show win0_9.index t (0 : Fin 2) * 512 + 1 * i0.val = t.val * 512 + i0.val; omega
  | ⟨1, _⟩ => show win0_9.index t (1 : Fin 2) * 1024 + 1 * i1.val = i1.val; omega

/-! ## The block's numbers are the tokens' -/

section
variable (a : Mat 8192 8) (q : Cube 64 1024 128) (k v : Mat 9216 256) (t : Fin cfg0.N)
/-- The point's blocks. -/
abbrev qB : Cube 4 1024 128 := fun b => q ⟨t.val * 4 + b.val, by have := t.isLt; have : cfg0.N = 16 := N_0; have := b.isLt; omega⟩
abbrev kB : Mat 512 256 := fun r => k (nrow t r)
abbrev cB : Mat 512 128 := wide fun r => Rope.tabC fun j => Real.cos (a (row t r) j)
abbrev aB : Mat 512 128 := wide fun r => Rope.tabA fun j => Real.sin (a (row t r) j)
abbrev bB : Mat 512 128 := wide fun r => Rope.tabB fun j => Real.sin (a (row t r) j)

theorem cols_token (r : Fin 512) : cols (cB a t) (aB a t) (bB a t) (qB q t) (kB k t) (kB v t) r = AttnPreRef.dOfTok a q k v (row t r) := by
  have hN : cfg0.N = 16 := N_0
  have ht := t.isLt
  have hr := r.isLt
  refine (cols_eq (fun r j => Real.cos (a (row t r) j)) (fun r j => Real.sin (a (row t r) j)) (qB q t) (kB k t) (kB v t) r).trans ?_
  have e : (fun n => qB q t ⟨r.val / 128, by omega⟩ n ⟨r.val % 128, Nat.mod_lt _ (by norm_num)⟩) = AttnPreRef.qTok q (row t r) := by
    funext n
    have e1 : (⟨t.val * 4 + r.val / 128, by omega⟩ : Fin 64) = ⟨(row t r).val / 128, by omega⟩ := Fin.ext (by unfold row; dsimp only; omega)
    have e2 : (⟨r.val % 128, Nat.mod_lt _ (by norm_num)⟩ : Fin 128) = ⟨(row t r).val % 128, Nat.mod_lt _ (by norm_num)⟩ := Fin.ext (by unfold row; dsimp only; omega)
    dsimp only [qB, AttnPreRef.qTok]
    rw [e1, e2]
  rw [e]; rfl
end

end Cert.AttnPreKernel

end
-- ==== Proof.AttnPreKernel.lean ====
module

public import proofs.«01_k».proof.Proof.AttnPreHost

@[expose] public section

set_option maxRecDepth 16384

noncomputable section

/-! # The four arrays the attention projection's gradient kernel leaves, on real arrays -/

namespace Cert.AttnPreKernel

open Cert.Kernel9Ideal Cert.Kernel9Ideal.Gen Cert.Kernel9Ideal.Value Idealize.ShloMosaic Idealize.ShloMosaic.TcCoe
  Idealize.SL.Sem Cert.Reals
open Cert.FfnBwdKernel (Mat Cube)

variable (m : (ℓ : Loc nD τ sig) → Buf (Elt Ideal) ℓ) (c : Dev nD)
variable (a : Mat 8192 8) (q : Cube 64 1024 128) (k v : Mat 9216 256) (x : Mat 8192 1024) (g : Fin 1024 → ℝ) (w : Mat 1024 1536)
  (ha : AttnPreRef.angT = lift2 a) (hq : qOf m c = lift3 q) (hk : kOf m c = lift2 k) (hv : vOf m c = lift2 v) (hx : xOf m c = lift2 x) (hg : gOf m c = lift1 g) (hw : wOf m c = lift2 w)

/-- The part of a sum over the tokens that the tokens of point `t` give. -/
def part (f : Fin 8192 → ℝ) (t : ℕ) : ℝ := ∑ r : Fin 512, if h : t * 512 + r.val < 8192 then f ⟨t * 512 + r.val, h⟩ else 0

theorem part_eq (f : Fin 8192 → ℝ) (t : Fin cfg0.N) : ∑ r, f (row t r) = part f t.val := by
  have hN : cfg0.N = 16 := N_0
  have := t.isLt
  unfold part
  refine Finset.sum_congr rfl fun r _ => ?_
  rw [dif_pos (by omega)]; rfl

theorem parts_all (f : Fin 8192 → ℝ) : ∑ s ∈ Finset.range (15 + 1), part f s = ∑ t, f t := by
  rw [Fin.sum_univ_tiles 16 512 rfl, Finset.sum_range]
  refine Finset.sum_congr rfl fun s _ => ?_
  unfold part
  refine Finset.sum_congr rfl fun r _ => ?_
  rw [dif_pos (by omega)]

/-- A token's part of the gains' gradient. -/
abbrev dgainAt (n : Fin 1024) (t : Fin 8192) : ℝ := Rms.unit (x t) n * Rope.dnorm w (AttnPreRef.dOfTok a q k v t) n

theorem gain_block (t : Fin cfg0.N) (n : Fin 1024) :
    ∑ r, Rms.unit (x (row t r)) n * Rope.dnorm w (cols (cB a t) (aB a t) (bB a t) (qB q t) (kB k t) (kB v t) r) n = part (dgainAt a q k v x w n) t.val := by
  rw [← part_eq]
  refine Finset.sum_congr rfl fun r _ => ?_
  rw [cols_token]

theorem token_block (t : Fin cfg0.N) (r : Fin 512) (n : Fin 1024) :
    Rms.pull (x (row t r)) g (Rope.dnorm w (cols (cB a t) (aB a t) (bB a t) (qB q t) (kB k t) (kB v t) r)) n
      = Rms.pull (x (row t r)) g (Rope.dnorm w (AttnPreRef.dOfTok a q k v (row t r))) n := by
  rw [cols_token]

include ha hq hk hv hx hg hw

/-- What the gains' block holds after point `n`: the parts up to it. -/
theorem acc_at : ∀ (n : ℕ) (hn : n < cfg0.N),
    ((outsAt0 m c n hn).2.2.2 : Vec Ideal S1x1024 .f32) = lift2 (φ := .f32) (fun _ j => ∑ s ∈ Finset.range (n + 1), part (dgainAt a q k v x w j) s) := by
  have hN : cfg0.N = 16 := N_0
  intro n
  induction n with
  | zero =>
    intro hn
    let t : Fin cfg0.N := ⟨0, hn⟩
    rw [outsAt0_A m c t rfl]; dsimp only
    refine (outA13 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t)).trans ?_
    funext i; idx_vars i
    simp only [lift2_apply]
    refine congrArg _ ?_
    rw [zero_add, Finset.sum_range_one]
    exact gain_block a q k v x w t i1
  | succ n ih =>
    intro hn
    let t : Fin cfg0.N := ⟨n + 1, hn⟩
    have ih1 := ih (Nat.lt_of_succ_lt hn)
    rw [outsAt0_B m c t (by show ¬(n + 1) % 16 = 0; omega)]; dsimp only
    refine (outB13 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t) (hdg := ih1)).trans ?_
    funext i; idx_vars i
    simp only [lift2_apply]
    refine congrArg _ ?_
    rw [Finset.sum_range_succ _ (n + 1)]
    exact congrArg _ (gain_block a q k v x w t i1)

theorem point10 (t : Fin cfg0.N) : ((outsAt0 m c t.val t.isLt).1 : Vec Ideal S512x1536 .bf16) = fun i => (lift2 (φ := .bf16) (AttnPreRef.dOfTok a q k v) : FVec Ideal S8192x1536 .bf16) (ix2 (row t (i 0)) (i 1)) := by
  have hN : cfg0.N = 16 := N_0
  by_cases h : t.val % 16 = 0
  · rw [outsAt0_A m c t h]; dsimp only
    refine (outA10 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t)).trans ?_
    funext i; idx_vars i
    exact congrArg _ (congrFun (cols_token a q k v t i0) i1)
  · rw [outsAt0_B m c t h]; dsimp only
    have ht := t.isLt
    have s1 := acc_at m c a q k v x g w ha hq hk hv hx hg hw (t.val - 1) (by omega)
    refine (outB10 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t) (hdg := s1)).trans ?_
    funext i; idx_vars i
    exact congrArg _ (congrFun (cols_token a q k v t i0) i1)

omit ha hq hk hv hx hg hw in
theorem idx10 : ∀ t : Fin cfg0.N, win0_10.index t (0 : Fin 2) = t.val ∧ win0_10.index t (1 : Fin 2) = 0 ∧ win0_10.xsize (grid0.coords t) (0 : Fin 2) = 512 ∧ win0_10.xsize (grid0.coords t) (1 : Fin 2) = 1536 := (by decide +kernel : ∀ t : Fin grid0.N, _)

omit ha hq hk hv hx hg hw in
/-- The blocks cover the array. -/
theorem cover10 (i : S8192x1536.Idx) : ∃ t : Fin cfg0.N, (cfg0.win 10).flush t = true ∧ i ∈ ((cfg0.win 10).blk t).view.set := by
  have hN : cfg0.N = 16 := N_0
  have h0 : (i 0).val < 8192 := (i 0).isLt
  have h1 : (i 1).val < 1536 := (i 1).isLt
  obtain ⟨t, ht⟩ : ∃ t : Fin cfg0.N, t.val = (i 0).val / 512 := ⟨⟨(i 0).val / 512, by omega⟩, rfl⟩
  refine ⟨t, flush0_10 t, ?_⟩
  obtain ⟨e0, e1, n0, n1⟩ := idx10 t
  show i ∈ ((View.whole main_v36_0).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + win0_10.xsize (grid0.coords t) (0 : Fin 2); rw [e0, n0]; omega
  | ⟨1, _⟩ => show win0_10.index t (1 : Fin 2) * 1536 ≤ (i 1).val ∧ (i 1).val < win0_10.index t (1 : Fin 2) * 1536 + win0_10.xsize (grid0.coords t) (1 : Fin 2); rw [e1, n1]; omega

omit ha hq hk hv hx hg hw in
theorem whole10 (G : FVec Ideal S8192x1536 .bf16) (hG : ∀ t : Fin cfg0.N, ((outsAt0 m c t.val t.isLt).1 : Vec Ideal S512x1536 .bf16) = fun i => G (ix2 (row t (i 0)) (i 1))) : ((dats m 0 c).arrAt 10 cfg0.N : FVec Ideal S8192x1536 .bf16) = G := by
  refine (dats m 0 c).arrAt_eq_of_cover 10 G (fun t _ => ?_) cover10
  obtain ⟨e0, e1, -⟩ := idx10 t
  rw [flushed10, hG t]
  funext i
  rw [View.read_apply]
  change (⟨2, ![512, 1536]⟩ : Shape).Idx at i
  idx_vars i
  refine congrArg G (?_ : ix2 (row t i0) i1 = _)
  funext a; apply Fin.ext
  match a with
  | ⟨0, _⟩ => show t.val * 512 + i0.val = win0_10.index t (0 : Fin 2) * 512 + 1 * i0.val; omega
  | ⟨1, _⟩ => show i1.val = win0_10.index t (1 : Fin 2) * 1536 + 1 * i1.val; omega

theorem arr10 : ((dats m 0 c).arrAt 10 cfg0.N : FVec Ideal S8192x1536 .bf16) = (lift2 (φ := .bf16) (AttnPreRef.dOfTok a q k v) : FVec Ideal S8192x1536 .bf16) :=
  whole10 m c _ (point10 m c a q k v x g w ha hq hk hv hx hg hw)

theorem point11 (t : Fin cfg0.N) : ((outsAt0 m c t.val t.isLt).2.1 : Vec Ideal S1024x512 .bf16) = fun i => (lift2 (φ := .bf16) (fun n t => Rms.norm (x t) g n) : FVec Ideal S1024x8192 .bf16) (ix2 (i 0) (row t (i 1))) := by
  have hN : cfg0.N = 16 := N_0
  by_cases h : t.val % 16 = 0
  · rw [outsAt0_A m c t h]; dsimp only
    refine (outA11 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t)).trans ?_
    funext i; idx_vars i
    rfl
  · rw [outsAt0_B m c t h]; dsimp only
    have ht := t.isLt
    have s1 := acc_at m c a q k v x g w ha hq hk hv hx hg hw (t.val - 1) (by omega)
    refine (outB11 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t) (hdg := s1)).trans ?_
    funext i; idx_vars i
    rfl

omit ha hq hk hv hx hg hw in
theorem idx11 : ∀ t : Fin cfg0.N, win0_11.index t (0 : Fin 2) = 0 ∧ win0_11.index t (1 : Fin 2) = t.val ∧ win0_11.xsize (grid0.coords t) (0 : Fin 2) = 1024 ∧ win0_11.xsize (grid0.coords t) (1 : Fin 2) = 512 := (by decide +kernel : ∀ t : Fin grid0.N, _)

omit ha hq hk hv hx hg hw in
/-- The blocks cover the array. -/
theorem cover11 (i : S1024x8192.Idx) : ∃ t : Fin cfg0.N, (cfg0.win 11).flush t = true ∧ i ∈ ((cfg0.win 11).blk t).view.set := by
  have hN : cfg0.N = 16 := N_0
  have h0 : (i 0).val < 1024 := (i 0).isLt
  have h1 : (i 1).val < 8192 := (i 1).isLt
  obtain ⟨t, ht⟩ : ∃ t : Fin cfg0.N, t.val = (i 1).val / 512 := ⟨⟨(i 1).val / 512, by omega⟩, rfl⟩
  refine ⟨t, flush0_11 t, ?_⟩
  obtain ⟨e0, e1, n0, n1⟩ := idx11 t
  show i ∈ ((View.whole main_v36_1).slice (win0_11.rect t)).set
  rw [View.set_slice_whole, Rect.mem_set_unit]
  intro a
  match a with
  | ⟨0, _⟩ => show win0_11.index t (0 : Fin 2) * 1024 ≤ (i 0).val ∧ (i 0).val < win0_11.index t (0 : Fin 2) * 1024 + win0_11.xsize (grid0.coords t) (0 : Fin 2); rw [e0, n0]; omega
  | ⟨1, _⟩ => show win0_11.index t (1 : Fin 2) * 512 ≤ (i 1).val ∧ (i 1).val < win0_11.index t (1 : Fin 2) * 512 + win0_11.xsize (grid0.coords t) (1 : Fin 2); rw [e1, n1]; omega

omit ha hq hk hv hx hg hw in
theorem whole11 (G : FVec Ideal S1024x8192 .bf16) (hG : ∀ t : Fin cfg0.N, ((outsAt0 m c t.val t.isLt).2.1 : Vec Ideal S1024x512 .bf16) = fun i => G (ix2 (i 0) (row t (i 1)))) : ((dats m 0 c).arrAt 11 cfg0.N : FVec Ideal S1024x8192 .bf16) = G := by
  refine (dats m 0 c).arrAt_eq_of_cover 11 G (fun t _ => ?_) cover11
  obtain ⟨e0, e1, -⟩ := idx11 t
  rw [flushed11, hG t]
  funext i
  rw [View.read_apply]
  change (⟨2, ![1024, 512]⟩ : Shape).Idx at i
  idx_vars i
  refine congrArg G (?_ : ix2 i0 (row t i1) = _)
  funext a; apply Fin.ext
  match a with
  | ⟨0, _⟩ => show i0.val = win0_11.index t (0 : Fin 2) * 1024 + 1 * i0.val; omega
  | ⟨1, _⟩ => show t.val * 512 + i1.val = win0_11.index t (1 : Fin 2) * 512 + 1 * i1.val; omega

theorem arr11 : ((dats m 0 c).arrAt 11 cfg0.N : FVec Ideal S1024x8192 .bf16) = (lift2 (φ := .bf16) (fun n t => Rms.norm (x t) g n) : FVec Ideal S1024x8192 .bf16) :=
  whole11 m c _ (point11 m c a q k v x g w ha hq hk hv hx hg hw)

theorem point12 (t : Fin cfg0.N) : ((outsAt0 m c t.val t.isLt).2.2.1 : Vec Ideal S512x1024 .f32) = fun i => (addf (dOf m c) (lift2 (φ := .f32) fun t => Rms.pull (x t) g (Rope.dnorm w (AttnPreRef.dOfTok a q k v t))) : FVec Ideal S8192x1024 .f32) (ix2 (row t (i 0)) (i 1)) := by
  have hN : cfg0.N = 16 := N_0
  by_cases h : t.val % 16 = 0
  · rw [outsAt0_A m c t h]; dsimp only
    refine (outA12 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t)).trans ?_
    rw [blk9 m c t]
    funext i; idx_vars i
    exact congrArg (fun v : ℝ => dOf m c (ix2 (row t i0) i1) + (v : EReal)) (token_block a q k v x g w t i0 i1)
  · rw [outsAt0_B m c t h]; dsimp only
    have ht := t.isLt
    have s1 := acc_at m c a q k v x g w ha hq hk hv hx hg hw (t.val - 1) (by omega)
    refine (outB12 (x9 := iblk m c 9 t) (hQ := blk0 m c q hq t) (hK := blk1 m c k hk t) (hV := blk2 m c v hv t) (hx := blk3 m c x hx t) (hg := blk4 m c _ (gains_lift m c g hg) t) (hw := blk5 m c w (weights_lift m c w hw) t) (hC := blk6 m c _ (tableC m c a ha) t) (hA := blk7 m c _ (tableA m c a ha) t) (hB := blk8 m c _ (tableB m c a ha) t) (hdg := s1)).trans ?_
    rw [blk9 m c t]
    funext i; idx_vars i
    exact congrArg (fun v : ℝ => dOf m c (ix2 (row t i0) i1) + (v : EReal)) (token_block a q k v x g w t i0 i1)

omit ha hq hk hv hx hg hw in
theorem idx12 : ∀ t : Fin cfg0.N, win0_12.index t (0 : Fin 2) = t.val ∧ win0_12.index t (1 : Fin 2) = 0 ∧ win0_12.xsize (grid0.coords t) (0 : Fin 2) = 512 ∧ win0_12.xsize (grid0.coords t) (1 : Fin 2) = 1024 := (by decide +kernel : ∀ t : Fin grid0.N, _)

omit ha hq hk hv hx hg hw in
/-- The blocks cover the array. -/
theorem cover12 (i : S8192x1024.Idx) : ∃ t : Fin cfg0.N, (cfg0.win 12).flush t = true ∧ i ∈ ((cfg0.win 12).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_12 t, ?_⟩
  obtain ⟨e0, e1, n0, n1⟩ := idx12 t
  show i ∈ ((View.whole main_v36_2).slice (win0_12.rect t)).set
  rw [View.set_slice_whole, Rect.mem_set_unit]
  intro a
  match a with
  | ⟨0, _⟩ => show win0_12.index t (0 : Fin 2) * 512 ≤ (i 0).val ∧ (i 0).val < win0_12.index t (0 : Fin 2) * 512 + win0_12.xsize (grid0.coords t) (0 : Fin 2); rw [e0, n0]; omega
  | ⟨1, _⟩ => show win0_12.index t (1 : Fin 2) * 1024 ≤ (i 1).val ∧ (i 1).val < win0_12.index t (1 : Fin 2) * 1024 + win0_12.xsize (grid0.coords t) (1 : Fin 2); rw [e1, n1]; omega

omit ha hq hk hv hx hg hw in
theorem whole12 (G : FVec Ideal S8192x1024 .f32) (hG : ∀ t : Fin cfg0.N, ((outsAt0 m c t.val t.isLt).2.2.1 : Vec Ideal S512x1024 .f32) = fun i => G (ix2 (row t (i 0)) (i 1))) : ((dats m 0 c).arrAt 12 cfg0.N : FVec Ideal S8192x1024 .f32) = G := by
  refine (dats m 0 c).arrAt_eq_of_cover 12 G (fun t _ => ?_) cover12
  obtain ⟨e0, e1, -⟩ := idx12 t
  rw [flushed12, hG t]
  funext i
  rw [View.read_apply]
  change (⟨2, ![512, 1024]⟩ : Shape).Idx at i
  idx_vars i
  refine congrArg G (?_ : ix2 (row t i0) i1 = _)
  funext a; apply Fin.ext
  match a with
  | ⟨0, _⟩ => show t.val * 512 + i0.val = win0_12.index t (0 : Fin 2) * 512 + 1 * i0.val; omega
  | ⟨1, _⟩ => show i1.val = win0_12.index t (1 : Fin 2) * 1024 + 1 * i1.val; omega

theorem arr12 : ((dats m 0 c).arrAt 12 cfg0.N : FVec Ideal S8192x1024 .f32) = (addf (dOf m c) (lift2 (φ := .f32) fun t => Rms.pull (x t) g (Rope.dnorm w (AttnPreRef.dOfTok a q k v t))) : FVec Ideal S8192x1024 .f32) :=
  whole12 m c _ (point12 m c a q k v x g w ha hq hk hv hx hg hw)

omit ha hq hk hv hx hg hw in
theorem idx13 : ∀ t : Fin cfg0.N, win0_13.index t (0 : Fin 2) = 0 ∧ win0_13.index t (1 : Fin 2) = 0 ∧ win0_13.xsize (grid0.coords t) (0 : Fin 2) = 1 ∧ win0_13.xsize (grid0.coords t) (1 : Fin 2) = 1024 := (by decide +kernel : ∀ t : Fin grid0.N, _)

theorem arr13 : ((dats m 0 c).arrAt 13 cfg0.N : FVec Ideal S1x1024 .f32) = (lift2 (φ := .f32) (fun _ n => ∑ t, dgainAt a q k v x w n t) : FVec Ideal S1x1024 .f32) := by
  have hN : cfg0.N = 16 := N_0
  refine (dats m 0 c).arrAt_eq_of_cover 13 (lift2 (φ := .f32) (fun _ n => ∑ t, dgainAt a q k v x w n t) : FVec Ideal S1x1024 .f32) (fun t hf => ?_) (fun i => ?_)
  · obtain ⟨e0, e1, -⟩ := idx13 t
    have h15 : t.val = 15 := by have := (flush0_13 t).mp hf; have := t.isLt; omega
    rw [flushed13, acc_at m c a q k v x g w ha hq hk hv hx hg hw t.val t.isLt]
    funext i
    rw [View.read_apply]
    change (⟨2, ![1, 1024]⟩ : Shape).Idx at i
    idx_vars i
    refine (?_ : (lift2 (φ := .f32) (fun _ j => ∑ s ∈ Finset.range (t.val + 1), part (dgainAt a q k v x w j) s) : FVec Ideal S1x1024 .f32) (ix2 i0 i1) = _)
    rw [h15]; simp only [parts_all]
    refine congrArg (lift2 (φ := .f32) (fun _ n => ∑ t, dgainAt a q k v x w n t) : FVec Ideal S1x1024 .f32) (?_ : ix2 i0 i1 = _)
    funext a; apply Fin.ext
    match a with
    | ⟨0, _⟩ => show i0.val = win0_13.index t (0 : Fin 2) * 1 + 1 * i0.val; omega
    | ⟨1, _⟩ => show i1.val = win0_13.index t (1 : Fin 2) * 1024 + 1 * i1.val; omega
  · have h0 : (i 0).val < 1 := (i 0).isLt
    have h1 : (i 1).val < 1024 := (i 1).isLt
    obtain ⟨t, ht⟩ : ∃ t : Fin cfg0.N, t.val = 15 := ⟨⟨15, by omega⟩, rfl⟩
    refine ⟨t, (flush0_13 t).mpr (by omega), ?_⟩
    obtain ⟨e0, e1, n0, n1⟩ := idx13 t
    show i ∈ ((View.whole main_v36_3).slice (win0_13.rect t)).set
    rw [View.set_slice_whole, Rect.mem_set_unit]
    intro a
    match a with
    | ⟨0, _⟩ => show win0_13.index t (0 : Fin 2) * 1 ≤ (i 0).val ∧ (i 0).val < win0_13.index t (0 : Fin 2) * 1 + win0_13.xsize (grid0.coords t) (0 : Fin 2); rw [e0, n0]; omega
    | ⟨1, _⟩ => show win0_13.index t (1 : Fin 2) * 1024 ≤ (i 1).val ∧ (i 1).val < win0_13.index t (1 : Fin 2) * 1024 + win0_13.xsize (grid0.coords t) (1 : Fin 2); rw [e1, n1]; omega

end Cert.AttnPreKernel

end
-- ==== Proof.AttnPreClaim.lean ====
module

public import proofs.«01_k».proof.Defs
public import proofs.«01_k».proof.Proof.Finite
public import proofs.«01_k».proof.Proof.AttnPreKernel
public import proofs.«01_k».proof.Proof.AttnPreRef
public import proofs.«01_k».proof.Proof.Gen.Pre_attn_pre_bwd_finite
public import Idealize.ShloMosaic.Lib.Claim

@[expose] public section

set_option maxRecDepth 16384

noncomputable section

/-! # The claim of the attention projection's gradient

Of finite arguments both programs leave the same arrays: the gradient of the projection, with the rotary embedding turned back,
the normalised tokens, the gradient with respect to the tokens and the gradient of the normalisation's gains. The gradient that
passes beside the block is only added and may be infinite. -/

namespace Cert

open Idealize.ShloMosaic Idealize.SL.Sem Cert.Reals

/-- The precondition's six tests. -/
theorem attn_pre_bwd_reals (a : FVec Ideal Pre_attn_pre_bwd_finite.S64x1024x128 .f32) (b c : FVec Ideal Pre_attn_pre_bwd_finite.S9216x256 .f32)
    (d : FVec Ideal Pre_attn_pre_bwd_finite.S8192x1024 .f32) (e : FVec Ideal Pre_attn_pre_bwd_finite.S1024 .f32)
    (f : FVec Ideal Pre_attn_pre_bwd_finite.S1024x1536 .f32) (g : FVec Ideal Pre_attn_pre_bwd_finite.S8192x1024 .f32)
    (h : Pre_attn_pre_bwd_finite.fn a b c d e f g = fun _ => 1#1) :
    (∃ f, a = lift3 f) ∧ (∃ f, b = lift2 f) ∧ (∃ f, c = lift2 f) ∧ (∃ f, d = lift2 f) ∧ (∃ f, e = lift1 f) ∧ (∃ z, f = lift2 z) := by
  have h0 := congrFun h (fun k => k.elim0)
  obtain ⟨h1, hf⟩ := both h0
  obtain ⟨h2, he⟩ := both h1
  obtain ⟨h3, hd⟩ := both h2
  obtain ⟨h4, hc⟩ := both h3
  obtain ⟨h5, hb⟩ := both h4
  obtain ⟨h6, ha⟩ := both h5
  exact ⟨exists_lift3 a (real_of_allFinite a _ _ _ ha), exists_lift2 b (real_of_allFinite b _ _ _ hb),
    exists_lift2 c (real_of_allFinite c _ _ _ hc), exists_lift2 d (real_of_allFinite d _ _ _ hd),
    exists_lift1 e (real_of_allFinite e _ _ _ he), exists_lift2 f (real_of_allFinite f _ _ _ hf)⟩

theorem attnpre_algebraic : algebraic_Kernel9Ideal_Reference9Ideal_pre_attn_pre_bwd_finite (hKernel9Ideal := Cert.Kernel9Ideal.Gen.facts)
    (hReference9Ideal := Cert.Reference9Ideal.Gen.facts) (hPre_attn_pre_bwd_finite := Cert.Pre_attn_pre_bwd_finite.Gen.facts) := by
  intro m g m' g' hpre hargs
  refine ⟨_, _, _, _, Cert.Kernel9Ideal.Value.run_blocks m g, ?_⟩
  refine (θ_run _ _ _).mono (fun r h c => ?_) (Cert.Reference9Ideal.Value.run m' g')
  obtain ⟨r0, r1, r2, r3, rest⟩ := h c
  obtain ⟨a0, a1, a2, a3, a4, a5, a6⟩ := hargs c
  obtain ⟨⟨q, hq⟩, ⟨k, hk⟩, ⟨v, hv⟩, ⟨x, hx⟩, ⟨n, hn⟩, ⟨w, hw⟩⟩ := attn_pre_bwd_reals _ _ _ _ _ _ _ (hpre c)
  obtain ⟨a, ha⟩ := AttnPreRef.angT_real
  have hd : AttnPreRef.dOf m' c = AttnPreKernel.dOf m c := a6
  refine ⟨r0.trans ?_, r1.trans ?_, r2.trans ?_, r3.trans ?_, rest⟩
  · exact (AttnPreRef.res0 m' c a q k v ha (a0.trans hq) (a1.trans hk) (a2.trans hv)).trans
      (AttnPreKernel.arr10 m c a q k v x n w ha hq hk hv hx hn hw).symm
  · exact (AttnPreRef.res1 m' c x n (a3.trans hx) (a4.trans hn)).trans
      (AttnPreKernel.arr11 m c a q k v x n w ha hq hk hv hx hn hw).symm
  · exact ((AttnPreRef.res2 m' c a q k v x n w ha (a0.trans hq) (a1.trans hk) (a2.trans hv) (a3.trans hx) (a4.trans hn) (a5.trans hw)).trans (by rw [hd])).trans
      (AttnPreKernel.arr12 m c a q k v x n w ha hq hk hv hx hn hw).symm
  · exact (AttnPreRef.res3 m' c a q k v x n w ha (a0.trans hq) (a1.trans hk) (a2.trans hv) (a3.trans hx) (a4.trans hn) (a5.trans hw)).trans
      (AttnPreKernel.arr13 m c a q k v x n w ha hq hk hv hx hn hw).symm

end Cert

end
-- ==== Proof.Glu.lean ====
module

public import proofs.«01_k».proof.Proof.Rms

@[expose] public section

noncomputable section

/-! # A normalised token through a gated product of columns, and its gradient, over the reals

`w` and `b` hold the 1024 columns of the values and then the 1024 columns of their gates; a value is multiplied by the sigmoid
of its gate. -/

namespace Cert.Glu

open Cert.Reals Cert.Rms

section
variable (x g : Fin 1024 → ℝ) (w : Fin 1024 → Fin 2048 → ℝ) (b : Fin 2048 → ℝ) (y : Fin 1024 → ℝ)

/-- The normalised token through all columns. -/
def proj (n : Fin 2048) : ℝ := ∑ k, norm x g k * w k n + b n
/-- What the columns receive when the gated values receive `y`. -/
def dproj (n : Fin 2048) : ℝ :=
  if h : n.val < 1024 then y ⟨n.val, h⟩ * sigmoid (proj x g w b ⟨n.val + 1024, by omega⟩)
  else y ⟨n.val - 1024, by omega⟩ * proj x g w b ⟨n.val - 1024, by omega⟩ * sigmoid (proj x g w b n) * (1 - sigmoid (proj x g w b n))
/-- What the normalised token receives. -/
def dnorm (k : Fin 1024) : ℝ := ∑ n, dproj x g w b y n * w k n
/-- What the token receives. -/
def dtoken (k : Fin 1024) : ℝ := pull x g (dnorm x g w b y) k
/-- The token's part of what the gains receive. -/
def dgain (k : Fin 1024) : ℝ := unit x k * dnorm x g w b y k
end

end Cert.Glu

end
-- ==== Proof.ConvPreRef.lean ====
module

public import proofs.«01_k».proof.Proof.Glu
public import proofs.«01_k».proof.Proof.Gen.ReferenceIdeal.Run

@[expose] public section

set_option maxRecDepth 16384

noncomputable section

/-! # What the reference of the gated product's gradient computes, on real arrays -/

namespace Cert.ConvPreRef

open Cert.ReferenceIdeal Cert.ReferenceIdeal.Gen Idealize.ShloMosaic Idealize.ShloMosaic.TcCoe Idealize.SL.Sem
open Cert.Reals Cert.Rms

abbrev P := FVec Ideal S8192x2048 .f32

/-- The normalised tokens through all columns. -/
def projT (x : A) (g : FVec Ideal SD .f32) (w : FVec Ideal S1024x2048 .f32) (b : FVec Ideal S2048 .f32) : P :=
  addf (Host.dotGeneral dot_S8192x1024_S1024x2048_S8192x2048_1_0_0_1_n_n none (normT x g) w)
    (broadcastInDim S8192x2048 ![0, 1] bcast_S1x2048_S8192x2048_0_1 (broadcastInDim S1x2048 ![1] bcast_S2048_S1x2048_1 b))
def valT (p : P) : A := extractStridedSlice S8192x1024 ![0, 0] p slices_S8192x2048_S8192x1024_0_0
def gateT (p : P) : A := extractStridedSlice S8192x1024 ![0, 1024] p slices_S8192x2048_S8192x1024_0_1024
def oneT : A := broadcastInDim S8192x1024 ![] bcast_S_S8192x1024 (constant S_ .f32 0x3F800000#32)
def sigT (z : A) : A := Host.divf oneT (addf oneT (Host.exp (Host.negf z)))
/-- What all columns receive. -/
def dprojT (p : P) (y : A) : P :=
  addf (pad S8192x2048 ![0, 1024] ![0, 0] ![0, 0] (mulf (mulf (valT p) y) (mulf (sigT (gateT p)) (subf oneT (sigT (gateT p)))))
      (constant S_ .f32 0x00000000#32) pads_S8192x1024_S8192x2048_000_102400 h_S_)
    (pad S8192x2048 ![0, 0] ![0, 1024] ![0, 0] (mulf y (sigT (gateT p))) (constant S_ .f32 0x00000000#32)
      pads_S8192x1024_S8192x2048_000_010240 h_S_)
/-- What the offsets receive. -/
def offsT (q : P) : FVec Ideal S2048 .f32 :=
  Host.reduceAdd (shapeCast S1x2048 (Host.reduceAdd q (constant S_ .f32 0x00000000#32) reducesTo_S8192x2048_S2048_d0 h_S_) shapeCasts_S2048_S1x2048)
    (constant S_ .f32 0x00000000#32) reducesTo_S1x2048_S2048_d0 h_S_
/-- What the normalised tokens receive. -/
def dnormT (q : P) (w : FVec Ideal S1024x2048 .f32) : A :=
  Host.dotGeneral dot_S8192x2048_S1024x2048_S8192x1024_1_1_0_0_n_n none q w

section
variable (x y : Fin 8192 → Fin 1024 → ℝ) (g : Fin 1024 → ℝ) (w : Fin 1024 → Fin 2048 → ℝ) (b : Fin 2048 → ℝ)

theorem projT_lift : projT (lift2 x) (lift1 g) (lift2 w) (lift1 b) = lift2 fun t => Glu.proj (x t) g w b := by
  unfold projT; rw [normT_lift]
  funext i; idx_vars i
  pointwise []
  simp only [lift2_apply, lift1_apply, ← EReal.coe_mul, coe_sum, ← EReal.coe_add]
  rfl

theorem valT_lift (p : Fin 8192 → Fin 2048 → ℝ) : valT (lift2 p) = lift2 fun t f => p t ⟨f.val, by omega⟩ := by
  funext i; idx_vars i
  pointwise [valT]
  rfl

theorem gateT_lift (p : Fin 8192 → Fin 2048 → ℝ) : gateT (lift2 p) = lift2 fun t f => p t ⟨1024 + f.val, by omega⟩ := by
  funext i; idx_vars i
  pointwise [gateT]
  rfl

theorem sigT_lift (z : Fin 8192 → Fin 1024 → ℝ) : sigT (lift2 z) = lift2 fun t f => sigmoid (z t f) := by
  funext i; idx_vars i
  pointwise [sigT, oneT]
  simp only [lift2_apply, Ideal.ofBits_one_f32, sigmoid_real]

theorem dprojT_lift : dprojT (lift2 fun t => Glu.proj (x t) g w b) (lift2 y) = lift2 fun t => Glu.dproj (x t) g w b (y t) := by
  unfold dprojT; rw [valT_lift, gateT_lift, sigT_lift]
  funext i; idx_vars i
  pointwise [oneT]
  simp only [lift2_apply, Ideal.ofBits_one_f32, ← EReal.coe_one, ← EReal.coe_mul, ← EReal.coe_sub]
  unfold Glu.dproj
  have hi := i1.isLt
  by_cases h : i1.val < 1024
  · rw [dif_neg (by omega), dif_pos h, dif_pos h, zero_add]
    congr 4; apply Fin.ext; exact Nat.add_comm _ _
  · rw [dif_pos (by omega), dif_neg h, dif_neg h, add_zero]
    have e : (⟨1024 + (i1.val - 1024), by omega⟩ : Fin 2048) = i1 := Fin.ext (by dsimp only; omega)
    rw [e]; congr 1; ring

theorem offsT_lift (q : Fin 8192 → Fin 2048 → ℝ) : offsT (lift2 q) = lift1 fun n => ∑ t, q t n := by
  funext i; idx_vars i
  pointwise [offsT]
  simp only [lift2_apply, lift1_apply, coe_sum, Fin.sum_univ_one]

theorem dnormT_lift (q : Fin 8192 → Fin 2048 → ℝ) : dnormT (lift2 q) (lift2 w) = lift2 fun t k => ∑ n, q t n * w k n := by
  funext i; idx_vars i
  pointwise [dnormT]
  simp only [lift2_apply, ← EReal.coe_mul, coe_sum]

end

section
variable (m : (ℓ : Loc nD τ sig) → Buf (Elt Ideal) ℓ) (c : Dev nD)

/-- The six arrays the program takes. -/
abbrev xOf : A := m ((c.tc : Thread nD τ).loc main_arg0)
abbrev gOf : FVec Ideal SD .f32 := m ((c.tc : Thread nD τ).loc main_arg1)
abbrev wOf : FVec Ideal S1024x2048 .f32 := m ((c.tc : Thread nD τ).loc main_arg2)
abbrev bOf : FVec Ideal S2048 .f32 := m ((c.tc : Thread nD τ).loc main_arg3)
abbrev yOf : A := m ((c.tc : Thread nD τ).loc main_arg4)
abbrev dOf : A := m ((c.tc : Thread nD τ).loc main_arg5)

abbrev dprojOf : P := dprojT (projT (xOf m c) (gOf m c) (wOf m c) (bOf m c)) (yOf m c)

theorem res0_eq : (Value.res_out0 m c : FVec Ideal S8x8192x256 .bf16) = truncf .bf16 (transpose S8x8192x256 [1, 0, 2]
    (shapeCast S8192x8x256 (dprojOf m c) shapeCasts_S8192x2048_S8192x8x256) transposes_S8192x8x256_S8x8192x256_1_0_2) bitsLt_bf16_f32 := rfl
theorem res2_eq : (Value.res_out2 m c : A) = addf (dOf m c) (pullT (xOf m c) (gOf m c) (dnormT (dprojOf m c) (wOf m c))) := rfl
theorem res3_eq : (Value.res_out3 m c : FVec Ideal S8192x1024 .bf16) = truncf .bf16 (addf (dOf m c) (pullT (xOf m c) (gOf m c) (dnormT (dprojOf m c) (wOf m c)))) bitsLt_bf16_f32 := rfl
theorem res4_eq : (Value.res_out4 m c : FVec Ideal S1x1024 .f32) = broadcastInDim S1x1024 ![1] bcast_S1024_S1x1024_1
    (gainsT (xOf m c) (dnormT (dprojOf m c) (wOf m c))) := rfl
theorem res5_eq : (Value.res_out5 m c : FVec Ideal S1x2048 .f32) = broadcastInDim S1x2048 ![1] bcast_S2048_S1x2048_1 (offsT (dprojOf m c)) := rfl

variable (x y : Fin 8192 → Fin 1024 → ℝ) (g : Fin 1024 → ℝ) (w : Fin 1024 → Fin 2048 → ℝ) (b : Fin 2048 → ℝ)
  (hx : (xOf m c) = lift2 x) (hg : (gOf m c) = lift1 g) (hw : (wOf m c) = lift2 w) (hb : (bOf m c) = lift1 b) (hy : (yOf m c) = lift2 y)
include hx hg hw hb hy

theorem dproj_all : dprojOf m c = lift2 (φ := .f32) fun t => Glu.dproj (x t) g w b (y t) := by
  unfold dprojOf
  rw [hx, hg, hw, hb, hy, projT_lift]
  exact dprojT_lift x y g w b

theorem dnorm_all : dnormT (dprojOf m c) (wOf m c) = lift2 (φ := .f32) fun t => Glu.dnorm (x t) g w b (y t) := by
  rw [dproj_all m c x y g w b hx hg hw hb hy, hw, dnormT_lift]; rfl

theorem res0 : (Value.res_out0 m c : FVec Ideal S8x8192x256 .bf16) = lift3 (φ := .bf16) fun j t f => Glu.dproj (x t) g w b (y t) ⟨j.val * 256 + f.val, by omega⟩ := by
  rw [res0_eq, dproj_all m c x y g w b hx hg hw hb hy]
  funext i; idx_vars i
  pointwise []
  rfl

theorem res1 : truncf .bf16 (transpose S1024x8192 [1, 0] (normT (xOf m c) (gOf m c)) transposes_S8192x1024_S1024x8192_1_0) bitsLt_bf16_f32
    = lift2 (φ := .bf16) fun k t => norm (x t) g k := by
  rw [hx, hg, normT_lift]
  funext i; idx_vars i
  pointwise []
  rfl

theorem res2 : (Value.res_out2 m c : A) = addf (dOf m c) (lift2 (φ := .f32) fun t => Glu.dtoken (x t) g w b (y t)) := by
  rw [res2_eq, dnorm_all m c x y g w b hx hg hw hb hy, hx, hg, pullT_lift]; rfl

theorem res3 : (Value.res_out3 m c : FVec Ideal S8192x1024 .bf16) = truncf .bf16 (addf (dOf m c) (lift2 (φ := .f32) fun t => Glu.dtoken (x t) g w b (y t))) bitsLt_bf16_f32 := by
  rw [res3_eq, dnorm_all m c x y g w b hx hg hw hb hy, hx, hg, pullT_lift]; rfl

theorem res4 : (Value.res_out4 m c : FVec Ideal S1x1024 .f32) = lift2 (φ := .f32) fun _ k => ∑ t, Glu.dgain (x t) g w b (y t) k := by
  rw [res4_eq, dnorm_all m c x y g w b hx hg hw hb hy, hx, gainsT_lift]
  funext i; idx_vars i
  pointwise []
  rfl

theorem res5 : (Value.res_out5 m c : FVec Ideal S1x2048 .f32) = lift2 (φ := .f32) fun _ n => ∑ t, Glu.dproj (x t) g w b (y t) n := by
  rw [res5_eq, dproj_all m c x y g w b hx hg hw hb hy, offsT_lift]
  funext i; idx_vars i
  pointwise []
  rfl

end

end Cert.ConvPreRef

end
-- ==== Proof.ConvPrePays.lean ====
module

public import proofs.«01_k».proof.Proof.Glu
public import proofs.«01_k».proof.Proof.FfnBwdPays
public import proofs.«01_k».proof.Proof.Gen.KernelIdeal.Value
public import Idealize.ShloMosaic.Lib.Tactic
public import Idealize.ShloMosaic.Lib.Pipeline.ReadBack
public import Idealize.ShloMosaic.Lib.Pipeline.ValueKit.Tiles

@[expose] public section

set_option maxRecDepth 16384

noncomputable section

/-! # One block of the gated product's gradient kernel, on real arrays

A block is 512 tokens. The 2048 columns come as eight groups of 256, four of values and four of gates. The kernel writes the
same arithmetic in a different arrangement for each of the four pairs of groups; the arrangements are brought to one first. -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

/-- Loading some columns of a real matrix. -/
theorem ld_cols {a b k : ℕ} (f : Mat a b) (n : ℕ)
    (h : ∀ x : Fin 2, ((![0, n] : Fin 2 → ℕ) x) + (![a, k] : Fin 2 → ℕ) x ≤ (⟨2, ![a, b]⟩ : Shape).size x) :
    (View.ld (Val := Elt Ideal) (e' := .f32) (lift2 (φ := .f32) f : FVec Ideal ⟨2, ![a, b]⟩ .f32) (Rect.unit (s := ⟨2, ![a, b]⟩) ![0, n] ![a, k] h) : FVec Ideal ⟨2, ![a, k]⟩ .f32) = lift2 (φ := .f32) fun r j => f r ⟨n + j.val, lt_of_lt_of_le (Nat.add_lt_add_left j.isLt n) (h 1)⟩ := by
  funext x
  rw [View.ld_apply]
  refine congrArg (lift2 (φ := .f32) f) (?_ : _ = ix2 (x 0) ⟨n + (x 1).val, lt_of_lt_of_le (Nat.add_lt_add_left (x 1).isLt n) (h 1)⟩)
  funext a'; apply Fin.ext; rw [Rect.idx_unit_val]
  fin_cases a'
  · show 0 + (x 0).val = (x 0).val; rw [Nat.zero_add]
  · show n + (x 1).val = n + (x 1).val; rfl

/-- A group of 256 columns of the block's tokens, and of a row. -/
theorem ld_tok (y : Mat 512 1024) (n : ℕ) (h : ∀ x : Fin 2, ((![0, n] : Fin 2 → ℕ) x) + (![512, 256] : Fin 2 → ℕ) x ≤ S512x1024.size x) :
    (View.ld (Val := Elt Ideal) (e' := .f32) (lift2 (φ := .f32) y : FVec Ideal S512x1024 .f32) (Rect.unit (s := S512x1024) ![0, n] ![512, 256] h) : FVec Ideal S512x256 .f32) = lift2 (a := 512) (b := 256) (φ := .f32) fun r j => y r ⟨n + j.val, lt_of_lt_of_le (Nat.add_lt_add_left j.isLt n) (h 1)⟩ :=
  ld_cols (k := 256) y n h
theorem ld_off (y : Mat 1 2048) (n : ℕ) (h : ∀ x : Fin 2, ((![0, n] : Fin 2 → ℕ) x) + (![1, 256] : Fin 2 → ℕ) x ≤ S1x2048.size x) :
    (View.ld (Val := Elt Ideal) (e' := .f32) (lift2 (φ := .f32) y : FVec Ideal S1x2048 .f32) (Rect.unit (s := S1x2048) ![0, n] ![1, 256] h) : FVec Ideal S1x256 .f32) = lift2 (a := 1) (b := 256) (φ := .f32) fun r j => y r ⟨n + j.val, lt_of_lt_of_le (Nat.add_lt_add_left j.isLt n) (h 1)⟩ :=
  ld_cols (k := 256) y n h

/-! ## One arrangement -/

section
variable (A Z : Vec Ideal S1x512x256 .bf16) (y : Vec Ideal S512x256 .f32) (d : Vec Ideal S1x256 .f32) (acc : FVec Ideal S512x1024 .f32)
  (Wa Wb : Vec Ideal S1x1024x256 .bf16)

theorem led0 : k0_pay20 (k0_pay16 (k0_pay9 A) (k0_pay10 Z) y) (k0_pay19 acc (k0_pay10 Z) y Wa) Wb = k0_pay30 acc (k0_pay22 Z y) (k0_pay23 A Z y) Wa Wb := rfl
theorem led2 : k0_pay43 (k0_pay41 acc (k0_pay32 Z y) Wa) (k0_pay42 (k0_pay31 Z) (k0_pay33 A y) Wb) = k0_pay30 acc (k0_pay22 Z y) (k0_pay23 A Z y) Wa Wb := rfl
theorem led3 : k0_pay53 acc (k0_pay49 Z y) (k0_pay50 A Z y) Wa Wb = k0_pay30 acc (k0_pay22 Z y) (k0_pay23 A Z y) Wa Wb := rfl

theorem sum0 : k0_pay13 (k0_pay10 Z) y d = k0_pay35 (k0_pay22 Z y) d := rfl
theorem sum4 : k0_pay14 (k0_pay9 A) (k0_pay10 Z) y d = k0_pay35 (k0_pay23 A Z y) d := rfl
theorem sum1 : k0_pay24 Z y d = k0_pay35 (k0_pay22 Z y) d := rfl
theorem sum5 : k0_pay25 A Z y d = k0_pay35 (k0_pay23 A Z y) d := rfl
theorem sum2 : k0_pay35 (k0_pay32 Z y) d = k0_pay35 (k0_pay22 Z y) d := rfl
theorem sum6 : k0_pay36 (k0_pay31 Z) (k0_pay33 A y) d = k0_pay35 (k0_pay23 A Z y) d := rfl
theorem sum3 : k0_pay47 Z y d = k0_pay35 (k0_pay22 Z y) d := rfl
theorem sum7 : k0_pay48 A Z y d = k0_pay35 (k0_pay23 A Z y) d := rfl

theorem out0 : k0_pay17 (k0_pay10 Z) y = k0_pay28 (k0_pay22 Z y) := rfl
theorem out4 : k0_pay18 (k0_pay9 A) (k0_pay10 Z) y = k0_pay28 (k0_pay23 A Z y) := rfl
theorem out5 (p : FVec Ideal S512x256 .f32) : k0_pay29 p = k0_pay28 p := rfl
theorem out2 : k0_pay39 (k0_pay32 Z y) = k0_pay28 (k0_pay22 Z y) := rfl
theorem out6 : k0_pay40 (k0_pay31 Z) (k0_pay33 A y) = k0_pay28 (k0_pay23 A Z y) := rfl
theorem out3 : k0_pay51 (k0_pay49 Z y) = k0_pay28 (k0_pay22 Z y) := rfl
theorem out7 : k0_pay52 (k0_pay50 A Z y) = k0_pay28 (k0_pay23 A Z y) := rfl
end

/-! ## Its parts on real arrays -/

/-- What a group of values receives. -/
def dval (y z : Mat 512 256) : Mat 512 256 := fun r f => y r f * sigmoid (z r f)
/-- What a group of gates receives. -/
def dgate (y a z : Mat 512 256) : Mat 512 256 := fun r f => y r f * a r f * sigmoid (z r f) * (1 - sigmoid (z r f))
/-- Two groups of columns led back and added. -/
def plus (a : Mat 512 1024) (p q : Mat 512 256) (Wa Wb : Mat 1024 256) : Mat 512 1024 :=
  fun r k => a r k + ∑ f, p r f * Wa k f + ∑ f, q r f * Wb k f

section
variable (A Z : Cube 1 512 256) (y p q : Mat 512 256) (d : Mat 1 256) (acc : Mat 512 1024) (Wa Wb : Cube 1 1024 256)

theorem pay21_lift : k0_pay21 (lift3 (φ := .bf16) Z : FVec Ideal S1x512x256 .bf16) = lift2 (φ := .f32) fun r f => sigmoid (Z 0 r f) := by
  funext i; idx_vars i
  pointwise [k0_pay21]
  simp only [lift2_apply, lift3_apply, Ideal.ofBits_zero_f32, Ideal.ofBits_one_f32, zero_sub]
  exact sigmoid_real _

theorem pay22_lift : k0_pay22 (lift3 (φ := .bf16) Z : FVec Ideal S1x512x256 .bf16) (lift2 (φ := .f32) y : FVec Ideal S512x256 .f32) = lift2 (φ := .f32) (dval y (Z 0)) := by
  unfold k0_pay22; rw [pay21_lift]
  funext i; idx_vars i
  pointwise []
  simp only [lift2_apply, ← EReal.coe_mul]
  rfl

theorem pay23_lift : k0_pay23 (lift3 (φ := .bf16) A : FVec Ideal S1x512x256 .bf16) (lift3 (φ := .bf16) Z : FVec Ideal S1x512x256 .bf16) (lift2 (φ := .f32) y : FVec Ideal S512x256 .f32) = lift2 (φ := .f32) (dgate y (A 0) (Z 0)) := by
  unfold k0_pay23; rw [pay21_lift]
  funext i; idx_vars i
  pointwise []
  simp only [lift2_apply, lift3_apply, Ideal.ofBits_one_f32, ← EReal.coe_one, ← EReal.coe_mul, ← EReal.coe_sub]
  rfl

theorem pay8_lift : (k0_pay8 : FVec Ideal S512x1024 .f32) = lift2 (φ := .f32) fun _ _ => (0 : ℝ) := by
  funext i; idx_vars i
  pointwise [k0_pay8]
  simp only [lift2_apply, Ideal.ofBits_zero_f32, EReal.coe_zero]
theorem pay2_lift : (k0_pay2 : FVec Ideal S1x1024 .f32) = lift2 (φ := .f32) fun _ _ => (0 : ℝ) := by
  funext i; idx_vars i
  pointwise [k0_pay2]
  simp only [lift2_apply, Ideal.ofBits_zero_f32, EReal.coe_zero]
theorem pay3_lift : (k0_pay3 : FVec Ideal S1x2048 .f32) = lift2 (φ := .f32) fun _ _ => (0 : ℝ) := by
  funext i; idx_vars i
  pointwise [k0_pay3]
  simp only [lift2_apply, Ideal.ofBits_zero_f32, EReal.coe_zero]

theorem pay30_lift : k0_pay30 (lift2 (φ := .f32) acc : FVec Ideal S512x1024 .f32) (lift2 (φ := .f32) p : FVec Ideal S512x256 .f32) (lift2 (φ := .f32) q : FVec Ideal S512x256 .f32) (lift3 (φ := .bf16) Wa : FVec Ideal S1x1024x256 .bf16) (lift3 (φ := .bf16) Wb : FVec Ideal S1x1024x256 .bf16) = lift2 (φ := .f32) (plus acc p q (Wa 0) (Wb 0)) := by
  funext i; idx_vars i
  pointwise [k0_pay30, k0_pay26, k0_pay27]
  simp only [lift2_apply, lift3_apply, ← EReal.coe_mul, coe_sum, ← EReal.coe_add]
  rfl

theorem pay28_lift : k0_pay28 (lift2 (φ := .f32) p : FVec Ideal S512x256 .f32) = lift3 (a := 1) (φ := .bf16) fun _ => p := by
  funext i; idx_vars i
  pointwise [k0_pay28]
  rfl

theorem pay35_lift : k0_pay35 (lift2 (φ := .f32) p : FVec Ideal S512x256 .f32) (lift2 (φ := .f32) d : FVec Ideal S1x256 .f32) = lift2 (φ := .f32) fun u f => d u f + ∑ r, p r f := by
  funext i; idx_vars i
  pointwise [k0_pay35]
  simp only [lift2_apply, coe_sum, ← EReal.coe_add]
end

/-! ## The normalisation -/

section
variable (x : Mat 512 1024) (g dg : Mat 1 1024)

theorem pay4_lift : k0_pay4 (lift2 (φ := .f32) g : FVec Ideal S1x1024 .f32) = lift2 (φ := .f32) g := by
  funext i; idx_vars i
  pointwise [k0_pay4]

theorem pay5_lift : k0_pay5 (lift2 (φ := .f32) x : FVec Ideal S512x1024 .f32) = lift2 (φ := .f32) fun r _ => Rms.rstd (x r) := by
  funext i; idx_vars i
  pointwise [k0_pay5]
  simp only [lift2_apply, ← EReal.coe_mul, coe_sum, ofBits_1024, ofBits_eps, div_real _ _ (by norm_num : (1024 : ℝ) ≠ 0), ← EReal.coe_add]
  exact rsqrt_real _ (Rms.meanSq_pos (x i0))

theorem pay6_lift : k0_pay6 (lift2 (φ := .f32) x : FVec Ideal S512x1024 .f32) = lift2 (φ := .f32) fun r => Rms.unit (x r) := by
  unfold k0_pay6; rw [pay5_lift]
  funext i; idx_vars i
  pointwise []
  simp only [lift2_apply, ← EReal.coe_mul]
  rfl

theorem pay7_lift : k0_pay7 (lift2 (φ := .f32) g : FVec Ideal S1x1024 .f32) (lift2 (φ := .f32) x : FVec Ideal S512x1024 .f32) = lift2 (φ := .bf16) fun k r => Rms.norm (x r) (g 0) k := by
  unfold k0_pay7; rw [pay6_lift, pay4_lift]
  funext i; idx_vars i
  pointwise []
  simp only [lift2_apply, ← EReal.coe_mul]
  rfl

variable (d : Vec Ideal S512x1024 .f32) (q : Mat 512 1024) (acc : FVec Ideal S512x1024 .f32) (A Z : Vec Ideal S1x512x256 .bf16)
  (y : Vec Ideal S512x256 .f32) (Wa Wb : Vec Ideal S1x1024x256 .bf16)
  (hD : k0_pay30 acc (k0_pay22 Z y) (k0_pay23 A Z y) Wa Wb = lift2 (φ := .f32) q)
include hD

theorem pay55_lift : k0_pay55 (lift2 (φ := .f32) g : FVec Ideal S1x1024 .f32) (lift2 (φ := .f32) (fun r _ => Rms.rstd (x r)) : FVec Ideal S512x1 .f32) (lift2 (φ := .f32) (fun r => Rms.unit (x r)) : FVec Ideal S512x1024 .f32)
    acc (k0_pay49 Z y) (k0_pay50 A Z y) Wa Wb d = addf (d : FVec Ideal S512x1024 .f32) (lift2 (φ := .f32) fun r => Rms.pull (x r) (g 0) (q r)) := by
  unfold k0_pay55; rw [led3, hD]
  funext i; idx_vars i
  pointwise []
  simp only [lift2_apply, ← EReal.coe_mul, coe_sum, ofBits_1024, div_real _ _ (by norm_num : (1024 : ℝ) ≠ 0), ← EReal.coe_sub]
  rfl

theorem pay54_lift : k0_pay1 (k0_pay54 (lift2 (φ := .f32) (fun r => Rms.unit (x r)) : FVec Ideal S512x1024 .f32)
    acc (k0_pay49 Z y) (k0_pay50 A Z y) Wa Wb) (lift2 (φ := .f32) dg : FVec Ideal S1x1024 .f32) = lift2 (φ := .f32) fun u k => dg u k + ∑ r, Rms.unit (x r) k * q r k := by
  unfold k0_pay54; rw [led3, hD]
  funext i; idx_vars i
  pointwise [k0_pay1]
  simp only [lift2_apply, ← EReal.coe_mul, coe_sum, ← EReal.coe_add]
  congr 2; refine Finset.sum_congr rfl fun r _ => mul_comm _ _
end

/-! ## The block -/

/-- The columns of group `n` of 256. -/
def grp (y : Mat 512 1024) (n : ℕ) (h : n + 256 ≤ 1024) : Mat 512 256 := fun r f => y r ⟨n + f.val, by omega⟩

/-- What the columns of group `n` receive. -/
def cols (y : Mat 512 1024) (U : Cube 8 512 256) (n : Fin 8) : Mat 512 256 :=
  if h : n.val < 4 then dval (grp y (256 * n.val) (by omega)) (U ⟨n.val + 4, by omega⟩)
  else dgate (grp y (256 * (n.val - 4)) (by omega)) (U ⟨n.val - 4, by omega⟩) (U n)
/-- What the normalised tokens receive. -/
def dnorm (y : Mat 512 1024) (U : Cube 8 512 256) (W : Cube 8 1024 256) : Mat 512 1024 :=
  fun r k => ∑ n, ∑ f, cols y U n r f * W n k f

theorem dnorm_eq (y : Mat 512 1024) (U : Cube 8 512 256) (W : Cube 8 1024 256) :
    plus (plus (plus (plus (fun _ _ => 0) (cols y U 0) (cols y U 4) (W 0) (W 4)) (cols y U 1) (cols y U 5) (W 1) (W 5))
      (cols y U 2) (cols y U 6) (W 2) (W 6)) (cols y U 3) (cols y U 7) (W 3) (W 7) = dnorm y U W := by
  funext r k
  unfold dnorm; rw [Fin.sum_univ_eight]
  unfold plus; ring

end Cert.ConvPreKernel

end
-- ==== Proof.ConvPreBlock.lean ====
module

public import proofs.«01_k».proof.Proof.ConvPrePays

@[expose] public section

set_option maxRecDepth 16384

noncomputable section

/-! # How the groups of columns come together in one block of the gated product's gradient -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

theorem hz2 : (![0, 0] : Fin 2 → Nat) = fun _ => 0 := funext fun a => by fin_cases a <;> rfl

/-- One group of the columns' gradient as it lies in the block. -/
theorem group (y : Mat 512 1024) (U : Cube 8 512 256) (n : Fin 8) (X : FVec Ideal S1x512x256 .bf16) (hX : X = lift3 (a := 1) (φ := .bf16) fun _ => cols y U n)
    (u : S1x512x256.Idx) (z0 : Fin 8) (z1 : Fin 512) (z2 : Fin 256) (h0 : z0.val = n.val + (u 0).val) (h1 : z1.val = (u 1).val) (h2 : z2.val = (u 2).val) :
    X u = lift3 (φ := .bf16) (cols y U) (ix3 z0 z1 z2) := by
  have hu : (u 0).val = 0 := by have := (u 0).isLt; simpa using this
  obtain rfl : z0 = n := Fin.ext (by omega)
  obtain rfl : z1 = u 1 := Fin.ext h1
  obtain rfl : z2 = u 2 := Fin.ext h2
  rw [hX]; rfl

/-- What one block adds to the offsets' gradient. -/
def sums (y : Mat 512 1024) (U : Cube 8 512 256) (n : Fin 2048) : ℝ :=
  ∑ r, cols y U ⟨n.val / 256, by omega⟩ r ⟨n.val % 256, Nat.mod_lt _ (by norm_num)⟩

theorem sums_val (y : Mat 512 1024) (U : Cube 8 512 256) (n : Fin 8) (s : ℕ) (hs : s = 256 * n.val) (f : Fin 256) :
    sums y U ⟨s + f.val, by omega⟩ = ∑ r, cols y U n r f := by
  have a1 : (⟨(s + f.val) / 256, by omega⟩ : Fin 8) = n := Fin.ext (by dsimp only; omega)
  have a2 : (⟨(s + f.val) % 256, Nat.mod_lt _ (by norm_num)⟩ : Fin 256) = f := Fin.ext (by dsimp only; omega)
  unfold sums; dsimp only
  rw [a1, a2]

/-- One group of the offsets' gradient as it lies in the row. -/
theorem sums_at (D : Mat 1 2048) (y : Mat 512 1024) (U : Cube 8 512 256) (n : Fin 8) (s : ℕ) (hs : s = 256 * n.val) (X : FVec Ideal S1x256 .f32)
    (hX : X = lift2 (φ := .f32) fun u f => D u ⟨s + f.val, by omega⟩ + ∑ r, cols y U n r f)
    (u : S1x256.Idx) (z : S1x2048.Idx) (h1 : (z 1).val = s + (u 1).val) :
    X u = (lift2 (φ := .f32) (fun _ n => D 0 n + sums y U n) : FVec Ideal S1x2048 .f32) z := by
  idx_vars u; idx_vars z
  obtain rfl : u0 = 0 := Subsingleton.elim _ _
  have hu : u1.val < 256 := u1.isLt
  have hz : z1 = (⟨s + u1.val, by omega⟩ : Fin 2048) := Fin.ext h1
  rw [hX, hz, lift2_apply, lift2_apply, sums_val y U n s hs]

/-- The offsets' gradient from its eight groups, whatever was stored before them. -/
theorem rows (D : Mat 1 2048) (y : Mat 512 1024) (U : Cube 8 512 256) (w0 w1 w2 w3 w4 w5 w6 w7 : FVec Ideal S1x256 .f32)
    (hw : ∀ (n : Fin 8) (s : ℕ) (hs : s = 256 * n.val), (![w0, w1, w2, w3, w4, w5, w6, w7] : Fin 8 → FVec Ideal S1x256 .f32) n = lift2 (φ := .f32) fun u f => D u ⟨s + f.val, by omega⟩ + ∑ r, cols y U n r f)
    (b0 : ∀ a, (![0, 0] : Fin 2 → ℕ) a + (![1, 256] : Fin 2 → ℕ) a ≤ S1x2048.size a) (b1 : ∀ a, (![0, 256] : Fin 2 → ℕ) a + (![1, 256] : Fin 2 → ℕ) a ≤ S1x2048.size a)
    (b2 : ∀ a, (![0, 512] : Fin 2 → ℕ) a + (![1, 256] : Fin 2 → ℕ) a ≤ S1x2048.size a) (b3 : ∀ a, (![0, 768] : Fin 2 → ℕ) a + (![1, 256] : Fin 2 → ℕ) a ≤ S1x2048.size a)
    (b4 : ∀ a, (![0, 1024] : Fin 2 → ℕ) a + (![1, 256] : Fin 2 → ℕ) a ≤ S1x2048.size a) (b5 : ∀ a, (![0, 1280] : Fin 2 → ℕ) a + (![1, 256] : Fin 2 → ℕ) a ≤ S1x2048.size a)
    (b6 : ∀ a, (![0, 1536] : Fin 2 → ℕ) a + (![1, 256] : Fin 2 → ℕ) a ≤ S1x2048.size a) (b7 : ∀ a, (![0, 1792] : Fin 2 → ℕ) a + (![1, 256] : Fin 2 → ℕ) a ≤ S1x2048.size a)
    (L' : List (View.Piece (Elt Ideal) S1x2048 .f32)) :
    View.canon ([⟨Rect.unit ![0, 1792] ![1, 256] b7, w7⟩, ⟨Rect.unit ![0, 768] ![1, 256] b3, w3⟩, ⟨Rect.unit ![0, 1536] ![1, 256] b6, w6⟩, ⟨Rect.unit ![0, 512] ![1, 256] b2, w2⟩,
      ⟨Rect.unit ![0, 1280] ![1, 256] b5, w5⟩, ⟨Rect.unit ![0, 256] ![1, 256] b1, w1⟩, ⟨Rect.unit ![0, 1024] ![1, 256] b4, w4⟩, ⟨Rect.unit ![0, 0] ![1, 256] b0, w0⟩] ++ L')
      = (lift2 (φ := .f32) (fun _ n => D 0 n + sums y U n) : FVec Ideal S1x2048 .f32) := by
  funext z
  refine View.canon_append_of_piecesOf (lift2 (φ := .f32) (fun _ n => D 0 n + sums y U n) : FVec Ideal S1x2048 .f32) L' _ ?_ z (View.cover_of_tiledL (s := S1x2048) _ S1x256.size (by sl_kernel_rfl) z)
  have key : ∀ (n : Fin 8) (s : ℕ) (hs : s = 256 * n.val) (b : ∀ a, (![0, s] : Fin 2 → ℕ) a + (![1, 256] : Fin 2 → ℕ) a ≤ S1x2048.size a) (u : S1x256.Idx),
      (![w0, w1, w2, w3, w4, w5, w6, w7] : Fin 8 → FVec Ideal S1x256 .f32) n u = (lift2 (φ := .f32) (fun _ n => D 0 n + sums y U n) : FVec Ideal S1x2048 .f32) ((Rect.unit (s := S1x2048) ![0, s] ![1, 256] b).emb u) := by
    intro n s hs b u
    refine sums_at D y U n s hs _ (hw n s hs) u _ ?_
    show s + 1 * (u 1).val = s + (u 1).val; omega
  exact ⟨key 7 1792 rfl b7, key 3 768 rfl b3, key 6 1536 rfl b6, key 2 512 rfl b2, key 5 1280 rfl b5, key 1 256 rfl b1, key 4 1024 rfl b4, key 0 0 rfl b0, trivial⟩

/-! ## The loaded groups -/

section
variable (y : Mat 512 1024) (U : Cube 8 512 256)

/-- What is led back from all groups. -/
theorem led_all (W : Cube 8 1024 256) : k0_pay30 (k0_pay30 (k0_pay30 (k0_pay30 (lift2 (φ := .f32) fun _ _ => (0 : ℝ)) (lift2 (φ := .f32) (cols y U 0)) (lift2 (φ := .f32) (cols y U 4)) (lift3 (a := 1) (φ := .bf16) fun _ => W 0) (lift3 (a := 1) (φ := .bf16) fun _ => W 4))
      (lift2 (φ := .f32) (cols y U 1)) (lift2 (φ := .f32) (cols y U 5)) (lift3 (a := 1) (φ := .bf16) fun _ => W 1) (lift3 (a := 1) (φ := .bf16) fun _ => W 5))
      (lift2 (φ := .f32) (cols y U 2)) (lift2 (φ := .f32) (cols y U 6)) (lift3 (a := 1) (φ := .bf16) fun _ => W 2) (lift3 (a := 1) (φ := .bf16) fun _ => W 6))
      (lift2 (φ := .f32) (cols y U 3)) (lift2 (φ := .f32) (cols y U 7)) (lift3 (a := 1) (φ := .bf16) fun _ => W 3) (lift3 (a := 1) (φ := .bf16) fun _ => W 7)
    = (lift2 (φ := .f32) (dnorm y U W) : FVec Ideal S512x1024 .f32) := by
  simp only [pay30_lift]
  rw [← dnorm_eq]

end

end Cert.ConvPreKernel

end
-- ==== Proof.ConvPreFirst.lean ====
module

public import proofs.«01_k».proof.Proof.ConvPreBlock

@[expose] public section

set_option maxRecDepth 16384

noncomputable section

/-! # What the first point of the gated product's gradient kernel leaves, on real blocks

It starts the gradients of the gains and of the columns' offsets from zero. -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

variable {c : Dev nD} {i : grid0.Coords} {a1 : Memref sig .tc .vmem S512x1024 .f32} {h1 : a1.IsWhole} {a2 : Memref sig .tc .vmem S8x512x256 .bf16} {h2 : a2.IsWhole} {a3 : Memref sig .tc .vmem S512x1024 .f32} {h3 : a3.IsWhole} {a4 : Memref sig .tc .vmem S1x1024 .f32} {h4 : a4.IsWhole} {a5 : Memref sig .tc .vmem S8x1024x256 .bf16} {h5 : a5.IsWhole} {a6 : Memref sig .tc .vmem S512x1024 .f32} {h6 : a6.IsWhole}
  {a7 : Memref sig .tc .vmem S8x512x256 .bf16} {h7 : a7.IsWhole} {a8 : Memref sig .tc .vmem S1024x512 .bf16} {h8 : a8.IsWhole} {a9 : Memref sig .tc .vmem S512x1024 .f32} {h9 : a9.IsWhole} {a10 : Memref sig .tc .vmem S512x1024 .bf16} {h10 : a10.IsWhole} {a11 : Memref sig .tc .vmem S1x1024 .f32} {h11 : a11.IsWhole} {a12 : Memref sig .tc .vmem S1x2048 .f32} {h12 : a12.IsWhole}
  (y x : Mat 512 1024) (U : Cube 8 512 256) (g dg : Mat 1 1024) (W : Cube 8 1024 256) (D : Mat 1 2048)
  (x0 : Vec Ideal S512x1024 .f32) (x1 : Vec Ideal S8x512x256 .bf16) (x2 : Vec Ideal S512x1024 .f32) (x3 : Vec Ideal S1x1024 .f32) (x4 : Vec Ideal S8x1024x256 .bf16) (x5 : Vec Ideal S512x1024 .f32) (xo10 : Vec Ideal S1x1024 .f32) (xo11 : Vec Ideal S1x2048 .f32)
  (hy : x0 = lift2 (φ := .f32) y) (hU : x1 = lift3 (φ := .bf16) U) (hx : x2 = lift2 (φ := .f32) x) (hg : x3 = lift2 (φ := .f32) g) (hW : x4 = lift3 (φ := .bf16) W) (hdg : xo10 = lift2 (φ := .f32) dg) (hD : xo11 = lift2 (φ := .f32) D)

set_option maxHeartbeats 4000000 in
include hy hU hx hg hW in
theorem outA6 {hc0 : cond0_0 i} : out0_A_6 c i a1 h1 a2 h2 a3 h3 a4 h4 a5 h5 a6 h6 a7 h7 a8 h8 a9 h9 a10 h10 a11 h11 a12 h12 hc0 x0 x1 x2 x3 x4 x5 = lift3 (φ := .bf16) (cols y U) := by
  unfold out0_A_6
  rw [View.read_writes_eq_canon _ _ _ (cover0_A_6 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  funext z; idx_vars z
  canon_tiles u h
  · exact group y U 7 _ (by simp only [ld_lift, ld_tok, ld_off, out0, out2, out3, out4, out5, out6, out7, pay22_lift, pay23_lift, pay28_lift]; rfl) u z0 z1 z2 h0 h1 h2
  · exact group y U 3 _ (by simp only [ld_lift, ld_tok, ld_off, out0, out2, out3, out4, out5, out6, out7, pay22_lift, pay23_lift, pay28_lift]; rfl) u z0 z1 z2 h0 h1 h2
  · exact group y U 6 _ (by simp only [ld_lift, ld_tok, ld_off, out0, out2, out3, out4, out5, out6, out7, pay22_lift, pay23_lift, pay28_lift]; rfl) u z0 z1 z2 h0 h1 h2
  · exact group y U 2 _ (by simp only [ld_lift, ld_tok, ld_off, out0, out2, out3, out4, out5, out6, out7, pay22_lift, pay23_lift, pay28_lift]; rfl) u z0 z1 z2 h0 h1 h2
  · exact group y U 5 _ (by simp only [ld_lift, ld_tok, ld_off, out0, out2, out3, out4, out5, out6, out7, pay22_lift, pay23_lift, pay28_lift]; rfl) u z0 z1 z2 h0 h1 h2
  · exact group y U 1 _ (by simp only [ld_lift, ld_tok, ld_off, out0, out2, out3, out4, out5, out6, out7, pay22_lift, pay23_lift, pay28_lift]; rfl) u z0 z1 z2 h0 h1 h2
  · exact group y U 4 _ (by simp only [ld_lift, ld_tok, ld_off, out0, out2, out3, out4, out5, out6, out7, pay22_lift, pay23_lift, pay28_lift]; rfl) u z0 z1 z2 h0 h1 h2
  · exact group y U 0 _ (by simp only [ld_lift, ld_tok, ld_off, out0, out2, out3, out4, out5, out6, out7, pay22_lift, pay23_lift, pay28_lift]; rfl) u z0 z1 z2 (h0.trans (Nat.zero_add _).symm) h1 h2

set_option maxHeartbeats 4000000 in
include hy hU hx hg hW in
theorem outA7 {hc0 : cond0_0 i} : out0_A_7 c i a1 h1 a2 h2 a3 h3 a4 h4 a5 h5 a6 h6 a7 h7 a8 h8 a9 h9 a10 h10 a11 h11 a12 h12 hc0 x0 x1 x2 x3 x4 x5 = lift2 (φ := .bf16) fun k r => Rms.norm (x r) (g 0) k := by
  unfold out0_A_7
  rw [View.read_writes_eq_canon _ _ _ (cover0_A_7 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  rw [View.canon_unit_zero (S := S1024x512) hz2]
  exact pay7_lift x g

set_option maxHeartbeats 4000000 in
include hy hU hx hg hW in
theorem outA8 {hc0 : cond0_0 i} : out0_A_8 c i a1 h1 a2 h2 a3 h3 a4 h4 a5 h5 a6 h6 a7 h7 a8 h8 a9 h9 a10 h10 a11 h11 a12 h12 hc0 x0 x1 x2 x3 x4 x5 = (addf (x5 : FVec Ideal S512x1024 .f32) (lift2 (φ := .f32) fun r => Rms.pull (x r) (g 0) (dnorm y U W r))) := by
  unfold out0_A_8
  rw [View.read_writes_eq_canon _ _ _ (cover0_A_8 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  rw [View.canon_unit_zero (S := S512x1024) hz2, pay4_lift, pay5_lift, pay6_lift]
  exact pay55_lift x g _ (dnorm y U W) _ _ _ _ _ _ (by simp only [led0, led2, ld_lift, ld_tok, ld_off, pay22_lift, pay23_lift, pay8_lift]; exact led_all y U W)

set_option maxHeartbeats 4000000 in
include hy hU hx hg hW in
theorem outA9 {hc0 : cond0_0 i} : out0_A_9 c i a1 h1 a2 h2 a3 h3 a4 h4 a5 h5 a6 h6 a7 h7 a8 h8 a9 h9 a10 h10 a11 h11 a12 h12 hc0 x0 x1 x2 x3 x4 x5 = truncf .bf16 (addf (x5 : FVec Ideal S512x1024 .f32) (lift2 (φ := .f32) fun r => Rms.pull (x r) (g 0) (dnorm y U W r))) bitsLt_bf16_f32 := by
  unfold out0_A_9
  rw [View.read_writes_eq_canon _ _ _ (cover0_A_9 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  rw [View.canon_unit_zero (S := S512x1024) hz2, pay4_lift, pay5_lift, pay6_lift]
  exact congrArg (fun v : FVec Ideal S512x1024 .f32 => truncf .bf16 v bitsLt_bf16_f32) (pay55_lift x g _ (dnorm y U W) _ _ _ _ _ _ (by simp only [led0, led2, ld_lift, ld_tok, ld_off, pay22_lift, pay23_lift, pay8_lift]; exact led_all y U W))

set_option maxHeartbeats 4000000 in
include hy hU hx hg hW in
theorem outA10 {hc0 : cond0_0 i} : out0_A_10 c i a1 h1 a2 h2 a3 h3 a4 h4 a5 h5 a6 h6 a7 h7 a8 h8 a9 h9 a10 h10 a11 h11 a12 h12 hc0 x0 x1 x2 x3 x4 x5 = lift2 (φ := .f32) fun u k => 0 + ∑ r, Rms.unit (x r) k * dnorm y U W r k := by
  unfold out0_A_10
  rw [View.read_writes_eq_canon _ _ _ (cover0_A_10 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  rw [View.canon_cons_unit_zero (S := S1x1024) hz2, View.readCov_unit_zero (S := S1x1024) _ hz2, pay6_lift, pay2_lift]
  exact pay54_lift x (fun _ _ => 0) (dnorm y U W) _ _ _ _ _ _ (by simp only [led0, led2, ld_lift, ld_tok, ld_off, pay22_lift, pay23_lift, pay8_lift]; exact led_all y U W)

set_option maxHeartbeats 4000000 in
include hy hU hx hg hW in
theorem outA11 {hc0 : cond0_0 i} : out0_A_11 c i a1 h1 a2 h2 a3 h3 a4 h4 a5 h5 a6 h6 a7 h7 a8 h8 a9 h9 a10 h10 a11 h11 a12 h12 hc0 x0 x1 x2 x3 x4 x5 = lift2 (φ := .f32) fun _ n => 0 + sums y U n := by
  unfold out0_A_11
  rw [View.read_writes_eq_canon _ _ _ (cover0_A_11 c i a1 h1 a2 h2 a3 h3 a4 h4 a5 h5 a6 h6 a7 h7 a8 h8 a9 h9 a10 h10 a11 h11 a12 h12 hc0 x0 x1 x2 x3 x4 x5)]
  unfold kernelRun0_A
  dsimp only
  sl_unfold_words
  simp (decide := true) only [↓View.readCov_skip, ↓View.readCov_fill, View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW
  refine rows (fun _ _ => 0) y U _ _ _ _ _ _ _ _ (fun n s hs => ?_) _ _ _ _ _ _ _ _ [_]
  subst hs
  fin_cases n
  all_goals (simp only [ld_lift, ld_tok, ld_off, sum0, sum1, sum2, sum3, sum4, sum5, sum6, sum7, pay22_lift, pay23_lift, pay3_lift, pay35_lift]; rfl)

end Cert.ConvPreKernel

end
-- ==== Proof.ConvPreLater.lean ====
module

public import proofs.«01_k».proof.Proof.ConvPreBlock

@[expose] public section

set_option maxRecDepth 16384

noncomputable section

/-! # What a later point of the gated product's gradient kernel leaves, on real blocks

It adds to the gradients of the gains and of the columns' offsets. -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

variable {c : Dev nD} {i : grid0.Coords} {a1 : Memref sig .tc .vmem S512x1024 .f32} {h1 : a1.IsWhole} {a2 : Memref sig .tc .vmem S8x512x256 .bf16} {h2 : a2.IsWhole} {a3 : Memref sig .tc .vmem S512x1024 .f32} {h3 : a3.IsWhole} {a4 : Memref sig .tc .vmem S1x1024 .f32} {h4 : a4.IsWhole} {a5 : Memref sig .tc .vmem S8x1024x256 .bf16} {h5 : a5.IsWhole} {a6 : Memref sig .tc .vmem S512x1024 .f32} {h6 : a6.IsWhole}
  {a7 : Memref sig .tc .vmem S8x512x256 .bf16} {h7 : a7.IsWhole} {a8 : Memref sig .tc .vmem S1024x512 .bf16} {h8 : a8.IsWhole} {a9 : Memref sig .tc .vmem S512x1024 .f32} {h9 : a9.IsWhole} {a10 : Memref sig .tc .vmem S512x1024 .bf16} {h10 : a10.IsWhole} {a11 : Memref sig .tc .vmem S1x1024 .f32} {h11 : a11.IsWhole} {a12 : Memref sig .tc .vmem S1x2048 .f32} {h12 : a12.IsWhole}
  (y x : Mat 512 1024) (U : Cube 8 512 256) (g dg : Mat 1 1024) (W : Cube 8 1024 256) (D : Mat 1 2048)
  (x0 : Vec Ideal S512x1024 .f32) (x1 : Vec Ideal S8x512x256 .bf16) (x2 : Vec Ideal S512x1024 .f32) (x3 : Vec Ideal S1x1024 .f32) (x4 : Vec Ideal S8x1024x256 .bf16) (x5 : Vec Ideal S512x1024 .f32) (xo10 : Vec Ideal S1x1024 .f32) (xo11 : Vec Ideal S1x2048 .f32)
  (hy : x0 = lift2 (φ := .f32) y) (hU : x1 = lift3 (φ := .bf16) U) (hx : x2 = lift2 (φ := .f32) x) (hg : x3 = lift2 (φ := .f32) g) (hW : x4 = lift3 (φ := .bf16) W) (hdg : xo10 = lift2 (φ := .f32) dg) (hD : xo11 = lift2 (φ := .f32) D)

set_option maxHeartbeats 4000000 in
include hy hU hx hg hW hdg hD in
theorem outB6 {hc0 : ¬cond0_0 i} : out0_B_6 c i a1 h1 a2 h2 a3 h3 a4 h4 a5 h5 a6 h6 a7 h7 a8 h8 a9 h9 a10 h10 a11 h11 a12 h12 hc0 x0 x1 x2 x3 x4 x5 xo10 xo11 = lift3 (φ := .bf16) (cols y U) := by
  unfold out0_B_6
  rw [View.read_writes_eq_canon _ _ _ (cover0_B_6 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  funext z; idx_vars z
  canon_tiles u h
  · exact group y U 7 _ (by simp only [ld_lift, ld_tok, ld_off, out0, out2, out3, out4, out5, out6, out7, pay22_lift, pay23_lift, pay28_lift]; rfl) u z0 z1 z2 h0 h1 h2
  · exact group y U 3 _ (by simp only [ld_lift, ld_tok, ld_off, out0, out2, out3, out4, out5, out6, out7, pay22_lift, pay23_lift, pay28_lift]; rfl) u z0 z1 z2 h0 h1 h2
  · exact group y U 6 _ (by simp only [ld_lift, ld_tok, ld_off, out0, out2, out3, out4, out5, out6, out7, pay22_lift, pay23_lift, pay28_lift]; rfl) u z0 z1 z2 h0 h1 h2
  · exact group y U 2 _ (by simp only [ld_lift, ld_tok, ld_off, out0, out2, out3, out4, out5, out6, out7, pay22_lift, pay23_lift, pay28_lift]; rfl) u z0 z1 z2 h0 h1 h2
  · exact group y U 5 _ (by simp only [ld_lift, ld_tok, ld_off, out0, out2, out3, out4, out5, out6, out7, pay22_lift, pay23_lift, pay28_lift]; rfl) u z0 z1 z2 h0 h1 h2
  · exact group y U 1 _ (by simp only [ld_lift, ld_tok, ld_off, out0, out2, out3, out4, out5, out6, out7, pay22_lift, pay23_lift, pay28_lift]; rfl) u z0 z1 z2 h0 h1 h2
  · exact group y U 4 _ (by simp only [ld_lift, ld_tok, ld_off, out0, out2, out3, out4, out5, out6, out7, pay22_lift, pay23_lift, pay28_lift]; rfl) u z0 z1 z2 h0 h1 h2
  · exact group y U 0 _ (by simp only [ld_lift, ld_tok, ld_off, out0, out2, out3, out4, out5, out6, out7, pay22_lift, pay23_lift, pay28_lift]; rfl) u z0 z1 z2 (h0.trans (Nat.zero_add _).symm) h1 h2

set_option maxHeartbeats 4000000 in
include hy hU hx hg hW hdg hD in
theorem outB7 {hc0 : ¬cond0_0 i} : out0_B_7 c i a1 h1 a2 h2 a3 h3 a4 h4 a5 h5 a6 h6 a7 h7 a8 h8 a9 h9 a10 h10 a11 h11 a12 h12 hc0 x0 x1 x2 x3 x4 x5 xo10 xo11 = lift2 (φ := .bf16) fun k r => Rms.norm (x r) (g 0) k := by
  unfold out0_B_7
  rw [View.read_writes_eq_canon _ _ _ (cover0_B_7 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  rw [View.canon_unit_zero (S := S1024x512) hz2]
  exact pay7_lift x g

set_option maxHeartbeats 4000000 in
include hy hU hx hg hW hdg hD in
theorem outB8 {hc0 : ¬cond0_0 i} : out0_B_8 c i a1 h1 a2 h2 a3 h3 a4 h4 a5 h5 a6 h6 a7 h7 a8 h8 a9 h9 a10 h10 a11 h11 a12 h12 hc0 x0 x1 x2 x3 x4 x5 xo10 xo11 = (addf (x5 : FVec Ideal S512x1024 .f32) (lift2 (φ := .f32) fun r => Rms.pull (x r) (g 0) (dnorm y U W r))) := by
  unfold out0_B_8
  rw [View.read_writes_eq_canon _ _ _ (cover0_B_8 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  rw [View.canon_unit_zero (S := S512x1024) hz2, pay4_lift, pay5_lift, pay6_lift]
  exact pay55_lift x g _ (dnorm y U W) _ _ _ _ _ _ (by simp only [led0, led2, ld_lift, ld_tok, ld_off, pay22_lift, pay23_lift, pay8_lift]; exact led_all y U W)

set_option maxHeartbeats 4000000 in
include hy hU hx hg hW hdg hD in
theorem outB9 {hc0 : ¬cond0_0 i} : out0_B_9 c i a1 h1 a2 h2 a3 h3 a4 h4 a5 h5 a6 h6 a7 h7 a8 h8 a9 h9 a10 h10 a11 h11 a12 h12 hc0 x0 x1 x2 x3 x4 x5 xo10 xo11 = truncf .bf16 (addf (x5 : FVec Ideal S512x1024 .f32) (lift2 (φ := .f32) fun r => Rms.pull (x r) (g 0) (dnorm y U W r))) bitsLt_bf16_f32 := by
  unfold out0_B_9
  rw [View.read_writes_eq_canon _ _ _ (cover0_B_9 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  rw [View.canon_unit_zero (S := S512x1024) hz2, pay4_lift, pay5_lift, pay6_lift]
  exact congrArg (fun v : FVec Ideal S512x1024 .f32 => truncf .bf16 v bitsLt_bf16_f32) (pay55_lift x g _ (dnorm y U W) _ _ _ _ _ _ (by simp only [led0, led2, ld_lift, ld_tok, ld_off, pay22_lift, pay23_lift, pay8_lift]; exact led_all y U W))

set_option maxHeartbeats 4000000 in
include hy hU hx hg hW hdg hD in
theorem outB10 {hc0 : ¬cond0_0 i} : out0_B_10 c i a1 h1 a2 h2 a3 h3 a4 h4 a5 h5 a6 h6 a7 h7 a8 h8 a9 h9 a10 h10 a11 h11 a12 h12 hc0 x0 x1 x2 x3 x4 x5 xo10 xo11 = lift2 (φ := .f32) fun u k => dg u k + ∑ r, Rms.unit (x r) k * dnorm y U W r k := by
  unfold out0_B_10
  rw [View.read_writes_eq_canon _ _ _ (cover0_B_10 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  rw [View.canon_unit_zero (S := S1x1024) hz2, pay6_lift]
  exact pay54_lift x dg (dnorm y U W) _ _ _ _ _ _ (by simp only [led0, led2, ld_lift, ld_tok, ld_off, pay22_lift, pay23_lift, pay8_lift]; exact led_all y U W)

set_option maxHeartbeats 4000000 in
include hy hU hx hg hW hdg hD in
theorem outB11 {hc0 : ¬cond0_0 i} : out0_B_11 c i a1 h1 a2 h2 a3 h3 a4 h4 a5 h5 a6 h6 a7 h7 a8 h8 a9 h9 a10 h10 a11 h11 a12 h12 hc0 x0 x1 x2 x3 x4 x5 xo10 xo11 = lift2 (φ := .f32) fun _ n => D 0 n + sums y U n := by
  unfold out0_B_11
  rw [View.read_writes_eq_canon _ _ _ (cover0_B_11 c i a1 h1 a2 h2 a3 h3 a4 h4 a5 h5 a6 h6 a7 h7 a8 h8 a9 h9 a10 h10 a11 h11 a12 h12 hc0 x0 x1 x2 x3 x4 x5 xo10 xo11)]
  unfold kernelRun0_B
  dsimp only
  sl_unfold_words
  simp only [View.readAt_eq_ld, h1.read_unread, h2.read_unread, h3.read_unread, h4.read_unread, h5.read_unread, h6.read_unread, h11.read_unread, h12.read_unread, View.ld_unit_zero (S := S512x1024) hz2, View.ld_unit_zero (S := S1x1024) hz2]
  subst hy hU hx hg hW hdg hD
  refine rows D y U _ _ _ _ _ _ _ _ (fun n s hs => ?_) _ _ _ _ _ _ _ _ []
  subst hs
  fin_cases n
  all_goals (simp only [ld_lift, ld_tok, ld_off, sum0, sum1, sum2, sum3, sum4, sum5, sum6, sum7, pay22_lift, pay23_lift, pay3_lift, pay35_lift]; rfl)

end Cert.ConvPreKernel

end
-- ==== Proof.ConvPreHost.lean ====
module

public import proofs.«01_k».proof.Proof.ConvPreRef
public import proofs.«01_k».proof.Proof.ConvPreFirst
public import proofs.«01_k».proof.Proof.ConvPreLater
public import Idealize.ShloMosaic.Lib.Claim

@[expose] public section

set_option maxRecDepth 16384

noncomputable section

/-! # What the gated product's gradient kernel is handed, on real arrays

The host prepares the columns of the normalised tokens, which the forward pass keeps, and lays them and the weights out in
groups of 256 columns. -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

abbrev A := FVec Ideal S8192x1024 .f32

variable (m : (ℓ : Loc nD τ sig) → Buf (Elt Ideal) ℓ) (c : Dev nD)

abbrev xOf : A := m ((c : Thread nD τ).loc main_arg0)
abbrev gOf : FVec Ideal S1024 .f32 := m ((c : Thread nD τ).loc main_arg1)
abbrev wOf : FVec Ideal S1024x2048 .f32 := m ((c : Thread nD τ).loc main_arg2)
abbrev bOf : FVec Ideal S2048 .f32 := m ((c : Thread nD τ).loc main_arg3)
abbrev yOf : A := m ((c : Thread nD τ).loc main_arg4)
abbrev dOf : A := m ((c : Thread nD τ).loc main_arg5)

theorem saved_eq : (V m c main_v19 : FVec Ideal S8x8192x256 .bf16) = truncf .bf16 (transpose S8x8192x256 [1, 0, 2]
    (shapeCast S8192x8x256 (ConvPreRef.projT (xOf m c) (gOf m c) (wOf m c) (bOf m c)) shapeCasts_S8192x2048_S8192x8x256) transposes_S8192x8x256_S8x8192x256_1_0_2) bitsLt_bf16_f32 := by
  unfold V
  after_results
  rfl

theorem gains_eq : (V m c main_v20 : FVec Ideal S1x1024 .f32) = broadcastInDim S1x1024 ![1] bcast_S1024_S1x1024_1 (gOf m c) := by
  unfold V
  after_results

theorem weights_eq : (V m c main_v23 : FVec Ideal S8x1024x256 .bf16) = truncf .bf16 (transpose S8x1024x256 [1, 0, 2]
    (shapeCast S1024x8x256 (wOf m c) shapeCasts_S1024x2048_S1024x8x256) transposes_S1024x8x256_S8x1024x256_1_0_2) bitsLt_bf16_f32 := by
  unfold V
  after_results
  rfl

variable (x y : Mat 8192 1024) (g : Fin 1024 → ℝ) (w : Mat 1024 2048) (b : Fin 2048 → ℝ)

theorem saved_lift (hx : xOf m c = lift2 x) (hg : gOf m c = lift1 g) (hw : wOf m c = lift2 w) (hb : bOf m c = lift1 b) :
    (V m c main_v19 : FVec Ideal S8x8192x256 .bf16) = lift3 (φ := .bf16) fun j t f => Glu.proj (x t) g w b ⟨j.val * 256 + f.val, by omega⟩ := by
  rw [saved_eq, hx, hg, hw, hb, ConvPreRef.projT_lift]
  funext i; idx_vars i
  pointwise []
  rfl

theorem gains_lift (hg : gOf m c = lift1 g) : (V m c main_v20 : FVec Ideal S1x1024 .f32) = lift2 (φ := .f32) fun _ => g := by
  rw [gains_eq, hg]
  funext i; idx_vars i
  pointwise []
  rfl

theorem weights_lift (hw : wOf m c = lift2 w) : (V m c main_v23 : FVec Ideal S8x1024x256 .bf16) = lift3 (φ := .bf16) fun j k f => w k ⟨j.val * 256 + f.val, by omega⟩ := by
  rw [weights_eq, hw]
  funext i; idx_vars i
  pointwise []
  rfl

/-! ## The blocks of a point -/

/-- Token `r` of the block at point `t`. -/
def row (t : Fin cfg0.N) (r : Fin 512) : Fin 8192 := ⟨t.val * 512 + r.val, by have := t.isLt; have : cfg0.N = 16 := N_0; omega⟩

theorem idx_a : ∀ t : Fin cfg0.N, win0_0.index t (0 : Fin 2) = t.val ∧ win0_0.index t (1 : Fin 2) = 0
    ∧ win0_2.index t (0 : Fin 2) = t.val ∧ win0_2.index t (1 : Fin 2) = 0
    ∧ win0_5.index t (0 : Fin 2) = t.val ∧ win0_5.index t (1 : Fin 2) = 0 := (by decide +kernel : ∀ t : Fin grid0.N, _)
theorem idx_b : ∀ t : Fin cfg0.N, win0_1.index t (0 : Fin 3) = 0 ∧ win0_1.index t (1 : Fin 3) = t.val ∧ win0_1.index t (2 : Fin 3) = 0 := (by decide +kernel : ∀ t : Fin grid0.N, _)
theorem idx_c : ∀ t : Fin cfg0.N, win0_3.index t (0 : Fin 2) = 0 ∧ win0_3.index t (1 : Fin 2) = 0 ∧ (∀ a : Fin 3, win0_4.index t a = 0) := (by decide +kernel : ∀ t : Fin grid0.N, _)

theorem blk0 (hy : yOf m c = lift2 y) (t : Fin cfg0.N) : (iblk m c 0 t : Vec Ideal S512x1024 .f32) = lift2 (φ := .f32) fun r => y (row t r) := by
  obtain ⟨e0, e1, -⟩ := idx_a t
  funext i; idx_vars i
  unfold iblk; rw [View.read_apply]
  show yOf m c _ = _
  rw [hy]
  refine congrArg (lift2 (φ := .f32) y) (?_ : _ = ix2 (row t i0) i1)
  funext a; apply Fin.ext
  match a with
  | ⟨0, _⟩ => show win0_0.index t (0 : Fin 2) * 512 + 1 * i0.val = t.val * 512 + i0.val; omega
  | ⟨1, _⟩ => show win0_0.index t (1 : Fin 2) * 1024 + 1 * i1.val = i1.val; omega

theorem blk2 (hx : xOf m c = lift2 x) (t : Fin cfg0.N) : (iblk m c 2 t : Vec Ideal S512x1024 .f32) = lift2 (φ := .f32) fun r => x (row t r) := by
  obtain ⟨-, -, e0, e1, -⟩ := idx_a t
  funext i; idx_vars i
  unfold iblk; rw [View.read_apply]
  show xOf m c _ = _
  rw [hx]
  refine congrArg (lift2 (φ := .f32) x) (?_ : _ = ix2 (row t i0) i1)
  funext a; apply Fin.ext
  match a with
  | ⟨0, _⟩ => show win0_2.index t (0 : Fin 2) * 512 + 1 * i0.val = t.val * 512 + i0.val; omega
  | ⟨1, _⟩ => show win0_2.index t (1 : Fin 2) * 1024 + 1 * i1.val = i1.val; omega

theorem blk5 (t : Fin cfg0.N) : (iblk m c 5 t : Vec Ideal S512x1024 .f32) = fun i => dOf m c (ix2 (row t (i 0)) (i 1)) := by
  obtain ⟨-, -, -, -, e0, e1⟩ := idx_a t
  funext i; idx_vars i
  unfold iblk; rw [View.read_apply]
  show dOf m c _ = _
  refine congrArg (dOf m c) (?_ : _ = ix2 (row t i0) i1)
  funext a; apply Fin.ext
  match a with
  | ⟨0, _⟩ => show win0_5.index t (0 : Fin 2) * 512 + 1 * i0.val = t.val * 512 + i0.val; omega
  | ⟨1, _⟩ => show win0_5.index t (1 : Fin 2) * 1024 + 1 * i1.val = i1.val; omega

theorem blk1 (s : Cube 8 8192 256) (hs : (V m c main_v19 : FVec Ideal S8x8192x256 .bf16) = lift3 (φ := .bf16) s) (t : Fin cfg0.N) :
    (iblk m c 1 t : Vec Ideal S8x512x256 .bf16) = lift3 (φ := .bf16) fun j r => s j (row t r) := by
  obtain ⟨e0, e1, e2⟩ := idx_b t
  funext i; idx_vars i
  unfold iblk; rw [View.read_apply]
  show V m c main_v19 _ = _
  rw [hs]
  refine congrArg (lift3 (φ := .bf16) s) (?_ : _ = ix3 i0 (row t i1) i2)
  funext a; apply Fin.ext
  match a with
  | ⟨0, _⟩ => show win0_1.index t (0 : Fin 3) * 8 + 1 * i0.val = i0.val; omega
  | ⟨1, _⟩ => show win0_1.index t (1 : Fin 3) * 512 + 1 * i1.val = t.val * 512 + i1.val; omega
  | ⟨2, _⟩ => show win0_1.index t (2 : Fin 3) * 256 + 1 * i2.val = i2.val; omega

theorem blk3 (s : Mat 1 1024) (hs : (V m c main_v20 : FVec Ideal S1x1024 .f32) = lift2 (φ := .f32) s) (t : Fin cfg0.N) :
    (iblk m c 3 t : Vec Ideal S1x1024 .f32) = lift2 (φ := .f32) s := by
  obtain ⟨e0, e1, -⟩ := idx_c t
  funext i; idx_vars i
  unfold iblk; rw [View.read_apply]
  show V m c main_v20 _ = _
  rw [hs]
  refine congrArg (lift2 (φ := .f32) s) (?_ : _ = ix2 i0 i1)
  funext a; apply Fin.ext
  match a with
  | ⟨0, _⟩ => show win0_3.index t (0 : Fin 2) * 1 + 1 * i0.val = i0.val; omega
  | ⟨1, _⟩ => show win0_3.index t (1 : Fin 2) * 1024 + 1 * i1.val = i1.val; omega

theorem blk4 (s : Cube 8 1024 256) (hs : (V m c main_v23 : FVec Ideal S8x1024x256 .bf16) = lift3 (φ := .bf16) s) (t : Fin cfg0.N) :
    (iblk m c 4 t : Vec Ideal S8x1024x256 .bf16) = lift3 (φ := .bf16) s := by
  have e := (idx_c t).2.2
  funext i; idx_vars i
  unfold iblk; rw [View.read_apply]
  show V m c main_v23 _ = _
  rw [hs]
  refine congrArg (lift3 (φ := .bf16) s) (?_ : _ = ix3 i0 i1 i2)
  have e0 := e 0; have e1 := e 1; have e2 := e 2
  funext a; apply Fin.ext
  match a with
  | ⟨0, _⟩ => show win0_4.index t (0 : Fin 3) * 8 + 1 * i0.val = i0.val; omega
  | ⟨1, _⟩ => show win0_4.index t (1 : Fin 3) * 1024 + 1 * i1.val = i1.val; omega
  | ⟨2, _⟩ => show win0_4.index t (2 : Fin 3) * 256 + 1 * i2.val = i2.val; omega

/-! ## The block's numbers are the tokens' -/

section
variable (t : Fin cfg0.N)
/-- The point's blocks. -/
abbrev yB : Mat 512 1024 := fun r => y (row t r)
abbrev uB : Cube 8 512 256 := fun j r f => Glu.proj (x (row t r)) g w b ⟨j.val * 256 + f.val, by omega⟩
abbrev wB : Cube 8 1024 256 := fun j k f => w k ⟨j.val * 256 + f.val, by omega⟩

theorem cols_token (n : Fin 8) (r : Fin 512) (f : Fin 256) :
    cols (yB y t) (uB x g w b t) n r f = Glu.dproj (x (row t r)) g w b (y (row t r)) ⟨n.val * 256 + f.val, by omega⟩ := by
  have hn := n.isLt; have hf := f.isLt
  unfold cols Glu.dproj dval dgate grp
  by_cases h : n.val < 4
  · rw [dif_pos h, dif_pos (by dsimp only; omega)]
    dsimp only [yB, uB]
    have e : (⟨(n.val + 4) * 256 + f.val, by omega⟩ : Fin 2048) = ⟨n.val * 256 + f.val + 1024, by omega⟩ := Fin.ext (by dsimp only; omega)
    have e' : (⟨256 * n.val + f.val, by omega⟩ : Fin 1024) = ⟨n.val * 256 + f.val, by omega⟩ := Fin.ext (by dsimp only; omega)
    rw [e, e']
  · rw [dif_neg h, dif_neg (by dsimp only; omega)]
    dsimp only [yB, uB]
    have e : (⟨(n.val - 4) * 256 + f.val, by omega⟩ : Fin 2048) = ⟨n.val * 256 + f.val - 1024, by omega⟩ := Fin.ext (by dsimp only; omega)
    have e' : (⟨256 * (n.val - 4) + f.val, by omega⟩ : Fin 1024) = ⟨n.val * 256 + f.val - 1024, by omega⟩ := Fin.ext (by dsimp only; omega)
    rw [e, e']

theorem dnorm_token (r : Fin 512) :
    dnorm (yB y t) (uB x g w b t) (wB w) r = Glu.dnorm (x (row t r)) g w b (y (row t r)) := by
  funext k
  unfold dnorm Glu.dnorm
  rw [Fin.sum_univ_tiles 8 256 rfl]
  refine Finset.sum_congr rfl fun n _ => Finset.sum_congr rfl fun f _ => ?_
  rw [cols_token]

theorem sums_token (n : Fin 2048) : sums (yB y t) (uB x g w b t) n = ∑ r, Glu.dproj (x (row t r)) g w b (y (row t r)) n := by
  unfold sums
  refine Finset.sum_congr rfl fun r _ => ?_
  rw [cols_token]
  congr 1; apply Fin.ext; dsimp only; omega
end

end Cert.ConvPreKernel

end
-- ==== Proof.ConvPreKernel.lean ====
module

public import proofs.«01_k».proof.Proof.ConvPreHost

@[expose] public section

set_option maxRecDepth 16384

noncomputable section

/-! # The six arrays the gated product's gradient kernel leaves, on real arrays -/

namespace Cert.ConvPreKernel

open Cert.KernelIdeal Cert.KernelIdeal.Gen Cert.KernelIdeal.Value Idealize.ShloMosaic Idealize.ShloMosaic.TcCoe
  Idealize.SL.Sem Cert.Reals
open Cert.FfnBwdKernel (Mat Cube ld_lift)

variable (m : (ℓ : Loc nD τ sig) → Buf (Elt Ideal) ℓ) (c : Dev nD)
variable (x y : Mat 8192 1024) (g : Fin 1024 → ℝ) (w : Mat 1024 2048) (b : Fin 2048 → ℝ)
  (hx : xOf m c = lift2 x) (hg : gOf m c = lift1 g) (hw : wOf m c = lift2 w) (hb : bOf m c = lift1 b) (hy : yOf m c = lift2 y)

/-- The part of a sum over the tokens that the tokens of point `t` give. -/
def part (f : Fin 8192 → ℝ) (t : ℕ) : ℝ := ∑ r : Fin 512, if h : t * 512 + r.val < 8192 then f ⟨t * 512 + r.val, h⟩ else 0

theorem part_eq (f : Fin 8192 → ℝ) (t : Fin cfg0.N) : ∑ r, f (row t r) = part f t.val := by
  have hN : cfg0.N = 16 := N_0
  have := t.isLt
  unfold part
  refine Finset.sum_congr rfl fun r _ => ?_
  rw [dif_pos (by omega)]; rfl

theorem parts_all (f : Fin 8192 → ℝ) : ∑ s ∈ Finset.range (15 + 1), part f s = ∑ t, f t := by
  rw [Fin.sum_univ_tiles 16 512 rfl, Finset.sum_range]
  refine Finset.sum_congr rfl fun s _ => ?_
  unfold part
  refine Finset.sum_congr rfl fun r _ => ?_
  rw [dif_pos (by omega)]

/-- A token's part of the gains' gradient, and of the bias's. -/
abbrev dgainAt (k : Fin 1024) (t : Fin 8192) : ℝ := Glu.dgain (x t) g w b (y t) k
abbrev dbiasAt (n : Fin 2048) (t : Fin 8192) : ℝ := Glu.dproj (x t) g w b (y t) n

theorem gain_block (t : Fin cfg0.N) (k : Fin 1024) :
    ∑ r, Rms.unit (x (row t r)) k * dnorm (yB y t) (uB x g w b t) (wB w) r k = part (dgainAt x y g w b k) t.val := by
  rw [← part_eq]
  refine Finset.sum_congr rfl fun r _ => ?_
  rw [dnorm_token]; rfl

theorem bias_block (t : Fin cfg0.N) (n : Fin 2048) : sums (yB y t) (uB x g w b t) n = part (dbiasAt x y g w b n) t.val := by
  rw [← part_eq, sums_token]

theorem token_block (t : Fin cfg0.N) (r : Fin 512) (k : Fin 1024) :
    Rms.pull (x (row t r)) g (dnorm (yB y t) (uB x g w b t) (wB w) r) k = Glu.dtoken (x (row t r)) g w b (y (row t r)) k := by
  rw [dnorm_token]; rfl

include hx hg hw hb hy

/-- What the gains' block and the bias's hold after point `n`: the parts up to it. -/
theorem acc_at : ∀ (n : ℕ) (hn : n < cfg0.N),
    ((outsAt0 m c n hn).2.2.2.2.1 : Vec Ideal S1x1024 .f32) = lift2 (φ := .f32) (fun _ k => ∑ s ∈ Finset.range (n + 1), part (dgainAt x y g w b k) s)
    ∧ ((outsAt0 m c n hn).2.2.2.2.2 : Vec Ideal S1x2048 .f32) = lift2 (φ := .f32) (fun _ k => ∑ s ∈ Finset.range (n + 1), part (dbiasAt x y g w b k) s) := by
  have hN : cfg0.N = 16 := N_0
  intro n
  induction n with
  | zero =>
    intro hn
    let t : Fin cfg0.N := ⟨0, hn⟩
    rw [outsAt0_A m c t rfl]; dsimp only
    constructor
    · refine (outA10 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
      funext i; idx_vars i
      simp only [lift2_apply]
      refine congrArg _ ?_
      rw [zero_add, Finset.sum_range_one]
      exact gain_block x y g w b t i1
    · refine (outA11 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
      funext i; idx_vars i
      simp only [lift2_apply]
      refine congrArg _ ?_
      rw [zero_add, Finset.sum_range_one]
      exact bias_block x y g w b t i1
  | succ n ih =>
    intro hn
    let t : Fin cfg0.N := ⟨n + 1, hn⟩
    obtain ⟨ih1, ih2⟩ := ih (Nat.lt_of_succ_lt hn)
    rw [outsAt0_B m c t (by show ¬(n + 1) % 16 = 0; omega)]; dsimp only
    constructor
    · refine (outB10 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := ih1) (hD := ih2)).trans ?_
      funext i; idx_vars i
      simp only [lift2_apply]
      refine congrArg _ ?_
      rw [Finset.sum_range_succ _ (n + 1)]
      exact congrArg _ (gain_block x y g w b t i1)
    · refine (outB11 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := ih1) (hD := ih2)).trans ?_
      funext i; idx_vars i
      simp only [lift2_apply]
      refine congrArg _ ?_
      rw [Finset.sum_range_succ _ (n + 1)]
      exact congrArg _ (bias_block x y g w b t i1)

theorem point6 (t : Fin cfg0.N) : ((outsAt0 m c t.val t.isLt).1 : Vec Ideal S8x512x256 .bf16) = fun i => (lift3 (φ := .bf16) (fun j t f => Glu.dproj (x t) g w b (y t) ⟨j.val * 256 + f.val, by omega⟩) : FVec Ideal S8x8192x256 .bf16) (ix3 (i 0) (row t (i 1)) (i 2)) := by
  have hN : cfg0.N = 16 := N_0
  by_cases h : t.val % 16 = 0
  · rw [outsAt0_A m c t h]; dsimp only
    refine (outA6 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
    funext i; idx_vars i
    exact congrArg _ (cols_token x y g w b t i0 i1 i2)
  · rw [outsAt0_B m c t h]; dsimp only
    have ht := t.isLt
    obtain ⟨s1, s2⟩ := acc_at m c x y g w b hx hg hw hb hy (t.val - 1) (by omega)
    refine (outB6 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := s1) (hD := s2)).trans ?_
    funext i; idx_vars i
    exact congrArg _ (cols_token x y g w b t i0 i1 i2)

omit hx hg hw hb hy in
theorem idx6 : ∀ t : Fin cfg0.N, win0_6.index t (0 : Fin 3) = 0 ∧ win0_6.index t (1 : Fin 3) = t.val ∧ win0_6.index t (2 : Fin 3) = 0 ∧ win0_6.xsize (grid0.coords t) (0 : Fin 3) = 8 ∧ win0_6.xsize (grid0.coords t) (1 : Fin 3) = 512 ∧ win0_6.xsize (grid0.coords t) (2 : Fin 3) = 256 := (by decide +kernel : ∀ t : Fin grid0.N, _)

omit hx hg hw hb hy in
/-- The blocks cover the array. -/
theorem cover6 (i : S8x8192x256.Idx) : ∃ t : Fin cfg0.N, (cfg0.win 6).flush t = true ∧ i ∈ ((cfg0.win 6).blk t).view.set := by
  have hN : cfg0.N = 16 := N_0
  have h0 : (i 0).val < 8 := (i 0).isLt
  have h1 : (i 1).val < 8192 := (i 1).isLt
  have h2 : (i 2).val < 256 := (i 2).isLt
  obtain ⟨t, ht⟩ : ∃ t : Fin cfg0.N, t.val = (i 1).val / 512 := ⟨⟨(i 1).val / 512, by omega⟩, rfl⟩
  refine ⟨t, flush0_6 t, ?_⟩
  obtain ⟨e0, e1, e2, n0, n1, n2⟩ := idx6 t
  show i ∈ ((View.whole main_v24_0).slice (win0_6.rect t)).set
  rw [View.set_slice_whole, Rect.mem_set_unit]
  intro a
  match a with
  | ⟨0, _⟩ => show win0_6.index t (0 : Fin 3) * 8 ≤ (i 0).val ∧ (i 0).val < win0_6.index t (0 : Fin 3) * 8 + win0_6.xsize (grid0.coords t) (0 : Fin 3); rw [e0, n0]; omega
  | ⟨1, _⟩ => show win0_6.index t (1 : Fin 3) * 512 ≤ (i 1).val ∧ (i 1).val < win0_6.index t (1 : Fin 3) * 512 + win0_6.xsize (grid0.coords t) (1 : Fin 3); rw [e1, n1]; omega
  | ⟨2, _⟩ => show win0_6.index t (2 : Fin 3) * 256 ≤ (i 2).val ∧ (i 2).val < win0_6.index t (2 : Fin 3) * 256 + win0_6.xsize (grid0.coords t) (2 : Fin 3); rw [e2, n2]; omega

omit hx hg hw hb hy in
theorem whole6 (G : FVec Ideal S8x8192x256 .bf16) (hG : ∀ t : Fin cfg0.N, ((outsAt0 m c t.val t.isLt).1 : Vec Ideal S8x512x256 .bf16) = fun i => G (ix3 (i 0) (row t (i 1)) (i 2))) : ((dats m 0 c).arrAt 6 cfg0.N : FVec Ideal S8x8192x256 .bf16) = G := by
  refine (dats m 0 c).arrAt_eq_of_cover 6 G (fun t _ => ?_) cover6
  obtain ⟨e0, e1, e2, -⟩ := idx6 t
  rw [flushed6, hG t]
  funext i
  rw [View.read_apply]
  change (⟨3, ![8, 512, 256]⟩ : Shape).Idx at i
  idx_vars i
  refine congrArg G (?_ : ix3 i0 (row t i1) i2 = _)
  funext a; apply Fin.ext
  match a with
  | ⟨0, _⟩ => show i0.val = win0_6.index t (0 : Fin 3) * 8 + 1 * i0.val; omega
  | ⟨1, _⟩ => show t.val * 512 + i1.val = win0_6.index t (1 : Fin 3) * 512 + 1 * i1.val; omega
  | ⟨2, _⟩ => show i2.val = win0_6.index t (2 : Fin 3) * 256 + 1 * i2.val; omega

theorem arr6 : ((dats m 0 c).arrAt 6 cfg0.N : FVec Ideal S8x8192x256 .bf16) = (lift3 (φ := .bf16) (fun j t f => Glu.dproj (x t) g w b (y t) ⟨j.val * 256 + f.val, by omega⟩) : FVec Ideal S8x8192x256 .bf16) :=
  whole6 m c _ (point6 m c x y g w b hx hg hw hb hy)

theorem point7 (t : Fin cfg0.N) : ((outsAt0 m c t.val t.isLt).2.1 : Vec Ideal S1024x512 .bf16) = fun i => (lift2 (φ := .bf16) (fun k t => Rms.norm (x t) g k) : FVec Ideal S1024x8192 .bf16) (ix2 (i 0) (row t (i 1))) := by
  have hN : cfg0.N = 16 := N_0
  by_cases h : t.val % 16 = 0
  · rw [outsAt0_A m c t h]; dsimp only
    refine (outA7 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
    funext i; idx_vars i
    rfl
  · rw [outsAt0_B m c t h]; dsimp only
    have ht := t.isLt
    obtain ⟨s1, s2⟩ := acc_at m c x y g w b hx hg hw hb hy (t.val - 1) (by omega)
    refine (outB7 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := s1) (hD := s2)).trans ?_
    funext i; idx_vars i
    rfl

omit hx hg hw hb hy in
theorem idx7 : ∀ t : Fin cfg0.N, win0_7.index t (0 : Fin 2) = 0 ∧ win0_7.index t (1 : Fin 2) = t.val ∧ win0_7.xsize (grid0.coords t) (0 : Fin 2) = 1024 ∧ win0_7.xsize (grid0.coords t) (1 : Fin 2) = 512 := (by decide +kernel : ∀ t : Fin grid0.N, _)

omit hx hg hw hb hy in
/-- The blocks cover the array. -/
theorem cover7 (i : S1024x8192.Idx) : ∃ t : Fin cfg0.N, (cfg0.win 7).flush t = true ∧ i ∈ ((cfg0.win 7).blk t).view.set := by
  have hN : cfg0.N = 16 := N_0
  have h0 : (i 0).val < 1024 := (i 0).isLt
  have h1 : (i 1).val < 8192 := (i 1).isLt
  obtain ⟨t, ht⟩ : ∃ t : Fin cfg0.N, t.val = (i 1).val / 512 := ⟨⟨(i 1).val / 512, by omega⟩, rfl⟩
  refine ⟨t, flush0_7 t, ?_⟩
  obtain ⟨e0, e1, n0, n1⟩ := idx7 t
  show i ∈ ((View.whole main_v24_1).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + win0_7.xsize (grid0.coords t) (0 : Fin 2); rw [e0, n0]; omega
  | ⟨1, _⟩ => show win0_7.index t (1 : Fin 2) * 512 ≤ (i 1).val ∧ (i 1).val < win0_7.index t (1 : Fin 2) * 512 + win0_7.xsize (grid0.coords t) (1 : Fin 2); rw [e1, n1]; omega

omit hx hg hw hb hy in
theorem whole7 (G : FVec Ideal S1024x8192 .bf16) (hG : ∀ t : Fin cfg0.N, ((outsAt0 m c t.val t.isLt).2.1 : Vec Ideal S1024x512 .bf16) = fun i => G (ix2 (i 0) (row t (i 1)))) : ((dats m 0 c).arrAt 7 cfg0.N : FVec Ideal S1024x8192 .bf16) = G := by
  refine (dats m 0 c).arrAt_eq_of_cover 7 G (fun t _ => ?_) cover7
  obtain ⟨e0, e1, -⟩ := idx7 t
  rw [flushed7, hG t]
  funext i
  rw [View.read_apply]
  change (⟨2, ![1024, 512]⟩ : Shape).Idx at i
  idx_vars i
  refine congrArg G (?_ : ix2 i0 (row t i1) = _)
  funext a; apply Fin.ext
  match a with
  | ⟨0, _⟩ => show i0.val = win0_7.index t (0 : Fin 2) * 1024 + 1 * i0.val; omega
  | ⟨1, _⟩ => show t.val * 512 + i1.val = win0_7.index t (1 : Fin 2) * 512 + 1 * i1.val; omega

theorem arr7 : ((dats m 0 c).arrAt 7 cfg0.N : FVec Ideal S1024x8192 .bf16) = (lift2 (φ := .bf16) (fun k t => Rms.norm (x t) g k) : FVec Ideal S1024x8192 .bf16) :=
  whole7 m c _ (point7 m c x y g w b hx hg hw hb hy)

theorem point8 (t : Fin cfg0.N) : ((outsAt0 m c t.val t.isLt).2.2.1 : Vec Ideal S512x1024 .f32) = fun i => (addf (dOf m c) (lift2 (φ := .f32) fun t => Glu.dtoken (x t) g w b (y t)) : FVec Ideal S8192x1024 .f32) (ix2 (row t (i 0)) (i 1)) := by
  have hN : cfg0.N = 16 := N_0
  by_cases h : t.val % 16 = 0
  · rw [outsAt0_A m c t h]; dsimp only
    refine (outA8 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
    rw [blk5 m c t]
    funext i; idx_vars i
    exact congrArg (fun v : ℝ => dOf m c (ix2 (row t i0) i1) + (v : EReal)) (token_block x y g w b t i0 i1)
  · rw [outsAt0_B m c t h]; dsimp only
    have ht := t.isLt
    obtain ⟨s1, s2⟩ := acc_at m c x y g w b hx hg hw hb hy (t.val - 1) (by omega)
    refine (outB8 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := s1) (hD := s2)).trans ?_
    rw [blk5 m c t]
    funext i; idx_vars i
    exact congrArg (fun v : ℝ => dOf m c (ix2 (row t i0) i1) + (v : EReal)) (token_block x y g w b t i0 i1)

omit hx hg hw hb hy in
theorem idx8 : ∀ t : Fin cfg0.N, win0_8.index t (0 : Fin 2) = t.val ∧ win0_8.index t (1 : Fin 2) = 0 ∧ win0_8.xsize (grid0.coords t) (0 : Fin 2) = 512 ∧ win0_8.xsize (grid0.coords t) (1 : Fin 2) = 1024 := (by decide +kernel : ∀ t : Fin grid0.N, _)

omit hx hg hw hb hy in
/-- The blocks cover the array. -/
theorem cover8 (i : S8192x1024.Idx) : ∃ t : Fin cfg0.N, (cfg0.win 8).flush t = true ∧ i ∈ ((cfg0.win 8).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_8 t, ?_⟩
  obtain ⟨e0, e1, n0, n1⟩ := idx8 t
  show i ∈ ((View.whole main_v24_2).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + win0_8.xsize (grid0.coords t) (0 : Fin 2); rw [e0, n0]; omega
  | ⟨1, _⟩ => show win0_8.index t (1 : Fin 2) * 1024 ≤ (i 1).val ∧ (i 1).val < win0_8.index t (1 : Fin 2) * 1024 + win0_8.xsize (grid0.coords t) (1 : Fin 2); rw [e1, n1]; omega

omit hx hg hw hb hy in
theorem whole8 (G : FVec Ideal S8192x1024 .f32) (hG : ∀ t : Fin cfg0.N, ((outsAt0 m c t.val t.isLt).2.2.1 : Vec Ideal S512x1024 .f32) = fun i => G (ix2 (row t (i 0)) (i 1))) : ((dats m 0 c).arrAt 8 cfg0.N : FVec Ideal S8192x1024 .f32) = G := by
  refine (dats m 0 c).arrAt_eq_of_cover 8 G (fun t _ => ?_) cover8
  obtain ⟨e0, e1, -⟩ := idx8 t
  rw [flushed8, hG t]
  funext i
  rw [View.read_apply]
  change (⟨2, ![512, 1024]⟩ : Shape).Idx at i
  idx_vars i
  refine congrArg G (?_ : ix2 (row t i0) i1 = _)
  funext a; apply Fin.ext
  match a with
  | ⟨0, _⟩ => show t.val * 512 + i0.val = win0_8.index t (0 : Fin 2) * 512 + 1 * i0.val; omega
  | ⟨1, _⟩ => show i1.val = win0_8.index t (1 : Fin 2) * 1024 + 1 * i1.val; omega

theorem arr8 : ((dats m 0 c).arrAt 8 cfg0.N : FVec Ideal S8192x1024 .f32) = (addf (dOf m c) (lift2 (φ := .f32) fun t => Glu.dtoken (x t) g w b (y t)) : FVec Ideal S8192x1024 .f32) :=
  whole8 m c _ (point8 m c x y g w b hx hg hw hb hy)

theorem point9 (t : Fin cfg0.N) : ((outsAt0 m c t.val t.isLt).2.2.2.1 : Vec Ideal S512x1024 .bf16) = fun i => (truncf .bf16 (addf (dOf m c) (lift2 (φ := .f32) fun t => Glu.dtoken (x t) g w b (y t))) bitsLt_bf16_f32 : FVec Ideal S8192x1024 .bf16) (ix2 (row t (i 0)) (i 1)) := by
  have hN : cfg0.N = 16 := N_0
  by_cases h : t.val % 16 = 0
  · rw [outsAt0_A m c t h]; dsimp only
    refine (outA9 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t)).trans ?_
    rw [blk5 m c t]
    funext i; idx_vars i
    exact congrArg (fun v : ℝ => dOf m c (ix2 (row t i0) i1) + (v : EReal)) (token_block x y g w b t i0 i1)
  · rw [outsAt0_B m c t h]; dsimp only
    have ht := t.isLt
    obtain ⟨s1, s2⟩ := acc_at m c x y g w b hx hg hw hb hy (t.val - 1) (by omega)
    refine (outB9 (x5 := iblk m c 5 t) (hy := blk0 m c y hy t) (hU := blk1 m c _ (saved_lift m c x g w b hx hg hw hb) t) (hx := blk2 m c x hx t) (hg := blk3 m c _ (gains_lift m c g hg) t) (hW := blk4 m c _ (weights_lift m c w hw) t) (hdg := s1) (hD := s2)).trans ?_
    rw [blk5 m c t]
    funext i; idx_vars i
    exact congrArg (fun v : ℝ => dOf m c (ix2 (row t i0) i1) + (v : EReal)) (token_block x y g w b t i0 i1)

omit hx hg hw hb hy in
theorem idx9 : ∀ t : Fin cfg0.N, win0_9.index t (0 : Fin 2) = t.val ∧ win0_9.index t (1 : Fin 2) = 0 ∧ win0_9.xsize (grid0.coords t) (0 : Fin 2) = 512 ∧ win0_9.xsize (grid0.coords t) (1 : Fin 2) = 1024 := (by decide +kernel : ∀ t : Fin grid0.N, _)

omit hx hg hw hb hy in
/-- The blocks cover the array. -/
theorem cover9 (i : S8192x1024.Idx) : ∃ t : Fin cfg0.N, (cfg0.win 9).flush t = true ∧ i ∈ ((cfg0.win 9).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_9 t, ?_⟩
  obtain ⟨e0, e1, n0, n1⟩ := idx9 t
  show i ∈ ((View.whole main_v24_3).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + win0_9.xsize (grid0.coords t) (0 : Fin 2); rw [e0, n0]; omega
  | ⟨1, _⟩ => show win0_9.index t (1 : Fin 2) * 1024 ≤ (i 1).val ∧ (i 1).val < win0_9.index t (1 : Fin 2) * 1024 + win0_9.xsize (grid0.coords t) (1 : Fin 2); rw [e1, n1]; omega

omit hx hg hw hb hy in
theorem whole9 (G : FVec Ideal S8192x1024 .bf16) (hG : ∀ t : Fin cfg0.N, ((outsAt0 m c t.val t.isLt).2.2.2.1 : Vec Ideal S512x1024 .bf16) = fun i => G (ix2 (row t (i 0)) (i 1))) : ((dats m 0 c).arrAt 9 cfg0.N : FVec Ideal S8192x1024 .bf16) = G := by
  refine (dats m 0 c).arrAt_eq_of_cover 9 G (fun t _ => ?_) cover9
  obtain ⟨e0, e1, -⟩ := idx9 t
  rw [flushed9, hG t]
  funext i
  rw [View.read_apply]
  change (⟨2, ![512, 1024]⟩ : Shape).Idx at i
  idx_vars i
  refine congrArg G (?_ : ix2 (row t i0) i1 = _)
  funext a; apply Fin.ext
  match a with
  | ⟨0, _⟩ => show t.val * 512 + i0.val = win0_9.index t (0 : Fin 2) * 512 + 1 * i0.val; omega
  | ⟨1, _⟩ => show i1.val = win0_9.index t (1 : Fin 2) * 1024 + 1 * i1.val; omega

theorem arr9 : ((dats m 0 c).arrAt 9 cfg0.N : FVec Ideal S8192x1024 .bf16) = (truncf .bf16 (addf (dOf m c) (lift2 (φ := .f32) fun t => Glu.dtoken (x t) g w b (y t))) bitsLt_bf16_f32 : FVec Ideal S8192x1024 .bf16) :=
  whole9 m c _ (point9 m c x y g w b hx hg hw hb hy)

omit hx hg hw hb hy in
theorem idx10 : ∀ t : Fin cfg0.N, win0_10.index t (0 : Fin 2) = 0 ∧ win0_10.index t (1 : Fin 2) = 0 ∧ win0_10.xsize (grid0.coords t) (0 : Fin 2) = 1 ∧ win0_10.xsize (grid0.coords t) (1 : Fin 2) = 1024 := (by decide +kernel : ∀ t : Fin grid0.N, _)

theorem arr10 : ((dats m 0 c).arrAt 10 cfg0.N : FVec Ideal S1x1024 .f32) = (lift2 (φ := .f32) (fun _ k => ∑ t, dgainAt x y g w b k t) : FVec Ideal S1x1024 .f32) := by
  have hN : cfg0.N = 16 := N_0
  refine (dats m 0 c).arrAt_eq_of_cover 10 (lift2 (φ := .f32) (fun _ k => ∑ t, dgainAt x y g w b k t) : FVec Ideal S1x1024 .f32) (fun t hf => ?_) (fun i => ?_)
  · obtain ⟨e0, e1, -⟩ := idx10 t
    have h15 : t.val = 15 := by have := (flush0_10 t).mp hf; have := t.isLt; omega
    rw [flushed10, (acc_at m c x y g w b hx hg hw hb hy t.val t.isLt).1]
    funext i
    rw [View.read_apply]
    change (⟨2, ![1, 1024]⟩ : Shape).Idx at i
    idx_vars i
    refine (?_ : (lift2 (φ := .f32) (fun _ k => ∑ s ∈ Finset.range (t.val + 1), part (dgainAt x y g w b k) s) : FVec Ideal S1x1024 .f32) (ix2 i0 i1) = _)
    rw [h15]; simp only [parts_all]
    refine congrArg (lift2 (φ := .f32) (fun _ k => ∑ t, dgainAt x y g w b k t) : FVec Ideal S1x1024 .f32) (?_ : ix2 i0 i1 = _)
    funext a; apply Fin.ext
    match a with
    | ⟨0, _⟩ => show i0.val = win0_10.index t (0 : Fin 2) * 1 + 1 * i0.val; omega
    | ⟨1, _⟩ => show i1.val = win0_10.index t (1 : Fin 2) * 1024 + 1 * i1.val; omega
  · have h0 : (i 0).val < 1 := (i 0).isLt
    have h1 : (i 1).val < 1024 := (i 1).isLt
    obtain ⟨t, ht⟩ : ∃ t : Fin cfg0.N, t.val = 15 := ⟨⟨15, by omega⟩, rfl⟩
    refine ⟨t, (flush0_10 t).mpr (by omega), ?_⟩
    obtain ⟨e0, e1, n0, n1⟩ := idx10 t
    show i ∈ ((View.whole main_v24_4).slice (win0_10.rect t)).set
    rw [View.set_slice_whole, Rect.mem_set_unit]
    intro a
    match a with
    | ⟨0, _⟩ => show win0_10.index t (0 : Fin 2) * 1 ≤ (i 0).val ∧ (i 0).val < win0_10.index t (0 : Fin 2) * 1 + win0_10.xsize (grid0.coords t) (0 : Fin 2); rw [e0, n0]; omega
    | ⟨1, _⟩ => show win0_10.index t (1 : Fin 2) * 1024 ≤ (i 1).val ∧ (i 1).val < win0_10.index t (1 : Fin 2) * 1024 + win0_10.xsize (grid0.coords t) (1 : Fin 2); rw [e1, n1]; omega

omit hx hg hw hb hy in
theorem idx11 : ∀ t : Fin cfg0.N, win0_11.index t (0 : Fin 2) = 0 ∧ win0_11.index t (1 : Fin 2) = 0 ∧ win0_11.xsize (grid0.coords t) (0 : Fin 2) = 1 ∧ win0_11.xsize (grid0.coords t) (1 : Fin 2) = 2048 := (by decide +kernel : ∀ t : Fin grid0.N, _)

theorem arr11 : ((dats m 0 c).arrAt 11 cfg0.N : FVec Ideal S1x2048 .f32) = (lift2 (φ := .f32) (fun _ k => ∑ t, dbiasAt x y g w b k t) : FVec Ideal S1x2048 .f32) := by
  have hN : cfg0.N = 16 := N_0
  refine (dats m 0 c).arrAt_eq_of_cover 11 (lift2 (φ := .f32) (fun _ k => ∑ t, dbiasAt x y g w b k t) : FVec Ideal S1x2048 .f32) (fun t hf => ?_) (fun i => ?_)
  · obtain ⟨e0, e1, -⟩ := idx11 t
    have h15 : t.val = 15 := by have := (flush0_11 t).mp hf; have := t.isLt; omega
    rw [flushed11, (acc_at m c x y g w b hx hg hw hb hy t.val t.isLt).2]
    funext i
    rw [View.read_apply]
    change (⟨2, ![1, 2048]⟩ : Shape).Idx at i
    idx_vars i
    refine (?_ : (lift2 (φ := .f32) (fun _ k => ∑ s ∈ Finset.range (t.val + 1), part (dbiasAt x y g w b k) s) : FVec Ideal S1x2048 .f32) (ix2 i0 i1) = _)
    rw [h15]; simp only [parts_all]
    refine congrArg (lift2 (φ := .f32) (fun _ k => ∑ t, dbiasAt x y g w b k t) : FVec Ideal S1x2048 .f32) (?_ : ix2 i0 i1 = _)
    funext a; apply Fin.ext
    match a with
    | ⟨0, _⟩ => show i0.val = win0_11.index t (0 : Fin 2) * 1 + 1 * i0.val; omega
    | ⟨1, _⟩ => show i1.val = win0_11.index t (1 : Fin 2) * 2048 + 1 * i1.val; omega
  · have h0 : (i 0).val < 1 := (i 0).isLt
    have h1 : (i 1).val < 2048 := (i 1).isLt
    obtain ⟨t, ht⟩ : ∃ t : Fin cfg0.N, t.val = 15 := ⟨⟨15, by omega⟩, rfl⟩
    refine ⟨t, (flush0_11 t).mpr (by omega), ?_⟩
    obtain ⟨e0, e1, n0, n1⟩ := idx11 t
    show i ∈ ((View.whole main_v24_5).slice (win0_11.rect t)).set
    rw [View.set_slice_whole, Rect.mem_set_unit]
    intro a
    match a with
    | ⟨0, _⟩ => show win0_11.index t (0 : Fin 2) * 1 ≤ (i 0).val ∧ (i 0).val < win0_11.index t (0 : Fin 2) * 1 + win0_11.xsize (grid0.coords t) (0 : Fin 2); rw [e0, n0]; omega
    | ⟨1, _⟩ => show win0_11.index t (1 : Fin 2) * 2048 ≤ (i 1).val ∧ (i 1).val < win0_11.index t (1 : Fin 2) * 2048 + win0_11.xsize (grid0.coords t) (1 : Fin 2); rw [e1, n1]; omega

end Cert.ConvPreKernel

end
-- ==== Proof.ConvPreClaim.lean ====
module

public import proofs.«01_k».proof.Defs
public import proofs.«01_k».proof.Proof.Finite
public import proofs.«01_k».proof.Proof.ConvPreKernel
public import proofs.«01_k».proof.Proof.ConvPreRef
public import proofs.«01_k».proof.Proof.Gen.Pre_conv_pre_bwd_finite
public import Idealize.ShloMosaic.Lib.Claim

@[expose] public section

set_option maxRecDepth 16384

noncomputable section

/-! # The claim of the gated product's gradient

Of finite arguments both programs leave the same arrays: the gradient of the projection, the normalised tokens, the gradient
with respect to the tokens in both formats, and the gradients of the normalisation's gains and of the bias. The gradient that
passes beside the block is only added and may be infinite. -/

namespace Cert

open Idealize.ShloMosaic Idealize.SL.Sem Cert.Reals

/-- The precondition's five tests. -/
theorem conv_pre_bwd_reals (a : FVec Ideal Pre_conv_pre_bwd_finite.S8192x1024 .f32) (b : FVec Ideal Pre_conv_pre_bwd_finite.S1024 .f32)
    (c : FVec Ideal Pre_conv_pre_bwd_finite.S1024x2048 .f32) (d : FVec Ideal Pre_conv_pre_bwd_finite.S2048 .f32)
    (e f : FVec Ideal Pre_conv_pre_bwd_finite.S8192x1024 .f32)
    (h : Pre_conv_pre_bwd_finite.fn a b c d e f = fun _ => 1#1) :
    (∃ f, a = lift2 f) ∧ (∃ f, b = lift1 f) ∧ (∃ f, c = lift2 f) ∧ (∃ f, d = lift1 f) ∧ (∃ f, e = lift2 f) := by
  have h0 := congrFun h (fun k => k.elim0)
  obtain ⟨h1, he⟩ := both h0
  obtain ⟨h2, hd⟩ := both h1
  obtain ⟨h3, hc⟩ := both h2
  obtain ⟨h4, hb⟩ := both h3
  obtain ⟨h5, ha⟩ := both h4
  exact ⟨exists_lift2 a (real_of_allFinite a _ _ _ ha), exists_lift1 b (real_of_allFinite b _ _ _ hb),
    exists_lift2 c (real_of_allFinite c _ _ _ hc), exists_lift1 d (real_of_allFinite d _ _ _ hd),
    exists_lift2 e (real_of_allFinite e _ _ _ he)⟩

theorem convpre_algebraic : algebraic_KernelIdeal_ReferenceIdeal_pre_conv_pre_bwd_finite (hKernelIdeal := Cert.KernelIdeal.Gen.facts)
    (hReferenceIdeal := Cert.ReferenceIdeal.Gen.facts) (hPre_conv_pre_bwd_finite := Cert.Pre_conv_pre_bwd_finite.Gen.facts) := by
  intro m g m' g' hpre hargs
  refine ⟨_, _, _, _, _, _, Cert.KernelIdeal.Value.run_blocks m g, ?_⟩
  refine (θ_run _ _ _).mono (fun r h c => ?_) (Cert.ReferenceIdeal.Value.run m' g')
  obtain ⟨r0, r1, r2, r3, r4, r5, rest⟩ := h c
  obtain ⟨a0, a1, a2, a3, a4, a5⟩ := hargs c
  obtain ⟨⟨x, hx⟩, ⟨n, hn⟩, ⟨w, hw⟩, ⟨b, hb⟩, ⟨y, hy⟩⟩ := conv_pre_bwd_reals _ _ _ _ _ _ (hpre c)
  have hd : ConvPreRef.dOf m' c = ConvPreKernel.dOf m c := a5
  refine ⟨r0.trans ?_, r1.trans ?_, r2.trans ?_, r3.trans ?_, r4.trans ?_, r5.trans ?_, rest⟩
  · exact (ConvPreRef.res0 m' c x y n w b (a0.trans hx) (a1.trans hn) (a2.trans hw) (a3.trans hb) (a4.trans hy)).trans
      (ConvPreKernel.arr6 m c x y n w b hx hn hw hb hy).symm
  · exact (ConvPreRef.res1 m' c x y n w b (a0.trans hx) (a1.trans hn) (a2.trans hw) (a3.trans hb) (a4.trans hy)).trans
      (ConvPreKernel.arr7 m c x y n w b hx hn hw hb hy).symm
  · exact ((ConvPreRef.res2 m' c x y n w b (a0.trans hx) (a1.trans hn) (a2.trans hw) (a3.trans hb) (a4.trans hy)).trans (by rw [hd])).trans
      (ConvPreKernel.arr8 m c x y n w b hx hn hw hb hy).symm
  · exact ((ConvPreRef.res3 m' c x y n w b (a0.trans hx) (a1.trans hn) (a2.trans hw) (a3.trans hb) (a4.trans hy)).trans (by rw [hd])).trans
      (ConvPreKernel.arr9 m c x y n w b hx hn hw hb hy).symm
  · exact (ConvPreRef.res4 m' c x y n w b (a0.trans hx) (a1.trans hn) (a2.trans hw) (a3.trans hb) (a4.trans hy)).trans
      (ConvPreKernel.arr10 m c x y n w b hx hn hw hb hy).symm
  · exact (ConvPreRef.res5 m' c x y n w b (a0.trans hx) (a1.trans hn) (a2.trans hw) (a3.trans hb) (a4.trans hy)).trans
      (ConvPreKernel.arr11 m c x y n w b hx hn hw hb hy).symm

end Cert

end
-- ==== Proof.Dwd.lean ====
/-
  The weight gradient of the down projection (`dwd`): the kernel walks two tiles of the 8192 tokens for
  each of the four 704-row blocks, adding each tile's product into a scratch accumulator that starts at zero, and
  rounds the accumulator into the result after the second tile. Over the reals the two partial sums are one sum.
-/
module

public import proofs.«01_k».proof.Proof.Gen.Kernel4Ideal.Value
public import Idealize.ShloMosaic.Lib.Pointwise
public import Idealize.ShloMosaic.Lib.Tactic

@[expose] public section

set_option maxRecDepth 16384

noncomputable section

namespace Cert.Kernel4Ideal.Sum

open Cert.Kernel4Ideal Cert.Kernel4Ideal.Gen Cert.Kernel4Ideal.Value Idealize.ShloMosaic Idealize.ShloMosaic.TcCoe
  Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The first tile's step leaves the tile's product over the zero block in the scratch. -/
theorem scratch_first (c : Dev nD) (i : grid0.Coords) (a2 : Memref sig .tc .vmem S1x704x4096 .bf16) (h2 : a2.IsWhole)
    (a3 : Memref sig .tc .vmem S1x4096x1024 .bf16) (h3 : a3.IsWhole) (a4 : Memref sig .tc .vmem S1x704x1024 .bf16)
    (h4 : a4.IsWhole) (a5 : Memref sig .tc .vmem S704x1024 .f32) (h5 : a5.IsWhole) (hc0 : cond0_0 i)
    (hc1 : ¬cond0_1 i) (x0 : Vec Ideal S1x704x4096 .bf16) (x1 : Vec Ideal S1x4096x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S704x1024) hz2, View.readCov_unit_zero (S := S704x1024) _ hz2]
  simp only [View.readAt_eq_ld, h2.read_unread, h3.read_unread, View.ld_unit_zero (S := S1x704x4096) hz3,
    View.ld_unit_zero (S := S1x4096x1024) hz3]

/-- The second tile's step leaves, in the result block, the scratch's contents plus the tile's product. -/
theorem out_last (c : Dev nD) (i : grid0.Coords) (a2 : Memref sig .tc .vmem S1x704x4096 .bf16) (h2 : a2.IsWhole)
    (a3 : Memref sig .tc .vmem S1x4096x1024 .bf16) (h3 : a3.IsWhole) (a4 : Memref sig .tc .vmem S1x704x1024 .bf16)
    (h4 : a4.IsWhole) (a5 : Memref sig .tc .vmem S704x1024 .f32) (h5 : a5.IsWhole) (hc0 : ¬cond0_0 i)
    (hc1 : cond0_1 i) (x0 : Vec Ideal S1x704x4096 .bf16) (x1 : Vec Ideal S1x4096x1024 .bf16)
    (s : Vec Ideal S704x1024 .f32) :
    out0_B_2 c i a2 h2 a3 h3 a4 h4 a5 h5 hc0 hc1 x0 x1 s = k0_pay3 (k0_pay2 s x0 x1) := by
  unfold out0_B_2
  rw [View.read_writes_eq_canon _ _ _ (cover0_B_2 c i a2 h2 a3 h3 a4 h4 a5 h5 hc0 hc1 x0 x1 s)]
  unfold kernelRun0_B
  dsimp only
  sl_unfold_words
  rw [View.canon_unit_zero hz3, View.readCov_unit_zero (S := S704x1024) _ hz2]
  simp only [View.readAt_eq_ld, h2.read_unread, h3.read_unread, h5.read_unread,
    View.ld_unit_zero (S := S1x704x4096) hz3, View.ld_unit_zero (S := S1x4096x1024) hz3,
    View.ld_unit_zero (S := S704x1024) hz2]

/-- Point `t` of the grid reads tile `t % 2` of row block `t / 2`, and tile `t % 2` of the tokens. -/
theorem idx_in0 : ∀ t : Fin cfg0.N, win0_0.index t (0 : Fin 3) = t.val / 2 ∧ win0_0.index t (1 : Fin 3) = 0
    ∧ win0_0.index t (2 : Fin 3) = t.val % 2 := (by decide +kernel : ∀ t : Fin grid0.N, _)
theorem idx_in1 : ∀ t : Fin cfg0.N, win0_1.index t (0 : Fin 3) = 0 ∧ win0_1.index t (1 : Fin 3) = t.val % 2
    ∧ win0_1.index t (2 : Fin 3) = 0 := (by decide +kernel : ∀ t : Fin grid0.N, _)

/-- The left operand's block at a point, read at an index of the array. -/
theorem blk_left (c : Dev nD) (t : Fin cfg0.N) (r : Fin 704) (k : Fin 4096) (j : Fin 4) (k' : Fin 8192)
    (hj : j.val = t.val / 2) (hk : k'.val = t.val % 2 * 4096 + k.val) :
    iblk m c 0 t (ix3 0 r k) = m ((c : Thread nD τ).loc main_arg0) (ix3 j r k') := by
  obtain ⟨e0, e1, e2⟩ := idx_in0 t
  unfold iblk
  rw [View.read_apply]
  show V m c main_arg0 _ = _
  unfold V
  congr 1
  funext a
  apply Fin.ext
  match a with
  | ⟨0, _⟩ => show win0_0.index t (0 : Fin 3) * 1 + 1 * 0 = j.val; omega
  | ⟨1, _⟩ => show win0_0.index t (1 : Fin 3) * 704 + 1 * r.val = r.val; omega
  | ⟨2, _⟩ => show win0_0.index t (2 : Fin 3) * 4096 + 1 * k.val = k'.val; omega

/-- The right operand's block at a point, read at an index of the array. -/
theorem blk_right (c : Dev nD) (t : Fin cfg0.N) (k : Fin 4096) (l : Fin 1024) (k' : Fin 8192)
    (hk : k'.val = t.val % 2 * 4096 + k.val) :
    iblk m c 1 t (ix3 0 k l) = m ((c : Thread nD τ).loc main_arg1) (ix3 0 k' l) := by
  obtain ⟨e0, e1, e2⟩ := idx_in1 t
  unfold iblk
  rw [View.read_apply]
  show V m c main_arg1 _ = _
  unfold V
  congr 1
  funext a
  apply Fin.ext
  match a with
  | ⟨0, _⟩ => show win0_1.index t (0 : Fin 3) * 1 + 1 * 0 = 0; omega
  | ⟨1, _⟩ => show win0_1.index t (1 : Fin 3) * 4096 + 1 * k.val = k'.val; omega
  | ⟨2, _⟩ => show win0_1.index t (2 : Fin 3) * 1024 + 1 * l.val = l.val; omega

/-- A tile's step at an index: what the accumulator held plus the tile's sum of products. -/
theorem step_apply (s : Vec Ideal S704x1024 .f32) (x0 : Vec Ideal S1x704x4096 .bf16)
    (x1 : Vec Ideal S1x4096x1024 .bf16) (r : Fin 704) (l : Fin 1024) :
    k0_pay2 s x0 x1 (ix2 r l) = s (ix2 r l) + ∑ k : Fin 4096, x0 (ix3 0 r k) * x1 (ix3 0 k l) := by
  pointwise [k0_pay2]

theorem zero_apply (r : Fin 704) (l : Fin 1024) : (k0_pay1 (F := Ideal)) (ix2 r l) = 0 := by
  pointwise [k0_pay1]

theorem cast_apply (s : Vec Ideal S704x1024 .f32) (r : Fin 704) (l : Fin 1024) :
    k0_pay3 s (ix3 0 r l) = s (ix2 r l) := by
  pointwise [k0_pay3]

/-- The whole sum over the tokens. -/
def tokens (a : Vec Ideal S4x704x8192 .bf16) (b : Vec Ideal S1x8192x1024 .bf16) (j : Fin 4) (r : Fin 704)
    (l : Fin 1024) : EReal := ∑ k : Fin 8192, a (ix3 j r k) * b (ix3 0 k l)

/-- It is the sums over the two tiles, added. -/
theorem tokens_tiles (a : Vec Ideal S4x704x8192 .bf16) (b : Vec Ideal S1x8192x1024 .bf16) (j : Fin 4) (r : Fin 704)
    (l : Fin 1024) (x0 y0 : Vec Ideal S1x704x4096 .bf16) (x1 y1 : Vec Ideal S1x4096x1024 .bf16)
    (hx0 : ∀ k : Fin 4096, x0 (ix3 0 r k) = a (ix3 j r ⟨0 * 4096 + k.val, by omega⟩))
    (hy0 : ∀ k : Fin 4096, y0 (ix3 0 r k) = a (ix3 j r ⟨1 * 4096 + k.val, by omega⟩))
    (hx1 : ∀ k : Fin 4096, x1 (ix3 0 k l) = b (ix3 0 ⟨0 * 4096 + k.val, by omega⟩ l))
    (hy1 : ∀ k : Fin 4096, y1 (ix3 0 k l) = b (ix3 0 ⟨1 * 4096 + k.val, by omega⟩ l)) :
    k0_pay3 (k0_pay2 (k0_pay2 k0_pay1 x0 x1) y0 y1) (ix3 0 r l) = tokens a b j r l := by
  rw [cast_apply, step_apply, step_apply, zero_apply, zero_add, tokens, Fin.sum_univ_tiles 2 4096 rfl,
    Fin.sum_univ_two]
  simp only [hx0, hy0, hx1, hy1]
  rfl

set_option maxHeartbeats 2000000 in
/-- The kernel's result at an index. -/
theorem result_apply (c : Dev nD) (j : Fin 4) (r : Fin 704) (l : Fin 1024) :
    G2 m c (ix3 j r l) = tokens (m ((c : Thread nD τ).loc main_arg0)) (m ((c : Thread nD τ).loc main_arg1)) j r l := by
  have hN : cfg0.N = 8 := N_0
  have hj := j.isLt; have hr := r.isLt; have hl := l.isLt
  have hp : pt2Of (ix3 j r l) = 2 * j.val + 1 := by
    show 2 * (1 * (j.val / 1 - 0) + 1 * (r.val / 704 - 0) + 1 * (l.val / 1024 - 0)) + 1 = _; omega
  have hlt : 2 * j.val + 1 < cfg0.N := by omega
  have hloc : loc2Of (ix3 j r l) = ix3 0 r l := by
    funext a; apply Fin.ext
    match a with
    | ⟨0, _⟩ => show j.val % 1 = 0; omega
    | ⟨1, _⟩ => show r.val % 704 = r.val; omega
    | ⟨2, _⟩ => show l.val % 1024 = l.val; omega
  unfold G2
  rw [dif_pos (by omega), hloc, fold0_congr m c _ _ (2 * j.val + 1) (by omega) hp, ← outsAt0_sweep m c _ hlt]
  rw [outsAt0_B m c ⟨2 * j.val + 1, hlt⟩ (by dsimp only; omega) (by dsimp only; omega)]
  dsimp only
  rw [out_last]
  have e := congrArg Prod.snd (outsAt0_A m c ⟨2 * j.val, by omega⟩ (by dsimp only; omega) (by dsimp only; omega))
  dsimp only at e
  rw [scratch_first] at e
  have e' : (outsAt0 m c (2 * j.val + 1 - 1) (by omega)).2 = _ := e
  rw [e']
  exact tokens_tiles (m ((c : Thread nD τ).loc main_arg0)) (m ((c : Thread nD τ).loc main_arg1)) j r l
    (iblk m c 0 ⟨2 * j.val, by omega⟩) (iblk m c 0 ⟨2 * j.val + 1, hlt⟩)
    (iblk m c 1 ⟨2 * j.val, by omega⟩) (iblk m c 1 ⟨2 * j.val + 1, hlt⟩)
    (fun k => blk_left m c _ r k j ⟨0 * 4096 + k.val, by omega⟩ (by dsimp only; omega) (by dsimp only; omega))
    (fun k => blk_left m c _ r k j ⟨1 * 4096 + k.val, by omega⟩ (by dsimp only; omega) (by dsimp only; omega))
    (fun k => blk_right m c _ k l ⟨0 * 4096 + k.val, by omega⟩ (by dsimp only; omega))
    (fun k => blk_right m c _ k l ⟨1 * 4096 + k.val, by omega⟩ (by dsimp only; omega))

end Cert.Kernel4Ideal.Sum

end
-- ==== Proof.DwdClaim.lean ====
/-
  The down projection's weight gradient: the kernel's array is the reference's.
-/
module

public import proofs.«01_k».proof.Defs
public import proofs.«01_k».proof.Proof.Dwd
public import proofs.«01_k».proof.Proof.Gen.Kernel4Ideal
public import proofs.«01_k».proof.Proof.Gen.Reference4Ideal.Run
public import Idealize.ShloMosaic.Lib.Claim

@[expose] public section

set_option maxRecDepth 16384

noncomputable section

namespace Cert.Reference4Ideal.Sum

open Cert.Reference4Ideal Cert.Reference4Ideal.Gen Idealize.ShloMosaic Idealize.SL.Sem

/-- The reference's product at an index. -/
theorem reference_apply (a : Vec Ideal S4x704x8192 .bf16) (b : Vec Ideal S1x8192x1024 .bf16) (j : Fin 4) (r : Fin 704)
    (l : Fin 1024) :
    (truncf .bf16 (transpose S4x704x1024 [1, 2, 0] (Host.dotGeneral (F := Ideal) dot_S8192x1024_S4x704x8192_S1024x4x704_0_2_1_01_n_n none
        (extf .f32 (shapeCast _ b shapeCasts_S1x8192x1024_S8192x1024) bitsLt_bf16_f32)
        (extf .f32 a bitsLt_bf16_f32)) transposes_S1024x4x704_S4x704x1024_1_2_0) bitsLt_bf16_f32) (ix3 j r l)
      = Cert.Kernel4Ideal.Sum.tokens a b j r l := by
  unfold Cert.Kernel4Ideal.Sum.tokens
  pointwise []
  exact Finset.sum_congr rfl fun k _ => mul_comm _ _

end Cert.Reference4Ideal.Sum

namespace Cert

open Idealize.ShloMosaic Idealize.SL.Sem

theorem dwd_algebraic : algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G2 m c, Cert.Kernel4Ideal.Value.run m g, ?_⟩
  refine (θ_run _ _ _).mono (fun r h c => ⟨(h c).1.trans ?_, (h c).2⟩) (Cert.Reference4Ideal.Value.run m' g')
  obtain ⟨h0, h1⟩ := hargs c
  rw [h0, h1]
  funext i
  rw [eq_ix3 i]
  exact (Cert.Reference4Ideal.Sum.reference_apply _ _ _ _ _).trans
    (Cert.Kernel4Ideal.Sum.result_apply m c _ _ _).symm

end Cert

end
-- ==== Proof.Dwgu.lean ====
/-
  The weight gradient of the gate and up projections (`dwgu`): the kernel walks two tiles of the 8192 tokens for
  each of the eight 704-row blocks, adding each tile's product into a scratch accumulator that starts at zero, and
  rounds the accumulator into the result after the second tile. Over the reals the two partial sums are one sum.
-/
module

public import proofs.«01_k».proof.Proof.Gen.Kernel3Ideal.Value
public import Idealize.ShloMosaic.Lib.Pointwise
public import Idealize.ShloMosaic.Lib.Tactic

@[expose] public section

set_option maxRecDepth 16384

noncomputable section

namespace Cert.Kernel3Ideal.Sum

open Cert.Kernel3Ideal Cert.Kernel3Ideal.Gen Cert.Kernel3Ideal.Value Idealize.ShloMosaic Idealize.ShloMosaic.TcCoe
  Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The first tile's step leaves the tile's product over the zero block in the scratch. -/
theorem scratch_first (c : Dev nD) (i : grid0.Coords) (a2 : Memref sig .tc .vmem S1x704x4096 .bf16) (h2 : a2.IsWhole)
    (a3 : Memref sig .tc .vmem S1x4096x1024 .bf16) (h3 : a3.IsWhole) (a4 : Memref sig .tc .vmem S1x704x1024 .bf16)
    (h4 : a4.IsWhole) (a5 : Memref sig .tc .vmem S704x1024 .f32) (h5 : a5.IsWhole) (hc0 : cond0_0 i)
    (hc1 : ¬cond0_1 i) (x0 : Vec Ideal S1x704x4096 .bf16) (x1 : Vec Ideal S1x4096x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S704x1024) hz2, View.readCov_unit_zero (S := S704x1024) _ hz2]
  simp only [View.readAt_eq_ld, h2.read_unread, h3.read_unread, View.ld_unit_zero (S := S1x704x4096) hz3,
    View.ld_unit_zero (S := S1x4096x1024) hz3]

/-- The second tile's step leaves, in the result block, the scratch's contents plus the tile's product. -/
theorem out_last (c : Dev nD) (i : grid0.Coords) (a2 : Memref sig .tc .vmem S1x704x4096 .bf16) (h2 : a2.IsWhole)
    (a3 : Memref sig .tc .vmem S1x4096x1024 .bf16) (h3 : a3.IsWhole) (a4 : Memref sig .tc .vmem S1x704x1024 .bf16)
    (h4 : a4.IsWhole) (a5 : Memref sig .tc .vmem S704x1024 .f32) (h5 : a5.IsWhole) (hc0 : ¬cond0_0 i)
    (hc1 : cond0_1 i) (x0 : Vec Ideal S1x704x4096 .bf16) (x1 : Vec Ideal S1x4096x1024 .bf16)
    (s : Vec Ideal S704x1024 .f32) :
    out0_B_2 c i a2 h2 a3 h3 a4 h4 a5 h5 hc0 hc1 x0 x1 s = k0_pay3 (k0_pay2 s x0 x1) := by
  unfold out0_B_2
  rw [View.read_writes_eq_canon _ _ _ (cover0_B_2 c i a2 h2 a3 h3 a4 h4 a5 h5 hc0 hc1 x0 x1 s)]
  unfold kernelRun0_B
  dsimp only
  sl_unfold_words
  rw [View.canon_unit_zero hz3, View.readCov_unit_zero (S := S704x1024) _ hz2]
  simp only [View.readAt_eq_ld, h2.read_unread, h3.read_unread, h5.read_unread,
    View.ld_unit_zero (S := S1x704x4096) hz3, View.ld_unit_zero (S := S1x4096x1024) hz3,
    View.ld_unit_zero (S := S704x1024) hz2]

/-- Point `t` of the grid reads tile `t % 2` of row block `t / 2`, and tile `t % 2` of the tokens. -/
theorem idx_in0 : ∀ t : Fin cfg0.N, win0_0.index t (0 : Fin 3) = t.val / 2 ∧ win0_0.index t (1 : Fin 3) = 0
    ∧ win0_0.index t (2 : Fin 3) = t.val % 2 := (by decide +kernel : ∀ t : Fin grid0.N, _)
theorem idx_in1 : ∀ t : Fin cfg0.N, win0_1.index t (0 : Fin 3) = 0 ∧ win0_1.index t (1 : Fin 3) = t.val % 2
    ∧ win0_1.index t (2 : Fin 3) = 0 := (by decide +kernel : ∀ t : Fin grid0.N, _)

/-- The left operand's block at a point, read at an index of the array. -/
theorem blk_left (c : Dev nD) (t : Fin cfg0.N) (r : Fin 704) (k : Fin 4096) (j : Fin 8) (k' : Fin 8192)
    (hj : j.val = t.val / 2) (hk : k'.val = t.val % 2 * 4096 + k.val) :
    iblk m c 0 t (ix3 0 r k) = m ((c : Thread nD τ).loc main_arg0) (ix3 j r k') := by
  obtain ⟨e0, e1, e2⟩ := idx_in0 t
  unfold iblk
  rw [View.read_apply]
  show V m c main_arg0 _ = _
  unfold V
  congr 1
  funext a
  apply Fin.ext
  match a with
  | ⟨0, _⟩ => show win0_0.index t (0 : Fin 3) * 1 + 1 * 0 = j.val; omega
  | ⟨1, _⟩ => show win0_0.index t (1 : Fin 3) * 704 + 1 * r.val = r.val; omega
  | ⟨2, _⟩ => show win0_0.index t (2 : Fin 3) * 4096 + 1 * k.val = k'.val; omega

/-- The right operand's block at a point, read at an index of the array. -/
theorem blk_right (c : Dev nD) (t : Fin cfg0.N) (k : Fin 4096) (l : Fin 1024) (k' : Fin 8192)
    (hk : k'.val = t.val % 2 * 4096 + k.val) :
    iblk m c 1 t (ix3 0 k l) = m ((c : Thread nD τ).loc main_arg1) (ix3 0 k' l) := by
  obtain ⟨e0, e1, e2⟩ := idx_in1 t
  unfold iblk
  rw [View.read_apply]
  show V m c main_arg1 _ = _
  unfold V
  congr 1
  funext a
  apply Fin.ext
  match a with
  | ⟨0, _⟩ => show win0_1.index t (0 : Fin 3) * 1 + 1 * 0 = 0; omega
  | ⟨1, _⟩ => show win0_1.index t (1 : Fin 3) * 4096 + 1 * k.val = k'.val; omega
  | ⟨2, _⟩ => show win0_1.index t (2 : Fin 3) * 1024 + 1 * l.val = l.val; omega

/-- A tile's step at an index: what the accumulator held plus the tile's sum of products. -/
theorem step_apply (s : Vec Ideal S704x1024 .f32) (x0 : Vec Ideal S1x704x4096 .bf16)
    (x1 : Vec Ideal S1x4096x1024 .bf16) (r : Fin 704) (l : Fin 1024) :
    k0_pay2 s x0 x1 (ix2 r l) = s (ix2 r l) + ∑ k : Fin 4096, x0 (ix3 0 r k) * x1 (ix3 0 k l) := by
  pointwise [k0_pay2]

theorem zero_apply (r : Fin 704) (l : Fin 1024) : (k0_pay1 (F := Ideal)) (ix2 r l) = 0 := by
  pointwise [k0_pay1]

theorem cast_apply (s : Vec Ideal S704x1024 .f32) (r : Fin 704) (l : Fin 1024) :
    k0_pay3 s (ix3 0 r l) = s (ix2 r l) := by
  pointwise [k0_pay3]

/-- The whole sum over the tokens. -/
def tokens (a : Vec Ideal S8x704x8192 .bf16) (b : Vec Ideal S1x8192x1024 .bf16) (j : Fin 8) (r : Fin 704)
    (l : Fin 1024) : EReal := ∑ k : Fin 8192, a (ix3 j r k) * b (ix3 0 k l)

/-- It is the sums over the two tiles, added. -/
theorem tokens_tiles (a : Vec Ideal S8x704x8192 .bf16) (b : Vec Ideal S1x8192x1024 .bf16) (j : Fin 8) (r : Fin 704)
    (l : Fin 1024) (x0 y0 : Vec Ideal S1x704x4096 .bf16) (x1 y1 : Vec Ideal S1x4096x1024 .bf16)
    (hx0 : ∀ k : Fin 4096, x0 (ix3 0 r k) = a (ix3 j r ⟨0 * 4096 + k.val, by omega⟩))
    (hy0 : ∀ k : Fin 4096, y0 (ix3 0 r k) = a (ix3 j r ⟨1 * 4096 + k.val, by omega⟩))
    (hx1 : ∀ k : Fin 4096, x1 (ix3 0 k l) = b (ix3 0 ⟨0 * 4096 + k.val, by omega⟩ l))
    (hy1 : ∀ k : Fin 4096, y1 (ix3 0 k l) = b (ix3 0 ⟨1 * 4096 + k.val, by omega⟩ l)) :
    k0_pay3 (k0_pay2 (k0_pay2 k0_pay1 x0 x1) y0 y1) (ix3 0 r l) = tokens a b j r l := by
  rw [cast_apply, step_apply, step_apply, zero_apply, zero_add, tokens, Fin.sum_univ_tiles 2 4096 rfl,
    Fin.sum_univ_two]
  simp only [hx0, hy0, hx1, hy1]
  rfl

set_option maxHeartbeats 2000000 in
/-- The kernel's result at an index. -/
theorem result_apply (c : Dev nD) (j : Fin 8) (r : Fin 704) (l : Fin 1024) :
    G2 m c (ix3 j r l) = tokens (m ((c : Thread nD τ).loc main_arg0)) (m ((c : Thread nD τ).loc main_arg1)) j r l := by
  have hN : cfg0.N = 16 := N_0
  have hj := j.isLt; have hr := r.isLt; have hl := l.isLt
  have hp : pt2Of (ix3 j r l) = 2 * j.val + 1 := by
    show 2 * (1 * (j.val / 1 - 0) + 1 * (r.val / 704 - 0) + 1 * (l.val / 1024 - 0)) + 1 = _; omega
  have hlt : 2 * j.val + 1 < cfg0.N := by omega
  have hloc : loc2Of (ix3 j r l) = ix3 0 r l := by
    funext a; apply Fin.ext
    match a with
    | ⟨0, _⟩ => show j.val % 1 = 0; omega
    | ⟨1, _⟩ => show r.val % 704 = r.val; omega
    | ⟨2, _⟩ => show l.val % 1024 = l.val; omega
  unfold G2
  rw [dif_pos (by omega), hloc, fold0_congr m c _ _ (2 * j.val + 1) (by omega) hp, ← outsAt0_sweep m c _ hlt]
  rw [outsAt0_B m c ⟨2 * j.val + 1, hlt⟩ (by dsimp only; omega) (by dsimp only; omega)]
  dsimp only
  rw [out_last]
  have e := congrArg Prod.snd (outsAt0_A m c ⟨2 * j.val, by omega⟩ (by dsimp only; omega) (by dsimp only; omega))
  dsimp only at e
  rw [scratch_first] at e
  have e' : (outsAt0 m c (2 * j.val + 1 - 1) (by omega)).2 = _ := e
  rw [e']
  exact tokens_tiles (m ((c : Thread nD τ).loc main_arg0)) (m ((c : Thread nD τ).loc main_arg1)) j r l
    (iblk m c 0 ⟨2 * j.val, by omega⟩) (iblk m c 0 ⟨2 * j.val + 1, hlt⟩)
    (iblk m c 1 ⟨2 * j.val, by omega⟩) (iblk m c 1 ⟨2 * j.val + 1, hlt⟩)
    (fun k => blk_left m c _ r k j ⟨0 * 4096 + k.val, by omega⟩ (by dsimp only; omega) (by dsimp only; omega))
    (fun k => blk_left m c _ r k j ⟨1 * 4096 + k.val, by omega⟩ (by dsimp only; omega) (by dsimp only; omega))
    (fun k => blk_right m c _ k l ⟨0 * 4096 + k.val, by omega⟩ (by dsimp only; omega))
    (fun k => blk_right m c _ k l ⟨1 * 4096 + k.val, by omega⟩ (by dsimp only; omega))

end Cert.Kernel3Ideal.Sum

end
-- ==== Proof.DwguClaim.lean ====
/-
  The gate and up projections' weight gradient: the kernel's array is the reference's.
-/
module

public import proofs.«01_k».proof.Defs
public import proofs.«01_k».proof.Proof.Dwgu
public import proofs.«01_k».proof.Proof.Gen.Kernel3Ideal
public import proofs.«01_k».proof.Proof.Gen.Reference3Ideal.Run
public import Idealize.ShloMosaic.Lib.Claim

@[expose] public section

set_option maxRecDepth 16384

noncomputable section

namespace Cert.Reference3Ideal.Sum

open Cert.Reference3Ideal Cert.Reference3Ideal.Gen Idealize.ShloMosaic Idealize.SL.Sem

/-- The reference's product at an index. -/
theorem reference_apply (a : Vec Ideal S8x704x8192 .bf16) (b : Vec Ideal S1x8192x1024 .bf16) (j : Fin 8) (r : Fin 704)
    (l : Fin 1024) :
    (truncf .bf16 (Host.dotGeneral (F := Ideal) dot_S8x704x8192_S8192x1024_S8x704x1024_2_0_01_1_n_n none
        (extf .f32 a bitsLt_bf16_f32)
        (extf .f32 (shapeCast _ b shapeCasts_S1x8192x1024_S8192x1024) bitsLt_bf16_f32)) bitsLt_bf16_f32) (ix3 j r l)
      = Cert.Kernel3Ideal.Sum.tokens a b j r l := by
  unfold Cert.Kernel3Ideal.Sum.tokens
  pointwise []

end Cert.Reference3Ideal.Sum

namespace Cert

open Idealize.ShloMosaic Idealize.SL.Sem

theorem dwgu_algebraic : algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run m g, ?_⟩
  refine (θ_run _ _ _).mono (fun r h c => ⟨(h c).1.trans ?_, (h c).2⟩) (Cert.Reference3Ideal.Value.run m' g')
  obtain ⟨h0, h1⟩ := hargs c
  rw [h0, h1]
  funext i
  rw [eq_ix3 i]
  exact (Cert.Reference3Ideal.Sum.reference_apply _ _ _ _ _).trans
    (Cert.Kernel3Ideal.Sum.result_apply m c _ _ _).symm

end Cert

end
-- ==== Proof.Dwo.lean ====
/-
  The weight gradient of the attention's output projection (`dwo`): the kernel walks four tiles of the 8192 tokens, joins
  the left operand's sixteen 128-token blocks of a tile,
  adding each tile's product into a scratch accumulator that starts at zero, and rounds the accumulator into the
  result after the last tile. Over the reals the four partial sums are one sum.
-/
module

public import proofs.«01_k».proof.Proof.Gen.Kernel7Ideal.Value
public import Idealize.ShloMosaic.Lib.Pointwise
public import Idealize.ShloMosaic.Lib.ValueLayout
public import Idealize.ShloMosaic.Lib.Pipeline.ValueKit.Tiles
public import Idealize.ShloMosaic.Lib.Tactic

@[expose] public section

set_option maxRecDepth 16384

noncomputable section

namespace Cert.Kernel7Ideal.Sum

open Cert.Kernel7Ideal Cert.Kernel7Ideal.Gen Cert.Kernel7Ideal.Value Idealize.ShloMosaic Idealize.ShloMosaic.TcCoe
  Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

theorem first_piece {α : Type} (y : α) (ys : List α) (n : Nat) (h : n < (y :: ys).length) (h0 : n = 0) :
    (y :: ys)[n] = y := by
  subst h0; rfl

theorem later_piece {α : Type} (y : α) (ys : List α) (n l : Nat) (h : n < (y :: ys).length) (hl : l < ys.length)
    (h0 : n = l + 1) : (y :: ys)[n] = ys[l] := by
  subst h0; rfl

/-- Pieces of 128 columns each, joined along the columns: column `c` is column `c % 128` of piece `c / 128`. -/
theorem pieces_at (r : Fin 1024) (k : Fin 2048) : ∀ (ys : List (FVec Ideal S1024x128 .bf16))
    (hs : ∀ s ∈ (ys.map fun y => (⟨S1024x128, y⟩ : (s : Shape) × (s.Idx → Ideal .bf16))).map (·.1),
      s.FitsOff S1024x2048 1) (c : Nat)
    (hc : c < (axisSizes S1024x2048 1 (ys.map fun y => (⟨S1024x128, y⟩ : (s : Shape) × (s.Idx → Ideal .bf16)))).sum)
    (hl : c / 128 < ys.length),
    concatenateAt S1024x2048 1 (ix2 r k) (ys.map fun y => ⟨S1024x128, y⟩) hs c hc
      = ys[c / 128] (ix2 r ⟨c % 128, Nat.mod_lt _ (by omega)⟩)
  | [], _, _, _, hl => absurd hl (Nat.not_lt_zero _)
  | [y], hs, c, hc, hl => by
    have h0 : c / 128 = 0 := by simpa using hl
    have hlt : c < 128 := by omega
    refine (concatenateAt_singleton 1 (ix2 r k) y hs c hc).trans ?_
    rw [first_piece y [] _ hl h0, Shape.Idx.norm_def]
    refine congrArg y (funext fun a => Fin.ext ?_)
    match a with
    | ⟨0, _⟩ => rfl
    | ⟨1, _⟩ => show c = c % 128; omega
  | y :: z :: zs, hs, c, hc, hl => by
    refine (concatenateAt_cons 1 (ix2 r k) y ⟨S1024x128, z⟩ (zs.map fun y => ⟨S1024x128, y⟩) hs c hc).trans ?_
    by_cases hlt : c < 128
    · rw [dif_pos (show c < S1024x128.size (Fin.cast (rfl : S1024x2048.rank = S1024x128.rank) 1) from hlt)]
      have h0 : c / 128 = 0 := by omega
      rw [first_piece y (z :: zs) _ hl h0, Shape.Idx.norm_def]
      refine congrArg y (funext fun a => Fin.ext ?_)
      match a with
      | ⟨0, _⟩ => rfl
      | ⟨1, _⟩ => show c = c % 128; omega
    · rw [dif_neg (show ¬ c < S1024x128.size (Fin.cast (rfl : S1024x2048.rank = S1024x128.rank) 1) from hlt)]
      have h1 : (c - 128) / 128 < (z :: zs).length := by
        simp only [List.length_cons] at hl ⊢; omega
      refine (pieces_at r k (z :: zs) _ (c - 128) _ h1).trans ?_
      have h2 : c / 128 = (c - 128) / 128 + 1 := by omega
      rw [later_piece y (z :: zs) _ _ hl h1 h2]
      exact congrArg _ (congrArg (ix2 r) (Fin.ext (by dsimp only; omega)))

/-- Sixteen of them. -/
theorem pieces_apply (y : Fin 16 → FVec Ideal S1024x128 .bf16) (r : Fin 1024) (k : Fin 2048) :
    concatenate S1024x2048 1 [⟨S1024x128, y 0⟩, ⟨S1024x128, y 1⟩, ⟨S1024x128, y 2⟩, ⟨S1024x128, y 3⟩, ⟨S1024x128, y 4⟩, ⟨S1024x128, y 5⟩, ⟨S1024x128, y 6⟩, ⟨S1024x128, y 7⟩, ⟨S1024x128, y 8⟩, ⟨S1024x128, y 9⟩, ⟨S1024x128, y 10⟩, ⟨S1024x128, y 11⟩, ⟨S1024x128, y 12⟩, ⟨S1024x128, y 13⟩, ⟨S1024x128, y 14⟩, ⟨S1024x128, y 15⟩]
      concatenates_S1024x128_S1024x128_S1024x128_S1024x128_S1024x128_S1024x128_S1024x128_S1024x128_S1024x128_S1024x128_S1024x128_S1024x128_S1024x128_S1024x128_S1024x128_S1024x128_S1024x2048_d1 (ix2 r k)
      = y ⟨k.val / 128, by omega⟩ (ix2 r ⟨k.val % 128, by omega⟩) := by
  refine (concatenate_apply _ _ _ _ _).trans ?_
  refine (pieces_at r k (List.ofFn y) _ k.val _ (by rw [List.length_ofFn]; omega)).trans ?_
  rw [List.getElem_ofFn]

/-- The sixteen blocks of a tile, as one array of 2048 columns. -/
def joined (x : Vec Ideal S16x1024x128 .bf16) : FVec Ideal S1024x2048 .bf16 :=
  k0_pay1 (k0_pay5 (View.ld x (Rect.unit (s := S16x1024x128) ![0, 0, 0] S1x1024x128.size inb_S16x1024x128_S1x1024x128_0_0_0)))
    (k0_pay6 (View.ld x (Rect.unit (s := S16x1024x128) ![1, 0, 0] S1x1024x128.size inb_S16x1024x128_S1x1024x128_1_0_0)))
    (k0_pay7 (View.ld x (Rect.unit (s := S16x1024x128) ![2, 0, 0] S1x1024x128.size inb_S16x1024x128_S1x1024x128_2_0_0)))
    (k0_pay8 (View.ld x (Rect.unit (s := S16x1024x128) ![3, 0, 0] S1x1024x128.size inb_S16x1024x128_S1x1024x128_3_0_0)))
    (k0_pay9 (View.ld x (Rect.unit (s := S16x1024x128) ![4, 0, 0] S1x1024x128.size inb_S16x1024x128_S1x1024x128_4_0_0)))
    (k0_pay10 (View.ld x (Rect.unit (s := S16x1024x128) ![5, 0, 0] S1x1024x128.size inb_S16x1024x128_S1x1024x128_5_0_0)))
    (k0_pay11 (View.ld x (Rect.unit (s := S16x1024x128) ![6, 0, 0] S1x1024x128.size inb_S16x1024x128_S1x1024x128_6_0_0)))
    (k0_pay12 (View.ld x (Rect.unit (s := S16x1024x128) ![7, 0, 0] S1x1024x128.size inb_S16x1024x128_S1x1024x128_7_0_0)))
    (k0_pay13 (View.ld x (Rect.unit (s := S16x1024x128) ![8, 0, 0] S1x1024x128.size inb_S16x1024x128_S1x1024x128_8_0_0)))
    (View.ld x (Rect.unit (s := S16x1024x128) ![9, 0, 0] S1x1024x128.size inb_S16x1024x128_S1x1024x128_9_0_0))
    (View.ld x (Rect.unit (s := S16x1024x128) ![10, 0, 0] S1x1024x128.size inb_S16x1024x128_S1x1024x128_10_0_0))
    (View.ld x (Rect.unit (s := S16x1024x128) ![11, 0, 0] S1x1024x128.size inb_S16x1024x128_S1x1024x128_11_0_0))
    (View.ld x (Rect.unit (s := S16x1024x128) ![12, 0, 0] S1x1024x128.size inb_S16x1024x128_S1x1024x128_12_0_0))
    (View.ld x (Rect.unit (s := S16x1024x128) ![13, 0, 0] S1x1024x128.size inb_S16x1024x128_S1x1024x128_13_0_0))
    (View.ld x (Rect.unit (s := S16x1024x128) ![14, 0, 0] S1x1024x128.size inb_S16x1024x128_S1x1024x128_14_0_0))
    (View.ld x (Rect.unit (s := S16x1024x128) ![15, 0, 0] S1x1024x128.size inb_S16x1024x128_S1x1024x128_15_0_0))

/-- Block `n` of a tile, as a matrix. -/
def block (x : Vec Ideal S16x1024x128 .bf16) (n : Fin 16) : FVec Ideal S1024x128 .bf16 :=
  fun i => x (ix3 n (i 0) (i 1))

theorem block_eq (x : Vec Ideal S16x1024x128 .bf16) (n : Nat) (hn : n < 16)
    (h : ∀ j, (![n, 0, 0] : Fin 3 → Nat) j + S1x1024x128.size j ≤ S16x1024x128.size j) :
    shapeCast S1024x128 (View.ld x (Rect.unit (s := S16x1024x128) ![n, 0, 0] S1x1024x128.size h))
      shapeCasts_S1x1024x128_S1024x128 = block x ⟨n, hn⟩ := by
  funext i
  idx_vars i
  refine (ValueIdx.shapeCast_1ab_ab_apply (a := 1024) (b := 128) _ _ i0 i1).trans ?_
  exact (View.ld_unit_apply_of (Val := Elt Ideal) (e := .bf16) x _ _ h (ix3 0 i0 i1) (ix3 ⟨n, hn⟩ i0 i1) (fun a => match a with
    | ⟨0, _⟩ => (Nat.add_zero n).symm
    | ⟨1, _⟩ => (Nat.zero_add _).symm
    | ⟨2, _⟩ => (Nat.zero_add _).symm))

set_option maxHeartbeats 2000000 in
/-- Column `n * 128 + q` of the joined array is column `q` of block `n`. -/
theorem joined_apply (x : Vec Ideal S16x1024x128 .bf16) (r : Fin 1024) (k : Fin 2048) :
    joined x (ix2 r k) = x (ix3 ⟨k.val / 128, by omega⟩ r ⟨k.val % 128, by omega⟩) := by
  unfold joined k0_pay1 k0_pay5 k0_pay6 k0_pay7 k0_pay8 k0_pay9 k0_pay10 k0_pay11 k0_pay12 k0_pay13
  dsimp only
  rw [block_eq x 0 (by omega)]
  rw [block_eq x 1 (by omega)]
  rw [block_eq x 2 (by omega)]
  rw [block_eq x 3 (by omega)]
  rw [block_eq x 4 (by omega)]
  rw [block_eq x 5 (by omega)]
  rw [block_eq x 6 (by omega)]
  rw [block_eq x 7 (by omega)]
  rw [block_eq x 8 (by omega)]
  rw [block_eq x 9 (by omega)]
  rw [block_eq x 10 (by omega)]
  rw [block_eq x 11 (by omega)]
  rw [block_eq x 12 (by omega)]
  rw [block_eq x 13 (by omega)]
  rw [block_eq x 14 (by omega)]
  rw [block_eq x 15 (by omega)]
  exact pieces_apply (block x) r k

/-- The first tile's step leaves the tile's product over the zero block in the scratch. -/
theorem scratch_first (c : Dev nD) (i : grid0.Coords) (a2 : Memref sig .tc .vmem S16x1024x128 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : cond0_0 i)
    (hc1 : ¬cond0_1 i) (x0 : Vec Ideal S16x1024x128 .bf16) (x1 : Vec Ideal S1x2048x1024 .f32) :
    sout0_A_0 c i a2 h2 a3 h3 a4 h4 a5 h5 hc0 hc1 x0 x1 = k0_pay2 k0_pay4 (joined x0) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, View.ld_unit_zero (S := S1x2048x1024) hz3]
  rfl

/-- A middle tile's step adds the tile's product to the scratch. -/
theorem scratch_mid (c : Dev nD) (i : grid0.Coords) (a2 : Memref sig .tc .vmem S16x1024x128 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : ¬cond0_0 i)
    (hc1 : ¬cond0_1 i) (x0 : Vec Ideal S16x1024x128 .bf16) (x1 : Vec Ideal S1x2048x1024 .f32)
    (s : Vec Ideal S1024x1024 .f32) :
    sout0_B_0 c i a2 h2 a3 h3 a4 h4 a5 h5 hc0 hc1 x0 x1 s = k0_pay2 s (joined x0) x1 := by
  unfold sout0_B_0
  rw [View.read_writes_eq_canon _ _ _ (scover0_B_0 c i a2 h2 a3 h3 a4 h4 a5 h5 hc0 hc1 x0 x1 s)]
  unfold kernelRun0_B
  dsimp only
  sl_unfold_words
  rw [View.canon_unit_zero hz2]
  simp only [View.readAt_eq_ld, h2.read_unread, h3.read_unread, h5.read_unread,
    View.ld_unit_zero (S := S1x2048x1024) hz3,
    View.ld_unit_zero (S := S1024x1024) hz2]
  rfl

/-- The last tile's step leaves, in the result block, the scratch's contents plus the tile's product. -/
theorem out_last (c : Dev nD) (i : grid0.Coords) (a2 : Memref sig .tc .vmem S16x1024x128 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : ¬cond0_0 i)
    (hc1 : cond0_1 i) (x0 : Vec Ideal S16x1024x128 .bf16) (x1 : Vec Ideal S1x2048x1024 .f32)
    (s : Vec Ideal S1024x1024 .f32) :
    out0_C_2 c i a2 h2 a3 h3 a4 h4 a5 h5 hc0 hc1 x0 x1 s = k0_pay3 (k0_pay2 s (joined x0) x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz3, View.readCov_unit_zero (S := S1024x1024) _ hz2]
  simp only [View.readAt_eq_ld, h2.read_unread, h3.read_unread, h5.read_unread,
    View.ld_unit_zero (S := S1x2048x1024) hz3,
    View.ld_unit_zero (S := S1024x1024) hz2]
  rfl

/-- Point `t` of the grid reads tile `t` of the tokens in both operands. -/
theorem idx_in0 : ∀ t : Fin cfg0.N, win0_0.index t (0 : Fin 3) = t.val ∧ win0_0.index t (1 : Fin 3) = 0
    ∧ win0_0.index t (2 : Fin 3) = 0 := (by decide +kernel : ∀ t : Fin grid0.N, _)
theorem idx_in1 : ∀ t : Fin cfg0.N, win0_1.index t (0 : Fin 3) = 0 ∧ win0_1.index t (1 : Fin 3) = t.val
    ∧ win0_1.index t (2 : Fin 3) = 0 := (by decide +kernel : ∀ t : Fin grid0.N, _)

/-- The left operand's block at a point, read at an index of the array. -/
theorem blk_left (c : Dev nD) (t : Fin cfg0.N) (r : Fin 1024) (n : Fin 16) (q : Fin 128) (n' : Fin 64)
    (hn : n'.val = t.val * 16 + n.val) :
    iblk m c 0 t (ix3 n r q) = m ((c : Thread nD τ).loc main_arg0) (ix3 n' r q) := by
  obtain ⟨e0, e1, e2⟩ := idx_in0 t
  unfold iblk
  rw [View.read_apply]
  show V m c main_arg0 _ = _
  unfold V
  congr 1
  funext a
  apply Fin.ext
  match a with
  | ⟨0, _⟩ => show win0_0.index t (0 : Fin 3) * 16 + 1 * n.val = n'.val; omega
  | ⟨1, _⟩ => show win0_0.index t (1 : Fin 3) * 1024 + 1 * r.val = r.val; omega
  | ⟨2, _⟩ => show win0_0.index t (2 : Fin 3) * 128 + 1 * q.val = q.val; omega

/-- The right operand's block at a point, read at an index of the array. -/
theorem blk_right (c : Dev nD) (t : Fin cfg0.N) (k : Fin 2048) (l : Fin 1024) (k' : Fin 8192)
    (hk : k'.val = t.val * 2048 + k.val) :
    iblk m c 1 t (ix3 0 k l) = m ((c : Thread nD τ).loc main_arg1) (ix3 0 k' l) := by
  obtain ⟨e0, e1, e2⟩ := idx_in1 t
  unfold iblk
  rw [View.read_apply]
  show V m c main_arg1 _ = _
  unfold V
  congr 1
  funext a
  apply Fin.ext
  match a with
  | ⟨0, _⟩ => show win0_1.index t (0 : Fin 3) * 1 + 1 * 0 = 0; omega
  | ⟨1, _⟩ => show win0_1.index t (1 : Fin 3) * 2048 + 1 * k.val = k'.val; omega
  | ⟨2, _⟩ => show win0_1.index t (2 : Fin 3) * 1024 + 1 * l.val = l.val; omega

/-- A tile's step at an index: what the accumulator held plus the tile's sum of products. -/
theorem step_apply (s : Vec Ideal S1024x1024 .f32) (x0 : FVec Ideal S1024x2048 .bf16)
    (x1 : Vec Ideal S1x2048x1024 .f32) (r : Fin 1024) (l : Fin 1024) :
    k0_pay2 s x0 x1 (ix2 r l) = s (ix2 r l) + ∑ k : Fin 2048, x0 (ix2 r k) * x1 (ix3 0 k l) := by
  pointwise [k0_pay2]

theorem zero_apply (r : Fin 1024) (l : Fin 1024) : (k0_pay4 (F := Ideal)) (ix2 r l) = 0 := by
  pointwise [k0_pay4]

theorem cast_apply (s : Vec Ideal S1024x1024 .f32) (r : Fin 1024) (l : Fin 1024) :
    k0_pay3 s (ix3 0 r l) = s (ix2 r l) := by
  pointwise [k0_pay3]

/-- The whole sum over the tokens. -/
def tokens (a : Vec Ideal S64x1024x128 .bf16) (b : Vec Ideal S1x8192x1024 .f32) (r : Fin 1024)
    (l : Fin 1024) : EReal := ∑ k : Fin 8192, a (ix3 ⟨k.val / 128, by omega⟩ r ⟨k.val % 128, by omega⟩) * b (ix3 0 k l)

/-- It is the sums over the four tiles, added. -/
theorem tokens_tiles (a : Vec Ideal S64x1024x128 .bf16) (b : Vec Ideal S1x8192x1024 .f32) (r : Fin 1024)
    (l : Fin 1024) (x : Fin 4 → Vec Ideal S16x1024x128 .bf16) (y : Fin 4 → Vec Ideal S1x2048x1024 .f32)
    (hx : ∀ (t : Fin 4) (n : Fin 16) (q : Fin 128), x t (ix3 n r q) = a (ix3 ⟨t.val * 16 + n.val, by omega⟩ r q))
    (hy : ∀ (t : Fin 4) (k : Fin 2048), y t (ix3 0 k l) = b (ix3 0 ⟨t.val * 2048 + k.val, by omega⟩ l)) :
    k0_pay3 (k0_pay2 (k0_pay2 (k0_pay2 (k0_pay2 k0_pay4 (joined (x 0)) (y 0)) (joined (x 1)) (y 1)) (joined (x 2)) (y 2))
      (joined (x 3)) (y 3)) (ix3 0 r l)
      = tokens a b r l := by
  rw [cast_apply, step_apply, step_apply, step_apply, step_apply, zero_apply, zero_add, tokens,
    Fin.sum_univ_tiles 4 2048 rfl, Fin.sum_univ_four]
  have e : ∀ (t : Fin 4) (k : Fin 2048), joined (x t) (ix2 r k)
      = a (ix3 ⟨(t.val * 2048 + k.val) / 128, by omega⟩ r ⟨(t.val * 2048 + k.val) % 128, by omega⟩) := by
    intro t k
    rw [joined_apply, hx]
    exact congrArg a (funext fun i => Fin.ext (by
      match i with
      | ⟨0, _⟩ => dsimp only [ix3]; omega
      | ⟨1, _⟩ => dsimp only [ix3]
      | ⟨2, _⟩ => dsimp only [ix3]; omega))
  simp only [e, hy]

set_option maxHeartbeats 2000000 in
/-- What the scratch holds after the first three points. -/
theorem scratch_third (c : Dev nD) (h0 : 0 < cfg0.N) (h1 : 1 < cfg0.N) (h2 : 2 < cfg0.N) :
    (outsAt0 m c 2 h2).2 = k0_pay2 (k0_pay2 (k0_pay2 k0_pay4 (joined (iblk m c 0 ⟨0, h0⟩)) (iblk m c 1 ⟨0, h0⟩))
      (joined (iblk m c 0 ⟨1, h1⟩)) (iblk m c 1 ⟨1, h1⟩)) (joined (iblk m c 0 ⟨2, h2⟩)) (iblk m c 1 ⟨2, h2⟩) := by
  have e0 := congrArg Prod.snd (outsAt0_A m c ⟨0, h0⟩ (by dsimp only) (by dsimp only; omega))
  have e1 := congrArg Prod.snd (outsAt0_B m c ⟨1, h1⟩ (by dsimp only; omega) (by dsimp only; omega))
  have e2 := congrArg Prod.snd (outsAt0_B m c ⟨2, h2⟩ (by dsimp only; omega) (by dsimp only; omega))
  dsimp only at e0 e1 e2
  rw [scratch_first] at e0
  rw [scratch_mid] at e1 e2
  rw [e2]
  refine congrArg (fun s => k0_pay2 s _ _) (e1.trans ?_)
  exact congrArg (fun s => k0_pay2 s _ _) e0

set_option maxHeartbeats 2000000 in
/-- The kernel's result at an index. -/
theorem result_apply (c : Dev nD) (r : Fin 1024) (l : Fin 1024) :
    G2 m c (ix3 0 r l) = tokens (m ((c : Thread nD τ).loc main_arg0)) (m ((c : Thread nD τ).loc main_arg1)) r l := by
  have hN : cfg0.N = 4 := N_0
  have hr := r.isLt; have hl := l.isLt
  have hp : pt2Of (ix3 0 r l) = 3 := by
    show 4 * (1 * (0 / 1 - 0) + 1 * (r.val / 1024 - 0) + 1 * (l.val / 1024 - 0)) + 3 = _; omega
  have h0 : 0 < cfg0.N := by omega
  have h1 : 1 < cfg0.N := by omega
  have h2 : 2 < cfg0.N := by omega
  have h3 : 3 < cfg0.N := by omega
  have hloc : loc2Of (ix3 0 r l) = ix3 0 r l := by
    funext a; apply Fin.ext
    match a with
    | ⟨0, _⟩ => show 0 % 1 = 0; omega
    | ⟨1, _⟩ => show r.val % 1024 = r.val; omega
    | ⟨2, _⟩ => show l.val % 1024 = l.val; omega
  unfold G2
  rw [dif_pos (by omega), hloc, fold0_congr m c _ _ 3 (by omega) hp, ← outsAt0_sweep m c _ h3]
  rw [outsAt0_C m c ⟨3, h3⟩ (by dsimp only; omega) (by dsimp only)]
  dsimp only
  rw [out_last]
  have e' : (outsAt0 m c (3 - 1) (by omega)).2 = _ := scratch_third m c h0 h1 h2
  rw [e']
  exact tokens_tiles (m ((c : Thread nD τ).loc main_arg0)) (m ((c : Thread nD τ).loc main_arg1)) r l
    (fun t => iblk m c 0 ⟨t.val, by omega⟩) (fun t => iblk m c 1 ⟨t.val, by omega⟩)
    (fun t n q => blk_left m c ⟨t.val, by omega⟩ r n q ⟨t.val * 16 + n.val, by omega⟩ rfl)
    (fun t k => blk_right m c ⟨t.val, by omega⟩ k l ⟨t.val * 2048 + k.val, by omega⟩ rfl)

end Cert.Kernel7Ideal.Sum

end
-- ==== Proof.DwoClaim.lean ====
/-
  The attention's output projection's weight gradient: the kernel's array is the reference's.
-/
module

public import proofs.«01_k».proof.Defs
public import proofs.«01_k».proof.Proof.Dwo
public import proofs.«01_k».proof.Proof.Gen.Kernel7Ideal
public import proofs.«01_k».proof.Proof.Gen.Reference7Ideal.Run
public import Idealize.ShloMosaic.Lib.Claim

@[expose] public section

set_option maxRecDepth 16384

noncomputable section

namespace Cert.Reference7Ideal.Sum

open Cert.Reference7Ideal Cert.Reference7Ideal.Gen Idealize.ShloMosaic Idealize.SL.Sem

/-- The reference's product at an index. -/
theorem reference_apply (a : Vec Ideal S64x1024x128 .bf16) (b : Vec Ideal S1x8192x1024 .f32) (r : Fin 1024)
    (l : Fin 1024) :
    (broadcastInDim S1x1024x1024 ![1, 2] bcast_S1024x1024_S1x1024x1024_1_2
      (truncf .bf16 (transpose S1024x1024 [1, 0]
        (Host.dotGeneral (F := Ideal) (φ₁ := .f32) dot_S8192x1024_S8192x1024_S1024x1024_0_0_1_1_n_n none
          (shapeCast S8192x1024 (α := Ideal .f32) b shapeCasts_S1x8192x1024_S8192x1024)
          (extf .f32 (shapeCast S8192x1024 (transpose S64x128x1024 [0, 2, 1] a transposes_S64x1024x128_S64x128x1024_0_2_1)
            shapeCasts_S64x128x1024_S8192x1024) bitsLt_bf16_f32)) transposes_S1024x1024_S1024x1024_1_0) bitsLt_bf16_f32)) (ix3 0 r l)
      = Cert.Kernel7Ideal.Sum.tokens a b r l := by
  unfold Cert.Kernel7Ideal.Sum.tokens
  pointwise []
  exact Finset.sum_congr rfl fun k _ => mul_comm _ _

end Cert.Reference7Ideal.Sum

namespace Cert

open Idealize.ShloMosaic Idealize.SL.Sem

theorem dwo_algebraic : algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.G2 m c, Cert.Kernel7Ideal.Value.run m g, ?_⟩
  refine (θ_run _ _ _).mono (fun r h c => ⟨(h c).1.trans ?_, (h c).2⟩) (Cert.Reference7Ideal.Value.run m' g')
  obtain ⟨h0, h1⟩ := hargs c
  rw [h0, h1]
  funext i
  rw [eq_ix3 i, show i 0 = (0 : Fin 1) from Fin.ext (Nat.lt_one_iff.mp (i 0).isLt)]
  exact (Cert.Reference7Ideal.Sum.reference_apply _ _ _ _).trans
    (Cert.Kernel7Ideal.Sum.result_apply m c _ _).symm

end Cert

end
-- ==== Proof.Dwpw1.lean ====
/-
  The weight gradient of the first pointwise convolution (`dwpw1`): the kernel walks two tiles of the 8192 tokens for
  each of the eight 704-row blocks, adding each tile's product into a scratch accumulator that starts at zero, and
  rounds the accumulator into the result after the second tile. Over the reals the two partial sums are one sum.
-/
module

public import proofs.«01_k».proof.Proof.Gen.Kernel5Ideal.Value
public import Idealize.ShloMosaic.Lib.Pointwise
public import Idealize.ShloMosaic.Lib.Tactic

@[expose] public section

set_option maxRecDepth 16384

noncomputable section

namespace Cert.Kernel5Ideal.Sum

open Cert.Kernel5Ideal Cert.Kernel5Ideal.Gen Cert.Kernel5Ideal.Value Idealize.ShloMosaic Idealize.ShloMosaic.TcCoe
  Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The first tile's step leaves the tile's product over the zero block in the scratch. -/
theorem scratch_first (c : Dev nD) (i : grid0.Coords) (a2 : Memref sig .tc .vmem S1x1024x4096 .bf16) (h2 : a2.IsWhole)
    (a3 : Memref sig .tc .vmem S1x4096x256 .bf16) (h3 : a3.IsWhole) (a4 : Memref sig .tc .vmem S1x1024x256 .bf16)
    (h4 : a4.IsWhole) (a5 : Memref sig .tc .vmem S1024x256 .f32) (h5 : a5.IsWhole) (hc0 : cond0_0 i)
    (hc1 : ¬cond0_1 i) (x0 : Vec Ideal S1x1024x4096 .bf16) (x1 : Vec Ideal S1x4096x256 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x256) hz2, View.readCov_unit_zero (S := S1024x256) _ hz2]
  simp only [View.readAt_eq_ld, h2.read_unread, h3.read_unread, View.ld_unit_zero (S := S1x1024x4096) hz3,
    View.ld_unit_zero (S := S1x4096x256) hz3]

/-- The second tile's step leaves, in the result block, the scratch's contents plus the tile's product. -/
theorem out_last (c : Dev nD) (i : grid0.Coords) (a2 : Memref sig .tc .vmem S1x1024x4096 .bf16) (h2 : a2.IsWhole)
    (a3 : Memref sig .tc .vmem S1x4096x256 .bf16) (h3 : a3.IsWhole) (a4 : Memref sig .tc .vmem S1x1024x256 .bf16)
    (h4 : a4.IsWhole) (a5 : Memref sig .tc .vmem S1024x256 .f32) (h5 : a5.IsWhole) (hc0 : ¬cond0_0 i)
    (hc1 : cond0_1 i) (x0 : Vec Ideal S1x1024x4096 .bf16) (x1 : Vec Ideal S1x4096x256 .bf16)
    (s : Vec Ideal S1024x256 .f32) :
    out0_B_2 c i a2 h2 a3 h3 a4 h4 a5 h5 hc0 hc1 x0 x1 s = k0_pay3 (k0_pay2 s x0 x1) := by
  unfold out0_B_2
  rw [View.read_writes_eq_canon _ _ _ (cover0_B_2 c i a2 h2 a3 h3 a4 h4 a5 h5 hc0 hc1 x0 x1 s)]
  unfold kernelRun0_B
  dsimp only
  sl_unfold_words
  rw [View.canon_unit_zero hz3, View.readCov_unit_zero (S := S1024x256) _ hz2]
  simp only [View.readAt_eq_ld, h2.read_unread, h3.read_unread, h5.read_unread,
    View.ld_unit_zero (S := S1x1024x4096) hz3, View.ld_unit_zero (S := S1x4096x256) hz3,
    View.ld_unit_zero (S := S1024x256) hz2]

/-- Point `t` of the grid reads tile `t % 2` of the tokens on the left, and on the right that tile of column block `t / 2`. -/
theorem idx_in0 : ∀ t : Fin cfg0.N, win0_0.index t (0 : Fin 3) = 0 ∧ win0_0.index t (1 : Fin 3) = 0
    ∧ win0_0.index t (2 : Fin 3) = t.val % 2 := (by decide +kernel : ∀ t : Fin grid0.N, _)
theorem idx_in1 : ∀ t : Fin cfg0.N, win0_1.index t (0 : Fin 3) = t.val / 2 ∧ win0_1.index t (1 : Fin 3) = t.val % 2
    ∧ win0_1.index t (2 : Fin 3) = 0 := (by decide +kernel : ∀ t : Fin grid0.N, _)

/-- The left operand's block at a point, read at an index of the array. -/
theorem blk_left (c : Dev nD) (t : Fin cfg0.N) (r : Fin 1024) (k : Fin 4096) (k' : Fin 8192)
    (hk : k'.val = t.val % 2 * 4096 + k.val) :
    iblk m c 0 t (ix3 0 r k) = m ((c : Thread nD τ).loc main_arg0) (ix3 0 r k') := by
  obtain ⟨e0, e1, e2⟩ := idx_in0 t
  unfold iblk
  rw [View.read_apply]
  show V m c main_arg0 _ = _
  unfold V
  congr 1
  funext a
  apply Fin.ext
  match a with
  | ⟨0, _⟩ => show win0_0.index t (0 : Fin 3) * 1 + 1 * 0 = 0; omega
  | ⟨1, _⟩ => show win0_0.index t (1 : Fin 3) * 1024 + 1 * r.val = r.val; omega
  | ⟨2, _⟩ => show win0_0.index t (2 : Fin 3) * 4096 + 1 * k.val = k'.val; omega

/-- The right operand's block at a point, read at an index of the array. -/
theorem blk_right (c : Dev nD) (t : Fin cfg0.N) (k : Fin 4096) (l : Fin 256) (j : Fin 8) (k' : Fin 8192)
    (hj : j.val = t.val / 2) (hk : k'.val = t.val % 2 * 4096 + k.val) :
    iblk m c 1 t (ix3 0 k l) = m ((c : Thread nD τ).loc main_arg1) (ix3 j k' l) := by
  obtain ⟨e0, e1, e2⟩ := idx_in1 t
  unfold iblk
  rw [View.read_apply]
  show V m c main_arg1 _ = _
  unfold V
  congr 1
  funext a
  apply Fin.ext
  match a with
  | ⟨0, _⟩ => show win0_1.index t (0 : Fin 3) * 1 + 1 * 0 = j.val; omega
  | ⟨1, _⟩ => show win0_1.index t (1 : Fin 3) * 4096 + 1 * k.val = k'.val; omega
  | ⟨2, _⟩ => show win0_1.index t (2 : Fin 3) * 256 + 1 * l.val = l.val; omega

/-- A tile's step at an index: what the accumulator held plus the tile's sum of products. -/
theorem step_apply (s : Vec Ideal S1024x256 .f32) (x0 : Vec Ideal S1x1024x4096 .bf16)
    (x1 : Vec Ideal S1x4096x256 .bf16) (r : Fin 1024) (l : Fin 256) :
    k0_pay2 s x0 x1 (ix2 r l) = s (ix2 r l) + ∑ k : Fin 4096, x0 (ix3 0 r k) * x1 (ix3 0 k l) := by
  pointwise [k0_pay2]

theorem zero_apply (r : Fin 1024) (l : Fin 256) : (k0_pay1 (F := Ideal)) (ix2 r l) = 0 := by
  pointwise [k0_pay1]

theorem cast_apply (s : Vec Ideal S1024x256 .f32) (r : Fin 1024) (l : Fin 256) :
    k0_pay3 s (ix3 0 r l) = s (ix2 r l) := by
  pointwise [k0_pay3]

/-- The whole sum over the tokens. -/
def tokens (a : Vec Ideal S1x1024x8192 .bf16) (b : Vec Ideal S8x8192x256 .bf16) (j : Fin 8) (r : Fin 1024)
    (l : Fin 256) : EReal := ∑ k : Fin 8192, a (ix3 0 r k) * b (ix3 j k l)

/-- It is the sums over the two tiles, added. -/
theorem tokens_tiles (a : Vec Ideal S1x1024x8192 .bf16) (b : Vec Ideal S8x8192x256 .bf16) (j : Fin 8) (r : Fin 1024)
    (l : Fin 256) (x0 y0 : Vec Ideal S1x1024x4096 .bf16) (x1 y1 : Vec Ideal S1x4096x256 .bf16)
    (hx0 : ∀ k : Fin 4096, x0 (ix3 0 r k) = a (ix3 0 r ⟨0 * 4096 + k.val, by omega⟩))
    (hy0 : ∀ k : Fin 4096, y0 (ix3 0 r k) = a (ix3 0 r ⟨1 * 4096 + k.val, by omega⟩))
    (hx1 : ∀ k : Fin 4096, x1 (ix3 0 k l) = b (ix3 j ⟨0 * 4096 + k.val, by omega⟩ l))
    (hy1 : ∀ k : Fin 4096, y1 (ix3 0 k l) = b (ix3 j ⟨1 * 4096 + k.val, by omega⟩ l)) :
    k0_pay3 (k0_pay2 (k0_pay2 k0_pay1 x0 x1) y0 y1) (ix3 0 r l) = tokens a b j r l := by
  rw [cast_apply, step_apply, step_apply, zero_apply, zero_add, tokens, Fin.sum_univ_tiles 2 4096 rfl,
    Fin.sum_univ_two]
  simp only [hx0, hy0, hx1, hy1]
  rfl

set_option maxHeartbeats 2000000 in
/-- The kernel's result at an index. -/
theorem result_apply (c : Dev nD) (j : Fin 8) (r : Fin 1024) (l : Fin 256) :
    G2 m c (ix3 j r l) = tokens (m ((c : Thread nD τ).loc main_arg0)) (m ((c : Thread nD τ).loc main_arg1)) j r l := by
  have hN : cfg0.N = 16 := N_0
  have hj := j.isLt; have hr := r.isLt; have hl := l.isLt
  have hp : pt2Of (ix3 j r l) = 2 * j.val + 1 := by
    show 2 * (1 * (j.val / 1 - 0) + 1 * (r.val / 1024 - 0) + 1 * (l.val / 256 - 0)) + 1 = _; omega
  have hlt : 2 * j.val + 1 < cfg0.N := by omega
  have hloc : loc2Of (ix3 j r l) = ix3 0 r l := by
    funext a; apply Fin.ext
    match a with
    | ⟨0, _⟩ => show j.val % 1 = 0; omega
    | ⟨1, _⟩ => show r.val % 1024 = r.val; omega
    | ⟨2, _⟩ => show l.val % 256 = l.val; omega
  unfold G2
  rw [dif_pos (by omega), hloc, fold0_congr m c _ _ (2 * j.val + 1) (by omega) hp, ← outsAt0_sweep m c _ hlt]
  rw [outsAt0_B m c ⟨2 * j.val + 1, hlt⟩ (by dsimp only; omega) (by dsimp only; omega)]
  dsimp only
  rw [out_last]
  have e := congrArg Prod.snd (outsAt0_A m c ⟨2 * j.val, by omega⟩ (by dsimp only; omega) (by dsimp only; omega))
  dsimp only at e
  rw [scratch_first] at e
  have e' : (outsAt0 m c (2 * j.val + 1 - 1) (by omega)).2 = _ := e
  rw [e']
  exact tokens_tiles (m ((c : Thread nD τ).loc main_arg0)) (m ((c : Thread nD τ).loc main_arg1)) j r l
    (iblk m c 0 ⟨2 * j.val, by omega⟩) (iblk m c 0 ⟨2 * j.val + 1, hlt⟩)
    (iblk m c 1 ⟨2 * j.val, by omega⟩) (iblk m c 1 ⟨2 * j.val + 1, hlt⟩)
    (fun k => blk_left m c _ r k ⟨0 * 4096 + k.val, by omega⟩ (by dsimp only; omega))
    (fun k => blk_left m c _ r k ⟨1 * 4096 + k.val, by omega⟩ (by dsimp only; omega))
    (fun k => blk_right m c _ k l j ⟨0 * 4096 + k.val, by omega⟩ (by dsimp only; omega) (by dsimp only; omega))
    (fun k => blk_right m c _ k l j ⟨1 * 4096 + k.val, by omega⟩ (by dsimp only; omega) (by dsimp only; omega))

end Cert.Kernel5Ideal.Sum

end
-- ==== Proof.Dwpw1Claim.lean ====
/-
  The first pointwise convolution's weight gradient: the kernel's array is the reference's.
-/
module

public import proofs.«01_k».proof.Defs
public import proofs.«01_k».proof.Proof.Dwpw1
public import proofs.«01_k».proof.Proof.Gen.Kernel5Ideal
public import proofs.«01_k».proof.Proof.Gen.Reference5Ideal.Run
public import Idealize.ShloMosaic.Lib.Claim

@[expose] public section

set_option maxRecDepth 16384

noncomputable section

namespace Cert.Reference5Ideal.Sum

open Cert.Reference5Ideal Cert.Reference5Ideal.Gen Idealize.ShloMosaic Idealize.SL.Sem

/-- The reference's product at an index. -/
theorem reference_apply (a : Vec Ideal S1x1024x8192 .bf16) (b : Vec Ideal S8x8192x256 .bf16) (j : Fin 8) (r : Fin 1024)
    (l : Fin 256) :
    (truncf .bf16 (transpose S8x1024x256 [0, 2, 1] (Host.dotGeneral (F := Ideal) dot_S8x256x8192_S1024x8192_S8x256x1024_2_1_01_0_n_n none
        (transpose S8x256x8192 [0, 2, 1] (extf .f32 b bitsLt_bf16_f32) transposes_S8x8192x256_S8x256x8192_0_2_1)
        (extf .f32 (shapeCast _ a shapeCasts_S1x1024x8192_S1024x8192) bitsLt_bf16_f32))
        transposes_S8x256x1024_S8x1024x256_0_2_1) bitsLt_bf16_f32) (ix3 j r l)
      = Cert.Kernel5Ideal.Sum.tokens a b j r l := by
  unfold Cert.Kernel5Ideal.Sum.tokens
  pointwise []
  exact Finset.sum_congr rfl fun k _ => mul_comm _ _

end Cert.Reference5Ideal.Sum

namespace Cert

open Idealize.ShloMosaic Idealize.SL.Sem

theorem dwpw1_algebraic : algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Value.G2 m c, Cert.Kernel5Ideal.Value.run m g, ?_⟩
  refine (θ_run _ _ _).mono (fun r h c => ⟨(h c).1.trans ?_, (h c).2⟩) (Cert.Reference5Ideal.Value.run m' g')
  obtain ⟨h0, h1⟩ := hargs c
  rw [h0, h1]
  funext i
  rw [eq_ix3 i]
  exact (Cert.Reference5Ideal.Sum.reference_apply _ _ _ _ _).trans
    (Cert.Kernel5Ideal.Sum.result_apply m c _ _ _).symm

end Cert

end
-- ==== Proof.Dwpw2.lean ====
/-
  The weight gradient of the second pointwise convolution (`dwpw2`): the kernel walks four tiles of the 8192 tokens,
  adding each tile's product into a scratch accumulator that starts at zero, and rounds the accumulator into the
  result after the last tile. Over the reals the four partial sums are one sum.
-/
module

public import proofs.«01_k».proof.Proof.Gen.Kernel6Ideal.Value
public import Idealize.ShloMosaic.Lib.Pointwise
public import Idealize.ShloMosaic.Lib.Tactic

@[expose] public section

set_option maxRecDepth 16384

noncomputable section

namespace Cert.Kernel6Ideal.Sum

open Cert.Kernel6Ideal Cert.Kernel6Ideal.Gen Cert.Kernel6Ideal.Value Idealize.ShloMosaic Idealize.ShloMosaic.TcCoe
  Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The first tile's step leaves the tile's product over the zero block in the scratch. -/
theorem scratch_first (c : Dev nD) (i : grid0.Coords) (a2 : Memref sig .tc .vmem S1x1024x2048 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : cond0_0 i)
    (hc1 : ¬cond0_1 i) (x0 : Vec Ideal S1x1024x2048 .bf16) (x1 : Vec Ideal S1x2048x1024 .f32) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, View.ld_unit_zero (S := S1x1024x2048) hz3,
    View.ld_unit_zero (S := S1x2048x1024) hz3]

/-- A middle tile's step adds the tile's product to the scratch. -/
theorem scratch_mid (c : Dev nD) (i : grid0.Coords) (a2 : Memref sig .tc .vmem S1x1024x2048 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : ¬cond0_0 i)
    (hc1 : ¬cond0_1 i) (x0 : Vec Ideal S1x1024x2048 .bf16) (x1 : Vec Ideal S1x2048x1024 .f32)
    (s : Vec Ideal S1024x1024 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  sl_unfold_words
  rw [View.canon_unit_zero hz2]
  simp only [View.readAt_eq_ld, h2.read_unread, h3.read_unread, h5.read_unread,
    View.ld_unit_zero (S := S1x1024x2048) hz3, View.ld_unit_zero (S := S1x2048x1024) hz3,
    View.ld_unit_zero (S := S1024x1024) hz2]

/-- The last tile's step leaves, in the result block, the scratch's contents plus the tile's product. -/
theorem out_last (c : Dev nD) (i : grid0.Coords) (a2 : Memref sig .tc .vmem S1x1024x2048 .bf16) (h2 : a2.IsWhole)
    (a3 : Memref sig .tc .vmem S1x2048x1024 .f32) (h3 : a3.IsWhole) (a4 : Memref sig .tc .vmem S1x1024x1024 .bf16)
    (h4 : a4.IsWhole) (a5 : Memref sig .tc .vmem S1024x1024 .f32) (h5 : a5.IsWhole) (hc0 : ¬cond0_0 i)
    (hc1 : cond0_1 i) (x0 : Vec Ideal S1x1024x2048 .bf16) (x1 : Vec Ideal S1x2048x1024 .f32)
    (s : Vec Ideal S1024x1024 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz3, View.readCov_unit_zero (S := S1024x1024) _ hz2]
  simp only [View.readAt_eq_ld, h2.read_unread, h3.read_unread, h5.read_unread,
    View.ld_unit_zero (S := S1x1024x2048) hz3, View.ld_unit_zero (S := S1x2048x1024) hz3,
    View.ld_unit_zero (S := S1024x1024) hz2]

/-- Point `t` of the grid reads tile `t` of the tokens in both operands. -/
theorem idx_in0 : ∀ t : Fin cfg0.N, win0_0.index t (0 : Fin 3) = 0 ∧ win0_0.index t (1 : Fin 3) = 0
    ∧ win0_0.index t (2 : Fin 3) = t.val := (by decide +kernel : ∀ t : Fin grid0.N, _)
theorem idx_in1 : ∀ t : Fin cfg0.N, win0_1.index t (0 : Fin 3) = 0 ∧ win0_1.index t (1 : Fin 3) = t.val
    ∧ win0_1.index t (2 : Fin 3) = 0 := (by decide +kernel : ∀ t : Fin grid0.N, _)

/-- The left operand's block at a point, read at an index of the array. -/
theorem blk_left (c : Dev nD) (t : Fin cfg0.N) (r : Fin 1024) (k : Fin 2048) (k' : Fin 8192)
    (hk : k'.val = t.val * 2048 + k.val) :
    iblk m c 0 t (ix3 0 r k) = m ((c : Thread nD τ).loc main_arg0) (ix3 0 r k') := by
  obtain ⟨e0, e1, e2⟩ := idx_in0 t
  unfold iblk
  rw [View.read_apply]
  show V m c main_arg0 _ = _
  unfold V
  congr 1
  funext a
  apply Fin.ext
  match a with
  | ⟨0, _⟩ => show win0_0.index t (0 : Fin 3) * 1 + 1 * 0 = 0; omega
  | ⟨1, _⟩ => show win0_0.index t (1 : Fin 3) * 1024 + 1 * r.val = r.val; omega
  | ⟨2, _⟩ => show win0_0.index t (2 : Fin 3) * 2048 + 1 * k.val = k'.val; omega

/-- The right operand's block at a point, read at an index of the array. -/
theorem blk_right (c : Dev nD) (t : Fin cfg0.N) (k : Fin 2048) (l : Fin 1024) (k' : Fin 8192)
    (hk : k'.val = t.val * 2048 + k.val) :
    iblk m c 1 t (ix3 0 k l) = m ((c : Thread nD τ).loc main_arg1) (ix3 0 k' l) := by
  obtain ⟨e0, e1, e2⟩ := idx_in1 t
  unfold iblk
  rw [View.read_apply]
  show V m c main_arg1 _ = _
  unfold V
  congr 1
  funext a
  apply Fin.ext
  match a with
  | ⟨0, _⟩ => show win0_1.index t (0 : Fin 3) * 1 + 1 * 0 = 0; omega
  | ⟨1, _⟩ => show win0_1.index t (1 : Fin 3) * 2048 + 1 * k.val = k'.val; omega
  | ⟨2, _⟩ => show win0_1.index t (2 : Fin 3) * 1024 + 1 * l.val = l.val; omega

/-- A tile's step at an index: what the accumulator held plus the tile's sum of products. -/
theorem step_apply (s : Vec Ideal S1024x1024 .f32) (x0 : Vec Ideal S1x1024x2048 .bf16)
    (x1 : Vec Ideal S1x2048x1024 .f32) (r : Fin 1024) (l : Fin 1024) :
    k0_pay2 s x0 x1 (ix2 r l) = s (ix2 r l) + ∑ k : Fin 2048, x0 (ix3 0 r k) * x1 (ix3 0 k l) := by
  pointwise [k0_pay2]

theorem zero_apply (r : Fin 1024) (l : Fin 1024) : (k0_pay1 (F := Ideal)) (ix2 r l) = 0 := by
  pointwise [k0_pay1]

theorem cast_apply (s : Vec Ideal S1024x1024 .f32) (r : Fin 1024) (l : Fin 1024) :
    k0_pay3 s (ix3 0 r l) = s (ix2 r l) := by
  pointwise [k0_pay3]

/-- The whole sum over the tokens. -/
def tokens (a : Vec Ideal S1x1024x8192 .bf16) (b : Vec Ideal S1x8192x1024 .f32) (r : Fin 1024)
    (l : Fin 1024) : EReal := ∑ k : Fin 8192, a (ix3 0 r k) * b (ix3 0 k l)

/-- It is the sums over the four tiles, added. -/
theorem tokens_tiles (a : Vec Ideal S1x1024x8192 .bf16) (b : Vec Ideal S1x8192x1024 .f32) (r : Fin 1024)
    (l : Fin 1024) (x : Fin 4 → Vec Ideal S1x1024x2048 .bf16) (y : Fin 4 → Vec Ideal S1x2048x1024 .f32)
    (hx : ∀ (t : Fin 4) (k : Fin 2048), x t (ix3 0 r k) = a (ix3 0 r ⟨t.val * 2048 + k.val, by omega⟩))
    (hy : ∀ (t : Fin 4) (k : Fin 2048), y t (ix3 0 k l) = b (ix3 0 ⟨t.val * 2048 + k.val, by omega⟩ l)) :
    k0_pay3 (k0_pay2 (k0_pay2 (k0_pay2 (k0_pay2 k0_pay1 (x 0) (y 0)) (x 1) (y 1)) (x 2) (y 2)) (x 3) (y 3)) (ix3 0 r l)
      = tokens a b r l := by
  rw [cast_apply, step_apply, step_apply, step_apply, step_apply, zero_apply, zero_add, tokens,
    Fin.sum_univ_tiles 4 2048 rfl, Fin.sum_univ_four]
  simp only [hx, hy]

set_option maxHeartbeats 2000000 in
/-- What the scratch holds after the first three points. -/
theorem scratch_third (c : Dev nD) (h0 : 0 < cfg0.N) (h1 : 1 < cfg0.N) (h2 : 2 < cfg0.N) :
    (outsAt0 m c 2 h2).2 = k0_pay2 (k0_pay2 (k0_pay2 k0_pay1 (iblk m c 0 ⟨0, h0⟩) (iblk m c 1 ⟨0, h0⟩))
      (iblk m c 0 ⟨1, h1⟩) (iblk m c 1 ⟨1, h1⟩)) (iblk m c 0 ⟨2, h2⟩) (iblk m c 1 ⟨2, h2⟩) := by
  have e0 := congrArg Prod.snd (outsAt0_A m c ⟨0, h0⟩ (by dsimp only) (by dsimp only; omega))
  have e1 := congrArg Prod.snd (outsAt0_B m c ⟨1, h1⟩ (by dsimp only; omega) (by dsimp only; omega))
  have e2 := congrArg Prod.snd (outsAt0_B m c ⟨2, h2⟩ (by dsimp only; omega) (by dsimp only; omega))
  dsimp only at e0 e1 e2
  rw [scratch_first] at e0
  rw [scratch_mid] at e1 e2
  rw [e2]
  refine congrArg (fun s => k0_pay2 s _ _) (e1.trans ?_)
  exact congrArg (fun s => k0_pay2 s _ _) e0

set_option maxHeartbeats 2000000 in
/-- The kernel's result at an index. -/
theorem result_apply (c : Dev nD) (r : Fin 1024) (l : Fin 1024) :
    G2 m c (ix3 0 r l) = tokens (m ((c : Thread nD τ).loc main_arg0)) (m ((c : Thread nD τ).loc main_arg1)) r l := by
  have hN : cfg0.N = 4 := N_0
  have hr := r.isLt; have hl := l.isLt
  have hp : pt2Of (ix3 0 r l) = 3 := by
    show 4 * (1 * (0 / 1 - 0) + 1 * (r.val / 1024 - 0) + 1 * (l.val / 1024 - 0)) + 3 = _; omega
  have h0 : 0 < cfg0.N := by omega
  have h1 : 1 < cfg0.N := by omega
  have h2 : 2 < cfg0.N := by omega
  have h3 : 3 < cfg0.N := by omega
  have hloc : loc2Of (ix3 0 r l) = ix3 0 r l := by
    funext a; apply Fin.ext
    match a with
    | ⟨0, _⟩ => show 0 % 1 = 0; omega
    | ⟨1, _⟩ => show r.val % 1024 = r.val; omega
    | ⟨2, _⟩ => show l.val % 1024 = l.val; omega
  unfold G2
  rw [dif_pos (by omega), hloc, fold0_congr m c _ _ 3 (by omega) hp, ← outsAt0_sweep m c _ h3]
  rw [outsAt0_C m c ⟨3, h3⟩ (by dsimp only; omega) (by dsimp only)]
  dsimp only
  rw [out_last]
  have e' : (outsAt0 m c (3 - 1) (by omega)).2 = _ := scratch_third m c h0 h1 h2
  rw [e']
  exact tokens_tiles (m ((c : Thread nD τ).loc main_arg0)) (m ((c : Thread nD τ).loc main_arg1)) r l
    (fun t => iblk m c 0 ⟨t.val, by omega⟩) (fun t => iblk m c 1 ⟨t.val, by omega⟩)
    (fun t k => blk_left m c ⟨t.val, by omega⟩ r k ⟨t.val * 2048 + k.val, by omega⟩ rfl)
    (fun t k => blk_right m c ⟨t.val, by omega⟩ k l ⟨t.val * 2048 + k.val, by omega⟩ rfl)

end Cert.Kernel6Ideal.Sum

end
-- ==== Proof.Dwpw2Claim.lean ====
/-
  The second pointwise convolution's weight gradient: the kernel's array is the reference's.
-/
module

public import proofs.«01_k».proof.Defs
public import proofs.«01_k».proof.Proof.Dwpw2
public import proofs.«01_k».proof.Proof.Gen.Kernel6Ideal
public import proofs.«01_k».proof.Proof.Gen.Reference6Ideal.Run
public import Idealize.ShloMosaic.Lib.Claim

@[expose] public section

set_option maxRecDepth 16384

noncomputable section

namespace Cert.Reference6Ideal.Sum

open Cert.Reference6Ideal Cert.Reference6Ideal.Gen Idealize.ShloMosaic Idealize.SL.Sem

/-- The reference's product at an index. -/
theorem reference_apply (a : Vec Ideal S1x1024x8192 .bf16) (b : Vec Ideal S1x8192x1024 .f32) (r : Fin 1024)
    (l : Fin 1024) :
    (broadcastInDim S1x1024x1024 ![1, 2] bcast_S1024x1024_S1x1024x1024_1_2
      (truncf .bf16 (transpose S1024x1024 [1, 0]
        (Host.dotGeneral (F := Ideal) (φ₁ := .f32) dot_S8192x1024_S8192x1024_S1024x1024_0_0_1_1_n_n none
          (shapeCast S8192x1024 (α := Ideal .f32) b shapeCasts_S1x8192x1024_S8192x1024)
          (transpose S8192x1024 [1, 0] (extf .f32 (shapeCast _ a shapeCasts_S1x1024x8192_S1024x8192) bitsLt_bf16_f32)
            transposes_S1024x8192_S8192x1024_1_0)) transposes_S1024x1024_S1024x1024_1_0) bitsLt_bf16_f32)) (ix3 0 r l)
      = Cert.Kernel6Ideal.Sum.tokens a b r l := by
  unfold Cert.Kernel6Ideal.Sum.tokens
  pointwise []
  exact Finset.sum_congr rfl fun k _ => mul_comm _ _

end Cert.Reference6Ideal.Sum

namespace Cert

open Idealize.ShloMosaic Idealize.SL.Sem

theorem dwpw2_algebraic : algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.G2 m c, Cert.Kernel6Ideal.Value.run m g, ?_⟩
  refine (θ_run _ _ _).mono (fun r h c => ⟨(h c).1.trans ?_, (h c).2⟩) (Cert.Reference6Ideal.Value.run m' g')
  obtain ⟨h0, h1⟩ := hargs c
  rw [h0, h1]
  funext i
  rw [eq_ix3 i, show i 0 = (0 : Fin 1) from Fin.ext (Nat.lt_one_iff.mp (i 0).isLt)]
  exact (Cert.Reference6Ideal.Sum.reference_apply _ _ _ _).trans
    (Cert.Kernel6Ideal.Sum.result_apply m c _ _).symm

end Cert

end
-- ==== Proof.FfnBwdRef.lean ====
module

public import proofs.«01_k».proof.Proof.Ffn
public import proofs.«01_k».proof.Proof.Gen.Reference2Ideal.Run

@[expose] public section

set_option maxRecDepth 16384

noncomputable section

/-! # What the reference of the feed-forward's gradient computes, on real arrays -/

namespace Cert.FfnBwdRef

open Cert.Reference2Ideal Cert.Reference2Ideal.Gen Idealize.ShloMosaic Idealize.ShloMosaic.TcCoe Idealize.SL.Sem
open Cert.Reals Cert.Rms

abbrev G := FVec Ideal S8192x2816 .f32

/-- The normalised tokens through all columns. -/
def projT (x : A) (g : FVec Ideal SD .f32) (w : FVec Ideal S1024x5632 .f32) : FVec Ideal S8192x5632 .f32 :=
  Host.dotGeneral dot_S8192x1024_S1024x5632_S8192x5632_1_0_0_1_n_n none (normT x g) w
def gateT (u : FVec Ideal S8192x5632 .f32) : G := extractStridedSlice S8192x2816 ![0, 0] u slices_S8192x5632_S8192x2816_0_0
def upT (u : FVec Ideal S8192x5632 .f32) : G := extractStridedSlice S8192x2816 ![0, 2816] u slices_S8192x5632_S8192x2816_0_2816
def sigT (z : G) : G :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf z)))
def dactT (dy : A) (v : FVec Ideal S2816x1024 .f32) : G :=
  Host.dotGeneral dot_S8192x1024_S2816x1024_S8192x2816_1_1_0_0_n_n none dy v
/-- What the gates receive. -/
def dgateT (z u d : G) : G :=
  addf (mulf (mulf d u) (sigT z)) (mulf (mulf z (mulf d u))
    (mulf (sigT z) (subf (broadcastInDim S8192x2816 ![] bcast_S_S8192x2816 (constant S_ .f32 0x3F800000#32)) (sigT z))))
/-- What all columns receive. -/
def dprojT (p : FVec Ideal S8192x5632 .f32) (d : G) : FVec Ideal S8192x5632 .f32 :=
  addf (pad S8192x5632 ![0, 2816] ![0, 0] ![0, 0] (mulf (mulf (gateT p) (sigT (gateT p))) d) (constant S_ .f32 0x00000000#32)
      pads_S8192x2816_S8192x5632_000_281600 h_S_)
    (pad S8192x5632 ![0, 0] ![0, 2816] ![0, 0] (dgateT (gateT p) (upT p) d) (constant S_ .f32 0x00000000#32)
      pads_S8192x2816_S8192x5632_000_028160 h_S_)
/-- What the normalised tokens receive. -/
def dnormT (q : FVec Ideal S8192x5632 .f32) (w : FVec Ideal S1024x5632 .f32) : A :=
  Host.dotGeneral dot_S8192x5632_S1024x5632_S8192x1024_1_1_0_0_n_n none q w

section
variable (x dy : Fin 8192 → Fin 1024 → ℝ) (g : Fin 1024 → ℝ) (w : Fin 1024 → Fin 5632 → ℝ) (v : Fin 2816 → Fin 1024 → ℝ)

theorem projT_lift : projT (lift2 x) (lift1 g) (lift2 w) = lift2 fun t => Ffn.proj (x t) g w := by
  unfold projT; rw [normT_lift]
  funext i; idx_vars i
  pointwise []
  simp only [lift2_apply, ← EReal.coe_mul, coe_sum]
  rfl

theorem gateT_lift (p : Fin 8192 → Fin 5632 → ℝ) : gateT (lift2 p) = lift2 fun t f => p t (Ffn.lo f) := by
  funext i; idx_vars i
  pointwise [gateT]
  rfl

theorem upT_lift (p : Fin 8192 → Fin 5632 → ℝ) : upT (lift2 p) = lift2 fun t f => p t (Ffn.hi f) := by
  funext i; idx_vars i
  pointwise [upT]
  rfl

theorem sigT_lift (z : Fin 8192 → Fin 2816 → ℝ) : sigT (lift2 z) = lift2 fun t f => sigmoid (z t f) := by
  funext i; idx_vars i
  pointwise [sigT]
  simp only [lift2_apply, Ideal.ofBits_one_f32, sigmoid_real]

theorem dactT_lift : dactT (lift2 dy) (lift2 v) = lift2 fun t => Ffn.dact v (dy t) := by
  funext i; idx_vars i
  pointwise [dactT]
  simp only [lift2_apply, ← EReal.coe_mul, coe_sum]
  rfl

theorem dgateT_lift (z u d : Fin 8192 → Fin 2816 → ℝ) : dgateT (lift2 z) (lift2 u) (lift2 d)
    = lift2 fun t f => d t f * (sigmoid (z t f) * (1 + z t f * (1 - sigmoid (z t f))) * u t f) := by
  unfold dgateT; rw [sigT_lift]
  funext i; idx_vars i
  pointwise []
  simp only [lift2_apply, ← EReal.coe_one, ← EReal.coe_mul, ← EReal.coe_add, ← EReal.coe_sub]
  congr 1; ring

theorem dprojT_lift (d : Fin 8192 → Fin 2816 → ℝ) (hd : d = fun t => Ffn.dact v (dy t)) :
    dprojT (lift2 fun t => Ffn.proj (x t) g w) (lift2 d)
    = lift2 fun t => Ffn.dproj (x t) g w v (dy t) := by
  unfold dprojT; rw [gateT_lift, upT_lift, dgateT_lift, sigT_lift]
  funext i; idx_vars i
  pointwise []
  simp only [lift2_apply, ← EReal.coe_mul]
  unfold Ffn.dproj
  by_cases h : i1.val < 2816
  · rw [dif_neg (by omega), dif_pos h, dif_pos h, zero_add]; subst hd; rfl
  · rw [dif_pos (by omega), dif_neg h, dif_neg h, add_zero]; subst hd
    congr 1; exact mul_comm _ _

theorem dnormT_lift (q : Fin 8192 → Fin 5632 → ℝ) : dnormT (lift2 q) (lift2 w) = lift2 fun t k => ∑ n, q t n * w k n := by
  funext i; idx_vars i
  pointwise [dnormT]
  simp only [lift2_apply, ← EReal.coe_mul, coe_sum]

end

section
variable (m : (ℓ : Loc nD τ sig) → Buf (Elt Ideal) ℓ) (c : Dev nD)

/-- The five arrays the program takes. -/
abbrev xOf : A := m ((c.tc : Thread nD τ).loc main_arg0)
abbrev gOf : FVec Ideal SD .f32 := m ((c.tc : Thread nD τ).loc main_arg1)
abbrev wOf : FVec Ideal S1024x5632 .f32 := m ((c.tc : Thread nD τ).loc main_arg2)
abbrev vOf : FVec Ideal S2816x1024 .f32 := m ((c.tc : Thread nD τ).loc main_arg3)
abbrev yOf : A := m ((c.tc : Thread nD τ).loc main_arg4)

/-- The columns' gradient as the reference has it. -/
theorem res0_eq : (Value.res_out0 m c : FVec Ideal S8x704x8192 .bf16) = truncf .bf16 (shapeCast S8x704x8192 (transpose S5632x8192 [1, 0]
    (dprojT (projT (xOf m c) (gOf m c) (wOf m c)) (dactT (yOf m c) (vOf m c))) transposes_S8192x5632_S5632x8192_1_0) shapeCasts_S5632x8192_S8x704x8192) bitsLt_bf16_f32 := rfl

theorem res2_eq : (Value.res_out2 m c : A) = addf (yOf m c) (pullT (xOf m c) (gOf m c) (dnormT (dprojT (projT (xOf m c) (gOf m c) (wOf m c)) (dactT (yOf m c) (vOf m c))) (wOf m c))) := rfl

theorem res3_eq : (Value.res_out3 m c : FVec Ideal S1x1024 .f32) = broadcastInDim S1x1024 ![1] bcast_S1024_S1x1024_1
    (gainsT (xOf m c) (dnormT (dprojT (projT (xOf m c) (gOf m c) (wOf m c)) (dactT (yOf m c) (vOf m c))) (wOf m c))) := rfl

variable (x dy : Fin 8192 → Fin 1024 → ℝ) (g : Fin 1024 → ℝ) (w : Fin 1024 → Fin 5632 → ℝ) (v : Fin 2816 → Fin 1024 → ℝ)
  (hx : (xOf m c) = lift2 x) (hg : (gOf m c) = lift1 g) (hw : (wOf m c) = lift2 w) (hv : (vOf m c) = lift2 v) (hy : (yOf m c) = lift2 dy)
include hx hg hw hv hy

theorem dproj_all : dprojT (projT (xOf m c) (gOf m c) (wOf m c)) (dactT (yOf m c) (vOf m c)) = lift2 (φ := .f32) fun t => Ffn.dproj (x t) g w v (dy t) := by
  rw [hx, hg, hw, hv, hy, projT_lift, dactT_lift]
  exact dprojT_lift x dy g w v _ rfl

theorem dnorm_all : dnormT (dprojT (projT (xOf m c) (gOf m c) (wOf m c)) (dactT (yOf m c) (vOf m c))) (wOf m c) = lift2 (φ := .f32) fun t => Ffn.dnorm (x t) g w v (dy t) := by
  rw [dproj_all m c x dy g w v hx hg hw hv hy, hw, dnormT_lift]; rfl

theorem res0 : (Value.res_out0 m c : FVec Ideal S8x704x8192 .bf16) = lift3 (φ := .bf16) fun j f t => Ffn.dproj (x t) g w v (dy t) ⟨j.val * 704 + f.val, by omega⟩ := by
  rw [res0_eq, dproj_all m c x dy g w v hx hg hw hv hy]
  funext i; idx_vars i
  pointwise []
  rfl

theorem res1 : truncf .bf16 (normT (xOf m c) (gOf m c)) bitsLt_bf16_f32 = lift2 (φ := .bf16) fun t => norm (x t) g := by
  rw [hx, hg, normT_lift]; rfl

theorem res2 : (Value.res_out2 m c : A) = lift2 (φ := .f32) fun t => Ffn.dtoken (x t) g w v (dy t) := by
  rw [res2_eq, dnorm_all m c x dy g w v hx hg hw hv hy, hx, hg, hy, pullT_lift]
  funext i; idx_vars i
  pointwise []
  simp only [lift2_apply, ← EReal.coe_add]
  rfl

theorem res3 : (Value.res_out3 m c : FVec Ideal S1x1024 .f32) = lift2 (φ := .f32) fun _ k => ∑ t, Ffn.dgain (x t) g w v (dy t) k := by
  rw [res3_eq, dnorm_all m c x dy g w v hx hg hw hv hy, hx, gainsT_lift]
  funext i; idx_vars i
  pointwise []
  rfl

end

end Cert.FfnBwdRef

end
-- ==== Proof.FfnBwdBlock.lean ====
module

public import proofs.«01_k».proof.Proof.FfnBwdPays

@[expose] public section

set_option maxRecDepth 16384

noncomputable section

/-! # What one point of the feed-forward's gradient kernel leaves, on real blocks

The first point (case A) starts the gains' gradient, the later ones (case B) add to it. -/

namespace Cert.FfnBwdKernel

open Cert.Kernel2Ideal Cert.Kernel2Ideal.Gen Cert.Kernel2Ideal.Value Idealize.ShloMosaic Idealize.ShloMosaic.TcCoe
  Idealize.SL.Sem Cert.Reals

theorem hz2 : (![0, 0] : Fin 2 → Nat) = fun _ => 0 := funext fun a => by fin_cases a <;> rfl

/-- One group of the columns' gradient as it lies in the block. -/
theorem group (y : Mat 256 1024) (S : Cube 8 256 704) (V : Cube 4 704 1024) (n : Fin 8) (X : FVec Ideal S1x704x256 .bf16) (hX : X = lift3 (a := 1) (φ := .bf16) fun _ f r => cols y S V n r f)
    (u : S1x704x256.Idx) (z0 : Fin 8) (z1 : Fin 704) (z2 : Fin 256) (h0 : z0.val = n.val + (u 0).val) (h1 : z1.val = (u 1).val) (h2 : z2.val = (u 2).val) :
    X u = lift3 (φ := .bf16) (fun n f r => cols y S V n r f) (ix3 z0 z1 z2) := by
  have hu : (u 0).val = 0 := by have := (u 0).isLt; simpa using this
  obtain rfl : z0 = n := Fin.ext (by omega)
  obtain rfl : z1 = u 1 := Fin.ext h1
  obtain rfl : z2 = u 2 := Fin.ext h2
  rw [hX]; rfl

variable {c : Dev nD} {i : grid0.Coords} {a1 : Memref sig .tc .vmem S256x1024 .f32} {h1 : a1.IsWhole} {a2 : Memref sig .tc .vmem S256x1024 .f32} {h2 : a2.IsWhole} {a3 : Memref sig .tc .vmem S8x256x704 .bf16} {h3 : a3.IsWhole} {a4 : Memref sig .tc .vmem S1x1024 .f32} {h4 : a4.IsWhole} {a5 : Memref sig .tc .vmem S8x704x1024 .bf16} {h5 : a5.IsWhole} {a6 : Memref sig .tc .vmem S4x704x1024 .bf16} {h6 : a6.IsWhole}
  {a7 : Memref sig .tc .vmem S8x704x256 .bf16} {h7 : a7.IsWhole} {a8 : Memref sig .tc .vmem S256x1024 .bf16} {h8 : a8.IsWhole} {a9 : Memref sig .tc .vmem S256x1024 .f32} {h9 : a9.IsWhole} {a10 : Memref sig .tc .vmem S1x1024 .f32} {h10 : a10.IsWhole}
  (y x : Mat 256 1024) (S : Cube 8 256 704) (g dg : Mat 1 1024) (W : Cube 8 704 1024) (V : Cube 4 704 1024)
  (x0 x1 : Vec Ideal S256x1024 .f32) (x2 : Vec Ideal S8x256x704 .bf16) (x3 : Vec Ideal S1x1024 .f32) (x4 : Vec Ideal S8x704x1024 .bf16) (x5 : Vec Ideal S4x704x1024 .bf16) (xo9 : Vec Ideal S1x1024 .f32)
  (hy : x0 = lift2 (φ := .f32) y) (hx : x1 = lift2 (φ := .f32) x) (hS : x2 = lift3 (φ := .bf16) S) (hg : x3 = lift2 (φ := .f32) g) (hW : x4 = lift3 (φ := .bf16) W) (hV : x5 = lift3 (φ := .bf16) V) (hdg : xo9 = lift2 (φ := .f32) dg)

set_option maxHeartbeats 2000000 in
include hy hx hS hg hW hV in
theorem outA6 {hc0 : cond0_0 i} : out0_A_6 c i a1 h1 a2 h2 a3 h3 a4 h4 a5 h5 a6 h6 a7 h7 a8 h8 a9 h9 a10 h10 hc0 x0 x1 x2 x3 x4 x5 = lift3 (φ := .bf16) fun n f r => cols y S V n r f := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV
  funext z; idx_vars z
  canon_tiles u h
  · exact group y S V 7 _ (by simp only [ld_lift, pay6_lift, pay36_lift]; rfl) u z0 z1 z2 h0 h1 h2
  · exact group y S V 3 _ (by simp only [ld_lift, pay6_lift, pay35_lift]; rfl) u z0 z1 z2 h0 h1 h2
  · exact group y S V 6 _ (by simp only [ld_lift, pay6_lift, pay28_lift, pay30_lift]; rfl) u z0 z1 z2 h0 h1 h2
  · exact group y S V 2 _ (by simp only [ld_lift, pay6_lift, pay29_lift]; rfl) u z0 z1 z2 h0 h1 h2
  · exact group y S V 5 _ (by simp only [ld_lift, pay6_lift, pay21_lift, pay24_lift]; rfl) u z0 z1 z2 h0 h1 h2
  · exact group y S V 1 _ (by simp only [ld_lift, pay6_lift, pay22_lift]; rfl) u z0 z1 z2 h0 h1 h2
  · exact group y S V 4 _ (by simp only [ld_lift, pay6_lift, pay12_lift, pay14_lift, pay17_lift]; rfl) u z0 z1 z2 h0 h1 h2
  · exact group y S V 0 _ (by simp only [ld_lift, pay6_lift, pay13_lift, pay16_lift]; rfl) u z0 z1 z2 (h0.trans (Nat.zero_add _).symm) h1 h2

set_option maxHeartbeats 2000000 in
include hy hx hS hg hW hV in
theorem outA7 {hc0 : cond0_0 i} : out0_A_7 c i a1 h1 a2 h2 a3 h3 a4 h4 a5 h5 a6 h6 a7 h7 a8 h8 a9 h9 a10 h10 hc0 x0 x1 x2 x3 x4 x5 = lift2 (φ := .bf16) fun r => Rms.norm (x r) (g 0) := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV
  rw [View.canon_unit_zero hz2]
  exact pay10_lift x g

set_option maxHeartbeats 2000000 in
include hy hx hS hg hW hV in
theorem outA8 {hc0 : cond0_0 i} : out0_A_8 c i a1 h1 a2 h2 a3 h3 a4 h4 a5 h5 a6 h6 a7 h7 a8 h8 a9 h9 a10 h10 hc0 x0 x1 x2 x3 x4 x5 = lift2 (φ := .f32) fun r k => y r k + Rms.pull (x r) (g 0) (dnorm y S W V r) k := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV
  rw [View.canon_unit_zero hz2]
  simp only [ld_lift, pay6_lift, pay7_lift, pay8_lift, pay9_lift, pay12_lift, pay13_lift, pay14_lift, pay20_lift, pay21_lift, pay27_lift, pay28_lift, pay33_lift, pay34_lift, pay11_lift, pay25_lift, pay31_lift, pay18_lift, pay5_lift]
  exact pay3_lift y x g _ (dnorm y S W V) _ _ (fun _ => W 3) (fun _ => W 7) (dnorm_eq y S W V)

set_option maxHeartbeats 2000000 in
include hy hx hS hg hW hV in
theorem outA9 {hc0 : cond0_0 i} : out0_A_9 c i a1 h1 a2 h2 a3 h3 a4 h4 a5 h5 a6 h6 a7 h7 a8 h8 a9 h9 a10 h10 hc0 x0 x1 x2 x3 x4 x5 = lift2 (φ := .f32) fun _ k => 0 + ∑ r, Rms.unit (x r) k * dnorm y S W V r k := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV
  rw [View.canon_cons_unit_zero (S := S1x1024) hz2]
  rw [View.readCov_unit_zero (S := S1x1024) _ hz2]
  simp only [ld_lift, pay6_lift, pay7_lift, pay8_lift, pay9_lift, pay12_lift, pay13_lift, pay14_lift, pay20_lift, pay21_lift, pay27_lift, pay28_lift, pay33_lift, pay34_lift, pay11_lift, pay25_lift, pay31_lift, pay18_lift, pay5_lift]
  exact pay4_lift x _ _ (dnorm y S W V) _ _ (fun _ => W 3) (fun _ => W 7) (dnorm_eq y S W V)

set_option maxHeartbeats 2000000 in
include hy hx hS hg hW hV hdg in
theorem outB6 {hc0 : ¬cond0_0 i} : out0_B_6 c i a1 h1 a2 h2 a3 h3 a4 h4 a5 h5 a6 h6 a7 h7 a8 h8 a9 h9 a10 h10 hc0 x0 x1 x2 x3 x4 x5 xo9 = lift3 (φ := .bf16) fun n f r => cols y S V n r f := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xo9)]
  unfold kernelRun0_B
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV
  funext z; idx_vars z
  canon_tiles u h
  · exact group y S V 7 _ (by simp only [ld_lift, pay6_lift, pay36_lift]; rfl) u z0 z1 z2 h0 h1 h2
  · exact group y S V 3 _ (by simp only [ld_lift, pay6_lift, pay35_lift]; rfl) u z0 z1 z2 h0 h1 h2
  · exact group y S V 6 _ (by simp only [ld_lift, pay6_lift, pay28_lift, pay30_lift]; rfl) u z0 z1 z2 h0 h1 h2
  · exact group y S V 2 _ (by simp only [ld_lift, pay6_lift, pay29_lift]; rfl) u z0 z1 z2 h0 h1 h2
  · exact group y S V 5 _ (by simp only [ld_lift, pay6_lift, pay21_lift, pay24_lift]; rfl) u z0 z1 z2 h0 h1 h2
  · exact group y S V 1 _ (by simp only [ld_lift, pay6_lift, pay22_lift]; rfl) u z0 z1 z2 h0 h1 h2
  · exact group y S V 4 _ (by simp only [ld_lift, pay6_lift, pay12_lift, pay14_lift, pay17_lift]; rfl) u z0 z1 z2 h0 h1 h2
  · exact group y S V 0 _ (by simp only [ld_lift, pay6_lift, pay13_lift, pay16_lift]; rfl) u z0 z1 z2 (h0.trans (Nat.zero_add _).symm) h1 h2

set_option maxHeartbeats 2000000 in
include hy hx hS hg hW hV hdg in
theorem outB7 {hc0 : ¬cond0_0 i} : out0_B_7 c i a1 h1 a2 h2 a3 h3 a4 h4 a5 h5 a6 h6 a7 h7 a8 h8 a9 h9 a10 h10 hc0 x0 x1 x2 x3 x4 x5 xo9 = lift2 (φ := .bf16) fun r => Rms.norm (x r) (g 0) := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xo9)]
  unfold kernelRun0_B
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV hdg
  rw [View.canon_unit_zero hz2]
  exact pay10_lift x g

set_option maxHeartbeats 2000000 in
include hy hx hS hg hW hV hdg in
theorem outB8 {hc0 : ¬cond0_0 i} : out0_B_8 c i a1 h1 a2 h2 a3 h3 a4 h4 a5 h5 a6 h6 a7 h7 a8 h8 a9 h9 a10 h10 hc0 x0 x1 x2 x3 x4 x5 xo9 = lift2 (φ := .f32) fun r k => y r k + Rms.pull (x r) (g 0) (dnorm y S W V r) k := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 xo9)]
  unfold kernelRun0_B
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV hdg
  rw [View.canon_unit_zero hz2]
  simp only [ld_lift, pay6_lift, pay7_lift, pay8_lift, pay9_lift, pay12_lift, pay13_lift, pay14_lift, pay20_lift, pay21_lift, pay27_lift, pay28_lift, pay33_lift, pay34_lift, pay11_lift, pay25_lift, pay31_lift, pay18_lift, pay5_lift]
  exact pay3_lift y x g _ (dnorm y S W V) _ _ (fun _ => W 3) (fun _ => W 7) (dnorm_eq y S W V)

set_option maxHeartbeats 2000000 in
include hy hx hS hg hW hV hdg in
theorem outB9 {hc0 : ¬cond0_0 i} : out0_B_9 c i a1 h1 a2 h2 a3 h3 a4 h4 a5 h5 a6 h6 a7 h7 a8 h8 a9 h9 a10 h10 hc0 x0 x1 x2 x3 x4 x5 xo9 = lift2 (φ := .f32) fun _ k => dg 0 k + ∑ r, Rms.unit (x r) k * dnorm y S W V r k := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 xo9)]
  unfold kernelRun0_B
  dsimp only
  sl_unfold_words
  simp only [View.readAt_eq_ld, h1.read_unread, h2.read_unread, h3.read_unread, h4.read_unread, h5.read_unread, h6.read_unread, h10.read_unread, View.ld_unit_zero (S := S256x1024) hz2, View.ld_unit_zero (S := S1x1024) hz2]
  subst hy hx hS hg hW hV hdg
  rw [View.canon_unit_zero hz2]
  simp only [ld_lift, pay6_lift, pay7_lift, pay8_lift, pay9_lift, pay12_lift, pay13_lift, pay14_lift, pay20_lift, pay21_lift, pay27_lift, pay28_lift, pay33_lift, pay34_lift, pay11_lift, pay25_lift, pay31_lift, pay18_lift, pay5_lift]
  exact pay4_lift x dg _ (dnorm y S W V) _ _ (fun _ => W 3) (fun _ => W 7) (dnorm_eq y S W V)

end Cert.FfnBwdKernel

end
-- ==== Proof.FfnBwdHost.lean ====
module

public import proofs.«01_k».proof.Proof.FfnBwdRef
public import proofs.«01_k».proof.Proof.FfnBwdBlock
public import Idealize.ShloMosaic.Lib.Claim

@[expose] public section

set_option maxRecDepth 16384

noncomputable section

/-! # What the feed-forward's gradient kernel is handed, on real arrays

The host prepares the saved derivatives (first `z σ(z)`, by the gated values, then the derivative by the gates), and lays the
weights out in groups of 704 columns. -/

namespace Cert.FfnBwdKernel

open Cert.Kernel2Ideal Cert.Kernel2Ideal.Gen Cert.Kernel2Ideal.Value Idealize.ShloMosaic Idealize.ShloMosaic.TcCoe
  Idealize.SL.Sem Cert.Reals

abbrev A := FVec Ideal S8192x1024 .f32
abbrev G := FVec Ideal S8192x2816 .f32

def oneT : G := broadcastInDim S8192x2816 ![] bcast_S_S8192x2816 (constant S_ .f32 0x3F800000#32)
def siluT (z : G) : G := mulf z (FfnBwdRef.sigT z)
def slopeT (z u : G) : G := mulf (mulf (FfnBwdRef.sigT z) (addf oneT (mulf z (subf oneT (FfnBwdRef.sigT z))))) u
def savedT (a b : G) : FVec Ideal S8x8192x704 .bf16 :=
  truncf .bf16 (transpose S8x8192x704 [1, 0, 2] (shapeCast S8192x8x704
    (concatenate S8192x5632 1 [⟨S8192x2816, a⟩, ⟨S8192x2816, b⟩] concatenates_S8192x2816_S8192x2816_S8192x5632_d1)
    shapeCasts_S8192x5632_S8192x8x704) transposes_S8192x8x704_S8x8192x704_1_0_2) bitsLt_bf16_f32

/-- Two halves of 2816 columns beside each other. -/
def beside (a b : Fin 2816 → ℝ) (n : Fin 5632) : ℝ := if h : n.val < 2816 then a ⟨n.val, h⟩ else b ⟨n.val - 2816, by omega⟩

theorem siluT_lift (z : Mat 8192 2816) : siluT (lift2 z) = lift2 fun t f => z t f * sigmoid (z t f) := by
  unfold siluT; rw [FfnBwdRef.sigT_lift]
  funext i; idx_vars i
  pointwise []
  simp only [lift2_apply, ← EReal.coe_mul]

theorem slopeT_lift (z u : Mat 8192 2816) : slopeT (lift2 z) (lift2 u) = lift2 fun t f => sigmoid (z t f) * (1 + z t f * (1 - sigmoid (z t f))) * u t f := by
  unfold slopeT; rw [FfnBwdRef.sigT_lift]
  funext i; idx_vars i
  pointwise [oneT]
  simp only [lift2_apply, Ideal.ofBits_one_f32, ← EReal.coe_one, ← EReal.coe_mul, ← EReal.coe_add, ← EReal.coe_sub]

theorem savedT_lift (a b : Mat 8192 2816) : savedT (lift2 a) (lift2 b) = lift3 (φ := .bf16) fun j t f => beside (a t) (b t) ⟨j.val * 704 + f.val, by omega⟩ := by
  funext i; idx_vars i
  pointwise [savedT]
  unfold beside
  simp only [lift2_apply, lift3_apply]
  split_ifs <;> rfl

variable (m : (ℓ : Loc nD τ sig) → Buf (Elt Ideal) ℓ) (c : Dev nD)

abbrev xOf : A := m ((c : Thread nD τ).loc main_arg0)
abbrev gOf : FVec Ideal S1024 .f32 := m ((c : Thread nD τ).loc main_arg1)
abbrev wOf : FVec Ideal S1024x5632 .f32 := m ((c : Thread nD τ).loc main_arg2)
abbrev vOf : FVec Ideal S2816x1024 .f32 := m ((c : Thread nD τ).loc main_arg3)
abbrev yOf : A := m ((c : Thread nD τ).loc main_arg4)

theorem saved_eq : (V m c main_v33 : FVec Ideal S8x8192x704 .bf16) =
    savedT (siluT (FfnBwdRef.gateT (FfnBwdRef.projT (xOf m c) (gOf m c) (wOf m c))))
      (slopeT (FfnBwdRef.gateT (FfnBwdRef.projT (xOf m c) (gOf m c) (wOf m c))) (FfnBwdRef.upT (FfnBwdRef.projT (xOf m c) (gOf m c) (wOf m c)))) := by
  unfold V
  after_results
  rfl

theorem gains_eq : (V m c main_v34 : FVec Ideal S1x1024 .f32) = broadcastInDim S1x1024 ![1] bcast_S1024_S1x1024_1 (gOf m c) := by
  unfold V
  after_results

theorem cols_eq : (V m c main_v37 : FVec Ideal S8x704x1024 .bf16) =
    truncf .bf16 (shapeCast S8x704x1024 (transpose S5632x1024 [1, 0] (wOf m c) transposes_S1024x5632_S5632x1024_1_0) shapeCasts_S5632x1024_S8x704x1024) bitsLt_bf16_f32 := by
  unfold V
  after_results
  rfl

theorem rows_eq : (V m c main_v39 : FVec Ideal S4x704x1024 .bf16) =
    truncf .bf16 (shapeCast S4x704x1024 (vOf m c) shapeCasts_S2816x1024_S4x704x1024) bitsLt_bf16_f32 := by
  unfold V
  after_results
  rfl

variable (x dy : Mat 8192 1024) (g : Fin 1024 → ℝ) (w : Mat 1024 5632) (v : Mat 2816 1024)

/-- The saved derivatives of a token. -/
def kept (x g : Fin 1024 → ℝ) (w : Mat 1024 5632) : Fin 5632 → ℝ := beside (Ffn.silu x g w) (Ffn.gateSlope x g w)

theorem saved_lift (hx : xOf m c = lift2 x) (hg : gOf m c = lift1 g) (hw : wOf m c = lift2 w) :
    (V m c main_v33 : FVec Ideal S8x8192x704 .bf16) = lift3 (φ := .bf16) fun j t f => kept (x t) g w ⟨j.val * 704 + f.val, by omega⟩ := by
  rw [saved_eq, hx, hg, hw, FfnBwdRef.projT_lift, FfnBwdRef.gateT_lift, FfnBwdRef.upT_lift, siluT_lift, slopeT_lift, savedT_lift]
  rfl

theorem gains_lift (hg : gOf m c = lift1 g) : (V m c main_v34 : FVec Ideal S1x1024 .f32) = lift2 (φ := .f32) fun _ => g := by
  rw [gains_eq, hg]
  funext i; idx_vars i
  pointwise []
  rfl

theorem cols_lift (hw : wOf m c = lift2 w) : (V m c main_v37 : FVec Ideal S8x704x1024 .bf16) = lift3 (φ := .bf16) fun j f k => w k ⟨j.val * 704 + f.val, by omega⟩ := by
  rw [cols_eq, hw]
  funext i; idx_vars i
  pointwise []
  rfl

theorem rows_lift (hv : vOf m c = lift2 v) : (V m c main_v39 : FVec Ideal S4x704x1024 .bf16) = lift3 (φ := .bf16) fun j f k => v ⟨j.val * 704 + f.val, by omega⟩ k := by
  rw [rows_eq, hv]
  funext i; idx_vars i
  pointwise []
  rfl

/-! ## The blocks of a point -/

/-- Token `r` of the block at point `t`. -/
def row (t : Fin cfg0.N) (r : Fin 256) : Fin 8192 := ⟨t.val * 256 + r.val, by have := t.isLt; have : cfg0.N = 32 := N_0; omega⟩

theorem idx_a : ∀ t : Fin cfg0.N, win0_0.index t (0 : Fin 2) = t.val ∧ win0_0.index t (1 : Fin 2) = 0
    ∧ win0_1.index t (0 : Fin 2) = t.val ∧ win0_1.index t (1 : Fin 2) = 0 := (by decide +kernel : ∀ t : Fin grid0.N, _)
theorem idx_b : ∀ t : Fin cfg0.N, win0_2.index t (0 : Fin 3) = 0 ∧ win0_2.index t (1 : Fin 3) = t.val ∧ win0_2.index t (2 : Fin 3) = 0 := (by decide +kernel : ∀ t : Fin grid0.N, _)
theorem idx_c : ∀ t : Fin cfg0.N, win0_3.index t (0 : Fin 2) = 0 ∧ win0_3.index t (1 : Fin 2) = 0 := (by decide +kernel : ∀ t : Fin grid0.N, _)
theorem idx_d : ∀ t : Fin cfg0.N, (∀ a : Fin 3, win0_4.index t a = 0) ∧ (∀ a : Fin 3, win0_5.index t a = 0) := (by decide +kernel : ∀ t : Fin grid0.N, _)

theorem blk0 (hy : yOf m c = lift2 dy) (t : Fin cfg0.N) : (iblk m c 0 t : Vec Ideal S256x1024 .f32) = lift2 (φ := .f32) fun r => dy (row t r) := by
  obtain ⟨e0, e1, -⟩ := idx_a t
  funext i; idx_vars i
  unfold iblk; rw [View.read_apply]
  show yOf m c _ = _
  rw [hy]
  refine congrArg (lift2 (φ := .f32) dy) (?_ : _ = ix2 (row t i0) i1)
  funext a; apply Fin.ext
  match a with
  | ⟨0, _⟩ => show win0_0.index t (0 : Fin 2) * 256 + 1 * i0.val = t.val * 256 + i0.val; omega
  | ⟨1, _⟩ => show win0_0.index t (1 : Fin 2) * 1024 + 1 * i1.val = i1.val; omega

theorem blk1 (hx : xOf m c = lift2 x) (t : Fin cfg0.N) : (iblk m c 1 t : Vec Ideal S256x1024 .f32) = lift2 (φ := .f32) fun r => x (row t r) := by
  obtain ⟨-, -, e0, e1⟩ := idx_a t
  funext i; idx_vars i
  unfold iblk; rw [View.read_apply]
  show xOf m c _ = _
  rw [hx]
  refine congrArg (lift2 (φ := .f32) x) (?_ : _ = ix2 (row t i0) i1)
  funext a; apply Fin.ext
  match a with
  | ⟨0, _⟩ => show win0_1.index t (0 : Fin 2) * 256 + 1 * i0.val = t.val * 256 + i0.val; omega
  | ⟨1, _⟩ => show win0_1.index t (1 : Fin 2) * 1024 + 1 * i1.val = i1.val; omega

theorem blk2 (s : Cube 8 8192 704) (hs : (V m c main_v33 : FVec Ideal S8x8192x704 .bf16) = lift3 (φ := .bf16) s) (t : Fin cfg0.N) :
    (iblk m c 2 t : Vec Ideal S8x256x704 .bf16) = lift3 (φ := .bf16) fun j r => s j (row t r) := by
  obtain ⟨e0, e1, e2⟩ := idx_b t
  funext i; idx_vars i
  unfold iblk; rw [View.read_apply]
  show V m c main_v33 _ = _
  rw [hs]
  refine congrArg (lift3 (φ := .bf16) s) (?_ : _ = ix3 i0 (row t i1) i2)
  funext a; apply Fin.ext
  match a with
  | ⟨0, _⟩ => show win0_2.index t (0 : Fin 3) * 8 + 1 * i0.val = i0.val; omega
  | ⟨1, _⟩ => show win0_2.index t (1 : Fin 3) * 256 + 1 * i1.val = t.val * 256 + i1.val; omega
  | ⟨2, _⟩ => show win0_2.index t (2 : Fin 3) * 704 + 1 * i2.val = i2.val; omega

theorem blk3 (s : Mat 1 1024) (hs : (V m c main_v34 : FVec Ideal S1x1024 .f32) = lift2 (φ := .f32) s) (t : Fin cfg0.N) :
    (iblk m c 3 t : Vec Ideal S1x1024 .f32) = lift2 (φ := .f32) s := by
  obtain ⟨e0, e1⟩ := idx_c t
  funext i; idx_vars i
  unfold iblk; rw [View.read_apply]
  show V m c main_v34 _ = _
  rw [hs]
  refine congrArg (lift2 (φ := .f32) s) (?_ : _ = ix2 i0 i1)
  funext a; apply Fin.ext
  match a with
  | ⟨0, _⟩ => show win0_3.index t (0 : Fin 2) * 1 + 1 * i0.val = i0.val; omega
  | ⟨1, _⟩ => show win0_3.index t (1 : Fin 2) * 1024 + 1 * i1.val = i1.val; omega

theorem blk4 (s : Cube 8 704 1024) (hs : (V m c main_v37 : FVec Ideal S8x704x1024 .bf16) = lift3 (φ := .bf16) s) (t : Fin cfg0.N) :
    (iblk m c 4 t : Vec Ideal S8x704x1024 .bf16) = lift3 (φ := .bf16) s := by
  have e := (idx_d t).1
  funext i; idx_vars i
  unfold iblk; rw [View.read_apply]
  show V m c main_v37 _ = _
  rw [hs]
  refine congrArg (lift3 (φ := .bf16) s) (?_ : _ = ix3 i0 i1 i2)
  have e0 := e 0; have e1 := e 1; have e2 := e 2
  funext a; apply Fin.ext
  match a with
  | ⟨0, _⟩ => show win0_4.index t (0 : Fin 3) * 8 + 1 * i0.val = i0.val; omega
  | ⟨1, _⟩ => show win0_4.index t (1 : Fin 3) * 704 + 1 * i1.val = i1.val; omega
  | ⟨2, _⟩ => show win0_4.index t (2 : Fin 3) * 1024 + 1 * i2.val = i2.val; omega

theorem blk5 (s : Cube 4 704 1024) (hs : (V m c main_v39 : FVec Ideal S4x704x1024 .bf16) = lift3 (φ := .bf16) s) (t : Fin cfg0.N) :
    (iblk m c 5 t : Vec Ideal S4x704x1024 .bf16) = lift3 (φ := .bf16) s := by
  have e := (idx_d t).2
  funext i; idx_vars i
  unfold iblk; rw [View.read_apply]
  show V m c main_v39 _ = _
  rw [hs]
  refine congrArg (lift3 (φ := .bf16) s) (?_ : _ = ix3 i0 i1 i2)
  have e0 := e 0; have e1 := e 1; have e2 := e 2
  funext a; apply Fin.ext
  match a with
  | ⟨0, _⟩ => show win0_5.index t (0 : Fin 3) * 4 + 1 * i0.val = i0.val; omega
  | ⟨1, _⟩ => show win0_5.index t (1 : Fin 3) * 704 + 1 * i1.val = i1.val; omega
  | ⟨2, _⟩ => show win0_5.index t (2 : Fin 3) * 1024 + 1 * i2.val = i2.val; omega

/-! ## The block's numbers are the tokens' -/

section
variable (t : Fin cfg0.N)
/-- The point's blocks. -/
abbrev yB : Mat 256 1024 := fun r => dy (row t r)
abbrev sB : Cube 8 256 704 := fun j r f => kept (x (row t r)) g w ⟨j.val * 704 + f.val, by omega⟩
abbrev wB : Cube 8 704 1024 := fun j f k => w k ⟨j.val * 704 + f.val, by omega⟩
abbrev vB : Cube 4 704 1024 := fun j f k => v ⟨j.val * 704 + f.val, by omega⟩ k

theorem cols_token (n : Fin 8) (r : Fin 256) (f : Fin 704) :
    cols (yB dy t) (sB x g w t) (vB v) n r f = Ffn.dproj (x (row t r)) g w v (dy (row t r)) ⟨n.val * 704 + f.val, by omega⟩ := by
  have hn := n.isLt; have hf := f.isLt
  unfold cols grad Ffn.dproj
  show _ * kept (x (row t r)) g w ⟨(n.val + 4) % 8 * 704 + f.val, _⟩ = _
  unfold kept beside
  have hb : ∀ q : Fin 2816, q.val = n.val % 4 * 704 + f.val → back (yB dy t) (vB v ⟨n.val % 4, Nat.mod_lt _ (by norm_num)⟩) r f = Ffn.dact v (dy (row t r)) q := by
    intro q hq
    rw [show q = ⟨n.val % 4 * 704 + f.val, by omega⟩ from Fin.ext hq]
    rfl
  by_cases h : n.val * 704 + f.val < 2816
  · have h4 : n.val < 4 := by omega
    rw [dif_neg (by dsimp only; omega), dif_pos h, hb ⟨n.val * 704 + f.val, h⟩ (by dsimp only; omega)]
    congr 2; apply Fin.ext; dsimp only; omega
  · have h4 : 4 ≤ n.val := by omega
    rw [dif_pos (by dsimp only; omega), dif_neg h, hb ⟨n.val * 704 + f.val - 2816, by omega⟩ (by dsimp only; omega)]
    congr 2; apply Fin.ext; dsimp only; omega

theorem dnorm_token (r : Fin 256) :
    dnorm (yB dy t) (sB x g w t) (wB w) (vB v) r = Ffn.dnorm (x (row t r)) g w v (dy (row t r)) := by
  funext k
  unfold dnorm Ffn.dnorm
  rw [Fin.sum_univ_tiles 8 704 rfl]
  refine Finset.sum_congr rfl fun n _ => Finset.sum_congr rfl fun f _ => ?_
  rw [cols_token]
end

end Cert.FfnBwdKernel

end
-- ==== Proof.FfnBwdKernel.lean ====
module

public import proofs.«01_k».proof.Proof.FfnBwdHost

@[expose] public section

set_option maxRecDepth 16384

noncomputable section

/-! # The four arrays the feed-forward's gradient kernel leaves, on real arrays -/

namespace Cert.FfnBwdKernel

open Cert.Kernel2Ideal Cert.Kernel2Ideal.Gen Cert.Kernel2Ideal.Value Idealize.ShloMosaic Idealize.ShloMosaic.TcCoe
  Idealize.SL.Sem Cert.Reals

variable (m : (ℓ : Loc nD τ sig) → Buf (Elt Ideal) ℓ) (c : Dev nD)
variable (x dy : Mat 8192 1024) (g : Fin 1024 → ℝ) (w : Mat 1024 5632) (v : Mat 2816 1024)
  (hx : xOf m c = lift2 x) (hg : gOf m c = lift1 g) (hw : wOf m c = lift2 w) (hv : vOf m c = lift2 v) (hy : yOf m c = lift2 dy)

/-- The part of the gains' gradient that the tokens of point `t` give. -/
def part (t : ℕ) (k : Fin 1024) : ℝ := ∑ r : Fin 256, if h : t * 256 + r.val < 8192 then Ffn.dgain (x ⟨t * 256 + r.val, h⟩) g w v (dy ⟨t * 256 + r.val, h⟩) k else 0

theorem part_eq (t : Fin cfg0.N) (k : Fin 1024) : ∑ r, Rms.unit (x (row t r)) k * Ffn.dnorm (x (row t r)) g w v (dy (row t r)) k = part x dy g w v t.val k := by
  have hN : cfg0.N = 32 := N_0
  have := t.isLt
  unfold part
  refine Finset.sum_congr rfl fun r _ => ?_
  rw [dif_pos (by omega)]; rfl

include hx hg hw hv hy

/-- What the gains' block holds after point `n`: the parts up to it. -/
theorem gains_at : ∀ (n : ℕ) (hn : n < cfg0.N), ((outsAt0 m c n hn).2.2.2 : Vec Ideal S1x1024 .f32) = lift2 (φ := .f32) fun _ k => ∑ s ∈ Finset.range (n + 1), part x dy g w v s k := by
  have hN : cfg0.N = 32 := N_0
  intro n
  induction n with
  | zero =>
    intro hn
    let t : Fin cfg0.N := ⟨0, hn⟩
    rw [outsAt0_A m c t rfl]; dsimp only
    rw [outA9 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t)]
    funext i; idx_vars i
    simp only [lift2_apply]
    refine congrArg _ ?_
    rw [zero_add, Finset.sum_range_one]
    exact (Finset.sum_congr rfl fun r _ => by rw [← dnorm_token x dy g w v t r]).trans (part_eq x dy g w v t i1)
  | succ n ih =>
    intro hn
    let t : Fin cfg0.N := ⟨n + 1, hn⟩
    rw [outsAt0_B m c t (by show ¬(n + 1) % 32 = 0; omega)]; dsimp only
    refine (outB9 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t) (hdg := ih (Nat.lt_of_succ_lt hn))).trans ?_
    funext i; idx_vars i
    simp only [lift2_apply]
    refine congrArg _ ?_
    rw [Finset.sum_range_succ _ (n + 1)]
    refine congrArg _ ?_
    exact (Finset.sum_congr rfl fun r _ => by rw [← dnorm_token x dy g w v t r]).trans (part_eq x dy g w v t i1)

theorem point6 (t : Fin cfg0.N) : ((outsAt0 m c t.val t.isLt).1 : Vec Ideal S8x704x256 .bf16) = lift3 (φ := .bf16) fun j f r => Ffn.dproj (x (row t r)) g w v (dy (row t r)) ⟨j.val * 704 + f.val, by omega⟩ := by
  have hN : cfg0.N = 32 := N_0
  by_cases h : t.val % 32 = 0
  · rw [outsAt0_A m c t h]; dsimp only
    refine (outA6 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t)).trans ?_
    · refine congrArg _ ?_; funext j f r; exact cols_token x dy g w v t j r f
  · rw [outsAt0_B m c t h]; dsimp only
    have ht := t.isLt
    refine (outB6 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t) (hdg := gains_at m c x dy g w v hx hg hw hv hy (t.val - 1) (by omega))).trans ?_
    · refine congrArg _ ?_; funext j f r; exact cols_token x dy g w v t j r f

theorem point7 (t : Fin cfg0.N) : ((outsAt0 m c t.val t.isLt).2.1 : Vec Ideal S256x1024 .bf16) = lift2 (φ := .bf16) fun r => Rms.norm (x (row t r)) g := by
  have hN : cfg0.N = 32 := N_0
  by_cases h : t.val % 32 = 0
  · rw [outsAt0_A m c t h]; dsimp only
    refine (outA7 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t)).trans ?_
    · rfl
  · rw [outsAt0_B m c t h]; dsimp only
    have ht := t.isLt
    refine (outB7 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t) (hdg := gains_at m c x dy g w v hx hg hw hv hy (t.val - 1) (by omega))).trans ?_
    · rfl

theorem point8 (t : Fin cfg0.N) : ((outsAt0 m c t.val t.isLt).2.2.1 : Vec Ideal S256x1024 .f32) = lift2 (φ := .f32) fun r => Ffn.dtoken (x (row t r)) g w v (dy (row t r)) := by
  have hN : cfg0.N = 32 := N_0
  by_cases h : t.val % 32 = 0
  · rw [outsAt0_A m c t h]; dsimp only
    refine (outA8 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t)).trans ?_
    · refine congrArg _ ?_; funext r k; rw [dnorm_token]; rfl
  · rw [outsAt0_B m c t h]; dsimp only
    have ht := t.isLt
    refine (outB8 (hy := blk0 m c dy hy t) (hx := blk1 m c x hx t) (hS := blk2 m c _ (saved_lift m c x g w hx hg hw) t) (hg := blk3 m c _ (gains_lift m c g hg) t) (hW := blk4 m c _ (cols_lift m c w hw) t) (hV := blk5 m c _ (rows_lift m c v hv) t) (hdg := gains_at m c x dy g w v hx hg hw hv hy (t.val - 1) (by omega))).trans ?_
    · refine congrArg _ ?_; funext r k; rw [dnorm_token]; rfl

omit hx hg hw hv hy in
theorem idx6 : ∀ t : Fin cfg0.N, win0_6.index t (0 : Fin 3) = 0 ∧ win0_6.index t (1 : Fin 3) = 0 ∧ win0_6.index t (2 : Fin 3) = t.val ∧ win0_6.xsize (grid0.coords t) (0 : Fin 3) = 8 ∧ win0_6.xsize (grid0.coords t) (1 : Fin 3) = 704 ∧ win0_6.xsize (grid0.coords t) (2 : Fin 3) = 256 := (by decide +kernel : ∀ t : Fin grid0.N, _)

omit hx hg hw hv hy in
/-- The blocks cover the array. -/
theorem cover6 (i : S8x704x8192.Idx) : ∃ t : Fin cfg0.N, (cfg0.win 6).flush t = true ∧ i ∈ ((cfg0.win 6).blk t).view.set := by
  have hN : cfg0.N = 32 := N_0
  have h0 : (i 0).val < 8 := (i 0).isLt
  have h1 : (i 1).val < 704 := (i 1).isLt
  have h2 : (i 2).val < 8192 := (i 2).isLt
  obtain ⟨t, ht⟩ : ∃ t : Fin cfg0.N, t.val = (i 2).val / 256 := ⟨⟨(i 2).val / 256, by omega⟩, rfl⟩
  refine ⟨t, flush0_6 t, ?_⟩
  obtain ⟨e0, e1, e2, n0, n1, n2⟩ := idx6 t
  show i ∈ ((View.whole main_v40_0).slice (win0_6.rect t)).set
  rw [View.set_slice_whole, Rect.mem_set_unit]
  intro a
  match a with
  | ⟨0, _⟩ => show win0_6.index t (0 : Fin 3) * 8 ≤ (i 0).val ∧ (i 0).val < win0_6.index t (0 : Fin 3) * 8 + win0_6.xsize (grid0.coords t) (0 : Fin 3); rw [e0, n0]; omega
  | ⟨1, _⟩ => show win0_6.index t (1 : Fin 3) * 704 ≤ (i 1).val ∧ (i 1).val < win0_6.index t (1 : Fin 3) * 704 + win0_6.xsize (grid0.coords t) (1 : Fin 3); rw [e1, n1]; omega
  | ⟨2, _⟩ => show win0_6.index t (2 : Fin 3) * 256 ≤ (i 2).val ∧ (i 2).val < win0_6.index t (2 : Fin 3) * 256 + win0_6.xsize (grid0.coords t) (2 : Fin 3); rw [e2, n2]; omega

omit hx hg hw hv hy in
theorem whole6 (G : Cube 8 704 8192) (hG : ∀ t : Fin cfg0.N, ((outsAt0 m c t.val t.isLt).1 : Vec Ideal S8x704x256 .bf16) = lift3 (φ := .bf16) fun j f r => G j f (row t r)) : ((dats m 0 c).arrAt 6 cfg0.N : FVec Ideal S8x704x8192 .bf16) = lift3 (φ := .bf16) G := by
  refine (dats m 0 c).arrAt_eq_of_cover 6 (lift3 (φ := .bf16) G : FVec Ideal S8x704x8192 .bf16) (fun t _ => ?_) cover6
  obtain ⟨e0, e1, e2, -⟩ := idx6 t
  rw [flushed6, hG t]
  funext i
  rw [View.read_apply]
  change (⟨3, ![8,704,256]⟩ : Shape).Idx at i
  idx_vars i
  refine congrArg (lift3 (φ := .bf16) G : FVec Ideal S8x704x8192 .bf16) (?_ : ix3 i0 i1 (row t i2) = _)
  funext a; apply Fin.ext
  match a with
  | ⟨0, _⟩ => show i0.val = win0_6.index t (0 : Fin 3) * 8 + 1 * i0.val; omega
  | ⟨1, _⟩ => show i1.val = win0_6.index t (1 : Fin 3) * 704 + 1 * i1.val; omega
  | ⟨2, _⟩ => show t.val * 256 + i2.val = win0_6.index t (2 : Fin 3) * 256 + 1 * i2.val; omega

theorem arr6 : ((dats m 0 c).arrAt 6 cfg0.N : FVec Ideal S8x704x8192 .bf16) = lift3 (φ := .bf16) (fun j f t => Ffn.dproj (x t) g w v (dy t) ⟨j.val * 704 + f.val, by omega⟩) :=
  whole6 m c _ (point6 m c x dy g w v hx hg hw hv hy)

omit hx hg hw hv hy in
theorem idx7 : ∀ t : Fin cfg0.N, win0_7.index t (0 : Fin 2) = t.val ∧ win0_7.index t (1 : Fin 2) = 0 ∧ win0_7.xsize (grid0.coords t) (0 : Fin 2) = 256 ∧ win0_7.xsize (grid0.coords t) (1 : Fin 2) = 1024 := (by decide +kernel : ∀ t : Fin grid0.N, _)

omit hx hg hw hv hy in
/-- The blocks cover the array. -/
theorem cover7 (i : S8192x1024.Idx) : ∃ t : Fin cfg0.N, (cfg0.win 7).flush t = true ∧ i ∈ ((cfg0.win 7).blk t).view.set := by
  have hN : cfg0.N = 32 := N_0
  have h0 : (i 0).val < 8192 := (i 0).isLt
  have h1 : (i 1).val < 1024 := (i 1).isLt
  obtain ⟨t, ht⟩ : ∃ t : Fin cfg0.N, t.val = (i 0).val / 256 := ⟨⟨(i 0).val / 256, by omega⟩, rfl⟩
  refine ⟨t, flush0_7 t, ?_⟩
  obtain ⟨e0, e1, n0, n1⟩ := idx7 t
  show i ∈ ((View.whole main_v40_1).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + win0_7.xsize (grid0.coords t) (0 : Fin 2); rw [e0, n0]; omega
  | ⟨1, _⟩ => show win0_7.index t (1 : Fin 2) * 1024 ≤ (i 1).val ∧ (i 1).val < win0_7.index t (1 : Fin 2) * 1024 + win0_7.xsize (grid0.coords t) (1 : Fin 2); rw [e1, n1]; omega

omit hx hg hw hv hy in
theorem whole7 (G : Mat 8192 1024) (hG : ∀ t : Fin cfg0.N, ((outsAt0 m c t.val t.isLt).2.1 : Vec Ideal S256x1024 .bf16) = lift2 (φ := .bf16) fun r => G (row t r)) : ((dats m 0 c).arrAt 7 cfg0.N : FVec Ideal S8192x1024 .bf16) = lift2 (φ := .bf16) G := by
  refine (dats m 0 c).arrAt_eq_of_cover 7 (lift2 (φ := .bf16) G : FVec Ideal S8192x1024 .bf16) (fun t _ => ?_) cover7
  obtain ⟨e0, e1, -⟩ := idx7 t
  rw [flushed7, hG t]
  funext i
  rw [View.read_apply]
  change (⟨2, ![256,1024]⟩ : Shape).Idx at i
  idx_vars i
  refine congrArg (lift2 (φ := .bf16) G : FVec Ideal S8192x1024 .bf16) (?_ : ix2 (row t i0) i1 = _)
  funext a; apply Fin.ext
  match a with
  | ⟨0, _⟩ => show t.val * 256 + i0.val = win0_7.index t (0 : Fin 2) * 256 + 1 * i0.val; omega
  | ⟨1, _⟩ => show i1.val = win0_7.index t (1 : Fin 2) * 1024 + 1 * i1.val; omega

theorem arr7 : ((dats m 0 c).arrAt 7 cfg0.N : FVec Ideal S8192x1024 .bf16) = lift2 (φ := .bf16) (fun t => Rms.norm (x t) g) :=
  whole7 m c _ (point7 m c x dy g w v hx hg hw hv hy)

omit hx hg hw hv hy in
theorem idx8 : ∀ t : Fin cfg0.N, win0_8.index t (0 : Fin 2) = t.val ∧ win0_8.index t (1 : Fin 2) = 0 ∧ win0_8.xsize (grid0.coords t) (0 : Fin 2) = 256 ∧ win0_8.xsize (grid0.coords t) (1 : Fin 2) = 1024 := (by decide +kernel : ∀ t : Fin grid0.N, _)

omit hx hg hw hv hy in
/-- The blocks cover the array. -/
theorem cover8 (i : S8192x1024.Idx) : ∃ t : Fin cfg0.N, (cfg0.win 8).flush t = true ∧ i ∈ ((cfg0.win 8).blk t).view.set := by
  have hN : cfg0.N = 32 := N_0
  have h0 : (i 0).val < 8192 := (i 0).isLt
  have h1 : (i 1).val < 1024 := (i 1).isLt
  obtain ⟨t, ht⟩ : ∃ t : Fin cfg0.N, t.val = (i 0).val / 256 := ⟨⟨(i 0).val / 256, by omega⟩, rfl⟩
  refine ⟨t, flush0_8 t, ?_⟩
  obtain ⟨e0, e1, n0, n1⟩ := idx8 t
  show i ∈ ((View.whole main_v40_2).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + win0_8.xsize (grid0.coords t) (0 : Fin 2); rw [e0, n0]; omega
  | ⟨1, _⟩ => show win0_8.index t (1 : Fin 2) * 1024 ≤ (i 1).val ∧ (i 1).val < win0_8.index t (1 : Fin 2) * 1024 + win0_8.xsize (grid0.coords t) (1 : Fin 2); rw [e1, n1]; omega

omit hx hg hw hv hy in
theorem whole8 (G : Mat 8192 1024) (hG : ∀ t : Fin cfg0.N, ((outsAt0 m c t.val t.isLt).2.2.1 : Vec Ideal S256x1024 .f32) = lift2 (φ := .f32) fun r => G (row t r)) : ((dats m 0 c).arrAt 8 cfg0.N : FVec Ideal S8192x1024 .f32) = lift2 (φ := .f32) G := by
  refine (dats m 0 c).arrAt_eq_of_cover 8 (lift2 (φ := .f32) G : FVec Ideal S8192x1024 .f32) (fun t _ => ?_) cover8
  obtain ⟨e0, e1, -⟩ := idx8 t
  rw [flushed8, hG t]
  funext i
  rw [View.read_apply]
  change (⟨2, ![256,1024]⟩ : Shape).Idx at i
  idx_vars i
  refine congrArg (lift2 (φ := .f32) G : FVec Ideal S8192x1024 .f32) (?_ : ix2 (row t i0) i1 = _)
  funext a; apply Fin.ext
  match a with
  | ⟨0, _⟩ => show t.val * 256 + i0.val = win0_8.index t (0 : Fin 2) * 256 + 1 * i0.val; omega
  | ⟨1, _⟩ => show i1.val = win0_8.index t (1 : Fin 2) * 1024 + 1 * i1.val; omega

theorem arr8 : ((dats m 0 c).arrAt 8 cfg0.N : FVec Ideal S8192x1024 .f32) = lift2 (φ := .f32) (fun t => Ffn.dtoken (x t) g w v (dy t)) :=
  whole8 m c _ (point8 m c x dy g w v hx hg hw hv hy)

omit hx hg hw hv hy in
theorem idx9 : ∀ t : Fin cfg0.N, win0_9.index t (0 : Fin 2) = 0 ∧ win0_9.index t (1 : Fin 2) = 0 ∧ win0_9.xsize (grid0.coords t) (0 : Fin 2) = 1 ∧ win0_9.xsize (grid0.coords t) (1 : Fin 2) = 1024 := (by decide +kernel : ∀ t : Fin grid0.N, _)

omit hx hg hw hv hy in
theorem parts_all (k : Fin 1024) : ∑ s ∈ Finset.range (31 + 1), part x dy g w v s k = ∑ t, Ffn.dgain (x t) g w v (dy t) k := by
  rw [Fin.sum_univ_tiles 32 256 rfl, Finset.sum_range]
  refine Finset.sum_congr rfl fun s _ => ?_
  unfold part
  refine Finset.sum_congr rfl fun r _ => ?_
  rw [dif_pos (by omega)]

theorem arr9 : ((dats m 0 c).arrAt 9 cfg0.N : FVec Ideal S1x1024 .f32) = lift2 (φ := .f32) (fun _ k => ∑ t, Ffn.dgain (x t) g w v (dy t) k) := by
  have hN : cfg0.N = 32 := N_0
  refine (dats m 0 c).arrAt_eq_of_cover 9 (lift2 (φ := .f32) (fun _ k => ∑ t, Ffn.dgain (x t) g w v (dy t) k) : FVec Ideal S1x1024 .f32) (fun t hf => ?_) (fun i => ?_)
  · obtain ⟨e0, e1, -⟩ := idx9 t
    have h31 : t.val = 31 := by have := (flush0_9 t).mp hf; have := t.isLt; omega
    rw [flushed9, gains_at m c x dy g w v hx hg hw hv hy]
    funext i
    rw [View.read_apply]
    change (⟨2, ![1, 1024]⟩ : Shape).Idx at i
    idx_vars i
    refine (?_ : (lift2 (φ := .f32) (fun _ k => ∑ s ∈ Finset.range (t.val + 1), part x dy g w v s k) : FVec Ideal S1x1024 .f32) (ix2 i0 i1) = _)
    rw [h31]; simp only [parts_all]
    refine congrArg (lift2 (φ := .f32) (fun _ k => ∑ t, Ffn.dgain (x t) g w v (dy t) k) : FVec Ideal S1x1024 .f32) (?_ : ix2 i0 i1 = _)
    funext a; apply Fin.ext
    match a with
    | ⟨0, _⟩ => show i0.val = win0_9.index t (0 : Fin 2) * 1 + 1 * i0.val; omega
    | ⟨1, _⟩ => show i1.val = win0_9.index t (1 : Fin 2) * 1024 + 1 * i1.val; omega
  · have h0 : (i 0).val < 1 := (i 0).isLt
    have h1 : (i 1).val < 1024 := (i 1).isLt
    obtain ⟨t, ht⟩ : ∃ t : Fin cfg0.N, t.val = 31 := ⟨⟨31, by omega⟩, rfl⟩
    refine ⟨t, (flush0_9 t).mpr (by omega), ?_⟩
    obtain ⟨e0, e1, n0, n1⟩ := idx9 t
    show i ∈ ((View.whole main_v40_3).slice (win0_9.rect t)).set
    rw [View.set_slice_whole, Rect.mem_set_unit]
    intro a
    match a with
    | ⟨0, _⟩ => show win0_9.index t (0 : Fin 2) * 1 ≤ (i 0).val ∧ (i 0).val < win0_9.index t (0 : Fin 2) * 1 + win0_9.xsize (grid0.coords t) (0 : Fin 2); rw [e0, n0]; omega
    | ⟨1, _⟩ => show win0_9.index t (1 : Fin 2) * 1024 ≤ (i 1).val ∧ (i 1).val < win0_9.index t (1 : Fin 2) * 1024 + win0_9.xsize (grid0.coords t) (1 : Fin 2); rw [e1, n1]; omega

end Cert.FfnBwdKernel

end
-- ==== Proof.FfnBwdClaim.lean ====
module

public import proofs.«01_k».proof.Defs
public import proofs.«01_k».proof.Proof.Finite
public import proofs.«01_k».proof.Proof.FfnBwdKernel
public import proofs.«01_k».proof.Proof.FfnBwdRef
public import proofs.«01_k».proof.Proof.Gen.Pre_ffn_bwd_finite
public import Idealize.ShloMosaic.Lib.Claim

@[expose] public section

set_option maxRecDepth 16384

noncomputable section

/-! # The claim of the feed-forward's gradient

Of finite arguments both programs leave the same real arrays: what the gradient of the two projections, the normalised tokens,
the gradient with respect to the tokens, and the gradient of the normalisation's gains are. -/

namespace Cert

open Idealize.ShloMosaic Idealize.SL.Sem Cert.Reals

/-- The precondition's five tests. -/
theorem ffn_bwd_reals (a : FVec Ideal Pre_ffn_bwd_finite.S8192x1024 .f32) (b : FVec Ideal Pre_ffn_bwd_finite.S1024 .f32)
    (c : FVec Ideal Pre_ffn_bwd_finite.S1024x5632 .f32) (d : FVec Ideal Pre_ffn_bwd_finite.S2816x1024 .f32)
    (e : FVec Ideal Pre_ffn_bwd_finite.S8192x1024 .f32)
    (h : Pre_ffn_bwd_finite.fn a b c d e = fun _ => 1#1) :
    (∃ f, a = lift2 f) ∧ (∃ f, b = lift1 f) ∧ (∃ f, c = lift2 f) ∧ (∃ f, d = lift2 f) ∧ (∃ f, e = lift2 f) := by
  have h0 := congrFun h (fun k => k.elim0)
  obtain ⟨h1, he⟩ := both h0
  obtain ⟨h2, hd⟩ := both h1
  obtain ⟨h3, hc⟩ := both h2
  obtain ⟨h4, hb⟩ := both h3
  obtain ⟨h5, ha⟩ := both h4
  exact ⟨exists_lift2 a (real_of_allFinite a _ _ _ ha), exists_lift1 b (real_of_allFinite b _ _ _ hb),
    exists_lift2 c (real_of_allFinite c _ _ _ hc), exists_lift2 d (real_of_allFinite d _ _ _ hd),
    exists_lift2 e (real_of_allFinite e _ _ _ he)⟩

theorem ffnbwd_algebraic : algebraic_Kernel2Ideal_Reference2Ideal_pre_ffn_bwd_finite (hKernel2Ideal := Cert.Kernel2Ideal.Gen.facts)
    (hReference2Ideal := Cert.Reference2Ideal.Gen.facts) (hPre_ffn_bwd_finite := Cert.Pre_ffn_bwd_finite.Gen.facts) := by
  intro m g m' g' hpre hargs
  refine ⟨_, _, _, _, Cert.Kernel2Ideal.Value.run_blocks m g, ?_⟩
  refine (θ_run _ _ _).mono (fun r h c => ?_) (Cert.Reference2Ideal.Value.run m' g')
  obtain ⟨r0, r1, r2, r3, rest⟩ := h c
  obtain ⟨a0, a1, a2, a3, a4⟩ := hargs c
  obtain ⟨⟨x, hx⟩, ⟨n, hn⟩, ⟨w, hw⟩, ⟨v, hv⟩, ⟨y, hy⟩⟩ := ffn_bwd_reals _ _ _ _ _ (hpre c)
  refine ⟨r0.trans ?_, r1.trans ?_, r2.trans ?_, r3.trans ?_, rest⟩
  · exact (FfnBwdRef.res0 m' c x y n w v (a0.trans hx) (a1.trans hn) (a2.trans hw) (a3.trans hv) (a4.trans hy)).trans
      (FfnBwdKernel.arr6 m c x y n w v hx hn hw hv hy).symm
  · exact (FfnBwdRef.res1 m' c x y n w v (a0.trans hx) (a1.trans hn) (a2.trans hw) (a3.trans hv) (a4.trans hy)).trans
      (FfnBwdKernel.arr7 m c x y n w v hx hn hw hv hy).symm
  · exact (FfnBwdRef.res2 m' c x y n w v (a0.trans hx) (a1.trans hn) (a2.trans hw) (a3.trans hv) (a4.trans hy)).trans
      (FfnBwdKernel.arr8 m c x y n w v hx hn hw hv hy).symm
  · exact (FfnBwdRef.res3 m' c x y n w v (a0.trans hx) (a1.trans hn) (a2.trans hw) (a3.trans hv) (a4.trans hy)).trans
      (FfnBwdKernel.arr9 m c x y n w v hx hn hw hv hy).symm

end Cert

end
-- ==== Proof.Loss.lean ====
module

public import proofs.«01_k».proof.Proof.Ffn

@[expose] public section

set_option maxRecDepth 16384

noncomputable section

/-! # The last feed-forward of one token, its normalisation and its share of the loss, over the reals

The loss is half the mean square error of the normalised output, summed over the tokens. -/

namespace Cert.Loss

open Cert.Reals Cert.Rms

section
variable (x g : Fin 1024 → ℝ) (w : Fin 1024 → Fin 5632 → ℝ) (v : Fin 2816 → Fin 1024 → ℝ) (gf tgt : Fin 1024 → ℝ)

/-- The gated products. -/
def act (f : Fin 2816) : ℝ := Ffn.silu x g w f * Ffn.up x g w f
/-- The token after the feed-forward. -/
def token (k : Fin 1024) : ℝ := x k + ∑ f, act x g w f * v f k
/-- Its error after the normalisation. -/
def err (k : Fin 1024) : ℝ := norm (token x g w v) gf k - tgt k
/-- What the normalised token receives. -/
def derr (k : Fin 1024) : ℝ := err x g w v gf tgt k * (1 / 1024)
/-- What the token receives. -/
def dtoken : Fin 1024 → ℝ := pull (token x g w v) gf (derr x g w v gf tgt)
/-- The token's part of what the gains receive. -/
def dgain (k : Fin 1024) : ℝ := derr x g w v gf tgt k * unit (token x g w v) k
/-- The token's mean square error. -/
def share : ℝ := (∑ l, err x g w v gf tgt l * err x g w v gf tgt l) * (1 / 1024)
/-- What the token adds to the eight rows of sums: the gains' part in row 0, its part of the loss at the start of row 1. -/
def adds (r : Fin 8) (k : Fin 1024) : ℝ :=
  if r.val = 0 then dgain x g w v gf tgt k else if r.val = 1 then (if k.val = 0 then 1 / 2 * share x g w v gf tgt else 0) else 0
end

end Cert.Loss

end
-- ==== Proof.FfnLossPays.lean ====
module

public import proofs.«01_k».proof.Proof.FfnBwdPays
public import proofs.«01_k».proof.Proof.Gen.Kernel8Ideal.Value

@[expose] public section

set_option maxRecDepth 16384

noncomputable section

/-! # One block of the last feed-forward block and the loss, on real arrays

A block is 512 tokens. The 5632 columns come as eight groups of 704, four of gates and four of gated values; the rows that
lead back come as four groups of 704. -/

namespace Cert.FfnLossKernel

open Cert.Kernel8Ideal Cert.Kernel8Ideal.Gen Cert.Kernel8Ideal.Value Idealize.ShloMosaic Idealize.ShloMosaic.TcCoe
  Idealize.SL.Sem Cert.Reals
open Cert.FfnBwdKernel (Mat Cube ld_lift)

theorem ofBits_inv_1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- The sigmoid as the kernel writes it. -/
theorem sigmoid_sub (x : ℝ) : Ideal.div 1 (1 + Ideal.exp (0 - (x : EReal))) = ((sigmoid x : ℝ) : EReal) := by
  rw [sub_eq_add_neg, zero_add]; exact sigmoid_real x

/-! ## The parts of the block -/

/-- Tokens through one group of columns. -/
def thru (h : Mat 512 1024) (W : Mat 704 1024) : Mat 512 704 := fun r f => ∑ k, h r k * W f k
/-- `exp (-z)`. -/
def em (z : Mat 512 704) : Mat 512 704 := fun r f => Real.exp (-z r f)
/-- The gate's factor. -/
def sg (z : Mat 512 704) : Mat 512 704 := fun r f => sigmoid (z r f)
/-- `z σ(z)`. -/
def sil (z : Mat 512 704) : Mat 512 704 := fun r f => z r f * sg z r f
/-- The slope of `z σ(z)` times the gated value. -/
def slo (z u : Mat 512 704) : Mat 512 704 := fun r f => sg z r f * (1 + z r f * (1 - sg z r f)) * u r f
/-- The gated product. -/
def act (z u : Mat 512 704) : Mat 512 704 := fun r f => sil z r f * u r f
/-- A group of gated products led back and added. -/
def out (y : Mat 512 1024) (a : Mat 512 704) (V : Mat 704 1024) : Mat 512 1024 := fun r k => y r k + ∑ f, a r f * V f k
/-- Tokens normalised and scaled. -/
def nrm (x : Mat 512 1024) (g : Mat 1 1024) : Mat 512 1024 := fun r => Rms.norm (x r) (g 0)

section
variable (x y h : Mat 512 1024) (g : Mat 1 1024) (W W' V : Cube 1 704 1024) (z u s a : Mat 512 704)

theorem pay3_lift : k0_pay3 (lift2 (φ := .f32) g : FVec Ideal S1x1024 .f32) = lift2 (φ := .f32) (g) := by
  funext i; idx_vars i
  pointwise [k0_pay3]

theorem pay4_lift : k0_pay4 (lift2 (φ := .f32) x : FVec Ideal S512x1024 .f32) (lift2 (φ := .f32) g : FVec Ideal S1x1024 .f32) = lift2 (φ := .bf16) (nrm x g) := by
  funext i; idx_vars i
  pointwise [k0_pay4]
  simp only [lift2_apply, ← EReal.coe_mul, coe_sum, ofBits_1024, ofBits_eps, div_real _ _ (by norm_num : (1024 : ℝ) ≠ 0), ← EReal.coe_add]
  have e := rsqrt_real _ (Rms.meanSq_pos (x i0))
  unfold Rms.meanSq at e
  rw [e]
  simp only [← EReal.coe_mul]
  rfl

theorem pay15_lift : k0_pay15 (lift2 (φ := .bf16) h : FVec Ideal S512x1024 .bf16) (lift3 (φ := .bf16) W : FVec Ideal S1x704x1024 .bf16) = lift2 (φ := .f32) (thru h (W 0)) := by
  funext i; idx_vars i
  pointwise [k0_pay15]
  simp only [lift2_apply, lift3_apply, ← EReal.coe_mul, coe_sum, ← EReal.coe_add, ← EReal.coe_sub, Ideal.ofBits_one_f32, ← EReal.coe_one]
  rfl

theorem pay16_lift : k0_pay16 (lift2 (φ := .bf16) h : FVec Ideal S512x1024 .bf16) (lift3 (φ := .bf16) W : FVec Ideal S1x704x1024 .bf16) = lift2 (φ := .f32) (thru h (W 0)) := pay15_lift h W

theorem pay25_lift : k0_pay25 (lift2 (φ := .bf16) h : FVec Ideal S512x1024 .bf16) (lift3 (φ := .bf16) W : FVec Ideal S1x704x1024 .bf16) = lift2 (φ := .f32) (thru h (W 0)) := pay15_lift h W

theorem pay26_lift : k0_pay26 (lift2 (φ := .bf16) h : FVec Ideal S512x1024 .bf16) (lift3 (φ := .bf16) W : FVec Ideal S1x704x1024 .bf16) = lift2 (φ := .f32) (thru h (W 0)) := pay15_lift h W

theorem pay34_lift : k0_pay34 (lift2 (φ := .bf16) h : FVec Ideal S512x1024 .bf16) (lift3 (φ := .bf16) W : FVec Ideal S1x704x1024 .bf16) = lift2 (φ := .f32) (thru h (W 0)) := pay15_lift h W

theorem pay35_lift : k0_pay35 (lift2 (φ := .bf16) h : FVec Ideal S512x1024 .bf16) (lift3 (φ := .bf16) W : FVec Ideal S1x704x1024 .bf16) = lift2 (φ := .f32) (thru h (W 0)) := pay15_lift h W

theorem pay5_lift : k0_pay5 (lift2 (φ := .f32) x : FVec Ideal S512x1024 .f32) (lift2 (φ := .f32) g : FVec Ideal S1x1024 .f32) (lift3 (φ := .bf16) W : FVec Ideal S1x704x1024 .bf16) = lift2 (φ := .f32) (thru (nrm x g) (W 0)) := by
  unfold k0_pay5; rw [pay4_lift]; exact pay15_lift _ W

theorem pay6_lift : k0_pay6 (lift2 (φ := .f32) x : FVec Ideal S512x1024 .f32) (lift2 (φ := .f32) g : FVec Ideal S1x1024 .f32) (lift3 (φ := .bf16) W : FVec Ideal S1x704x1024 .bf16) = lift2 (φ := .f32) (thru (nrm x g) (W 0)) := by
  unfold k0_pay6; rw [pay4_lift]; exact pay15_lift _ W

theorem pay27_lift : k0_pay27 (lift2 (φ := .f32) z : FVec Ideal S512x704 .f32) = lift2 (φ := .f32) (sg z) := by
  funext i; idx_vars i
  pointwise [k0_pay27]
  simp only [lift2_apply, Ideal.ofBits_one_f32, Ideal.ofBits_zero_f32]
  exact sigmoid_sub _

theorem pay7_lift : k0_pay7 (lift2 (φ := .f32) x : FVec Ideal S512x1024 .f32) (lift2 (φ := .f32) g : FVec Ideal S1x1024 .f32) (lift3 (φ := .bf16) W : FVec Ideal S1x704x1024 .bf16) = lift2 (φ := .f32) (sg (thru (nrm x g) (W 0))) := by
  unfold k0_pay7; rw [pay5_lift]; exact pay27_lift _

theorem pay36_lift : k0_pay36 (lift2 (φ := .bf16) h : FVec Ideal S512x1024 .bf16) (lift3 (φ := .bf16) W : FVec Ideal S1x704x1024 .bf16) = lift2 (φ := .f32) (sg (thru h (W 0))) := by
  unfold k0_pay36; rw [pay34_lift]; exact pay27_lift _

theorem pay17_lift : k0_pay17 (lift2 (φ := .bf16) h : FVec Ideal S512x1024 .bf16) (lift3 (φ := .bf16) W : FVec Ideal S1x704x1024 .bf16) = lift2 (φ := .f32) (em (thru h (W 0))) := by
  unfold k0_pay17; rw [pay15_lift]
  funext i; idx_vars i
  pointwise []
  simp only [lift2_apply, Ideal.ofBits_zero_f32]
  rw [sub_eq_add_neg, zero_add, ← EReal.coe_neg, Ideal.exp_coe]; rfl

theorem pay18_lift : k0_pay18 (lift2 (φ := .f32) (em z) : FVec Ideal S512x704 .f32) = lift2 (φ := .f32) (sg z) := by
  funext i; idx_vars i
  pointwise [k0_pay18]
  simp only [lift2_apply, Ideal.ofBits_one_f32]
  refine Eq.trans ?_ (sigmoid_real (z i0 i1))
  rw [← EReal.coe_neg, Ideal.exp_coe]; rfl

theorem pay28_lift : k0_pay28 (lift2 (φ := .f32) z : FVec Ideal S512x704 .f32) = lift2 (φ := .f32) (sil z) := by
  unfold k0_pay28; rw [pay27_lift]
  funext i; idx_vars i
  pointwise []
  simp only [lift2_apply, ← EReal.coe_mul]
  rfl

theorem pay8_lift : k0_pay8 (lift2 (φ := .f32) x : FVec Ideal S512x1024 .f32) (lift2 (φ := .f32) g : FVec Ideal S1x1024 .f32) (lift3 (φ := .bf16) W : FVec Ideal S1x704x1024 .bf16) = lift2 (φ := .f32) (sil (thru (nrm x g) (W 0))) := by
  unfold k0_pay8; rw [pay5_lift, pay7_lift, ← pay28_lift, ← pay27_lift]; rfl

theorem pay37_lift : k0_pay37 (lift2 (φ := .bf16) h : FVec Ideal S512x1024 .bf16) (lift3 (φ := .bf16) W : FVec Ideal S1x704x1024 .bf16) = lift2 (φ := .f32) (sil (thru h (W 0))) := by
  unfold k0_pay37; rw [pay34_lift, pay36_lift, ← pay28_lift, ← pay27_lift]; rfl

theorem pay19_lift : k0_pay19 (lift2 (φ := .f32) z : FVec Ideal S512x704 .f32) (lift2 (φ := .f32) (em z) : FVec Ideal S512x704 .f32) = lift2 (φ := .f32) (sil z) := by
  unfold k0_pay19; rw [pay18_lift, ← pay28_lift, ← pay27_lift]; rfl

/-- The gated product of a group. -/
theorem mul_lift : mulf (lift2 (φ := .f32) (sil z) : FVec Ideal S512x704 .f32) (lift2 (φ := .f32) u : FVec Ideal S512x704 .f32) = lift2 (φ := .f32) (act z u) := by
  funext i; idx_vars i
  pointwise []
  simp only [lift2_apply, ← EReal.coe_mul]
  rfl

theorem pay10_lift : k0_pay10 (lift2 (φ := .f32) a : FVec Ideal S512x704 .f32) = lift2 (φ := .bf16) (a) := rfl

theorem pay9_lift : k0_pay9 (lift2 (φ := .f32) x : FVec Ideal S512x1024 .f32) (lift2 (φ := .f32) g : FVec Ideal S1x1024 .f32) (lift3 (φ := .bf16) W : FVec Ideal S1x704x1024 .bf16) (lift3 (φ := .bf16) W' : FVec Ideal S1x704x1024 .bf16) = lift2 (φ := .f32) (act (thru (nrm x g) (W 0)) (thru (nrm x g) (W' 0))) := by
  unfold k0_pay9; rw [pay8_lift, pay6_lift]; exact mul_lift _ _

theorem pay29_lift : k0_pay29 (lift2 (φ := .bf16) h : FVec Ideal S512x1024 .bf16) (lift2 (φ := .f32) z : FVec Ideal S512x704 .f32) (lift3 (φ := .bf16) W : FVec Ideal S1x704x1024 .bf16) = lift2 (φ := .bf16) (act z (thru h (W 0))) := by
  unfold k0_pay29; rw [pay28_lift, pay26_lift, mul_lift]; rfl

theorem pay38_lift : k0_pay38 (lift2 (φ := .bf16) h : FVec Ideal S512x1024 .bf16) (lift3 (φ := .bf16) W : FVec Ideal S1x704x1024 .bf16) (lift3 (φ := .bf16) W' : FVec Ideal S1x704x1024 .bf16) = lift2 (φ := .bf16) (act (thru h (W 0)) (thru h (W' 0))) := by
  unfold k0_pay38; rw [pay37_lift, pay35_lift, mul_lift]; rfl

theorem pay20_lift : k0_pay20 (lift2 (φ := .f32) z : FVec Ideal S512x704 .f32) (lift2 (φ := .f32) u : FVec Ideal S512x704 .f32) (lift2 (φ := .f32) (em z) : FVec Ideal S512x704 .f32) = lift2 (φ := .bf16) (act z u) := by
  unfold k0_pay20; rw [pay19_lift, mul_lift]; rfl

theorem pay11_lift : k0_pay11 (lift2 (φ := .f32) s : FVec Ideal S512x704 .f32) = lift3 (a := 1) (φ := .bf16) fun _ => s := by
  funext i; idx_vars i
  pointwise [k0_pay11]
  rfl

theorem pay21_lift : k0_pay21 (lift2 (φ := .f32) z : FVec Ideal S512x704 .f32) (lift2 (φ := .f32) (em z) : FVec Ideal S512x704 .f32) = lift3 (a := 1) (φ := .bf16) fun _ => sil z := by
  unfold k0_pay21; rw [pay19_lift]; exact pay11_lift _

theorem pay30_lift : k0_pay30 (lift2 (φ := .f32) z : FVec Ideal S512x704 .f32) = lift3 (a := 1) (φ := .bf16) fun _ => sil z := by
  unfold k0_pay30; rw [pay28_lift]; exact pay11_lift _

theorem pay39_lift : k0_pay39 (lift2 (φ := .bf16) h : FVec Ideal S512x1024 .bf16) (lift3 (φ := .bf16) W : FVec Ideal S1x704x1024 .bf16) = lift3 (a := 1) (φ := .bf16) fun _ => sil (thru h (W 0)) := by
  unfold k0_pay39; rw [pay37_lift]; exact pay11_lift _

theorem pay12_lift : k0_pay12 (lift2 (φ := .f32) z : FVec Ideal S512x704 .f32) (lift2 (φ := .f32) u : FVec Ideal S512x704 .f32) (lift2 (φ := .f32) (sg z) : FVec Ideal S512x704 .f32) = lift3 (a := 1) (φ := .bf16) fun _ => slo z u := by
  funext i; idx_vars i
  pointwise [k0_pay12]
  simp only [lift2_apply, lift3_apply, Ideal.ofBits_one_f32, ← EReal.coe_one, ← EReal.coe_mul, ← EReal.coe_add, ← EReal.coe_sub]
  rfl

theorem pay22_lift : k0_pay22 (lift2 (φ := .f32) z : FVec Ideal S512x704 .f32) (lift2 (φ := .f32) u : FVec Ideal S512x704 .f32) (lift2 (φ := .f32) (em z) : FVec Ideal S512x704 .f32) = lift3 (a := 1) (φ := .bf16) fun _ => slo z u := by
  unfold k0_pay22; rw [pay18_lift]; exact pay12_lift _ _

theorem pay31_lift : k0_pay31 (lift2 (φ := .bf16) h : FVec Ideal S512x1024 .bf16) (lift2 (φ := .f32) z : FVec Ideal S512x704 .f32) (lift3 (φ := .bf16) W : FVec Ideal S1x704x1024 .bf16) = lift3 (a := 1) (φ := .bf16) fun _ => slo z (thru h (W 0)) := by
  unfold k0_pay31; rw [pay27_lift, pay26_lift]; exact pay12_lift _ _

theorem pay40_lift : k0_pay40 (lift2 (φ := .bf16) h : FVec Ideal S512x1024 .bf16) (lift3 (φ := .bf16) W : FVec Ideal S1x704x1024 .bf16) (lift3 (φ := .bf16) W' : FVec Ideal S1x704x1024 .bf16) = lift3 (a := 1) (φ := .bf16) fun _ => slo (thru h (W 0)) (thru h (W' 0)) := by
  unfold k0_pay40; rw [pay34_lift, pay36_lift, pay35_lift]; exact pay12_lift _ _

theorem pay13_lift : k0_pay13 (lift2 (φ := .f32) a : FVec Ideal S512x704 .f32) = lift3 (a := 1) (φ := .bf16) fun _ f r => a r f := by
  funext i; idx_vars i
  pointwise [k0_pay13, k0_pay10]
  rfl

theorem pay23_lift : k0_pay23 (lift2 (φ := .f32) z : FVec Ideal S512x704 .f32) (lift2 (φ := .f32) u : FVec Ideal S512x704 .f32) (lift2 (φ := .f32) (em z) : FVec Ideal S512x704 .f32) = lift3 (a := 1) (φ := .bf16) fun _ f r => act z u r f := by
  unfold k0_pay23; rw [pay20_lift, ← pay10_lift]; exact pay13_lift _

theorem pay32_lift : k0_pay32 (lift2 (φ := .bf16) h : FVec Ideal S512x1024 .bf16) (lift2 (φ := .f32) z : FVec Ideal S512x704 .f32) (lift3 (φ := .bf16) W : FVec Ideal S1x704x1024 .bf16) = lift3 (a := 1) (φ := .bf16) fun _ f r => act z (thru h (W 0)) r f := by
  unfold k0_pay32; rw [pay29_lift, ← pay10_lift]; exact pay13_lift _

theorem pay41_lift : k0_pay41 (lift2 (φ := .bf16) h : FVec Ideal S512x1024 .bf16) (lift3 (φ := .bf16) W : FVec Ideal S1x704x1024 .bf16) (lift3 (φ := .bf16) W' : FVec Ideal S1x704x1024 .bf16) = lift3 (a := 1) (φ := .bf16) fun _ f r => act (thru h (W 0)) (thru h (W' 0)) r f := by
  unfold k0_pay41; rw [pay38_lift, ← pay10_lift]; exact pay13_lift _

theorem pay42_lift : k0_pay42 (lift2 (φ := .f32) y : FVec Ideal S512x1024 .f32) (lift2 (φ := .bf16) a : FVec Ideal S512x704 .bf16) (lift3 (φ := .bf16) V : FVec Ideal S1x704x1024 .bf16) = lift2 (φ := .f32) (out y a (V 0)) := by
  funext i; idx_vars i
  pointwise [k0_pay42]
  simp only [lift2_apply, lift3_apply, ← EReal.coe_mul, coe_sum, ← EReal.coe_add, ← EReal.coe_sub, Ideal.ofBits_one_f32, ← EReal.coe_one]
  rfl

theorem pay14_lift : k0_pay14 (lift2 (φ := .f32) y : FVec Ideal S512x1024 .f32) (lift2 (φ := .f32) a : FVec Ideal S512x704 .f32) (lift3 (φ := .bf16) V : FVec Ideal S1x704x1024 .bf16) = lift2 (φ := .f32) (out y a (V 0)) := by
  unfold k0_pay14; rw [pay10_lift]; exact pay42_lift _ _ _

theorem pay24_lift : k0_pay24 (lift2 (φ := .f32) y : FVec Ideal S512x1024 .f32) (lift2 (φ := .f32) z : FVec Ideal S512x704 .f32) (lift2 (φ := .f32) u : FVec Ideal S512x704 .f32) (lift2 (φ := .f32) (em z) : FVec Ideal S512x704 .f32) (lift3 (φ := .bf16) V : FVec Ideal S1x704x1024 .bf16) = lift2 (φ := .f32) (out y (act z u) (V 0)) := by
  unfold k0_pay24; rw [pay20_lift]; exact pay42_lift _ _ _

theorem pay33_lift : k0_pay33 (lift2 (φ := .bf16) h : FVec Ideal S512x1024 .bf16) (lift2 (φ := .f32) y : FVec Ideal S512x1024 .f32) (lift2 (φ := .f32) z : FVec Ideal S512x704 .f32) (lift3 (φ := .bf16) W : FVec Ideal S1x704x1024 .bf16) (lift3 (φ := .bf16) V : FVec Ideal S1x704x1024 .bf16) = lift2 (φ := .f32) (out y (act z (thru h (W 0))) (V 0)) := by
  unfold k0_pay33; rw [pay29_lift]; exact pay42_lift _ _ _

end

/-! ## The normalisation and the loss -/

section
variable (y d tgt e : Mat 512 1024) (gf old : Mat 1 1024) (a : Mat 512 704) (V : Cube 1 704 1024)

/-- The error of the normalised tokens. -/
def err (d tgt : Mat 512 1024) (gf : Mat 1 1024) : Mat 512 1024 := fun r k => Rms.norm (d r) (gf 0) k - tgt r k
/-- What the normalised tokens receive. -/
def derr (d tgt : Mat 512 1024) (gf : Mat 1 1024) : Mat 512 1024 := fun r k => err d tgt gf r k * (1 / 1024)

theorem pay2_lift : (k0_pay2 : FVec Ideal S8x1024 .f32) = lift2 (φ := .f32) fun _ _ => (0 : ℝ) := by
  funext i; idx_vars i
  pointwise [k0_pay2]
  simp only [lift2_apply, Ideal.ofBits_zero_f32, EReal.coe_zero]

/-- One token's share of the loss. -/
def lossT (v : FVec Ideal S512x1024 .f32) : FVec Ideal S512x1 .f32 :=
  mulf (shapeCast S512x1 (multiReduction .add [1] S512 (mulf v v) 0x00000000#32 reduces_S512x1024_S512 (.inl rfl) rfl) shapeCasts_S512_S512x1)
    (broadcast S512x1 (Scalar.ofBits .f32 0x3A800000#32))
/-- Half the sum of the tokens' shares. -/
def halfT (v : FVec Ideal S512x1 .f32) : FVec Ideal S1x1 .f32 :=
  shapeCast S1x1 (mulf (broadcast S1x1 (Scalar.ofBits .f32 0x3F000000#32))
    (shapeCast S1x1 (multiReduction .add [0] S1 v 0x00000000#32 reduces_S512x1_S1 (.inl rfl) rfl) shapeCasts_S1_S1x1)) shapeCasts_S1x1_S1x1
/-- A number added to the first of a row. -/
def firstT (v : FVec Ideal S1x1 .f32) (old : Vec Ideal S1x1024 .f32) : FVec Ideal S1x1024 .f32 :=
  addf (shapeCast S1x1024 old shapeCasts_S1x1024_S1x1024) (select (cmpi .eq (iota .tc S1x1024 32 [1] iota_S1x1024_d1_w32) (broadcast S1x1024 0#32))
    (broadcastTo S1x1024 v broadcasts_S1x1_S1x1024) (broadcast S1x1024 (Scalar.ofBits .f32 0x00000000#32)))

theorem lossT_lift : lossT (lift2 e) = lift2 fun r _ => (∑ l, e r l * e r l) * (1 / 1024) := by
  funext i; idx_vars i
  pointwise [lossT]
  simp only [lift2_apply, ofBits_inv_1024, ← EReal.coe_mul, coe_sum]

theorem halfT_lift (p : Mat 512 1) : halfT (lift2 p) = lift2 fun _ _ => 1 / 2 * ∑ r, p r 0 := by
  funext i; idx_vars i
  obtain rfl : i0 = 0 := Subsingleton.elim _ _
  obtain rfl : i1 = 0 := Subsingleton.elim _ _
  pointwise [halfT]
  simp only [lift2_apply, ofBits_half, ← EReal.coe_mul, coe_sum]

theorem firstT_lift (p : Mat 1 1) : firstT (lift2 p) (lift2 (φ := .f32) old : FVec Ideal S1x1024 .f32) = lift2 fun _ k => old 0 k + if k.val = 0 then p 0 0 else 0 := by
  funext i; idx_vars i
  obtain rfl : i0 = 0 := Subsingleton.elim _ _
  pointwise [firstT]
  simp only [lift2_apply, Ideal.ofBits_zero_f32, EReal.coe_add]
  refine congrArg (((old 0 i1 : ℝ) : EReal) + ·) ?_
  by_cases h : i1.val = 0
  · rw [if_pos h, h]; rfl
  · rw [if_neg h]
    have hc : (IntOp.cmpi .eq (BitVec.ofNat 32 i1.val) 0#32 : BitVec 1) = 0#1 := by
      have hb : ¬ BitVec.ofNat 32 i1.val = 0#32 := fun hb => h (by
        have := congrArg BitVec.toNat hb
        have hi := i1.isLt
        simpa [Nat.mod_eq_of_lt (by omega : i1.val < 4294967296)] using this)
      show BitVec.ofBool (BitVec.ofNat 32 i1.val == 0#32) = 0#1
      rw [beq_eq_false_iff_ne.mpr hb]; rfl
    rw [hc]; rfl

theorem pay1_lift : k0_pay1 (lift2 (φ := .f32) e : FVec Ideal S512x1024 .f32) (lift2 (φ := .f32) old : FVec Ideal S1x1024 .f32) = lift2 (φ := .f32) fun _ k => old 0 k + if k.val = 0 then 1 / 2 * ∑ r, (∑ l, e r l * e r l) * (1 / 1024) else 0 := by
  have h : k0_pay1 (lift2 (φ := .f32) e : FVec Ideal S512x1024 .f32) (lift2 (φ := .f32) old : FVec Ideal S1x1024 .f32) = firstT (halfT (lossT (lift2 e))) (lift2 old) := rfl
  rw [h, lossT_lift, halfT_lift, firstT_lift]

variable (hd : out y a (V 0) = d)
include hd

theorem pay43_lift : k0_pay43 (lift2 (φ := .f32) y : FVec Ideal S512x1024 .f32) (lift2 (φ := .bf16) a : FVec Ideal S512x704 .bf16) (lift3 (φ := .bf16) V : FVec Ideal S1x704x1024 .bf16) = lift2 (φ := .f32) (fun r _ => Rms.rstd (d r)) := by
  unfold k0_pay43; rw [pay42_lift, hd]
  funext i; idx_vars i
  pointwise []
  simp only [lift2_apply, ← EReal.coe_mul, coe_sum, ofBits_1024, ofBits_eps, div_real _ _ (by norm_num : (1024 : ℝ) ≠ 0), ← EReal.coe_add]
  exact rsqrt_real _ (Rms.meanSq_pos (d i0))

theorem pay44_lift : k0_pay44 (lift2 (φ := .f32) y : FVec Ideal S512x1024 .f32) (lift2 (φ := .bf16) a : FVec Ideal S512x704 .bf16) (lift3 (φ := .bf16) V : FVec Ideal S1x704x1024 .bf16) = lift2 (φ := .f32) (fun r => Rms.unit (d r)) := by
  unfold k0_pay44; rw [pay43_lift y d a V hd, pay42_lift, hd]
  funext i; idx_vars i
  pointwise []
  simp only [lift2_apply, ← EReal.coe_mul]
  rfl

theorem pay45_lift : k0_pay45 (lift2 (φ := .f32) gf : FVec Ideal S1x1024 .f32) (lift2 (φ := .f32) y : FVec Ideal S512x1024 .f32) (lift2 (φ := .bf16) a : FVec Ideal S512x704 .bf16) (lift3 (φ := .bf16) V : FVec Ideal S1x704x1024 .bf16) (lift2 (φ := .f32) tgt : FVec Ideal S512x1024 .f32) = lift2 (φ := .f32) (err d tgt gf) := by
  unfold k0_pay45; rw [pay44_lift y d a V hd]
  funext i; idx_vars i
  pointwise []
  simp only [lift2_apply, ← EReal.coe_mul, ← EReal.coe_sub]
  rfl

theorem pay46_lift : k0_pay46 (lift2 (φ := .f32) gf : FVec Ideal S1x1024 .f32) (lift2 (φ := .f32) y : FVec Ideal S512x1024 .f32) (lift2 (φ := .bf16) a : FVec Ideal S512x704 .bf16) (lift3 (φ := .bf16) V : FVec Ideal S1x704x1024 .bf16) (lift2 (φ := .f32) tgt : FVec Ideal S512x1024 .f32) = lift2 (φ := .f32) (derr d tgt gf) := by
  unfold k0_pay46; rw [pay45_lift y d tgt gf a V hd]
  funext i; idx_vars i
  pointwise []
  simp only [lift2_apply, ofBits_inv_1024, ← EReal.coe_mul]
  rfl

theorem pay47_lift : k0_pay47 (lift2 (φ := .f32) gf : FVec Ideal S1x1024 .f32) (lift2 (φ := .f32) y : FVec Ideal S512x1024 .f32) (lift2 (φ := .bf16) a : FVec Ideal S512x704 .bf16) (lift3 (φ := .bf16) V : FVec Ideal S1x704x1024 .bf16) (lift2 (φ := .f32) tgt : FVec Ideal S512x1024 .f32) = lift2 (φ := .f32) (fun r => Rms.pull (d r) (gf 0) (derr d tgt gf r)) := by
  unfold k0_pay47; rw [pay46_lift y d tgt gf a V hd, pay44_lift y d a V hd, pay43_lift y d a V hd]
  funext i; idx_vars i
  pointwise []
  simp only [lift2_apply, ← EReal.coe_mul, coe_sum, ofBits_1024, div_real _ _ (by norm_num : (1024 : ℝ) ≠ 0), ← EReal.coe_add, ← EReal.coe_sub]
  rfl

theorem pay48_lift : k0_pay48 (lift2 (φ := .f32) gf : FVec Ideal S1x1024 .f32) (lift2 (φ := .f32) y : FVec Ideal S512x1024 .f32) (lift2 (φ := .bf16) a : FVec Ideal S512x704 .bf16) (lift3 (φ := .bf16) V : FVec Ideal S1x704x1024 .bf16) (lift2 (φ := .f32) tgt : FVec Ideal S512x1024 .f32) = lift2 (φ := .bf16) (fun r => Rms.pull (d r) (gf 0) (derr d tgt gf r)) := by
  unfold k0_pay48; rw [pay47_lift y d tgt gf a V hd]; rfl

theorem pay49_lift : k0_pay49 (lift2 (φ := .f32) gf : FVec Ideal S1x1024 .f32) (lift2 (φ := .f32) y : FVec Ideal S512x1024 .f32) (lift2 (φ := .bf16) a : FVec Ideal S512x704 .bf16) (lift3 (φ := .bf16) V : FVec Ideal S1x704x1024 .bf16) (lift2 (φ := .f32) tgt : FVec Ideal S512x1024 .f32) (lift2 (φ := .f32) old : FVec Ideal S1x1024 .f32) = lift2 (φ := .f32) fun _ k => old 0 k + ∑ r, derr d tgt gf r k * Rms.unit (d r) k := by
  unfold k0_pay49; rw [pay46_lift y d tgt gf a V hd, pay44_lift y d a V hd]
  funext i; idx_vars i
  obtain rfl : i0 = 0 := Subsingleton.elim _ _
  pointwise []
  simp only [lift2_apply, ← EReal.coe_mul, coe_sum, ← EReal.coe_add]

end

/-! ## The block -/

section
variable (x : Mat 512 1024) (g : Mat 1 1024) (W : Cube 8 704 1024) (V : Cube 4 704 1024)

/-- What is saved of group `n`: of the gates `z σ(z)`, of the gated values the slope times the value. -/
def saved (n : Fin 8) : Mat 512 704 :=
  if h : n.val < 4 then sil (thru (nrm x g) (W n)) else slo (thru (nrm x g) (W ⟨n.val - 4, by omega⟩)) (thru (nrm x g) (W n))
/-- The gated products of group `n`. -/
def gated (n : Fin 4) : Mat 512 704 := act (thru (nrm x g) (W ⟨n.val, by omega⟩)) (thru (nrm x g) (W ⟨n.val + 4, by omega⟩))
/-- The block's output. -/
def whole : Mat 512 1024 := fun r k => x r k + ∑ n, ∑ f, gated x g W n r f * V n f k

theorem whole_eq : out (out (out (out x (act (thru (nrm x g) (W 0)) (thru (nrm x g) (W 4))) (V 0)) (act (thru (nrm x g) (W 1)) (thru (nrm x g) (W 5))) (V 1))
      (act (thru (nrm x g) (W 2)) (thru (nrm x g) (W 6))) (V 2)) (act (thru (nrm x g) (W 3)) (thru (nrm x g) (W 7))) (V 3) = whole x g W V := by
  funext r k
  unfold whole; rw [Fin.sum_univ_four, ← add_assoc, ← add_assoc, ← add_assoc]
  rfl
end

end Cert.FfnLossKernel

end
-- ==== Proof.FfnLossBlock.lean ====
module

public import proofs.«01_k».proof.Proof.FfnLossPays
public import Idealize.ShloMosaic.Lib.WritesUnit

@[expose] public section

set_option maxRecDepth 16384

noncomputable section

/-! # What one point of the last feed-forward block and the loss leaves, on real blocks

The first point (case A) starts the sums of the gains' gradient and of the loss, the later ones (case B) add to them. -/

namespace Cert.FfnLossKernel

open Cert.Kernel8Ideal Cert.Kernel8Ideal.Gen Cert.Kernel8Ideal.Value Idealize.ShloMosaic Idealize.ShloMosaic.TcCoe
  Idealize.SL.Sem Cert.Reals
open Cert.FfnBwdKernel (Mat Cube ld_lift)

theorem hz2 : (![0, 0] : Fin 2 → Nat) = fun _ => 0 := funext fun a => by fin_cases a <;> rfl

/-- Loading one row of a real array. -/
theorem ld_row {a b : ℕ} (f : Mat a b) (n : ℕ)
    (h : ∀ x : Fin 2, ((![n, 0] : Fin 2 → ℕ) x) + (![1, b] : Fin 2 → ℕ) x ≤ (⟨2, ![a, b]⟩ : Shape).size x) :
    (View.ld (Val := Elt Ideal) (e' := .f32) (lift2 (φ := .f32) f : FVec Ideal ⟨2, ![a, b]⟩ .f32) (Rect.unit (s := ⟨2, ![a, b]⟩) ![n, 0] ![1, b] h) : FVec Ideal ⟨2, ![1, b]⟩ .f32) = lift2 (a := 1) (φ := .f32) fun _ => f ⟨n, h 0⟩ := by
  funext x
  rw [View.ld_apply]
  refine congrArg (lift2 (φ := .f32) f) (?_ : _ = ix2 ⟨n, h 0⟩ (x 1))
  funext a'; apply Fin.ext; rw [Rect.idx_unit_val]
  have h0 : (x 0).val = 0 := by have := (x 0).isLt; simpa using this
  fin_cases a'
  · show n + (x 0).val = n; rw [h0, Nat.add_zero]
  · show 0 + (x 1).val = (x 1).val; rw [Nat.zero_add]

/-- One group of a stack of blocks as it lies in the stack. -/
theorem group {N b c : ℕ} (Y : Cube N b c) (n : Fin N) (X : FVec Ideal ⟨3, ![1, b, c]⟩ .bf16) (hX : X = lift3 (a := 1) (φ := .bf16) fun _ => Y n)
    (u : (⟨3, ![1, b, c]⟩ : Shape).Idx) (z0 : Fin N) (z1 : Fin b) (z2 : Fin c) (h0 : z0.val = n.val + (u 0).val) (h1 : z1.val = (u 1).val) (h2 : z2.val = (u 2).val) :
    X u = lift3 (φ := .bf16) Y (ix3 z0 z1 z2) := by
  have hu : (u 0).val = 0 := by have := (u 0).isLt; simpa using this
  obtain rfl : z0 = n := Fin.ext (by omega)
  obtain rfl : z1 = u 1 := Fin.ext h1
  obtain rfl : z2 = u 2 := Fin.ext h2
  rw [hX]; rfl

section
variable {sg : RefSig} {κ : Kind} {sp : Space} (v : View sg κ sp S8x1024 .f32) (f : v.ty.Contents (Elt Ideal))

theorem cov_eq (L : List (View.Piece (Elt Ideal) S8x1024 .f32)) (B : LoadRect S8x1024) : v.readCov L B = v.readAt (Elt Ideal) B (v.writes (Elt Ideal) v.junk L) := rfl

/-- After a store of the whole array. -/
theorem read_all (X : FVec Ideal S8x1024 .f32) (inb : ∀ a : Fin 2, (![0, 0] : Fin 2 → ℕ) a + (![8, 1024] : Fin 2 → ℕ) a ≤ S8x1024.size a) (L : List (View.Piece (Elt Ideal) S8x1024 .f32)) :
    v.read (Elt Ideal) (v.writes (Elt Ideal) f ((⟨Rect.unit (s := S8x1024) ![0, 0] ![8, 1024] inb, X⟩ : View.Piece (Elt Ideal) S8x1024 .f32) :: L)) = X := by
  funext z
  exact View.read_writes_cons_rows_of_mem v f inb X L z z rfl (Nat.zero_add _).symm rfl

/-- After a store of one row. -/
theorem read_row (n : ℕ) (X : FVec Ideal S1x1024 .f32) (q : Fin 1024 → ℝ) (hX : X = lift2 (a := 1) (φ := .f32) fun _ => q) (inb : ∀ a : Fin 2, (![n, 0] : Fin 2 → ℕ) a + (![1, 1024] : Fin 2 → ℕ) a ≤ S8x1024.size a)
    (L : List (View.Piece (Elt Ideal) S8x1024 .f32)) (old : Mat 8 1024) (hL : v.read (Elt Ideal) (v.writes (Elt Ideal) f L) = lift2 (φ := .f32) old) :
    v.read (Elt Ideal) (v.writes (Elt Ideal) f ((⟨Rect.unit (s := S8x1024) ![n, 0] ![1, 1024] inb, X⟩ : View.Piece (Elt Ideal) S8x1024 .f32) :: L))
      = lift2 (φ := .f32) fun r k => if r.val = n then q k else old r k := by
  funext z; idx_vars z
  by_cases h : z0.val = n
  · refine (View.read_writes_cons_rows_of_mem v f inb X L (ix2 z0 z1) (ix2 0 z1) rfl h rfl).trans ?_
    rw [hX]; simp only [lift2_apply, if_pos h]
  · refine (View.read_writes_cons_rows_of_not_mem v f inb X L (ix2 z0 z1) rfl (W := 1) rfl (?_ : z0.val < n ∨ n + 1 ≤ z0.val)).trans ?_
    · omega
    · rw [hL]; simp only [lift2_apply, if_neg h]

/-- The second row is zero when only the first has been stored over zeros. -/
theorem ld_second (X : FVec Ideal S1x1024 .f32) (q : Fin 1024 → ℝ) (hX : X = lift2 (a := 1) (φ := .f32) fun _ => q) (inb : ∀ a : Fin 2, (![0, 0] : Fin 2 → ℕ) a + (![1, 1024] : Fin 2 → ℕ) a ≤ S8x1024.size a)
    (inb' : ∀ a : Fin 2, (![1, 0] : Fin 2 → ℕ) a + (![1, 1024] : Fin 2 → ℕ) a ≤ S8x1024.size a) (Z : FVec Ideal S8x1024 .f32) (hZ : Z = lift2 (φ := .f32) fun _ _ => 0)
    (inz : ∀ a : Fin 2, (![0, 0] : Fin 2 → ℕ) a + (![8, 1024] : Fin 2 → ℕ) a ≤ S8x1024.size a) :
    (View.ld (Val := Elt Ideal) (e' := .f32) (v.read (Elt Ideal) (v.writes (Elt Ideal) f [(⟨Rect.unit (s := S8x1024) ![0, 0] ![1, 1024] inb, X⟩ : View.Piece (Elt Ideal) S8x1024 .f32), (⟨Rect.unit (s := S8x1024) ![0, 0] ![8, 1024] inz, Z⟩ : View.Piece (Elt Ideal) S8x1024 .f32)]))
      (Rect.unit (s := S8x1024) ![1, 0] ![1, 1024] inb') : FVec Ideal S1x1024 .f32) = lift2 (a := 1) (φ := .f32) fun _ _ => 0 := by
  rw [read_row v f 0 X q hX inb _ (fun _ _ => 0) ((read_all v f _ _ []).trans hZ)]
  exact ld_row _ 1 _
end

/-- The block's sums: the gains' gradient in row 0, the loss at the start of row 1. -/
def sums (old : Mat 8 1024) (d tgt : Mat 512 1024) (gf : Mat 1 1024) : Mat 8 1024 := fun r k =>
  if r.val = 0 then old 0 k + ∑ t, derr d tgt gf t k * Rms.unit (d t) k
  else if r.val = 1 then old 1 k + if k.val = 0 then 1 / 2 * ∑ t, (∑ l, err d tgt gf t l * err d tgt gf t l) * (1 / 1024) else 0
  else old r k

variable {c : Dev nD} {i : grid0.Coords} {a1 : Memref sig .tc .vmem S512x1024 .f32} {h1 : a1.IsWhole} {a2 : Memref sig .tc .vmem S1x1024 .f32} {h2 : a2.IsWhole} {a3 : Memref sig .tc .vmem S8x704x1024 .bf16} {h3 : a3.IsWhole} {a4 : Memref sig .tc .vmem S4x704x1024 .bf16} {h4 : a4.IsWhole} {a5 : Memref sig .tc .vmem S1x1024 .f32} {h5 : a5.IsWhole} {a6 : Memref sig .tc .vmem S512x1024 .f32} {h6 : a6.IsWhole} {a7 : Memref sig .tc .vmem S8x512x704 .bf16} {h7 : a7.IsWhole} {a8 : Memref sig .tc .vmem S4x704x512 .bf16} {h8 : a8.IsWhole} {a9 : Memref sig .tc .vmem S512x1024 .f32} {h9 : a9.IsWhole} {a10 : Memref sig .tc .vmem S512x1024 .bf16} {h10 : a10.IsWhole} {a11 : Memref sig .tc .vmem S8x1024 .f32} {h11 : a11.IsWhole}
  (x : Mat 512 1024) (g : Mat 1 1024) (W : Cube 8 704 1024) (V : Cube 4 704 1024) (gf : Mat 1 1024) (tgt : Mat 512 1024) (old : Mat 8 1024)
  (x0 : Vec Ideal S512x1024 .f32) (x1 : Vec Ideal S1x1024 .f32) (x2 : Vec Ideal S8x704x1024 .bf16) (x3 : Vec Ideal S4x704x1024 .bf16) (x4 : Vec Ideal S1x1024 .f32) (x5 : Vec Ideal S512x1024 .f32) (xo10 : Vec Ideal S8x1024 .f32)
  (hx : x0 = lift2 (φ := .f32) x) (hg : x1 = lift2 (φ := .f32) g) (hW : x2 = lift3 (φ := .bf16) W) (hV : x3 = lift3 (φ := .bf16) V) (hgf : x4 = lift2 (φ := .f32) gf) (htgt : x5 = lift2 (φ := .f32) tgt) (hold : xo10 = lift2 (φ := .f32) old)

set_option maxHeartbeats 2000000 in
include hx hg hW hV hgf htgt in
theorem outA6 {hc0 : cond0_0 i} : out0_A_6 c i a1 h1 a2 h2 a3 h3 a4 h4 a5 h5 a6 h6 a7 h7 a8 h8 a9 h9 a10 h10 a11 h11 hc0 x0 x1 x2 x3 x4 x5 = lift3 (φ := .bf16) (saved x g W) := by
  unfold out0_A_6
  rw [View.read_writes_eq_canon _ _ _ (cover0_A_6 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt
  funext z; idx_vars z
  canon_tiles u h
  · exact group (saved x g W) 7 _ (by simp only [ld_lift, pay4_lift, pay40_lift]; rfl) u z0 z1 z2 h0 h1 h2
  · exact group (saved x g W) 3 _ (by simp only [ld_lift, pay4_lift, pay39_lift]; rfl) u z0 z1 z2 h0 h1 h2
  · exact group (saved x g W) 6 _ (by simp only [ld_lift, pay4_lift, pay25_lift, pay31_lift]; rfl) u z0 z1 z2 h0 h1 h2
  · exact group (saved x g W) 2 _ (by simp only [ld_lift, pay4_lift, pay25_lift, pay30_lift]; rfl) u z0 z1 z2 h0 h1 h2
  · exact group (saved x g W) 5 _ (by simp only [ld_lift, pay4_lift, pay15_lift, pay16_lift, pay17_lift, pay22_lift]; rfl) u z0 z1 z2 h0 h1 h2
  · exact group (saved x g W) 1 _ (by simp only [ld_lift, pay4_lift, pay15_lift, pay17_lift, pay21_lift]; rfl) u z0 z1 z2 h0 h1 h2
  · exact group (saved x g W) 4 _ (by simp only [ld_lift, pay5_lift, pay6_lift, pay7_lift, pay12_lift]; rfl) u z0 z1 z2 h0 h1 h2
  · exact group (saved x g W) 0 _ (by simp only [ld_lift, pay5_lift, pay8_lift, pay11_lift]; rfl) u z0 z1 z2 (h0.trans (Nat.zero_add _).symm) h1 h2

set_option maxHeartbeats 2000000 in
include hx hg hW hV hgf htgt in
theorem outA7 {hc0 : cond0_0 i} : out0_A_7 c i a1 h1 a2 h2 a3 h3 a4 h4 a5 h5 a6 h6 a7 h7 a8 h8 a9 h9 a10 h10 a11 h11 hc0 x0 x1 x2 x3 x4 x5 = lift3 (φ := .bf16) (fun n f r => gated x g W n r f) := by
  unfold out0_A_7
  rw [View.read_writes_eq_canon _ _ _ (cover0_A_7 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt
  funext z; idx_vars z
  canon_tiles u h
  · exact group (fun n f r => gated x g W n r f) 3 _ (by simp only [ld_lift, pay4_lift, pay41_lift]; rfl) u z0 z1 z2 h0 h1 h2
  · exact group (fun n f r => gated x g W n r f) 2 _ (by simp only [ld_lift, pay4_lift, pay25_lift, pay32_lift]; rfl) u z0 z1 z2 h0 h1 h2
  · exact group (fun n f r => gated x g W n r f) 1 _ (by simp only [ld_lift, pay4_lift, pay15_lift, pay16_lift, pay17_lift, pay23_lift]; rfl) u z0 z1 z2 h0 h1 h2
  · exact group (fun n f r => gated x g W n r f) 0 _ (by simp only [ld_lift, pay9_lift, pay13_lift]; rfl) u z0 z1 z2 (h0.trans (Nat.zero_add _).symm) h1 h2

set_option maxHeartbeats 2000000 in
include hx hg hW hV hgf htgt in
theorem outA8 {hc0 : cond0_0 i} : out0_A_8 c i a1 h1 a2 h2 a3 h3 a4 h4 a5 h5 a6 h6 a7 h7 a8 h8 a9 h9 a10 h10 a11 h11 hc0 x0 x1 x2 x3 x4 x5 = lift2 (φ := .f32) (fun r => Rms.pull (whole x g W V r) (gf 0) (derr (whole x g W V) tgt gf r)) := by
  unfold out0_A_8
  rw [View.read_writes_eq_canon _ _ _ (cover0_A_8 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt
  rw [View.canon_unit_zero hz2]
  simp only [ld_lift, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift]
  exact pay47_lift _ (whole x g W V) tgt gf _ (fun _ => V 3) (whole_eq x g W V)

set_option maxHeartbeats 2000000 in
include hx hg hW hV hgf htgt in
theorem outA9 {hc0 : cond0_0 i} : out0_A_9 c i a1 h1 a2 h2 a3 h3 a4 h4 a5 h5 a6 h6 a7 h7 a8 h8 a9 h9 a10 h10 a11 h11 hc0 x0 x1 x2 x3 x4 x5 = lift2 (φ := .bf16) (fun r => Rms.pull (whole x g W V r) (gf 0) (derr (whole x g W V) tgt gf r)) := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5)]
  unfold kernelRun0_A
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt
  rw [View.canon_unit_zero hz2]
  simp only [ld_lift, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift]
  exact pay48_lift _ (whole x g W V) tgt gf _ (fun _ => V 3) (whole_eq x g W V)

set_option maxHeartbeats 2000000 in
include hx hg hW hV hgf htgt hold in
theorem outB6 {hc0 : ¬cond0_0 i} : out0_B_6 c i a1 h1 a2 h2 a3 h3 a4 h4 a5 h5 a6 h6 a7 h7 a8 h8 a9 h9 a10 h10 a11 h11 hc0 x0 x1 x2 x3 x4 x5 xo10 = lift3 (φ := .bf16) (saved x g W) := by
  unfold out0_B_6
  rw [View.read_writes_eq_canon _ _ _ (cover0_B_6 c i a1 h1 a2 h2 a3 h3 a4 h4 a5 h5 a6 h6 a7 h7 a8 h8 a9 h9 a10 h10 a11 h11 hc0 x0 x1 x2 x3 x4 x5 xo10)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt hold
  funext z; idx_vars z
  canon_tiles u h
  · exact group (saved x g W) 7 _ (by simp only [ld_lift, pay4_lift, pay40_lift]; rfl) u z0 z1 z2 h0 h1 h2
  · exact group (saved x g W) 3 _ (by simp only [ld_lift, pay4_lift, pay39_lift]; rfl) u z0 z1 z2 h0 h1 h2
  · exact group (saved x g W) 6 _ (by simp only [ld_lift, pay4_lift, pay25_lift, pay31_lift]; rfl) u z0 z1 z2 h0 h1 h2
  · exact group (saved x g W) 2 _ (by simp only [ld_lift, pay4_lift, pay25_lift, pay30_lift]; rfl) u z0 z1 z2 h0 h1 h2
  · exact group (saved x g W) 5 _ (by simp only [ld_lift, pay4_lift, pay15_lift, pay16_lift, pay17_lift, pay22_lift]; rfl) u z0 z1 z2 h0 h1 h2
  · exact group (saved x g W) 1 _ (by simp only [ld_lift, pay4_lift, pay15_lift, pay17_lift, pay21_lift]; rfl) u z0 z1 z2 h0 h1 h2
  · exact group (saved x g W) 4 _ (by simp only [ld_lift, pay5_lift, pay6_lift, pay7_lift, pay12_lift]; rfl) u z0 z1 z2 h0 h1 h2
  · exact group (saved x g W) 0 _ (by simp only [ld_lift, pay5_lift, pay8_lift, pay11_lift]; rfl) u z0 z1 z2 (h0.trans (Nat.zero_add _).symm) h1 h2

set_option maxHeartbeats 2000000 in
include hx hg hW hV hgf htgt hold in
theorem outB7 {hc0 : ¬cond0_0 i} : out0_B_7 c i a1 h1 a2 h2 a3 h3 a4 h4 a5 h5 a6 h6 a7 h7 a8 h8 a9 h9 a10 h10 a11 h11 hc0 x0 x1 x2 x3 x4 x5 xo10 = lift3 (φ := .bf16) (fun n f r => gated x g W n r f) := by
  unfold out0_B_7
  rw [View.read_writes_eq_canon _ _ _ (cover0_B_7 c i a1 h1 a2 h2 a3 h3 a4 h4 a5 h5 a6 h6 a7 h7 a8 h8 a9 h9 a10 h10 a11 h11 hc0 x0 x1 x2 x3 x4 x5 xo10)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt hold
  funext z; idx_vars z
  canon_tiles u h
  · exact group (fun n f r => gated x g W n r f) 3 _ (by simp only [ld_lift, pay4_lift, pay41_lift]; rfl) u z0 z1 z2 h0 h1 h2
  · exact group (fun n f r => gated x g W n r f) 2 _ (by simp only [ld_lift, pay4_lift, pay25_lift, pay32_lift]; rfl) u z0 z1 z2 h0 h1 h2
  · exact group (fun n f r => gated x g W n r f) 1 _ (by simp only [ld_lift, pay4_lift, pay15_lift, pay16_lift, pay17_lift, pay23_lift]; rfl) u z0 z1 z2 h0 h1 h2
  · exact group (fun n f r => gated x g W n r f) 0 _ (by simp only [ld_lift, pay9_lift, pay13_lift]; rfl) u z0 z1 z2 (h0.trans (Nat.zero_add _).symm) h1 h2

set_option maxHeartbeats 2000000 in
include hx hg hW hV hgf htgt hold in
theorem outB8 {hc0 : ¬cond0_0 i} : out0_B_8 c i a1 h1 a2 h2 a3 h3 a4 h4 a5 h5 a6 h6 a7 h7 a8 h8 a9 h9 a10 h10 a11 h11 hc0 x0 x1 x2 x3 x4 x5 xo10 = lift2 (φ := .f32) (fun r => Rms.pull (whole x g W V r) (gf 0) (derr (whole x g W V) tgt gf r)) := by
  unfold out0_B_8
  rw [View.read_writes_eq_canon _ _ _ (cover0_B_8 c i a1 h1 a2 h2 a3 h3 a4 h4 a5 h5 a6 h6 a7 h7 a8 h8 a9 h9 a10 h10 a11 h11 hc0 x0 x1 x2 x3 x4 x5 xo10)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt hold
  rw [View.canon_unit_zero hz2]
  simp only [ld_lift, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift]
  exact pay47_lift _ (whole x g W V) tgt gf _ (fun _ => V 3) (whole_eq x g W V)

set_option maxHeartbeats 2000000 in
include hx hg hW hV hgf htgt hold in
theorem outB9 {hc0 : ¬cond0_0 i} : out0_B_9 c i a1 h1 a2 h2 a3 h3 a4 h4 a5 h5 a6 h6 a7 h7 a8 h8 a9 h9 a10 h10 a11 h11 hc0 x0 x1 x2 x3 x4 x5 xo10 = lift2 (φ := .bf16) (fun r => Rms.pull (whole x g W V r) (gf 0) (derr (whole x g W V) tgt gf r)) := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 xo10)]
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt hold
  rw [View.canon_unit_zero hz2]
  simp only [ld_lift, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift]
  exact pay48_lift _ (whole x g W V) tgt gf _ (fun _ => V 3) (whole_eq x g W V)

set_option maxHeartbeats 2000000 in
include hx hg hW hV hgf htgt hold in
theorem outB10 {hc0 : ¬cond0_0 i} : out0_B_10 c i a1 h1 a2 h2 a3 h3 a4 h4 a5 h5 a6 h6 a7 h7 a8 h8 a9 h9 a10 h10 a11 h11 hc0 x0 x1 x2 x3 x4 x5 xo10 = lift2 (φ := .f32) (sums old (whole x g W V) tgt gf) := by
  unfold out0_B_10
  unfold kernelRun0_B
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt hold
  simp only [ld_lift, ld_row, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift]
  have e45 := pay45_lift _ (whole x g W V) tgt gf _ (fun _ => V 3) (whole_eq x g W V)
  refine (read_row _ _ 1 _ _ ((congrArg (fun e => k0_pay1 e _) e45).trans (pay1_lift _ _)) _ _ _
    (read_row _ _ 0 _ _ (pay49_lift _ (whole x g W V) tgt gf _ _ (fun _ => V 3) (whole_eq x g W V)) _ _ old (h11.read_unread _))).trans ?_
  funext z; idx_vars z
  simp only [lift2_apply]
  refine congrArg _ ?_
  unfold sums
  split_ifs <;> first | omega | rfl

set_option maxHeartbeats 2000000 in
include hx hg hW hV hgf htgt in
theorem outA10 {hc0 : cond0_0 i} : out0_A_10 c i a1 h1 a2 h2 a3 h3 a4 h4 a5 h5 a6 h6 a7 h7 a8 h8 a9 h9 a10 h10 a11 h11 hc0 x0 x1 x2 x3 x4 x5 = lift2 (φ := .f32) (sums (fun _ _ => 0) (whole x g W V) tgt gf) := by
  unfold out0_A_10
  unfold kernelRun0_A
  dsimp only
  sl_unfold_words
  simp only [View.readAt_eq_ld, h1.read_unread, h2.read_unread, h3.read_unread, h4.read_unread, h5.read_unread, h6.read_unread, h11.read_unread, View.ld_unit_zero (S := S512x1024) hz2, View.ld_unit_zero (S := S1x1024) hz2]
  subst hx hg hW hV hgf htgt
  simp only [ld_lift, pay3_lift, pay4_lift, pay5_lift, pay6_lift, pay7_lift, pay8_lift, pay9_lift, pay10_lift, pay14_lift, pay15_lift, pay16_lift, pay17_lift, pay24_lift, pay25_lift, pay26_lift, pay28_lift, pay33_lift, pay34_lift, pay35_lift, pay37_lift, pay38_lift, cov_eq, View.readAt_eq_ld, read_all, pay2_lift, ld_row]
  have e45 := pay45_lift _ (whole x g W V) tgt gf _ (fun _ => V 3) (whole_eq x g W V)
  have e0 := fun o => pay49_lift _ (whole x g W V) tgt gf o _ (fun _ => V 3) (whole_eq x g W V)
  refine (read_row _ _ 1 _ _ ((congrArg (fun e => k0_pay1 e _) e45).trans ((congrArg (k0_pay1 _) (ld_second _ _ _ _ (e0 _) _ _ _ rfl _)).trans (pay1_lift _ _))) _ _ _
    (read_row _ _ 0 _ _ (e0 _) _ _ (fun _ _ => 0) (read_all _ _ _ _ []))).trans ?_
  funext z; idx_vars z
  simp only [lift2_apply]
  refine congrArg _ ?_
  unfold sums
  split_ifs <;> first | omega | rfl

end Cert.FfnLossKernel

end
-- ==== Proof.FfnLossHost.lean ====
module

public import proofs.«01_k».proof.Proof.Loss
public import proofs.«01_k».proof.Proof.FfnBwdHost
public import proofs.«01_k».proof.Proof.FfnLossBlock
public import Idealize.ShloMosaic.Lib.Claim

@[expose] public section

set_option maxRecDepth 16384

noncomputable section

/-! # What the last feed-forward and the loss are handed, on real arrays -/

namespace Cert.FfnLossKernel

open Cert.Kernel8Ideal Cert.Kernel8Ideal.Gen Cert.Kernel8Ideal.Value Idealize.ShloMosaic Idealize.ShloMosaic.TcCoe
  Idealize.SL.Sem Cert.Reals
open Cert.FfnBwdKernel (Mat Cube kept beside)

abbrev A := FVec Ideal S8192x1024 .f32

variable (m : (ℓ : Loc nD τ sig) → Buf (Elt Ideal) ℓ) (c : Dev nD)

abbrev xOf : A := m ((c : Thread nD τ).loc main_arg0)
abbrev gOf : FVec Ideal S1024 .f32 := m ((c : Thread nD τ).loc main_arg1)
abbrev wOf : FVec Ideal S1024x5632 .f32 := m ((c : Thread nD τ).loc main_arg2)
abbrev vOf : FVec Ideal S2816x1024 .f32 := m ((c : Thread nD τ).loc main_arg3)
abbrev fOf : FVec Ideal S1024 .f32 := m ((c : Thread nD τ).loc main_arg4)
abbrev tOf : A := m ((c : Thread nD τ).loc main_arg5)

variable (x : Mat 8192 1024) (g : Fin 1024 → ℝ) (w : Mat 1024 5632) (v : Mat 2816 1024) (gf : Fin 1024 → ℝ) (tgt : Mat 8192 1024)

theorem gains_lift (hg : gOf m c = lift1 g) : (V m c main_v0 : FVec Ideal S1x1024 .f32) = lift2 (φ := .f32) fun _ => g := by
  have e : (V m c main_v0 : FVec Ideal S1x1024 .f32) = broadcastInDim S1x1024 ![1] bcast_S1024_S1x1024_1 (gOf m c) := by
    unfold V; after_results
  rw [e, hg]
  funext i; idx_vars i
  pointwise []
  rfl

theorem final_lift (hf : fOf m c = lift1 gf) : (V m c main_v6 : FVec Ideal S1x1024 .f32) = lift2 (φ := .f32) fun _ => gf := by
  have e : (V m c main_v6 : FVec Ideal S1x1024 .f32) = broadcastInDim S1x1024 ![1] bcast_S1024_S1x1024_1 (fOf m c) := by
    unfold V; after_results
  rw [e, hf]
  funext i; idx_vars i
  pointwise []
  rfl

theorem cols_eq : (V m c main_v3 : FVec Ideal S8x704x1024 .bf16) =
    truncf .bf16 (shapeCast S8x704x1024 (transpose S5632x1024 [1, 0] (wOf m c) transposes_S1024x5632_S5632x1024_1_0) shapeCasts_S5632x1024_S8x704x1024) bitsLt_bf16_f32 := by
  unfold V
  after_results
  rfl

theorem rows_eq : (V m c main_v5 : FVec Ideal S4x704x1024 .bf16) =
    truncf .bf16 (shapeCast S4x704x1024 (vOf m c) shapeCasts_S2816x1024_S4x704x1024) bitsLt_bf16_f32 := by
  unfold V
  after_results
  rfl

theorem cols_lift (hw : wOf m c = lift2 w) : (V m c main_v3 : FVec Ideal S8x704x1024 .bf16) = lift3 (φ := .bf16) fun j f k => w k ⟨j.val * 704 + f.val, by omega⟩ := by
  rw [cols_eq, hw]
  funext i; idx_vars i
  pointwise []
  rfl

theorem rows_lift (hv : vOf m c = lift2 v) : (V m c main_v5 : FVec Ideal S4x704x1024 .bf16) = lift3 (φ := .bf16) fun j f k => v ⟨j.val * 704 + f.val, by omega⟩ k := by
  rw [rows_eq, hv]
  funext i; idx_vars i
  pointwise []
  rfl

/-! ## The blocks of a point -/

/-- Token `r` of the block at point `t`. -/
def row (t : Fin cfg0.N) (r : Fin 512) : Fin 8192 := ⟨t.val * 512 + r.val, by have := t.isLt; have : cfg0.N = 16 := N_0; omega⟩

theorem idx_a : ∀ t : Fin cfg0.N, win0_0.index t (0 : Fin 2) = t.val ∧ win0_0.index t (1 : Fin 2) = 0
    ∧ win0_5.index t (0 : Fin 2) = t.val ∧ win0_5.index t (1 : Fin 2) = 0 := (by decide +kernel : ∀ t : Fin grid0.N, _)
theorem idx_c : ∀ t : Fin cfg0.N, win0_1.index t (0 : Fin 2) = 0 ∧ win0_1.index t (1 : Fin 2) = 0
    ∧ win0_4.index t (0 : Fin 2) = 0 ∧ win0_4.index t (1 : Fin 2) = 0 := (by decide +kernel : ∀ t : Fin grid0.N, _)
theorem idx_d : ∀ t : Fin cfg0.N, (∀ a : Fin 3, win0_2.index t a = 0) ∧ (∀ a : Fin 3, win0_3.index t a = 0) := (by decide +kernel : ∀ t : Fin grid0.N, _)

theorem blk0 (hx : xOf m c = lift2 x) (t : Fin cfg0.N) : (iblk m c 0 t : Vec Ideal S512x1024 .f32) = lift2 (φ := .f32) fun r => x (row t r) := by
  obtain ⟨e0, e1, -⟩ := idx_a t
  funext i; idx_vars i
  unfold iblk; rw [View.read_apply]
  show xOf m c _ = _
  rw [hx]
  refine congrArg (lift2 (φ := .f32) x) (?_ : _ = ix2 (row t i0) i1)
  funext a; apply Fin.ext
  match a with
  | ⟨0, _⟩ => show win0_0.index t (0 : Fin 2) * 512 + 1 * i0.val = t.val * 512 + i0.val; omega
  | ⟨1, _⟩ => show win0_0.index t (1 : Fin 2) * 1024 + 1 * i1.val = i1.val; omega

theorem blk1 (s : Mat 1 1024) (hs : (V m c main_v0 : FVec Ideal S1x1024 .f32) = lift2 (φ := .f32) s) (t : Fin cfg0.N) :
    (iblk m c 1 t : Vec Ideal S1x1024 .f32) = lift2 (φ := .f32) s := by
  obtain ⟨e0, e1, -⟩ := idx_c t
  funext i; idx_vars i
  unfold iblk; rw [View.read_apply]
  show V m c main_v0 _ = _
  rw [hs]
  refine congrArg (lift2 (φ := .f32) s) (?_ : _ = ix2 i0 i1)
  funext a; apply Fin.ext
  match a with
  | ⟨0, _⟩ => show win0_1.index t (0 : Fin 2) * 1 + 1 * i0.val = i0.val; omega
  | ⟨1, _⟩ => show win0_1.index t (1 : Fin 2) * 1024 + 1 * i1.val = i1.val; omega

theorem blk2 (s : Cube 8 704 1024) (hs : (V m c main_v3 : FVec Ideal S8x704x1024 .bf16) = lift3 (φ := .bf16) s) (t : Fin cfg0.N) :
    (iblk m c 2 t : Vec Ideal S8x704x1024 .bf16) = lift3 (φ := .bf16) s := by
  have e := (idx_d t).1
  funext i; idx_vars i
  unfold iblk; rw [View.read_apply]
  show V m c main_v3 _ = _
  rw [hs]
  refine congrArg (lift3 (φ := .bf16) s) (?_ : _ = ix3 i0 i1 i2)
  have e0 := e 0; have e1 := e 1; have e2 := e 2
  funext a; apply Fin.ext
  match a with
  | ⟨0, _⟩ => show win0_2.index t (0 : Fin 3) * 8 + 1 * i0.val = i0.val; omega
  | ⟨1, _⟩ => show win0_2.index t (1 : Fin 3) * 704 + 1 * i1.val = i1.val; omega
  | ⟨2, _⟩ => show win0_2.index t (2 : Fin 3) * 1024 + 1 * i2.val = i2.val; omega

theorem blk3 (s : Cube 4 704 1024) (hs : (V m c main_v5 : FVec Ideal S4x704x1024 .bf16) = lift3 (φ := .bf16) s) (t : Fin cfg0.N) :
    (iblk m c 3 t : Vec Ideal S4x704x1024 .bf16) = lift3 (φ := .bf16) s := by
  have e := (idx_d t).2
  funext i; idx_vars i
  unfold iblk; rw [View.read_apply]
  show V m c main_v5 _ = _
  rw [hs]
  refine congrArg (lift3 (φ := .bf16) s) (?_ : _ = ix3 i0 i1 i2)
  have e0 := e 0; have e1 := e 1; have e2 := e 2
  funext a; apply Fin.ext
  match a with
  | ⟨0, _⟩ => show win0_3.index t (0 : Fin 3) * 4 + 1 * i0.val = i0.val; omega
  | ⟨1, _⟩ => show win0_3.index t (1 : Fin 3) * 704 + 1 * i1.val = i1.val; omega
  | ⟨2, _⟩ => show win0_3.index t (2 : Fin 3) * 1024 + 1 * i2.val = i2.val; omega

theorem blk4 (s : Mat 1 1024) (hs : (V m c main_v6 : FVec Ideal S1x1024 .f32) = lift2 (φ := .f32) s) (t : Fin cfg0.N) :
    (iblk m c 4 t : Vec Ideal S1x1024 .f32) = lift2 (φ := .f32) s := by
  obtain ⟨-, -, e0, e1⟩ := idx_c t
  funext i; idx_vars i
  unfold iblk; rw [View.read_apply]
  show V m c main_v6 _ = _
  rw [hs]
  refine congrArg (lift2 (φ := .f32) s) (?_ : _ = ix2 i0 i1)
  funext a; apply Fin.ext
  match a with
  | ⟨0, _⟩ => show win0_4.index t (0 : Fin 2) * 1 + 1 * i0.val = i0.val; omega
  | ⟨1, _⟩ => show win0_4.index t (1 : Fin 2) * 1024 + 1 * i1.val = i1.val; omega

theorem blk5 (ht : tOf m c = lift2 tgt) (t : Fin cfg0.N) : (iblk m c 5 t : Vec Ideal S512x1024 .f32) = lift2 (φ := .f32) fun r => tgt (row t r) := by
  obtain ⟨-, -, e0, e1⟩ := idx_a t
  funext i; idx_vars i
  unfold iblk; rw [View.read_apply]
  show tOf m c _ = _
  rw [ht]
  refine congrArg (lift2 (φ := .f32) tgt) (?_ : _ = ix2 (row t i0) i1)
  funext a; apply Fin.ext
  match a with
  | ⟨0, _⟩ => show win0_5.index t (0 : Fin 2) * 512 + 1 * i0.val = t.val * 512 + i0.val; omega
  | ⟨1, _⟩ => show win0_5.index t (1 : Fin 2) * 1024 + 1 * i1.val = i1.val; omega

/-! ## The block in terms of its tokens -/

/-- The columns in groups. -/
def colsOf (w : Mat 1024 5632) : Cube 8 704 1024 := fun j f k => w k ⟨j.val * 704 + f.val, by omega⟩
/-- The rows that lead back in groups. -/
def rowsOf (v : Mat 2816 1024) : Cube 4 704 1024 := fun j f k => v ⟨j.val * 704 + f.val, by omega⟩ k

section
variable (y : Mat 512 1024) (u : Mat 512 1024)

theorem saved_token (n : Fin 8) (r : Fin 512) (f : Fin 704) :
    saved y (fun _ => g) (colsOf w) n r f = kept (y r) g w ⟨n.val * 704 + f.val, by omega⟩ := by
  unfold saved kept beside
  by_cases h : n.val < 4
  · rw [dif_pos h, dif_pos (by dsimp only; omega)]; rfl
  · have e1 : thru (nrm y fun _ => g) (colsOf w ⟨n.val - 4, by omega⟩) r f = Ffn.gate (y r) g w ⟨n.val * 704 + f.val - 2816, by omega⟩ :=
      congrArg (Ffn.proj (y r) g w) (Fin.ext (by show (n.val - 4) * 704 + f.val = n.val * 704 + f.val - 2816; omega))
    have e2 : thru (nrm y fun _ => g) (colsOf w n) r f = Ffn.up (y r) g w ⟨n.val * 704 + f.val - 2816, by omega⟩ :=
      congrArg (Ffn.proj (y r) g w) (Fin.ext (by show n.val * 704 + f.val = 2816 + (n.val * 704 + f.val - 2816); omega))
    rw [dif_neg h, dif_neg (by dsimp only; omega)]
    unfold slo sg; rw [e1, e2]; rfl

theorem gated_token (n : Fin 4) (r : Fin 512) (f : Fin 704) :
    gated y (fun _ => g) (colsOf w) n r f = Loss.act (y r) g w ⟨n.val * 704 + f.val, by omega⟩ := by
  have e2 : thru (nrm y fun _ => g) (colsOf w ⟨n.val + 4, by omega⟩) r f = Ffn.up (y r) g w ⟨n.val * 704 + f.val, by omega⟩ :=
    congrArg (Ffn.proj (y r) g w) (Fin.ext (by show (n.val + 4) * 704 + f.val = 2816 + (n.val * 704 + f.val); omega))
  unfold gated act; rw [e2]; rfl

theorem whole_token : whole y (fun _ => g) (colsOf w) (rowsOf v) = fun r => Loss.token (y r) g w v := by
  funext r k
  unfold whole Loss.token
  rw [Fin.sum_univ_tiles 4 704 rfl]
  refine congrArg _ (Finset.sum_congr rfl fun n _ => Finset.sum_congr rfl fun f _ => ?_)
  rw [gated_token]; rfl

theorem err_token : err (fun r => Loss.token (y r) g w v) u (fun _ => gf) = fun r => Loss.err (y r) g w v gf (u r) := rfl
theorem derr_token : derr (fun r => Loss.token (y r) g w v) u (fun _ => gf) = fun r => Loss.derr (y r) g w v gf (u r) := rfl

theorem sums_token (old : Mat 8 1024) : sums old (fun r => Loss.token (y r) g w v) u (fun _ => gf)
    = fun r k => old r k + ∑ t, Loss.adds (y t) g w v gf (u t) r k := by
  funext r k
  unfold sums Loss.adds
  by_cases h0 : r.val = 0
  · obtain rfl : r = 0 := Fin.ext h0
    simp only [if_pos h0]; rfl
  · by_cases h1 : r.val = 1
    · obtain rfl : r = 1 := Fin.ext h1
      simp only [if_neg h0, if_pos h1]
      by_cases hk : k.val = 0
      · simp only [if_pos hk]; rw [Finset.mul_sum]; rfl
      · simp only [if_neg hk, Finset.sum_const_zero]
    · simp only [if_neg h0, if_neg h1, Finset.sum_const_zero, add_zero]
end

end Cert.FfnLossKernel

end
-- ==== Proof.FfnLossKernel.lean ====
module

public import proofs.«01_k».proof.Proof.FfnLossHost

@[expose] public section

set_option maxRecDepth 16384

noncomputable section

/-! # The five arrays the last feed-forward and the loss leave, on real arrays -/

namespace Cert.FfnLossKernel

open Cert.Kernel8Ideal Cert.Kernel8Ideal.Gen Cert.Kernel8Ideal.Value Idealize.ShloMosaic Idealize.ShloMosaic.TcCoe
  Idealize.SL.Sem Cert.Reals
open Cert.FfnBwdKernel (Mat Cube kept)

variable (m : (ℓ : Loc nD τ sig) → Buf (Elt Ideal) ℓ) (c : Dev nD)
variable (x : Mat 8192 1024) (g : Fin 1024 → ℝ) (w : Mat 1024 5632) (v : Mat 2816 1024) (gf : Fin 1024 → ℝ) (tgt : Mat 8192 1024)
  (hx : xOf m c = lift2 x) (hg : gOf m c = lift1 g) (hw : wOf m c = lift2 w) (hv : vOf m c = lift2 v) (hf : fOf m c = lift1 gf) (ht : tOf m c = lift2 tgt)

/-- What the tokens of point `t` add to the sums. -/
def part (t : ℕ) (r : Fin 8) (k : Fin 1024) : ℝ := ∑ s : Fin 512, if h : t * 512 + s.val < 8192 then Loss.adds (x ⟨t * 512 + s.val, h⟩) g w v gf (tgt ⟨t * 512 + s.val, h⟩) r k else 0

theorem part_eq (t : Fin cfg0.N) (r : Fin 8) (k : Fin 1024) : ∑ s, Loss.adds (x (row t s)) g w v gf (tgt (row t s)) r k = part x g w v gf tgt t.val r k := by
  have hN : cfg0.N = 16 := N_0
  have := t.isLt
  unfold part
  refine Finset.sum_congr rfl fun s _ => ?_
  rw [dif_pos (by omega)]; rfl

include hx hg hw hv hf ht

/-- What the sums' block holds after point `n`: the parts up to it. -/
theorem sums_at : ∀ (n : ℕ) (hn : n < cfg0.N), ((outsAt0 m c n hn).2.2.2.2 : Vec Ideal S8x1024 .f32) = lift2 (φ := .f32) fun r k => ∑ s ∈ Finset.range (n + 1), part x g w v gf tgt s r k := by
  have hN : cfg0.N = 16 := N_0
  intro n
  induction n with
  | zero =>
    intro hn
    let t : Fin cfg0.N := ⟨0, hn⟩
    rw [outsAt0_A m c t rfl]; dsimp only
    rw [outA10 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t), whole_token, sums_token]
    funext i; idx_vars i
    simp only [lift2_apply]
    refine congrArg _ ?_
    rw [zero_add, Finset.sum_range_one]
    exact part_eq x g w v gf tgt t i0 i1
  | succ n ih =>
    intro hn
    let t : Fin cfg0.N := ⟨n + 1, hn⟩
    rw [outsAt0_B m c t (by show ¬(n + 1) % 16 = 0; omega)]; dsimp only
    refine (outB10 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t) (hold := ih (Nat.lt_of_succ_lt hn))).trans ?_
    rw [whole_token, sums_token]
    funext i; idx_vars i
    simp only [lift2_apply]
    refine congrArg _ ?_
    rw [Finset.sum_range_succ _ (n + 1)]
    refine congrArg _ ?_
    exact part_eq x g w v gf tgt t i0 i1

theorem point6 (t : Fin cfg0.N) : ((outsAt0 m c t.val t.isLt).1 : Vec Ideal S8x512x704 .bf16) = lift3 (φ := .bf16) fun j r f => kept (x (row t r)) g w ⟨j.val * 704 + f.val, by omega⟩ := by
  have hN : cfg0.N = 16 := N_0
  by_cases h : t.val % 16 = 0
  · rw [outsAt0_A m c t h]; dsimp only
    refine (outA6 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t)).trans ?_
    refine congrArg _ ?_; funext j r f; exact saved_token g w _ j r f
  · rw [outsAt0_B m c t h]; dsimp only
    have hlt := t.isLt
    refine (outB6 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t) (hold := sums_at m c x g w v gf tgt hx hg hw hv hf ht (t.val - 1) (by omega))).trans ?_
    refine congrArg _ ?_; funext j r f; exact saved_token g w _ j r f

theorem point7 (t : Fin cfg0.N) : ((outsAt0 m c t.val t.isLt).2.1 : Vec Ideal S4x704x512 .bf16) = lift3 (φ := .bf16) fun j f r => Loss.act (x (row t r)) g w ⟨j.val * 704 + f.val, by omega⟩ := by
  have hN : cfg0.N = 16 := N_0
  by_cases h : t.val % 16 = 0
  · rw [outsAt0_A m c t h]; dsimp only
    refine (outA7 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t)).trans ?_
    refine congrArg _ ?_; funext j f r; exact gated_token g w _ j r f
  · rw [outsAt0_B m c t h]; dsimp only
    have hlt := t.isLt
    refine (outB7 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t) (hold := sums_at m c x g w v gf tgt hx hg hw hv hf ht (t.val - 1) (by omega))).trans ?_
    refine congrArg _ ?_; funext j f r; exact gated_token g w _ j r f

theorem point8 (t : Fin cfg0.N) : ((outsAt0 m c t.val t.isLt).2.2.1 : Vec Ideal S512x1024 .f32) = lift2 (φ := .f32) fun r => Loss.dtoken (x (row t r)) g w v gf (tgt (row t r)) := by
  have hN : cfg0.N = 16 := N_0
  by_cases h : t.val % 16 = 0
  · rw [outsAt0_A m c t h]; dsimp only
    refine (outA8 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t)).trans ?_
    rw [whole_token]; rfl
  · rw [outsAt0_B m c t h]; dsimp only
    have hlt := t.isLt
    refine (outB8 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t) (hold := sums_at m c x g w v gf tgt hx hg hw hv hf ht (t.val - 1) (by omega))).trans ?_
    rw [whole_token]; rfl

theorem point9 (t : Fin cfg0.N) : ((outsAt0 m c t.val t.isLt).2.2.2.1 : Vec Ideal S512x1024 .bf16) = lift2 (φ := .bf16) fun r => Loss.dtoken (x (row t r)) g w v gf (tgt (row t r)) := by
  have hN : cfg0.N = 16 := N_0
  by_cases h : t.val % 16 = 0
  · rw [outsAt0_A m c t h]; dsimp only
    refine (outA9 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t)).trans ?_
    rw [whole_token]; rfl
  · rw [outsAt0_B m c t h]; dsimp only
    have hlt := t.isLt
    refine (outB9 (hx := blk0 m c x hx t) (hg := blk1 m c _ (gains_lift m c g hg) t) (hW := blk2 m c (colsOf w) (cols_lift m c w hw) t) (hV := blk3 m c (rowsOf v) (rows_lift m c v hv) t) (hgf := blk4 m c _ (final_lift m c gf hf) t) (htgt := blk5 m c tgt ht t) (hold := sums_at m c x g w v gf tgt hx hg hw hv hf ht (t.val - 1) (by omega))).trans ?_
    rw [whole_token]; rfl

omit hx hg hw hv hf ht in
theorem idx6 : ∀ t : Fin cfg0.N, win0_6.index t (0 : Fin 3) = 0 ∧ win0_6.index t (1 : Fin 3) = t.val ∧ win0_6.index t (2 : Fin 3) = 0 ∧ win0_6.xsize (grid0.coords t) (0 : Fin 3) = 8 ∧ win0_6.xsize (grid0.coords t) (1 : Fin 3) = 512 ∧ win0_6.xsize (grid0.coords t) (2 : Fin 3) = 704 := (by decide +kernel : ∀ t : Fin grid0.N, _)

omit hx hg hw hv hf ht in
/-- The blocks cover the array. -/
theorem cover6 (i : S8x8192x704.Idx) : ∃ t : Fin cfg0.N, (cfg0.win 6).flush t = true ∧ i ∈ ((cfg0.win 6).blk t).view.set := by
  have hN : cfg0.N = 16 := N_0
  have h0 : (i 0).val < 8 := (i 0).isLt
  have h1 : (i 1).val < 8192 := (i 1).isLt
  have h2 : (i 2).val < 704 := (i 2).isLt
  obtain ⟨t, ht⟩ : ∃ t : Fin cfg0.N, t.val = (i 1).val / 512 := ⟨⟨(i 1).val / 512, by omega⟩, rfl⟩
  refine ⟨t, flush0_6 t, ?_⟩
  obtain ⟨e0, e1, e2, n0, n1, n2⟩ := idx6 t
  show i ∈ ((View.whole main_v7_0).slice (win0_6.rect t)).set
  rw [View.set_slice_whole, Rect.mem_set_unit]
  intro a
  match a with
  | ⟨0, _⟩ => show win0_6.index t (0 : Fin 3) * 8 ≤ (i 0).val ∧ (i 0).val < win0_6.index t (0 : Fin 3) * 8 + win0_6.xsize (grid0.coords t) (0 : Fin 3); rw [e0, n0]; omega
  | ⟨1, _⟩ => show win0_6.index t (1 : Fin 3) * 512 ≤ (i 1).val ∧ (i 1).val < win0_6.index t (1 : Fin 3) * 512 + win0_6.xsize (grid0.coords t) (1 : Fin 3); rw [e1, n1]; omega
  | ⟨2, _⟩ => show win0_6.index t (2 : Fin 3) * 704 ≤ (i 2).val ∧ (i 2).val < win0_6.index t (2 : Fin 3) * 704 + win0_6.xsize (grid0.coords t) (2 : Fin 3); rw [e2, n2]; omega

omit hx hg hw hv hf ht in
theorem whole6 (G : Cube 8 8192 704) (hG : ∀ t : Fin cfg0.N, ((outsAt0 m c t.val t.isLt).1 : Vec Ideal S8x512x704 .bf16) = lift3 (φ := .bf16) fun p q s => G p (row t q) s) : ((dats m 0 c).arrAt 6 cfg0.N : FVec Ideal S8x8192x704 .bf16) = lift3 (φ := .bf16) G := by
  refine (dats m 0 c).arrAt_eq_of_cover 6 (lift3 (φ := .bf16) G : FVec Ideal S8x8192x704 .bf16) (fun t _ => ?_) cover6
  obtain ⟨e0, e1, e2, -⟩ := idx6 t
  rw [flushed6, hG t]
  funext i
  rw [View.read_apply]
  change (⟨3, ![8,512,704]⟩ : Shape).Idx at i
  idx_vars i
  refine congrArg (lift3 (φ := .bf16) G : FVec Ideal S8x8192x704 .bf16) (?_ : ix3 i0 (row t i1) i2 = _)
  funext a; apply Fin.ext
  match a with
  | ⟨0, _⟩ => show i0.val = win0_6.index t (0 : Fin 3) * 8 + 1 * i0.val; omega
  | ⟨1, _⟩ => show t.val * 512 + i1.val = win0_6.index t (1 : Fin 3) * 512 + 1 * i1.val; omega
  | ⟨2, _⟩ => show i2.val = win0_6.index t (2 : Fin 3) * 704 + 1 * i2.val; omega

theorem arr6 : ((dats m 0 c).arrAt 6 cfg0.N : FVec Ideal S8x8192x704 .bf16) = lift3 (φ := .bf16) (fun j t f => kept (x t) g w ⟨j.val * 704 + f.val, by omega⟩) :=
  whole6 m c _ (point6 m c x g w v gf tgt hx hg hw hv hf ht)

omit hx hg hw hv hf ht in
theorem idx7 : ∀ t : Fin cfg0.N, win0_7.index t (0 : Fin 3) = 0 ∧ win0_7.index t (1 : Fin 3) = 0 ∧ win0_7.index t (2 : Fin 3) = t.val ∧ win0_7.xsize (grid0.coords t) (0 : Fin 3) = 4 ∧ win0_7.xsize (grid0.coords t) (1 : Fin 3) = 704 ∧ win0_7.xsize (grid0.coords t) (2 : Fin 3) = 512 := (by decide +kernel : ∀ t : Fin grid0.N, _)

omit hx hg hw hv hf ht in
/-- The blocks cover the array. -/
theorem cover7 (i : S4x704x8192.Idx) : ∃ t : Fin cfg0.N, (cfg0.win 7).flush t = true ∧ i ∈ ((cfg0.win 7).blk t).view.set := by
  have hN : cfg0.N = 16 := N_0
  have h0 : (i 0).val < 4 := (i 0).isLt
  have h1 : (i 1).val < 704 := (i 1).isLt
  have h2 : (i 2).val < 8192 := (i 2).isLt
  obtain ⟨t, ht⟩ : ∃ t : Fin cfg0.N, t.val = (i 2).val / 512 := ⟨⟨(i 2).val / 512, by omega⟩, rfl⟩
  refine ⟨t, flush0_7 t, ?_⟩
  obtain ⟨e0, e1, e2, n0, n1, n2⟩ := idx7 t
  show i ∈ ((View.whole main_v7_1).slice (win0_7.rect t)).set
  rw [View.set_slice_whole, Rect.mem_set_unit]
  intro a
  match a with
  | ⟨0, _⟩ => show win0_7.index t (0 : Fin 3) * 4 ≤ (i 0).val ∧ (i 0).val < win0_7.index t (0 : Fin 3) * 4 + win0_7.xsize (grid0.coords t) (0 : Fin 3); rw [e0, n0]; omega
  | ⟨1, _⟩ => show win0_7.index t (1 : Fin 3) * 704 ≤ (i 1).val ∧ (i 1).val < win0_7.index t (1 : Fin 3) * 704 + win0_7.xsize (grid0.coords t) (1 : Fin 3); rw [e1, n1]; omega
  | ⟨2, _⟩ => show win0_7.index t (2 : Fin 3) * 512 ≤ (i 2).val ∧ (i 2).val < win0_7.index t (2 : Fin 3) * 512 + win0_7.xsize (grid0.coords t) (2 : Fin 3); rw [e2, n2]; omega

omit hx hg hw hv hf ht in
theorem whole7 (G : Cube 4 704 8192) (hG : ∀ t : Fin cfg0.N, ((outsAt0 m c t.val t.isLt).2.1 : Vec Ideal S4x704x512 .bf16) = lift3 (φ := .bf16) fun p q s => G p q (row t s)) : ((dats m 0 c).arrAt 7 cfg0.N : FVec Ideal S4x704x8192 .bf16) = lift3 (φ := .bf16) G := by
  refine (dats m 0 c).arrAt_eq_of_cover 7 (lift3 (φ := .bf16) G : FVec Ideal S4x704x8192 .bf16) (fun t _ => ?_) cover7
  obtain ⟨e0, e1, e2, -⟩ := idx7 t
  rw [flushed7, hG t]
  funext i
  rw [View.read_apply]
  change (⟨3, ![4,704,512]⟩ : Shape).Idx at i
  idx_vars i
  refine congrArg (lift3 (φ := .bf16) G : FVec Ideal S4x704x8192 .bf16) (?_ : ix3 i0 i1 (row t i2) = _)
  funext a; apply Fin.ext
  match a with
  | ⟨0, _⟩ => show i0.val = win0_7.index t (0 : Fin 3) * 4 + 1 * i0.val; omega
  | ⟨1, _⟩ => show i1.val = win0_7.index t (1 : Fin 3) * 704 + 1 * i1.val; omega
  | ⟨2, _⟩ => show t.val * 512 + i2.val = win0_7.index t (2 : Fin 3) * 512 + 1 * i2.val; omega

theorem arr7 : ((dats m 0 c).arrAt 7 cfg0.N : FVec Ideal S4x704x8192 .bf16) = lift3 (φ := .bf16) (fun j f t => Loss.act (x t) g w ⟨j.val * 704 + f.val, by omega⟩) :=
  whole7 m c _ (point7 m c x g w v gf tgt hx hg hw hv hf ht)

omit hx hg hw hv hf ht in
theorem idx8 : ∀ t : Fin cfg0.N, win0_8.index t (0 : Fin 2) = t.val ∧ win0_8.index t (1 : Fin 2) = 0 ∧ win0_8.xsize (grid0.coords t) (0 : Fin 2) = 512 ∧ win0_8.xsize (grid0.coords t) (1 : Fin 2) = 1024 := (by decide +kernel : ∀ t : Fin grid0.N, _)

omit hx hg hw hv hf ht in
/-- The blocks cover the array. -/
theorem cover8 (i : S8192x1024.Idx) : ∃ t : Fin cfg0.N, (cfg0.win 8).flush t = true ∧ i ∈ ((cfg0.win 8).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_8 t, ?_⟩
  obtain ⟨e0, e1, n0, n1⟩ := idx8 t
  show i ∈ ((View.whole main_v7_2).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + win0_8.xsize (grid0.coords t) (0 : Fin 2); rw [e0, n0]; omega
  | ⟨1, _⟩ => show win0_8.index t (1 : Fin 2) * 1024 ≤ (i 1).val ∧ (i 1).val < win0_8.index t (1 : Fin 2) * 1024 + win0_8.xsize (grid0.coords t) (1 : Fin 2); rw [e1, n1]; omega

omit hx hg hw hv hf ht in
theorem whole8 (G : Mat 8192 1024) (hG : ∀ t : Fin cfg0.N, ((outsAt0 m c t.val t.isLt).2.2.1 : Vec Ideal S512x1024 .f32) = lift2 (φ := .f32) fun p q => G (row t p) q) : ((dats m 0 c).arrAt 8 cfg0.N : FVec Ideal S8192x1024 .f32) = lift2 (φ := .f32) G := by
  refine (dats m 0 c).arrAt_eq_of_cover 8 (lift2 (φ := .f32) G : FVec Ideal S8192x1024 .f32) (fun t _ => ?_) cover8
  obtain ⟨e0, e1, -⟩ := idx8 t
  rw [flushed8, hG t]
  funext i
  rw [View.read_apply]
  change (⟨2, ![512,1024]⟩ : Shape).Idx at i
  idx_vars i
  refine congrArg (lift2 (φ := .f32) G : FVec Ideal S8192x1024 .f32) (?_ : ix2 (row t i0) i1 = _)
  funext a; apply Fin.ext
  match a with
  | ⟨0, _⟩ => show t.val * 512 + i0.val = win0_8.index t (0 : Fin 2) * 512 + 1 * i0.val; omega
  | ⟨1, _⟩ => show i1.val = win0_8.index t (1 : Fin 2) * 1024 + 1 * i1.val; omega

theorem arr8 : ((dats m 0 c).arrAt 8 cfg0.N : FVec Ideal S8192x1024 .f32) = lift2 (φ := .f32) (fun t => Loss.dtoken (x t) g w v gf (tgt t)) :=
  whole8 m c _ (point8 m c x g w v gf tgt hx hg hw hv hf ht)

omit hx hg hw hv hf ht in
theorem idx9 : ∀ t : Fin cfg0.N, win0_9.index t (0 : Fin 2) = t.val ∧ win0_9.index t (1 : Fin 2) = 0 ∧ win0_9.xsize (grid0.coords t) (0 : Fin 2) = 512 ∧ win0_9.xsize (grid0.coords t) (1 : Fin 2) = 1024 := (by decide +kernel : ∀ t : Fin grid0.N, _)

omit hx hg hw hv hf ht in
/-- The blocks cover the array. -/
theorem cover9 (i : S8192x1024.Idx) : ∃ t : Fin cfg0.N, (cfg0.win 9).flush t = true ∧ i ∈ ((cfg0.win 9).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_9 t, ?_⟩
  obtain ⟨e0, e1, n0, n1⟩ := idx9 t
  show i ∈ ((View.whole main_v7_3).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + win0_9.xsize (grid0.coords t) (0 : Fin 2); rw [e0, n0]; omega
  | ⟨1, _⟩ => show win0_9.index t (1 : Fin 2) * 1024 ≤ (i 1).val ∧ (i 1).val < win0_9.index t (1 : Fin 2) * 1024 + win0_9.xsize (grid0.coords t) (1 : Fin 2); rw [e1, n1]; omega

omit hx hg hw hv hf ht in
theorem whole9 (G : Mat 8192 1024) (hG : ∀ t : Fin cfg0.N, ((outsAt0 m c t.val t.isLt).2.2.2.1 : Vec Ideal S512x1024 .bf16) = lift2 (φ := .bf16) fun p q => G (row t p) q) : ((dats m 0 c).arrAt 9 cfg0.N : FVec Ideal S8192x1024 .bf16) = lift2 (φ := .bf16) G := by
  refine (dats m 0 c).arrAt_eq_of_cover 9 (lift2 (φ := .bf16) G : FVec Ideal S8192x1024 .bf16) (fun t _ => ?_) cover9
  obtain ⟨e0, e1, -⟩ := idx9 t
  rw [flushed9, hG t]
  funext i
  rw [View.read_apply]
  change (⟨2, ![512,1024]⟩ : Shape).Idx at i
  idx_vars i
  refine congrArg (lift2 (φ := .bf16) G : FVec Ideal S8192x1024 .bf16) (?_ : ix2 (row t i0) i1 = _)
  funext a; apply Fin.ext
  match a with
  | ⟨0, _⟩ => show t.val * 512 + i0.val = win0_9.index t (0 : Fin 2) * 512 + 1 * i0.val; omega
  | ⟨1, _⟩ => show i1.val = win0_9.index t (1 : Fin 2) * 1024 + 1 * i1.val; omega

theorem arr9 : ((dats m 0 c).arrAt 9 cfg0.N : FVec Ideal S8192x1024 .bf16) = lift2 (φ := .bf16) (fun t => Loss.dtoken (x t) g w v gf (tgt t)) :=
  whole9 m c _ (point9 m c x g w v gf tgt hx hg hw hv hf ht)

omit hx hg hw hv hf ht in
theorem idx10 : ∀ t : Fin cfg0.N, win0_10.index t (0 : Fin 2) = 0 ∧ win0_10.index t (1 : Fin 2) = 0 ∧ win0_10.xsize (grid0.coords t) (0 : Fin 2) = 8 ∧ win0_10.xsize (grid0.coords t) (1 : Fin 2) = 1024 := (by decide +kernel : ∀ t : Fin grid0.N, _)

omit hx hg hw hv hf ht in
theorem parts_all (r : Fin 8) (k : Fin 1024) : ∑ s ∈ Finset.range (15 + 1), part x g w v gf tgt s r k = ∑ t, Loss.adds (x t) g w v gf (tgt t) r k := by
  rw [Fin.sum_univ_tiles 16 512 rfl, Finset.sum_range]
  refine Finset.sum_congr rfl fun s _ => ?_
  unfold part
  refine Finset.sum_congr rfl fun r _ => ?_
  rw [dif_pos (by omega)]

omit hx hg hw hv hf ht in
theorem whole10 (G : Mat 8 1024) (hG : ∀ t : Fin cfg0.N, t.val = 15 → ((outsAt0 m c t.val t.isLt).2.2.2.2 : Vec Ideal S8x1024 .f32) = lift2 (φ := .f32) G) :
    ((dats m 0 c).arrAt 10 cfg0.N : FVec Ideal S8x1024 .f32) = lift2 (φ := .f32) G := by
  have hN : cfg0.N = 16 := N_0
  refine (dats m 0 c).arrAt_eq_of_cover 10 (lift2 (φ := .f32) G : FVec Ideal S8x1024 .f32) (fun t hfl => ?_) (fun i => ?_)
  · obtain ⟨e0, e1, -⟩ := idx10 t
    have h15 : t.val = 15 := by have := (flush0_10 t).mp hfl; have := t.isLt; omega
    rw [flushed10, hG t h15]
    funext i
    rw [View.read_apply]
    change (⟨2, ![8, 1024]⟩ : Shape).Idx at i
    idx_vars i
    refine congrArg (lift2 (φ := .f32) G : FVec Ideal S8x1024 .f32) (?_ : ix2 i0 i1 = _)
    funext a; apply Fin.ext
    match a with
    | ⟨0, _⟩ => show i0.val = win0_10.index t (0 : Fin 2) * 8 + 1 * i0.val; omega
    | ⟨1, _⟩ => show i1.val = win0_10.index t (1 : Fin 2) * 1024 + 1 * i1.val; omega
  · have h0 : (i 0).val < 8 := (i 0).isLt
    have h1 : (i 1).val < 1024 := (i 1).isLt
    obtain ⟨t, ht⟩ : ∃ t : Fin cfg0.N, t.val = 15 := ⟨⟨15, by omega⟩, rfl⟩
    refine ⟨t, (flush0_10 t).mpr (by omega), ?_⟩
    obtain ⟨e0, e1, n0, n1⟩ := idx10 t
    show i ∈ ((View.whole main_v7_4).slice (win0_10.rect t)).set
    rw [View.set_slice_whole, Rect.mem_set_unit]
    intro a
    match a with
    | ⟨0, _⟩ => show win0_10.index t (0 : Fin 2) * 8 ≤ (i 0).val ∧ (i 0).val < win0_10.index t (0 : Fin 2) * 8 + win0_10.xsize (grid0.coords t) (0 : Fin 2); rw [e0, n0]; omega
    | ⟨1, _⟩ => show win0_10.index t (1 : Fin 2) * 1024 ≤ (i 1).val ∧ (i 1).val < win0_10.index t (1 : Fin 2) * 1024 + win0_10.xsize (grid0.coords t) (1 : Fin 2); rw [e1, n1]; omega

theorem arr10 : ((dats m 0 c).arrAt 10 cfg0.N : FVec Ideal S8x1024 .f32) = lift2 (φ := .f32) (fun r k => ∑ t, Loss.adds (x t) g w v gf (tgt t) r k) :=
  whole10 m c _ fun t h => by
    rw [sums_at m c x g w v gf tgt hx hg hw hv hf ht]
    refine congrArg _ ?_
    funext r k
    rw [h]; exact parts_all x g w v gf tgt r k

end Cert.FfnLossKernel

end
-- ==== Proof.FfnLossRef.lean ====
module

public import proofs.«01_k».proof.Proof.Loss
public import proofs.«01_k».proof.Proof.FfnBwdHost
public import proofs.«01_k».proof.Proof.Gen.Reference8Ideal.Run

@[expose] public section

set_option maxRecDepth 16384

noncomputable section

/-! # What the reference of the last feed-forward and the loss computes, on real arrays -/

namespace Cert.FfnLossRef

open Cert.Reference8Ideal Cert.Reference8Ideal.Gen Idealize.ShloMosaic Idealize.ShloMosaic.TcCoe Idealize.SL.Sem
open Cert.Reals Cert.Rms
open Cert.FfnBwdRef (G projT gateT upT sigT dgateT)
open Cert.FfnBwdKernel (Mat siluT oneT savedT kept beside)

theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- The gated products. -/
def actT (p : FVec Ideal S8192x5632 .f32) : G := mulf (siluT (gateT p)) (upT p)
/-- The slope of the gate's factor times the gated value. -/
def slopeT (p : FVec Ideal S8192x5632 .f32) : G := dgateT (gateT p) (upT p) oneT
/-- The tokens after the feed-forward. -/
def tokenT (x : A) (p : FVec Ideal S8192x5632 .f32) (v : FVec Ideal S2816x1024 .f32) : A :=
  addf x (Host.dotGeneral dot_S8192x2816_S2816x1024_S8192x1024_1_0_0_1_n_n none (actT p) v)
def errT (y : A) (gf : FVec Ideal SD .f32) (tgt : A) : A := subf (normT y gf) tgt
/-- What the normalised tokens receive. -/
def derrT (e : A) : A :=
  mulf (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)
/-- The tokens' mean square errors. -/
def shareT (e : A) : FVec Ideal S8192 .f32 :=
  Host.divf (Host.reduceAdd (mulf e e) (constant S_ .f32 0x00000000#32) reducesTo_S8192x1024_S8192_d1 h_S_)
    (broadcastInDim S8192 ![] bcast_S_S8192 (constant S_ .f32 0x44800000#32))
/-- The loss. -/
def lossT (p : FVec Ideal S8192 .f32) : FVec Ideal S_ .f32 :=
  mulf (constant S_ .f32 0x3F000000#32) (Host.reduceAdd p (constant S_ .f32 0x00000000#32) reducesTo_S8192_S_d0 h_S_)
/-- The rows of sums. -/
def rowsT (d : FVec Ideal SD .f32) (l : FVec Ideal S_ .f32) : FVec Ideal S8x1024 .f32 :=
  concatenate S8x1024 0 [⟨S1x1024, broadcastInDim S1x1024 ![1] bcast_S1024_S1x1024_1 d⟩,
    ⟨S1x1024, select (cmpi .eq (iotaInDim S1x1024 32 1) (broadcastInDim S1x1024 ![] bcast_S_S1x1024 (constantI S_ 32 0#32)))
      (broadcastInDim S1x1024 ![] bcast_S_S1x1024 l) (broadcastInDim S1x1024 ![] bcast_S_S1x1024 (id (constant S_ .f32 0x00000000#32)))⟩,
    ⟨S6x1024, broadcastInDim S6x1024 ![] bcast_S_S6x1024 (constant S_ .f32 0x00000000#32)⟩] concatenates_S1x1024_S1x1024_S6x1024_S8x1024_d0

section
variable (x y tgt e : Mat 8192 1024) (g gf : Fin 1024 → ℝ) (w : Mat 1024 5632) (v : Mat 2816 1024)

theorem actT_lift :
    actT (lift2 fun t => Ffn.proj (x t) g w) = lift2 fun t => Loss.act (x t) g w := by
  unfold actT; rw [FfnBwdRef.gateT_lift, FfnBwdRef.upT_lift, FfnBwdKernel.siluT_lift]
  funext i; idx_vars i
  pointwise []
  simp only [lift2_apply, ← EReal.coe_mul]
  rfl

theorem oneT_lift : oneT = lift2 (φ := .f32) fun _ _ => 1 := by
  funext i; idx_vars i
  pointwise [oneT]
  simp only [lift2_apply, Ideal.ofBits_one_f32, EReal.coe_one]

theorem slopeT_lift : slopeT (lift2 fun t => Ffn.proj (x t) g w) = lift2 fun t => Ffn.gateSlope (x t) g w := by
  unfold slopeT; rw [oneT_lift, FfnBwdRef.gateT_lift, FfnBwdRef.upT_lift, FfnBwdRef.dgateT_lift]
  simp only [one_mul]
  rfl

theorem tokenT_lift : tokenT (lift2 x) (lift2 fun t => Ffn.proj (x t) g w) (lift2 v) = lift2 fun t => Loss.token (x t) g w v := by
  unfold tokenT; rw [actT_lift x g w]
  funext i; idx_vars i
  pointwise []
  simp only [lift2_apply, ← EReal.coe_mul, coe_sum, ← EReal.coe_add]
  rfl

theorem errT_lift : errT (lift2 y) (lift1 gf) (lift2 tgt) = lift2 fun t k => norm (y t) gf k - tgt t k := by
  unfold errT; rw [normT_lift]
  funext i; idx_vars i
  pointwise []
  simp only [lift2_apply, ← EReal.coe_sub]

theorem derrT_lift : derrT (lift2 e) = lift2 fun t k => e t k * (1 / 1024) := by
  funext i; idx_vars i
  pointwise [derrT]
  simp only [lift2_apply, ofBits_half, ofBits_two, ofBits_1024, Ideal.ofBits_one_f32, ← EReal.coe_one, ← EReal.coe_mul, div_1024]
  congr 1; ring

theorem shareT_lift : shareT (lift2 e) = lift1 fun t => (∑ l, e t l * e t l) * (1 / 1024) := by
  funext i; idx_vars i
  pointwise [shareT]
  simp only [lift2_apply, lift1_apply, ofBits_1024, ← EReal.coe_mul, coe_sum, div_1024]
  congr 1; ring

theorem lossT_lift (p : Fin 8192 → ℝ) (i : S_.Idx) : lossT (lift1 p) i = ((1 / 2 * ∑ t, p t : ℝ) : EReal) := by
  pointwise [lossT]
  simp only [lift1_apply, ofBits_half, coe_sum, ← EReal.coe_mul]

theorem rowsT_lift (d : Fin 1024 → ℝ) (l : FVec Ideal S_ .f32) (a : ℝ) (hl : ∀ i, l i = (a : EReal)) :
    rowsT (lift1 d) l = lift2 fun r k => if r.val = 0 then d k else if r.val = 1 then (if k.val = 0 then a else 0) else 0 := by
  funext i; idx_vars i
  pointwise [rowsT]
  by_cases h0 : i0.val = 0
  · rw [dif_pos (by omega)]; simp only [lift2_apply, if_pos h0]; rfl
  · by_cases h1 : i0.val = 1
    · rw [dif_neg (by omega), dif_pos (by omega)]; simp only [lift2_apply, if_neg h0, if_pos h1]
      by_cases h : i1.val = 0
      · rw [if_pos h, h]; exact hl _
      · rw [if_neg h]
        have hc : (IntOp.cmpi .eq (BitVec.ofNat 32 i1.val) 0#32 : BitVec 1) = 0#1 := by
          have hb : ¬ BitVec.ofNat 32 i1.val = 0#32 := fun hb => h (by
            have := congrArg BitVec.toNat hb
            have hi := i1.isLt
            simpa [Nat.mod_eq_of_lt (by omega : i1.val < 4294967296)] using this)
          show BitVec.ofBool (BitVec.ofNat 32 i1.val == 0#32) = 0#1
          rw [beq_eq_false_iff_ne.mpr hb]; rfl
        rw [hc]
        exact Ideal.ofBits_zero_f32
    · rw [dif_neg (by omega), dif_neg (by omega)]; simp only [lift2_apply, if_neg h0, if_neg h1, EReal.coe_zero]
end

section
variable (m : (ℓ : Loc nD τ sig) → Buf (Elt Ideal) ℓ) (c : Dev nD)

/-- The six arrays the program takes. -/
abbrev xOf : A := m ((c.tc : Thread nD τ).loc main_arg0)
abbrev gOf : FVec Ideal SD .f32 := m ((c.tc : Thread nD τ).loc main_arg1)
abbrev wOf : FVec Ideal S1024x5632 .f32 := m ((c.tc : Thread nD τ).loc main_arg2)
abbrev vOf : FVec Ideal S2816x1024 .f32 := m ((c.tc : Thread nD τ).loc main_arg3)
abbrev fOf : FVec Ideal SD .f32 := m ((c.tc : Thread nD τ).loc main_arg4)
abbrev tOf : A := m ((c.tc : Thread nD τ).loc main_arg5)

abbrev projOf : FVec Ideal S8192x5632 .f32 := projT (xOf m c) (gOf m c) (wOf m c)
abbrev tokenOf : A := tokenT (xOf m c) (projOf m c) (vOf m c)
abbrev errOf : A := errT (tokenOf m c) (fOf m c) (tOf m c)

theorem res0_eq : (Value.res_out0 m c : FVec Ideal S8x8192x704 .bf16) = savedT (siluT (gateT (projOf m c))) (slopeT (projOf m c)) := rfl

theorem res2_eq : (Value.res_out2 m c : A) = pullT (tokenOf m c) (fOf m c) (derrT (errOf m c)) := rfl

theorem res3_eq : (Value.res_out3 m c : FVec Ideal S8192x1024 .bf16) = truncf .bf16 (pullT (tokenOf m c) (fOf m c) (derrT (errOf m c))) bitsLt_bf16_f32 := rfl

theorem res4_eq : (Value.res_out4 m c : FVec Ideal S8x1024 .f32) = rowsT (gainsT (tokenOf m c) (derrT (errOf m c))) (lossT (shareT (errOf m c))) := rfl

variable (x tgt : Mat 8192 1024) (g gf : Fin 1024 → ℝ) (w : Mat 1024 5632) (v : Mat 2816 1024)
  (hx : xOf m c = lift2 x) (hg : gOf m c = lift1 g) (hw : wOf m c = lift2 w) (hv : vOf m c = lift2 v) (hf : fOf m c = lift1 gf) (ht : tOf m c = lift2 tgt)
include hx hg hw hv hf ht

theorem proj_all : projOf m c = lift2 (φ := .f32) fun t => Ffn.proj (x t) g w := by
  unfold projOf; rw [hx, hg, hw, FfnBwdRef.projT_lift]

theorem token_all : tokenOf m c = lift2 (φ := .f32) fun t => Loss.token (x t) g w v := by
  unfold tokenOf; rw [proj_all m c x tgt g gf w v hx hg hw hv hf ht, hx, hv, tokenT_lift]

theorem err_all : errOf m c = lift2 (φ := .f32) fun t => Loss.err (x t) g w v gf (tgt t) := by
  unfold errOf; rw [token_all m c x tgt g gf w v hx hg hw hv hf ht, hf, ht, errT_lift]; rfl

theorem derr_all : derrT (errOf m c) = lift2 (φ := .f32) fun t => Loss.derr (x t) g w v gf (tgt t) := by
  rw [err_all m c x tgt g gf w v hx hg hw hv hf ht, derrT_lift]; rfl

theorem dtoken_all : pullT (tokenOf m c) (fOf m c) (derrT (errOf m c)) = lift2 (φ := .f32) fun t => Loss.dtoken (x t) g w v gf (tgt t) := by
  rw [token_all m c x tgt g gf w v hx hg hw hv hf ht, derr_all m c x tgt g gf w v hx hg hw hv hf ht, hf, pullT_lift]; rfl

theorem res0 : (Value.res_out0 m c : FVec Ideal S8x8192x704 .bf16) = lift3 (φ := .bf16) fun j t f => kept (x t) g w ⟨j.val * 704 + f.val, by omega⟩ := by
  rw [res0_eq, proj_all m c x tgt g gf w v hx hg hw hv hf ht, slopeT_lift, FfnBwdRef.gateT_lift, FfnBwdKernel.siluT_lift, FfnBwdKernel.savedT_lift]
  rfl

theorem res1 : (truncf .bf16 (shapeCast S4x704x8192 (transpose S2816x8192 [1, 0] (actT (projOf m c)) transposes_S8192x2816_S2816x8192_1_0) shapeCasts_S2816x8192_S4x704x8192) bitsLt_bf16_f32 : FVec Ideal S4x704x8192 .bf16)
    = lift3 (φ := .bf16) fun j f t => Loss.act (x t) g w ⟨j.val * 704 + f.val, by omega⟩ := by
  rw [proj_all m c x tgt g gf w v hx hg hw hv hf ht, actT_lift x g w]
  funext i; idx_vars i
  pointwise []
  rfl

theorem res2 : (Value.res_out2 m c : A) = lift2 (φ := .f32) fun t => Loss.dtoken (x t) g w v gf (tgt t) :=
  (res2_eq m c).trans (dtoken_all m c x tgt g gf w v hx hg hw hv hf ht)

theorem res3 : (Value.res_out3 m c : FVec Ideal S8192x1024 .bf16) = lift2 (φ := .bf16) fun t => Loss.dtoken (x t) g w v gf (tgt t) := by
  rw [res3_eq, dtoken_all m c x tgt g gf w v hx hg hw hv hf ht]; rfl

theorem res4 : (Value.res_out4 m c : FVec Ideal S8x1024 .f32) = lift2 (φ := .f32) fun r k => ∑ t, Loss.adds (x t) g w v gf (tgt t) r k := by
  rw [res4_eq, derr_all m c x tgt g gf w v hx hg hw hv hf ht, token_all m c x tgt g gf w v hx hg hw hv hf ht,
    err_all m c x tgt g gf w v hx hg hw hv hf ht, gainsT_lift, shareT_lift]
  rw [rowsT_lift _ _ _ (lossT_lift _)]
  refine congrArg _ ?_
  funext r k
  unfold Loss.adds
  by_cases h0 : r.val = 0
  · simp only [if_pos h0]
    exact Finset.sum_congr rfl fun t _ => mul_comm _ _
  · by_cases h1 : r.val = 1
    · simp only [if_neg h0, if_pos h1]
      by_cases hk : k.val = 0
      · simp only [if_pos hk]; rw [Finset.mul_sum]; rfl
      · simp only [if_neg hk, Finset.sum_const_zero]
    · simp only [if_neg h0, if_neg h1, Finset.sum_const_zero]

end

end Cert.FfnLossRef

end
-- ==== Proof.FfnLossClaim.lean ====
module

public import proofs.«01_k».proof.Defs
public import proofs.«01_k».proof.Proof.Finite
public import proofs.«01_k».proof.Proof.FfnLossKernel
public import proofs.«01_k».proof.Proof.FfnLossRef
public import proofs.«01_k».proof.Proof.Gen.Pre_ffn_loss_finite
public import Idealize.ShloMosaic.Lib.Claim

@[expose] public section

set_option maxRecDepth 16384

noncomputable section

/-! # The claim of the last feed-forward and the loss head

Of finite arguments both programs leave the same real arrays: what the feed-forward saves for its backward pass,
the gradient of the loss with respect to its output, in two precisions, and the final gain's gradient with the loss beside it. -/

namespace Cert

open Idealize.ShloMosaic Idealize.SL.Sem Cert.Reals

/-- The precondition's six tests. -/
theorem ffn_loss_reals (a : FVec Ideal Pre_ffn_loss_finite.S8192x1024 .f32) (b : FVec Ideal Pre_ffn_loss_finite.S1024 .f32) (c : FVec Ideal Pre_ffn_loss_finite.S1024x5632 .f32) (d : FVec Ideal Pre_ffn_loss_finite.S2816x1024 .f32) (e : FVec Ideal Pre_ffn_loss_finite.S1024 .f32) (f : FVec Ideal Pre_ffn_loss_finite.S8192x1024 .f32)
    (h : Pre_ffn_loss_finite.fn a b c d e f = fun _ => 1#1) :
    (∃ u, a = lift2 u) ∧ (∃ u, b = lift1 u) ∧ (∃ u, c = lift2 u) ∧ (∃ u, d = lift2 u) ∧ (∃ u, e = lift1 u) ∧ (∃ u, f = lift2 u) := by
  have h0 := congrFun h (fun k => k.elim0)
  obtain ⟨h1, tf⟩ := both h0
  obtain ⟨h2, te⟩ := both h1
  obtain ⟨h3, td⟩ := both h2
  obtain ⟨h4, tc⟩ := both h3
  obtain ⟨h5, tb⟩ := both h4
  obtain ⟨h6, ta⟩ := both h5
  exact ⟨exists_lift2 a (real_of_allFinite a _ _ _ ta),
    exists_lift1 b (real_of_allFinite b _ _ _ tb),
    exists_lift2 c (real_of_allFinite c _ _ _ tc),
    exists_lift2 d (real_of_allFinite d _ _ _ td),
    exists_lift1 e (real_of_allFinite e _ _ _ te),
    exists_lift2 f (real_of_allFinite f _ _ _ tf)⟩

theorem ffnloss_algebraic : algebraic_Kernel8Ideal_Reference8Ideal_pre_ffn_loss_finite (hKernel8Ideal := Cert.Kernel8Ideal.Gen.facts)
    (hReference8Ideal := Cert.Reference8Ideal.Gen.facts) (hPre_ffn_loss_finite := Cert.Pre_ffn_loss_finite.Gen.facts) := by
  intro m g m' g' hpre hargs
  refine ⟨_, _, _, _, _, Cert.Kernel8Ideal.Value.run_blocks m g, ?_⟩
  refine (θ_run _ _ _).mono (fun r h c => ?_) (Cert.Reference8Ideal.Value.run m' g')
  obtain ⟨r0, r1, r2, r3, r4, rest⟩ := h c
  obtain ⟨a0, a1, a2, a3, a4, a5⟩ := hargs c
  obtain ⟨⟨x, hx⟩, ⟨n, hn⟩, ⟨w, hw⟩, ⟨v, hv⟩, ⟨f, hf⟩, ⟨t, ht⟩⟩ := ffn_loss_reals _ _ _ _ _ _ (hpre c)
  refine ⟨r0.trans ?_, r1.trans ?_, r2.trans ?_, r3.trans ?_, r4.trans ?_, rest⟩
  · exact (FfnLossRef.res0 m' c x t n f w v (a0.trans hx) (a1.trans hn) (a2.trans hw) (a3.trans hv) (a4.trans hf) (a5.trans ht)).trans
      (FfnLossKernel.arr6 m c x n w v f t hx hn hw hv hf ht).symm
  · exact (FfnLossRef.res1 m' c x t n f w v (a0.trans hx) (a1.trans hn) (a2.trans hw) (a3.trans hv) (a4.trans hf) (a5.trans ht)).trans
      (FfnLossKernel.arr7 m c x n w v f t hx hn hw hv hf ht).symm
  · exact (FfnLossRef.res2 m' c x t n f w v (a0.trans hx) (a1.trans hn) (a2.trans hw) (a3.trans hv) (a4.trans hf) (a5.trans ht)).trans
      (FfnLossKernel.arr8 m c x n w v f t hx hn hw hv hf ht).symm
  · exact (FfnLossRef.res3 m' c x t n f w v (a0.trans hx) (a1.trans hn) (a2.trans hw) (a3.trans hv) (a4.trans hf) (a5.trans ht)).trans
      (FfnLossKernel.arr9 m c x n w v f t hx hn hw hv hf ht).symm
  · exact (FfnLossRef.res4 m' c x t n f w v (a0.trans hx) (a1.trans hn) (a2.trans hw) (a3.trans hv) (a4.trans hf) (a5.trans ht)).trans
      (FfnLossKernel.arr10 m c x n w v f t hx hn hw hv hf ht).symm

end Cert

end
-- ==== Proof.Layer.lean ====
module

public import Idealize.ShloMosaic.Lib.Pointwise
public import Idealize.ShloMosaic.Lib.ValueLayout
public import Idealize.ShloMosaic.Lib.Tactic

@[expose] public section

set_option maxRecDepth 16384

noncomputable section

/-! # The layer norm and swish of one row of 1024 entries -/

namespace Cert.Layer

open Idealize.ShloMosaic

section
variable (x g b : Fin 1024 → EReal)

def mean : EReal := Ideal.div (∑ k, x k) (Ideal.ofBits .f32 0x44800000#32)
def centred (k : Fin 1024) : EReal := x k - mean x
def scale : EReal := Ideal.rsqrt (mean (fun k => centred x k * centred x k) + Ideal.ofBits .f32 0x358637BD#32)
def norm (k : Fin 1024) : EReal := centred x k * scale x * g k + b k
end

def swish (y : EReal) : EReal :=
  y * Ideal.div (Ideal.ofBits .f32 0x3F800000#32) (Ideal.ofBits .f32 0x3F800000#32 + Ideal.exp (-y))

end Cert.Layer

end
-- ==== Proof.Post.lean ====
module

public import proofs.«01_k».proof.Proof.Layer
public import proofs.«01_k».proof.Proof.Gen.Kernel10Ideal.Value
public import Idealize.ShloMosaic.Lib.Pipeline.ValueKit.Tiles

@[expose] public section

set_option maxRecDepth 16384

noncomputable section

/-! # LayerNorm, swish and the second pointwise convolution, a block of 512 tokens at a time -/

namespace Cert.Kernel10Ideal.Post

open Cert.Kernel10Ideal Cert.Kernel10Ideal.Gen Cert.Kernel10Ideal.Value Idealize.ShloMosaic Idealize.ShloMosaic.TcCoe
  Idealize.SL.Sem

theorem pay2_apply (x : Vec Ideal S512x1024 .f32) (g b : Vec Ideal S1x1024 .f32) (p : Fin 512) (d : Fin 1024) :
    k0_pay2 x g b (ix2 p d) = Layer.swish (Layer.norm (fun k => x (ix2 p k)) (fun k => g (ix2 0 k)) (fun k => b (ix2 0 k)) d) := by
  unfold Layer.swish Layer.norm Layer.scale Layer.centred Layer.mean
  pointwise [k0_pay2]
  rw [zero_sub]

theorem hz2 : (![0, 0] : Fin 2 → Nat) = fun _ => 0 := funext fun a => by fin_cases a <;> rfl

section
variable (x y : Vec Ideal S512x1024 .f32) (g b e : Vec Ideal S1x1024 .f32) (w : Vec Ideal S1024x1024 .bf16)

theorem block6 (p : Fin 512) (d : Fin 1024) :
    out0_6 x y g b w e (ix2 d p) = Layer.swish (Layer.norm (fun k => x (ix2 p k)) (fun k => g (ix2 0 k)) (fun k => b (ix2 0 k)) d) := by
  unfold out0_6
  rw [View.canon_unit_zero hz2]
  simp only [View.ld_unit_zero (S := S512x1024) hz2, View.ld_unit_zero (S := S1x1024) hz2]
  rw [← pay2_apply]
  unfold k0_pay3
  generalize k0_pay2 x g b = z
  pointwise []

theorem block7 (p : Fin 512) (d : Fin 1024) :
    out0_7 x y g b w e (ix2 p d) = y (ix2 p d) + (∑ k, Layer.swish (Layer.norm (fun k => x (ix2 p k)) (fun k => g (ix2 0 k)) (fun k => b (ix2 0 k)) k) * w (ix2 k d) + e (ix2 0 d)) := by
  unfold out0_7
  rw [View.canon_unit_zero hz2]
  simp only [View.ld_unit_zero (S := S512x1024) hz2, View.ld_unit_zero (S := S1x1024) hz2, View.ld_unit_zero (S := S1024x1024) hz2]
  simp only [← pay2_apply]
  generalize k0_pay2 x g b = z
  rw [← add_assoc]
  pointwise [k0_pay1]
end

/-! ## The blocks in the arrays -/

variable (m : (ℓ : Loc nD τ sig) → Buf (Elt Ideal) ℓ) (c : Dev nD)

/-- The array's row of a block's row. -/
def row (t : Fin cfg0.N) (p : Fin 512) : Fin 8192 := ⟨t.val * 512 + p.val, by have hN : cfg0.N = 16 := N_0; have := p.isLt; have := t.isLt; omega⟩

theorem idx0 : ∀ t : Fin cfg0.N, win0_0.index t (0 : Fin 2) = t.val ∧ win0_0.index t (1 : Fin 2) = 0 := (by decide +kernel : ∀ t : Fin grid0.N, _)

theorem blk0 (t : Fin cfg0.N) (p : Fin 512) (d : Fin 1024) :
    iblk m c 0 t (ix2 p d) = m ((c : Thread nD τ).loc main_arg0) (ix2 (row t p) d) := by
  obtain ⟨e0, e1⟩ := idx0 t
  rw [← V_main_arg0 m c]
  unfold iblk
  rw [View.read_apply]
  show V m c main_arg0 _ = _
  congr 1
  funext a
  apply Fin.ext
  match a with
  | ⟨0, _⟩ => show win0_0.index t (0 : Fin 2) * 512 + 1 * p.val = t.val * 512 + p.val; omega
  | ⟨1, _⟩ => show win0_0.index t (1 : Fin 2) * 1024 + 1 * d.val = d.val; omega

theorem idx1 : ∀ t : Fin cfg0.N, win0_1.index t (0 : Fin 2) = t.val ∧ win0_1.index t (1 : Fin 2) = 0 := (by decide +kernel : ∀ t : Fin grid0.N, _)

theorem blk1 (t : Fin cfg0.N) (p : Fin 512) (d : Fin 1024) :
    iblk m c 1 t (ix2 p d) = m ((c : Thread nD τ).loc main_arg1) (ix2 (row t p) d) := by
  obtain ⟨e0, e1⟩ := idx1 t
  rw [← V_main_arg1 m c]
  unfold iblk
  rw [View.read_apply]
  show V m c main_arg1 _ = _
  congr 1
  funext a
  apply Fin.ext
  match a with
  | ⟨0, _⟩ => show win0_1.index t (0 : Fin 2) * 512 + 1 * p.val = t.val * 512 + p.val; omega
  | ⟨1, _⟩ => show win0_1.index t (1 : Fin 2) * 1024 + 1 * d.val = d.val; omega

theorem idx2 : ∀ t : Fin cfg0.N, win0_2.index t (0 : Fin 2) = 0 ∧ win0_2.index t (1 : Fin 2) = 0 := (by decide +kernel : ∀ t : Fin grid0.N, _)

theorem host_v0 : (V m c main_v0 : FVec Ideal S1x1024 .f32) = broadcastInDim S1x1024 ![1] bcast_S1024_S1x1024_1 (m ((c : Thread nD τ).loc main_arg2) : Vec Ideal S1024 .f32) := by
  unfold V
  after_results
  try rfl

theorem blk2 (t : Fin cfg0.N) (p : Fin 1) (d : Fin 1024) :
    iblk m c 2 t (ix2 p d) = m ((c : Thread nD τ).loc main_arg2) (ix1 d) := by
  obtain ⟨e0, e1⟩ := idx2 t
  have h : iblk m c 2 t (ix2 p d) = V m c main_v0 (ix2 p d) := by
    unfold iblk
    rw [View.read_apply]
    show V m c main_v0 _ = _
    congr 1
    funext a
    apply Fin.ext
    match a with
    | ⟨0, _⟩ => show win0_2.index t (0 : Fin 2) * 1 + 1 * p.val = p.val; omega
    | ⟨1, _⟩ => show win0_2.index t (1 : Fin 2) * 1024 + 1 * d.val = d.val; omega
  rw [h, host_v0]
  pointwise []

theorem idx3 : ∀ t : Fin cfg0.N, win0_3.index t (0 : Fin 2) = 0 ∧ win0_3.index t (1 : Fin 2) = 0 := (by decide +kernel : ∀ t : Fin grid0.N, _)

theorem host_v1 : (V m c main_v1 : FVec Ideal S1x1024 .f32) = broadcastInDim S1x1024 ![1] bcast_S1024_S1x1024_1 (m ((c : Thread nD τ).loc main_arg3) : Vec Ideal S1024 .f32) := by
  unfold V
  after_results
  try rfl

theorem blk3 (t : Fin cfg0.N) (p : Fin 1) (d : Fin 1024) :
    iblk m c 3 t (ix2 p d) = m ((c : Thread nD τ).loc main_arg3) (ix1 d) := by
  obtain ⟨e0, e1⟩ := idx3 t
  have h : iblk m c 3 t (ix2 p d) = V m c main_v1 (ix2 p d) := by
    unfold iblk
    rw [View.read_apply]
    show V m c main_v1 _ = _
    congr 1
    funext a
    apply Fin.ext
    match a with
    | ⟨0, _⟩ => show win0_3.index t (0 : Fin 2) * 1 + 1 * p.val = p.val; omega
    | ⟨1, _⟩ => show win0_3.index t (1 : Fin 2) * 1024 + 1 * d.val = d.val; omega
  rw [h, host_v1]
  pointwise []

theorem idx4 : ∀ t : Fin cfg0.N, win0_4.index t (0 : Fin 2) = 0 ∧ win0_4.index t (1 : Fin 2) = 0 := (by decide +kernel : ∀ t : Fin grid0.N, _)

theorem host_v2 : (V m c main_v2 : FVec Ideal S1024x1024 .bf16) = truncf (F := Ideal) .bf16 (m ((c : Thread nD τ).loc main_arg4) : FVec Ideal S1024x1024 .f32) bitsLt_bf16_f32 := by
  unfold V
  after_results
  try rfl

theorem blk4 (t : Fin cfg0.N) (p : Fin 1024) (d : Fin 1024) :
    iblk m c 4 t (ix2 p d) = m ((c : Thread nD τ).loc main_arg4) (ix2 p d) := by
  obtain ⟨e0, e1⟩ := idx4 t
  have h : iblk m c 4 t (ix2 p d) = V m c main_v2 (ix2 p d) := by
    unfold iblk
    rw [View.read_apply]
    show V m c main_v2 _ = _
    congr 1
    funext a
    apply Fin.ext
    match a with
    | ⟨0, _⟩ => show win0_4.index t (0 : Fin 2) * 1024 + 1 * p.val = p.val; omega
    | ⟨1, _⟩ => show win0_4.index t (1 : Fin 2) * 1024 + 1 * d.val = d.val; omega
  rw [h, host_v2]
  pointwise []

theorem idx5 : ∀ t : Fin cfg0.N, win0_5.index t (0 : Fin 2) = 0 ∧ win0_5.index t (1 : Fin 2) = 0 := (by decide +kernel : ∀ t : Fin grid0.N, _)

theorem host_v3 : (V m c main_v3 : FVec Ideal S1x1024 .f32) = broadcastInDim S1x1024 ![1] bcast_S1024_S1x1024_1 (m ((c : Thread nD τ).loc main_arg5) : Vec Ideal S1024 .f32) := by
  unfold V
  after_results
  try rfl

theorem blk5 (t : Fin cfg0.N) (p : Fin 1) (d : Fin 1024) :
    iblk m c 5 t (ix2 p d) = m ((c : Thread nD τ).loc main_arg5) (ix1 d) := by
  obtain ⟨e0, e1⟩ := idx5 t
  have h : iblk m c 5 t (ix2 p d) = V m c main_v3 (ix2 p d) := by
    unfold iblk
    rw [View.read_apply]
    show V m c main_v3 _ = _
    congr 1
    funext a
    apply Fin.ext
    match a with
    | ⟨0, _⟩ => show win0_5.index t (0 : Fin 2) * 1 + 1 * p.val = p.val; omega
    | ⟨1, _⟩ => show win0_5.index t (1 : Fin 2) * 1024 + 1 * d.val = d.val; omega
  rw [h, host_v3]
  pointwise []

/-- One token's swish of its layer norm. -/
def hidden (x : Vec Ideal S8192x1024 .f32) (g b : Vec Ideal S1024 .f32) (t : Fin 8192) (d : Fin 1024) : EReal :=
  Layer.swish (Layer.norm (fun k => x (ix2 t k)) (fun k => g (ix1 k)) (fun k => b (ix1 k)) d)

/-- What one token gets. -/
def result (x y : Vec Ideal S8192x1024 .f32) (g b : Vec Ideal S1024 .f32) (w : Vec Ideal S1024x1024 .f32) (e : Vec Ideal S1024 .f32) (t : Fin 8192) (d : Fin 1024) : EReal :=
  y (ix2 t d) + (∑ k : Fin 1024, hidden x g b t k * w (ix2 k d) + e (ix1 d))

theorem out6_at (t : Fin cfg0.N) (d : Fin 1024) (p : Fin 512) : out0_6 (iblk m c 0 t) (iblk m c 1 t) (iblk m c 2 t) (iblk m c 3 t) (iblk m c 4 t) (iblk m c 5 t) (ix2 d p) = hidden (m ((c : Thread nD τ).loc main_arg0)) (m ((c : Thread nD τ).loc main_arg2)) (m ((c : Thread nD τ).loc main_arg3)) (row t p) d := by
  refine (block6 _ _ _ _ _ _ p d).trans ?_
  unfold hidden
  simp only [blk0, blk2, blk3]

theorem out7_at (t : Fin cfg0.N) (p : Fin 512) (d : Fin 1024) : out0_7 (iblk m c 0 t) (iblk m c 1 t) (iblk m c 2 t) (iblk m c 3 t) (iblk m c 4 t) (iblk m c 5 t) (ix2 p d) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t p) d := by
  refine (block7 _ _ _ _ _ _ p d).trans ?_
  unfold result hidden
  simp only [blk0, blk1, blk2, blk3, blk4, blk5]

theorem idx6 : ∀ t : Fin cfg0.N, win0_6.index t (0 : Fin 2) = 0 ∧ win0_6.index t (1 : Fin 2) = t.val
    ∧ win0_6.xsize (grid0.coords t) (0 : Fin 2) = 1024 ∧ win0_6.xsize (grid0.coords t) (1 : Fin 2) = 512 := (by decide +kernel : ∀ t : Fin grid0.N, _)

/-- The blocks cover the array. -/
theorem cover6 (i : S1024x8192.Idx) : ∃ t : Fin cfg0.N, (cfg0.win 6).flush t = true ∧ i ∈ ((cfg0.win 6).blk t).view.set := by
  have hN : cfg0.N = 16 := N_0
  have h0 : (i 0).val < 1024 := (i 0).isLt
  have h1 : (i 1).val < 8192 := (i 1).isLt
  obtain ⟨t, ht⟩ : ∃ t : Fin cfg0.N, t.val = (i 1).val / 512 := ⟨⟨(i 1).val / 512, by omega⟩, rfl⟩
  refine ⟨t, flush0_6 t, ?_⟩
  obtain ⟨e0, e1, n0, n1⟩ := idx6 t
  show i ∈ ((View.whole main_v4_0).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + win0_6.xsize (grid0.coords t) (0 : Fin 2); rw [e0, n0]; omega
  | ⟨1, _⟩ => show win0_6.index t (1 : Fin 2) * 512 ≤ (i 1).val ∧ (i 1).val < win0_6.index t (1 : Fin 2) * 512 + win0_6.xsize (grid0.coords t) (1 : Fin 2); rw [e1, n1]; omega

theorem idx7 : ∀ t : Fin cfg0.N, win0_7.index t (0 : Fin 2) = t.val ∧ win0_7.index t (1 : Fin 2) = 0
    ∧ win0_7.xsize (grid0.coords t) (0 : Fin 2) = 512 ∧ win0_7.xsize (grid0.coords t) (1 : Fin 2) = 1024 := (by decide +kernel : ∀ t : Fin grid0.N, _)

/-- The blocks cover the array. -/
theorem cover7 (i : S8192x1024.Idx) : ∃ t : Fin cfg0.N, (cfg0.win 7).flush t = true ∧ i ∈ ((cfg0.win 7).blk t).view.set := by
  have hN : cfg0.N = 16 := N_0
  have h0 : (i 0).val < 8192 := (i 0).isLt
  have h1 : (i 1).val < 1024 := (i 1).isLt
  obtain ⟨t, ht⟩ : ∃ t : Fin cfg0.N, t.val = (i 0).val / 512 := ⟨⟨(i 0).val / 512, by omega⟩, rfl⟩
  refine ⟨t, flush0_7 t, ?_⟩
  obtain ⟨e0, e1, n0, n1⟩ := idx7 t
  show i ∈ ((View.whole main_v4_1).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + win0_7.xsize (grid0.coords t) (0 : Fin 2); rw [e0, n0]; omega
  | ⟨1, _⟩ => show win0_7.index t (1 : Fin 2) * 1024 ≤ (i 1).val ∧ (i 1).val < win0_7.index t (1 : Fin 2) * 1024 + win0_7.xsize (grid0.coords t) (1 : Fin 2); rw [e1, n1]; omega

theorem whole6 (G : Vec Ideal S1024x8192 .bf16) (hG : ∀ (t : Fin cfg0.N) (p : Fin 512) (d : Fin 1024), out0_6 (iblk m c 0 t) (iblk m c 1 t) (iblk m c 2 t) (iblk m c 3 t) (iblk m c 4 t) (iblk m c 5 t) (ix2 d p) = G (ix2 d (row t p))) :
    ((dats m 0 c).arrAt 6 cfg0.N : Vec Ideal S1024x8192 .bf16) = G := by
  refine (dats m 0 c).arrAt_eq_of_cover 6 G (fun t _ => ?_) cover6
  obtain ⟨e0, e1, -⟩ := idx6 t
  rw [flushed6]
  funext i
  rw [View.read_apply]
  change (⟨2, ![1024, 512]⟩ : Shape).Idx at i
  idx_vars i
  refine (hG t i1 i0).trans (congrArg G ?_)
  funext a; apply Fin.ext
  match a with
  | ⟨0, _⟩ => show i0.val = win0_6.index t (0 : Fin 2) * 1024 + 1 * i0.val; omega
  | ⟨1, _⟩ => show t.val * 512 + i1.val = win0_6.index t (1 : Fin 2) * 512 + 1 * i1.val; omega

theorem arr6 : ((dats m 0 c).arrAt 6 cfg0.N : Vec Ideal S1024x8192 .bf16) = fun i => hidden (m ((c : Thread nD τ).loc main_arg0)) (m ((c : Thread nD τ).loc main_arg2)) (m ((c : Thread nD τ).loc main_arg3)) (i 1) (i 0) :=
  whole6 m c _ fun t p d => out6_at m c t d p

theorem whole7 (G : Vec Ideal S8192x1024 .f32) (hG : ∀ (t : Fin cfg0.N) (p : Fin 512) (d : Fin 1024), out0_7 (iblk m c 0 t) (iblk m c 1 t) (iblk m c 2 t) (iblk m c 3 t) (iblk m c 4 t) (iblk m c 5 t) (ix2 p d) = G (ix2 (row t p) d)) :
    ((dats m 0 c).arrAt 7 cfg0.N : Vec Ideal S8192x1024 .f32) = G := by
  refine (dats m 0 c).arrAt_eq_of_cover 7 G (fun t _ => ?_) cover7
  obtain ⟨e0, e1, -⟩ := idx7 t
  rw [flushed7]
  funext i
  rw [View.read_apply]
  change (⟨2, ![512, 1024]⟩ : Shape).Idx at i
  idx_vars i
  refine (hG t i0 i1).trans (congrArg G ?_)
  funext a; apply Fin.ext
  match a with
  | ⟨0, _⟩ => show t.val * 512 + i0.val = win0_7.index t (0 : Fin 2) * 512 + 1 * i0.val; omega
  | ⟨1, _⟩ => show i1.val = win0_7.index t (1 : Fin 2) * 1024 + 1 * i1.val; omega

theorem arr7 : ((dats m 0 c).arrAt 7 cfg0.N : Vec Ideal S8192x1024 .f32) = fun i => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) :=
  whole7 m c _ fun t p d => out7_at m c t p d

end Cert.Kernel10Ideal.Post

end
-- ==== Proof.PostClaim.lean ====
/-
  LayerNorm, swish and the second pointwise convolution: the kernel's two arrays are the reference's.
-/
module

public import proofs.«01_k».proof.Defs
public import proofs.«01_k».proof.Proof.Post
public import proofs.«01_k».proof.Proof.Gen.Kernel10Ideal
public import proofs.«01_k».proof.Proof.Gen.Reference10Ideal.Run
public import Idealize.ShloMosaic.Lib.Claim

@[expose] public section

set_option maxRecDepth 16384

noncomputable section

namespace Cert.Reference10Ideal.Post

open Cert.Reference10Ideal Cert.Reference10Ideal.Gen Cert.Reference10Ideal.Value Idealize.ShloMosaic Idealize.ShloMosaic.TcCoe
  Idealize.SL.Sem

/-- The mean of every row. -/
def rowMeans (x : FVec Ideal S8192x1024 .f32) : FVec Ideal S8192x1 .f32 :=
  Host.divf (F := Ideal) (broadcastInDim S8192x1 ![0] bcast_S8192_S8192x1_0 (Host.reduceAdd (F := Ideal) x (constant S_ .f32 0x00000000#32) reducesTo_S8192x1024_S8192_d1 h_S_)) (broadcastInDim S8192x1 ![] bcast_S_S8192x1 (constant S_ .f32 0x44800000#32))

/-- Every row less its mean. -/
def centred (x : FVec Ideal S8192x1024 .f32) : FVec Ideal S8192x1024 .f32 :=
  subf x (broadcastInDim S8192x1024 ![0, 1] bcast_S8192x1_S8192x1024_0_1 (rowMeans x))

/-- The layer norm of every row. -/
def normed (x : FVec Ideal S8192x1024 .f32) (g b : FVec Ideal S1024 .f32) : FVec Ideal S8192x1024 .f32 :=
  addf (mulf (mulf (centred x) (broadcastInDim S8192x1024 ![0, 1] bcast_S8192x1_S8192x1024_0_1 (Host.rsqrt (F := Ideal) (addf (rowMeans (mulf (centred x) (centred x))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

/-- The swish of every entry. -/
def swished (x : FVec Ideal S8192x1024 .f32) : FVec Ideal S8192x1024 .f32 :=
  mulf x (Host.divf (F := Ideal) (broadcastInDim S8192x1024 ![] bcast_S_S8192x1024 (constant S_ .f32 0x3F800000#32)) (addf (broadcastInDim S8192x1024 ![] bcast_S_S8192x1024 (constant S_ .f32 0x3F800000#32)) (Host.exp (F := Ideal) (Host.negf (F := Ideal) x))))

theorem rowMeans_apply (x : FVec Ideal S8192x1024 .f32) (t : Fin 8192) : rowMeans x (ix2 t 0) = Layer.mean fun k => x (ix2 t k) := by
  unfold rowMeans Layer.mean
  pointwise []

theorem centred_apply (x : FVec Ideal S8192x1024 .f32) (t : Fin 8192) (d : Fin 1024) : centred x (ix2 t d) = Layer.centred (fun k => x (ix2 t k)) d := by
  unfold centred Layer.centred
  rw [← rowMeans_apply]
  pointwise []

theorem normed_apply (x : FVec Ideal S8192x1024 .f32) (g b : FVec Ideal S1024 .f32) (t : Fin 8192) (d : Fin 1024) :
    normed x g b (ix2 t d) = Layer.norm (fun k => x (ix2 t k)) (fun k => g (ix1 k)) (fun k => b (ix1 k)) d := by
  unfold normed Layer.norm Layer.scale
  simp only [← centred_apply]
  have h : (Layer.mean fun k => centred x (ix2 t k) * centred x (ix2 t k)) = rowMeans (mulf (centred x) (centred x)) (ix2 t 0) :=
    (rowMeans_apply (mulf (centred x) (centred x)) t).symm
  rw [h]
  generalize rowMeans (mulf (centred x) (centred x)) = y
  generalize centred x = z
  pointwise []

theorem swished_apply (x : FVec Ideal S8192x1024 .f32) (i : S8192x1024.Idx) : swished x i = Layer.swish (x i) := rfl

theorem res26 (m : (ℓ : Loc nD τ sig) → Buf (Elt Ideal) ℓ) (c : Dev nD) : res_main_v26 m c
    = truncf .bf16 (transpose S1024x8192 [1, 0] (swished (normed (m ((c.tc : Thread nD τ).loc main_arg0)) (m ((c.tc : Thread nD τ).loc main_arg2)) (m ((c.tc : Thread nD τ).loc main_arg3)))) transposes_S8192x1024_S1024x8192_1_0) bitsLt_bf16_f32 := rfl

theorem res31 (m : (ℓ : Loc nD τ sig) → Buf (Elt Ideal) ℓ) (c : Dev nD) : res_main_v31 m c
    = addf (m ((c.tc : Thread nD τ).loc main_arg1)) (addf (Host.dotGeneral (F := Ideal) (φ₁ := .f32) (φ₂ := .f32) dot_S8192x1024_S1024x1024_S8192x1024_1_0_0_1_n_n none (swished (normed (m ((c.tc : Thread nD τ).loc main_arg0)) (m ((c.tc : Thread nD τ).loc main_arg2)) (m ((c.tc : Thread nD τ).loc main_arg3)))) (m ((c.tc : Thread nD τ).loc main_arg4))) (broadcastInDim S8192x1024 ![0, 1] bcast_S1x1024_S8192x1024_0_1 (broadcastInDim S1x1024 ![1] bcast_S1024_S1x1024_1 (m ((c.tc : Thread nD τ).loc main_arg5))))) := rfl

theorem hidden_apply (x : FVec Ideal S8192x1024 .f32) (g b : FVec Ideal S1024 .f32) (t : Fin 8192) (d : Fin 1024) :
    swished (normed x g b) (ix2 t d) = Cert.Kernel10Ideal.Post.hidden x g b t d := by
  rw [swished_apply, normed_apply]
  rfl

theorem res26_apply (m : (ℓ : Loc nD τ sig) → Buf (Elt Ideal) ℓ) (c : Dev nD) (d : Fin 1024) (t : Fin 8192) :
    res_main_v26 m c (ix2 d t) = Cert.Kernel10Ideal.Post.hidden (m ((c.tc : Thread nD τ).loc main_arg0)) (m ((c.tc : Thread nD τ).loc main_arg2)) (m ((c.tc : Thread nD τ).loc main_arg3)) t d := by
  rw [res26, ← hidden_apply]
  generalize swished _ = z
  pointwise []

theorem res31_apply (m : (ℓ : Loc nD τ sig) → Buf (Elt Ideal) ℓ) (c : Dev nD) (t : Fin 8192) (d : Fin 1024) :
    res_main_v31 m c (ix2 t d) = Cert.Kernel10Ideal.Post.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) t d := by
  rw [res31]
  unfold Cert.Kernel10Ideal.Post.result
  simp only [← hidden_apply]
  generalize swished _ = z
  pointwise []

end Cert.Reference10Ideal.Post

namespace Cert

open Idealize.ShloMosaic Idealize.SL.Sem

theorem post_algebraic : algebraic_Kernel10Ideal_Reference10Ideal (hKernel10Ideal := Cert.Kernel10Ideal.Gen.facts)
    (hReference10Ideal := Cert.Reference10Ideal.Gen.facts) := by
  intro m g m' g' _ hargs
  refine ⟨_, _, Cert.Kernel10Ideal.Value.run_blocks m g, ?_⟩
  refine (θ_run _ _ _).mono (fun r h c => ?_) (Cert.Reference10Ideal.Value.run m' g')
  obtain ⟨r0, r1, rest⟩ := h c
  obtain ⟨h0, h1, h2, h3, h4, h5⟩ := hargs c
  refine ⟨?_, ?_, rest⟩
  · refine r0.trans ?_
    rw [Cert.Kernel10Ideal.Post.arr6]
    funext i
    refine (congrArg _ (eq_ix2 i)).trans ((Cert.Reference10Ideal.Post.res26_apply m' c (i 0) (i 1)).trans ?_)
    rw [h0, h2, h3]
  · refine r1.trans ?_
    rw [Cert.Kernel10Ideal.Post.arr7]
    funext i
    refine (congrArg _ (eq_ix2 i)).trans ((Cert.Reference10Ideal.Post.res31_apply m' c (i 0) (i 1)).trans ?_)
    rw [h0, h1, h2, h3, h4, h5]

end Cert

end
-- ==== Proof.Adam.lean ====
module

public import Idealize.ShloMosaic.Lib.Pointwise
public import Idealize.ShloMosaic.Lib.Pipeline.ValueKit.Tiles
public import Idealize.ShloMosaic.Lib.ValueLayout
public import Idealize.ShloMosaic.Lib.Tactic

@[expose] public section

noncomputable section

/-! # One AdamW step of one weight

The constants are the f32 words nearest to 0.9, 0.1, 0.999, 0.001, 1 − 0.9¹⁰, 1 − 0.999¹⁰, 1e-8, 0.01 and −0.001. -/

namespace Cert.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

theorem corner : (![0, 0, 0] : Fin 3 → Nat) = fun _ => 0 := funext fun a => by fin_cases a <;> rfl

/-- The sum of the eight devices' parts. -/
def total {a b : Nat} (x : (⟨3, ![8, a, b]⟩ : Shape).Idx → EReal) (p : Fin a) (q : Fin b) : EReal := ∑ j : Fin 8, x (ix3 j p q)

section
variable {o S : Shape} (dims : Fin o.rank → Fin S.rank) (h : o.BroadcastsInDim S dims)

variable (w g m v : FVec Ideal S .f32) (i : S.Idx)

/-! The step written on whole arrays, at an index. -/

theorem host_first : addf (mulf (broadcastInDim S dims h (constant o .f32 0x3F666666#32)) m) (mulf (broadcastInDim S dims h (constant o .f32 0x3DCCCCCD#32)) g) i
    = first (g i) (m i) := rfl

theorem host_second : addf (mulf (broadcastInDim S dims h (constant o .f32 0x3F7FBE77#32)) v)
      (mulf (broadcastInDim S dims h (constant o .f32 0x3A83126F#32)) (mulf g g)) i = second (g i) (v i) := rfl

theorem host_change : mulf (broadcastInDim S dims h (constant o .f32 0xBA83126F#32))
      (addf (Host.divf (Host.divf (addf (mulf (broadcastInDim S dims h (constant o .f32 0x3F666666#32)) m)
            (mulf (broadcastInDim S dims h (constant o .f32 0x3DCCCCCD#32)) g)) (broadcastInDim S dims h (constant o .f32 0x3F26BD02#32)))
          (addf (Host.sqrt (Host.divf (addf (mulf (broadcastInDim S dims h (constant o .f32 0x3F7FBE77#32)) v)
              (mulf (broadcastInDim S dims h (constant o .f32 0x3A83126F#32)) (mulf g g))) (broadcastInDim S dims h (constant o .f32 0x3C231ACC#32))))
            (broadcastInDim S dims h (constant o .f32 0x322BCC77#32))))
        (mulf (broadcastInDim S dims h (constant o .f32 0x3C23D70A#32)) w)) i
    = change (w i) (g i) (m i) (v i) := rfl

end

end Cert.Adam

end
-- ==== Proof.SmallStepClaim.lean ====
/-
  The update of the packed small parameters: the kernel's three arrays are the reference's.
-/
module

public import proofs.«01_k».proof.Defs
public import proofs.«01_k».proof.Proof.Adam
public import proofs.«01_k».proof.Proof.Gen.Kernel17Ideal
public import proofs.«01_k».proof.Proof.Gen.Kernel17Ideal.Value
public import proofs.«01_k».proof.Proof.Gen.Reference17Ideal.Run
public import Idealize.ShloMosaic.Lib.Claim

@[expose] public section

set_option maxRecDepth 16384

noncomputable section

namespace Cert

open Idealize.ShloMosaic Idealize.SL.Sem

theorem smallstep_algebraic : algebraic_Kernel17Ideal_Reference17Ideal (hKernel17Ideal := Cert.Kernel17Ideal.Gen.facts)
    (hReference17Ideal := Cert.Reference17Ideal.Gen.facts) := by
  intro m g m' g' _ hargs
  refine ⟨_, _, _, Cert.Kernel17Ideal.Value.run m g, ?_⟩
  refine (θ_run _ _ _).mono (fun r h c => ?_) (Cert.Reference17Ideal.Value.run m' g')
  obtain ⟨r0, r1, r2, rest⟩ := h c
  obtain ⟨h0, h1, h2, h3⟩ := hargs c
  refine ⟨?_, ?_, ?_, rest⟩
  · refine r0.trans ?_
    rw [h0, h1, h2, h3]
    funext i
    exact (Adam.host_change ..).trans rfl
  · refine r1.trans ?_
    rw [h1, h2]
    funext i
    exact (Adam.host_first ..).trans rfl
  · refine r2.trans ?_
    rw [h1, h3]
    funext i
    exact (Adam.host_second ..).trans rfl

end Cert

end
-- ==== Proof.SumPartsClaim.lean ====
/-
  The sum of the eight devices' packed small gradients: the kernel's array is the reference's.
-/
module

public import proofs.«01_k».proof.Defs
public import proofs.«01_k».proof.Proof.Adam
public import proofs.«01_k».proof.Proof.Gen.Kernel16Ideal
public import proofs.«01_k».proof.Proof.Gen.Kernel16Ideal.Value
public import proofs.«01_k».proof.Proof.Gen.Reference16Ideal.Run
public import Idealize.ShloMosaic.Lib.Claim

@[expose] public section

set_option maxRecDepth 16384

noncomputable section

namespace Cert.Reference16Ideal.Update

open Cert.Reference16Ideal Cert.Reference16Ideal.Gen Idealize.ShloMosaic Idealize.ShloMosaic.TcCoe Idealize.SL.Sem

/-- The eight parts added one after another are their sum. -/
theorem sum_apply (a : Vec Ideal S8x352x128 .f32) (i : S352x128.Idx) :
    Host.reduceAdd (F := Ideal) a (constant S_ .f32 0x00000000#32) reducesTo_S8x352x128_S352x128_d0 h_S_ i
      = Cert.Kernel16Ideal.Value.G1 (F := Ideal) a i := by
  idx_vars i
  pointwise []
  rw [Fin.sum_univ_eight]
  unfold Cert.Kernel16Ideal.Value.G1
  pointwise [Cert.Kernel16Ideal.Gen.k0_pay1]

end Cert.Reference16Ideal.Update

namespace Cert

open Idealize.ShloMosaic Idealize.SL.Sem

theorem sumparts_algebraic : algebraic_Kernel16Ideal_Reference16Ideal (hKernel16Ideal := Cert.Kernel16Ideal.Gen.facts)
    (hReference16Ideal := Cert.Reference16Ideal.Gen.facts) := by
  intro m g m' g' _ hargs
  refine ⟨_, Cert.Kernel16Ideal.Value.run m g, ?_⟩
  refine (θ_run _ _ _).mono (fun r h c => ?_) (Cert.Reference16Ideal.Value.run m' g')
  obtain ⟨r0, rest⟩ := h c
  refine ⟨r0.trans ?_, rest⟩
  rw [hargs c]
  funext i
  exact Cert.Reference16Ideal.Update.sum_apply _ i

end Cert

end
-- ==== Proof.UpdDown.lean ====
module

public import proofs.«01_k».proof.Proof.Gen.Kernel15Ideal.Value
public import proofs.«01_k».proof.Proof.Adam

@[expose] public section

set_option maxRecDepth 16384

noncomputable section

/-! # The update of the two layers' down projections

A block of 176 rows is read from each of the eight devices' parts, summed, and stepped; the 4 blocks tile the arrays. -/

namespace Cert.Kernel15Ideal.Update

open Cert.Kernel15Ideal Cert.Kernel15Ideal.Gen Cert.Kernel15Ideal.Value Idealize.ShloMosaic Idealize.ShloMosaic.TcCoe
  Idealize.SL.Sem
open Cert.Adam (corner total)

section
variable (i : grid0.Coords) (x0 x1 : Vec Ideal S8x176x1024 .bf16) (x2 x3 x4 : Vec Ideal S1x176x1024 .f32) (p : Fin 176) (q : Fin 1024)

/-- The point's layer picks the parts. -/
theorem total_apply : k0_pay9 i x0 x1 x2 x3 x4 (ix2 p q) = if (i 0).val = 1 then total x1 p q else total x0 p q := by
  have e0 : k0_pay3 (View.ld x0 r0_0) (View.ld x0 r0_1) (View.ld x0 r0_2) (View.ld x0 r0_3) (View.ld x0 r0_4) (View.ld x0 r0_5) (View.ld x0 r0_6) (View.ld x0 r0_7) (ix2 p q) = total x0 p q := by
    unfold total
    pointwise [k0_pay3]
    rw [Fin.sum_univ_eight]
  unfold k0_pay9
  by_cases h : (i 0).val = 1
  · rw [if_pos h, h]
    unfold total
    pointwise [k0_pay4]
    rw [Fin.sum_univ_eight]
  · have h0 : (i 0).val = 0 := by have : (i 0).val < 2 := (i 0).isLt; omega
    rw [if_neg h, h0, ← e0]
    rfl

theorem grad_apply : out0_5 i x0 x1 x2 x3 x4 (ix3 0 p q) = if (i 0).val = 1 then total x1 p q else total x0 p q := by
  unfold out0_5
  rw [View.canon_unit_zero corner]
  refine Eq.trans ?_ (total_apply i x0 x1 x2 x3 x4 p q)
  pointwise [k0_pay5]

theorem change_apply : out0_6 i x0 x1 x2 x3 x4 (ix3 0 p q) = Adam.change (x2 (ix3 0 p q)) (if (i 0).val = 1 then total x1 p q else total x0 p q) (x3 (ix3 0 p q)) (x4 (ix3 0 p q)) := by
  unfold out0_6
  rw [View.canon_unit_zero corner, ← total_apply i x0 x1 x2 x3 x4 p q]
  simp only [View.ld_unit_zero (S := S1x176x1024) corner]
  pointwise [k0_pay8, k0_pay6, k0_pay7]
  rfl

theorem first_apply : out0_7 i x0 x1 x2 x3 x4 (ix3 0 p q) = Adam.first (if (i 0).val = 1 then total x1 p q else total x0 p q) (x3 (ix3 0 p q)) := by
  unfold out0_7
  rw [View.canon_unit_zero corner, ← total_apply i x0 x1 x2 x3 x4 p q]
  simp only [View.ld_unit_zero (S := S1x176x1024) corner]
  pointwise [k0_pay1, k0_pay6]
  rfl

theorem second_apply : out0_8 i x0 x1 x2 x3 x4 (ix3 0 p q) = Adam.second (if (i 0).val = 1 then total x1 p q else total x0 p q) (x4 (ix3 0 p q)) := by
  unfold out0_8
  rw [View.canon_unit_zero corner, ← total_apply i x0 x1 x2 x3 x4 p q]
  simp only [View.ld_unit_zero (S := S1x176x1024) corner]
  pointwise [k0_pay2, k0_pay7]
  rfl
end

/-! ## The blocks in the arrays -/

variable (m : (ℓ : Loc nD τ sig) → Buf (Elt Ideal) ℓ) (c : Dev nD)

theorem idx0 : ∀ t : Fin cfg0.N, win0_0.index t (0 : Fin 3) = 0 ∧ win0_0.index t (1 : Fin 3) = t.val % 2 ∧ win0_0.index t (2 : Fin 3) = 0 := (by decide +kernel : ∀ t : Fin grid0.N, _)

theorem idx1 : ∀ t : Fin cfg0.N, win0_1.index t (0 : Fin 3) = 0 ∧ win0_1.index t (1 : Fin 3) = t.val % 2 ∧ win0_1.index t (2 : Fin 3) = 0 := (by decide +kernel : ∀ t : Fin grid0.N, _)

theorem idx2 : ∀ t : Fin cfg0.N, win0_2.index t (0 : Fin 3) = t.val / 2 ∧ win0_2.index t (1 : Fin 3) = t.val % 2 ∧ win0_2.index t (2 : Fin 3) = 0 := (by decide +kernel : ∀ t : Fin grid0.N, _)

theorem idx3 : ∀ t : Fin cfg0.N, win0_3.index t (0 : Fin 3) = t.val / 2 ∧ win0_3.index t (1 : Fin 3) = t.val % 2 ∧ win0_3.index t (2 : Fin 3) = 0 := (by decide +kernel : ∀ t : Fin grid0.N, _)

theorem idx4 : ∀ t : Fin cfg0.N, win0_4.index t (0 : Fin 3) = t.val / 2 ∧ win0_4.index t (1 : Fin 3) = t.val % 2 ∧ win0_4.index t (2 : Fin 3) = 0 := (by decide +kernel : ∀ t : Fin grid0.N, _)

/-- The array's row of a block's row. -/
def row (t : Fin cfg0.N) (p : Fin 176) : Fin 352 := ⟨t.val % 2 * 176 + p.val, by have := p.isLt; omega⟩

/-- The layer a point works on. -/
def layer (t : Fin cfg0.N) : Fin 2 := ⟨t.val / 2, by have hN : cfg0.N = 4 := N_0; have := t.isLt; omega⟩

theorem blk0 (t : Fin cfg0.N) (j : Fin 8) (p : Fin 176) (q : Fin 1024) :
    iblk m c 0 t (ix3 j p q) = (V m c main_arg0 : Vec Ideal S8x352x1024 .bf16) (ix3 j (row t p) q) := by
  obtain ⟨e0, e1, e2⟩ := idx0 t
  unfold iblk
  rw [View.read_apply]
  show V m c main_arg0 _ = _
  congr 1
  funext a
  apply Fin.ext
  match a with
  | ⟨0, _⟩ => show win0_0.index t (0 : Fin 3) * 8 + 1 * j.val = j.val; omega
  | ⟨1, _⟩ => show win0_0.index t (1 : Fin 3) * 176 + 1 * p.val = t.val % 2 * 176 + p.val; omega
  | ⟨2, _⟩ => show win0_0.index t (2 : Fin 3) * 1024 + 1 * q.val = q.val; omega

theorem blk1 (t : Fin cfg0.N) (j : Fin 8) (p : Fin 176) (q : Fin 1024) :
    iblk m c 1 t (ix3 j p q) = (V m c main_arg1 : Vec Ideal S8x352x1024 .bf16) (ix3 j (row t p) q) := by
  obtain ⟨e0, e1, e2⟩ := idx1 t
  unfold iblk
  rw [View.read_apply]
  show V m c main_arg1 _ = _
  congr 1
  funext a
  apply Fin.ext
  match a with
  | ⟨0, _⟩ => show win0_1.index t (0 : Fin 3) * 8 + 1 * j.val = j.val; omega
  | ⟨1, _⟩ => show win0_1.index t (1 : Fin 3) * 176 + 1 * p.val = t.val % 2 * 176 + p.val; omega
  | ⟨2, _⟩ => show win0_1.index t (2 : Fin 3) * 1024 + 1 * q.val = q.val; omega

theorem blk2 (t : Fin cfg0.N) (p : Fin 176) (q : Fin 1024) :
    iblk m c 2 t (ix3 0 p q) = (V m c main_arg2 : Vec Ideal S2x352x1024 .f32) (ix3 (layer t) (row t p) q) := by
  obtain ⟨e0, e1, e2⟩ := idx2 t
  unfold iblk
  rw [View.read_apply]
  show V m c main_arg2 _ = _
  congr 1
  funext a
  apply Fin.ext
  match a with
  | ⟨0, _⟩ => show win0_2.index t (0 : Fin 3) * 1 + 1 * 0 = t.val / 2; omega
  | ⟨1, _⟩ => show win0_2.index t (1 : Fin 3) * 176 + 1 * p.val = t.val % 2 * 176 + p.val; omega
  | ⟨2, _⟩ => show win0_2.index t (2 : Fin 3) * 1024 + 1 * q.val = q.val; omega

theorem blk3 (t : Fin cfg0.N) (p : Fin 176) (q : Fin 1024) :
    iblk m c 3 t (ix3 0 p q) = (V m c main_arg3 : Vec Ideal S2x352x1024 .f32) (ix3 (layer t) (row t p) q) := by
  obtain ⟨e0, e1, e2⟩ := idx3 t
  unfold iblk
  rw [View.read_apply]
  show V m c main_arg3 _ = _
  congr 1
  funext a
  apply Fin.ext
  match a with
  | ⟨0, _⟩ => show win0_3.index t (0 : Fin 3) * 1 + 1 * 0 = t.val / 2; omega
  | ⟨1, _⟩ => show win0_3.index t (1 : Fin 3) * 176 + 1 * p.val = t.val % 2 * 176 + p.val; omega
  | ⟨2, _⟩ => show win0_3.index t (2 : Fin 3) * 1024 + 1 * q.val = q.val; omega

theorem blk4 (t : Fin cfg0.N) (p : Fin 176) (q : Fin 1024) :
    iblk m c 4 t (ix3 0 p q) = (V m c main_arg4 : Vec Ideal S2x352x1024 .f32) (ix3 (layer t) (row t p) q) := by
  obtain ⟨e0, e1, e2⟩ := idx4 t
  unfold iblk
  rw [View.read_apply]
  show V m c main_arg4 _ = _
  congr 1
  funext a
  apply Fin.ext
  match a with
  | ⟨0, _⟩ => show win0_4.index t (0 : Fin 3) * 1 + 1 * 0 = t.val / 2; omega
  | ⟨1, _⟩ => show win0_4.index t (1 : Fin 3) * 176 + 1 * p.val = t.val % 2 * 176 + p.val; omega
  | ⟨2, _⟩ => show win0_4.index t (2 : Fin 3) * 1024 + 1 * q.val = q.val; omega

theorem idx5 : ∀ t : Fin cfg0.N, win0_5.index t (0 : Fin 3) = t.val / 2 ∧ win0_5.index t (1 : Fin 3) = t.val % 2 ∧ win0_5.index t (2 : Fin 3) = 0
    ∧ win0_5.xsize (grid0.coords t) (0 : Fin 3) = 1 ∧ win0_5.xsize (grid0.coords t) (1 : Fin 3) = 176 ∧ win0_5.xsize (grid0.coords t) (2 : Fin 3) = 1024 := (by decide +kernel : ∀ t : Fin grid0.N, _)

/-- The blocks cover the array. -/
theorem cover5 (i : S2x352x1024.Idx) : ∃ t : Fin cfg0.N, (cfg0.win 5).flush t = true ∧ i ∈ ((cfg0.win 5).blk t).view.set := by
  have hN : cfg0.N = 4 := N_0
  have h0 : (i 0).val < 2 := (i 0).isLt
  have h1 : (i 1).val < 352 := (i 1).isLt
  have h2 : (i 2).val < 1024 := (i 2).isLt
  obtain ⟨t, ht⟩ : ∃ t : Fin cfg0.N, t.val = (i 0).val * 2 + (i 1).val / 176 := ⟨⟨(i 0).val * 2 + (i 1).val / 176, by omega⟩, rfl⟩
  refine ⟨t, flush0_5 t, ?_⟩
  obtain ⟨e0, e1, e2, n0, n1, n2⟩ := idx5 t
  show i ∈ ((View.whole main_v0_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + win0_5.xsize (grid0.coords t) (0 : Fin 3); rw [e0, n0]; omega
  | ⟨1, _⟩ => show win0_5.index t (1 : Fin 3) * 176 ≤ (i 1).val ∧ (i 1).val < win0_5.index t (1 : Fin 3) * 176 + win0_5.xsize (grid0.coords t) (1 : Fin 3); rw [e1, n1]; omega
  | ⟨2, _⟩ => show win0_5.index t (2 : Fin 3) * 1024 ≤ (i 2).val ∧ (i 2).val < win0_5.index t (2 : Fin 3) * 1024 + win0_5.xsize (grid0.coords t) (2 : Fin 3); rw [e2, n2]; omega

theorem whole5 (G : Vec Ideal S2x352x1024 .f32) (hG : ∀ (t : Fin cfg0.N) (p : Fin 176) (q : Fin 1024),
      out0_5 (grid0.coords t) (iblk m c 0 t) (iblk m c 1 t) (iblk m c 2 t) (iblk m c 3 t) (iblk m c 4 t) (ix3 0 p q) = G (ix3 (layer t) (row t p) q)) :
    ((dats m 0 c).arrAt 5 cfg0.N : Vec Ideal S2x352x1024 .f32) = G := by
  refine (dats m 0 c).arrAt_eq_of_cover 5 G (fun t _ => ?_) cover5
  obtain ⟨e0, e1, e2, -⟩ := idx5 t
  rw [flushed5]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 2 = win0_5.index t (0 : Fin 3) * 1 + 1 * 0; omega
  | ⟨1, _⟩ => show t.val % 2 * 176 + (i 1).val = win0_5.index t (1 : Fin 3) * 176 + 1 * (i 1).val; omega
  | ⟨2, _⟩ => show (i 2).val = win0_5.index t (2 : Fin 3) * 1024 + 1 * (i 2).val; omega

theorem idx6 : ∀ t : Fin cfg0.N, win0_6.index t (0 : Fin 3) = t.val / 2 ∧ win0_6.index t (1 : Fin 3) = t.val % 2 ∧ win0_6.index t (2 : Fin 3) = 0
    ∧ win0_6.xsize (grid0.coords t) (0 : Fin 3) = 1 ∧ win0_6.xsize (grid0.coords t) (1 : Fin 3) = 176 ∧ win0_6.xsize (grid0.coords t) (2 : Fin 3) = 1024 := (by decide +kernel : ∀ t : Fin grid0.N, _)

/-- The blocks cover the array. -/
theorem cover6 (i : S2x352x1024.Idx) : ∃ t : Fin cfg0.N, (cfg0.win 6).flush t = true ∧ i ∈ ((cfg0.win 6).blk t).view.set := by
  have hN : cfg0.N = 4 := N_0
  have h0 : (i 0).val < 2 := (i 0).isLt
  have h1 : (i 1).val < 352 := (i 1).isLt
  have h2 : (i 2).val < 1024 := (i 2).isLt
  obtain ⟨t, ht⟩ : ∃ t : Fin cfg0.N, t.val = (i 0).val * 2 + (i 1).val / 176 := ⟨⟨(i 0).val * 2 + (i 1).val / 176, by omega⟩, rfl⟩
  refine ⟨t, flush0_6 t, ?_⟩
  obtain ⟨e0, e1, e2, n0, n1, n2⟩ := idx6 t
  show i ∈ ((View.whole main_v0_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + win0_6.xsize (grid0.coords t) (0 : Fin 3); rw [e0, n0]; omega
  | ⟨1, _⟩ => show win0_6.index t (1 : Fin 3) * 176 ≤ (i 1).val ∧ (i 1).val < win0_6.index t (1 : Fin 3) * 176 + win0_6.xsize (grid0.coords t) (1 : Fin 3); rw [e1, n1]; omega
  | ⟨2, _⟩ => show win0_6.index t (2 : Fin 3) * 1024 ≤ (i 2).val ∧ (i 2).val < win0_6.index t (2 : Fin 3) * 1024 + win0_6.xsize (grid0.coords t) (2 : Fin 3); rw [e2, n2]; omega

theorem whole6 (G : Vec Ideal S2x352x1024 .f32) (hG : ∀ (t : Fin cfg0.N) (p : Fin 176) (q : Fin 1024),
      out0_6 (grid0.coords t) (iblk m c 0 t) (iblk m c 1 t) (iblk m c 2 t) (iblk m c 3 t) (iblk m c 4 t) (ix3 0 p q) = G (ix3 (layer t) (row t p) q)) :
    ((dats m 0 c).arrAt 6 cfg0.N : Vec Ideal S2x352x1024 .f32) = G := by
  refine (dats m 0 c).arrAt_eq_of_cover 6 G (fun t _ => ?_) cover6
  obtain ⟨e0, e1, e2, -⟩ := idx6 t
  rw [flushed6]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 2 = win0_6.index t (0 : Fin 3) * 1 + 1 * 0; omega
  | ⟨1, _⟩ => show t.val % 2 * 176 + (i 1).val = win0_6.index t (1 : Fin 3) * 176 + 1 * (i 1).val; omega
  | ⟨2, _⟩ => show (i 2).val = win0_6.index t (2 : Fin 3) * 1024 + 1 * (i 2).val; omega

theorem idx7 : ∀ t : Fin cfg0.N, win0_7.index t (0 : Fin 3) = t.val / 2 ∧ win0_7.index t (1 : Fin 3) = t.val % 2 ∧ win0_7.index t (2 : Fin 3) = 0
    ∧ win0_7.xsize (grid0.coords t) (0 : Fin 3) = 1 ∧ win0_7.xsize (grid0.coords t) (1 : Fin 3) = 176 ∧ win0_7.xsize (grid0.coords t) (2 : Fin 3) = 1024 := (by decide +kernel : ∀ t : Fin grid0.N, _)

/-- The blocks cover the array. -/
theorem cover7 (i : S2x352x1024.Idx) : ∃ t : Fin cfg0.N, (cfg0.win 7).flush t = true ∧ i ∈ ((cfg0.win 7).blk t).view.set := by
  have hN : cfg0.N = 4 := N_0
  have h0 : (i 0).val < 2 := (i 0).isLt
  have h1 : (i 1).val < 352 := (i 1).isLt
  have h2 : (i 2).val < 1024 := (i 2).isLt
  obtain ⟨t, ht⟩ : ∃ t : Fin cfg0.N, t.val = (i 0).val * 2 + (i 1).val / 176 := ⟨⟨(i 0).val * 2 + (i 1).val / 176, by omega⟩, rfl⟩
  refine ⟨t, flush0_7 t, ?_⟩
  obtain ⟨e0, e1, e2, n0, n1, n2⟩ := idx7 t
  show i ∈ ((View.whole main_v0_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + win0_7.xsize (grid0.coords t) (0 : Fin 3); rw [e0, n0]; omega
  | ⟨1, _⟩ => show win0_7.index t (1 : Fin 3) * 176 ≤ (i 1).val ∧ (i 1).val < win0_7.index t (1 : Fin 3) * 176 + win0_7.xsize (grid0.coords t) (1 : Fin 3); rw [e1, n1]; omega
  | ⟨2, _⟩ => show win0_7.index t (2 : Fin 3) * 1024 ≤ (i 2).val ∧ (i 2).val < win0_7.index t (2 : Fin 3) * 1024 + win0_7.xsize (grid0.coords t) (2 : Fin 3); rw [e2, n2]; omega

theorem whole7 (G : Vec Ideal S2x352x1024 .f32) (hG : ∀ (t : Fin cfg0.N) (p : Fin 176) (q : Fin 1024),
      out0_7 (grid0.coords t) (iblk m c 0 t) (iblk m c 1 t) (iblk m c 2 t) (iblk m c 3 t) (iblk m c 4 t) (ix3 0 p q) = G (ix3 (layer t) (row t p) q)) :
    ((dats m 0 c).arrAt 7 cfg0.N : Vec Ideal S2x352x1024 .f32) = G := by
  refine (dats m 0 c).arrAt_eq_of_cover 7 G (fun t _ => ?_) cover7
  obtain ⟨e0, e1, e2, -⟩ := idx7 t
  rw [flushed7]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 2 = win0_7.index t (0 : Fin 3) * 1 + 1 * 0; omega
  | ⟨1, _⟩ => show t.val % 2 * 176 + (i 1).val = win0_7.index t (1 : Fin 3) * 176 + 1 * (i 1).val; omega
  | ⟨2, _⟩ => show (i 2).val = win0_7.index t (2 : Fin 3) * 1024 + 1 * (i 2).val; omega

theorem idx8 : ∀ t : Fin cfg0.N, win0_8.index t (0 : Fin 3) = t.val / 2 ∧ win0_8.index t (1 : Fin 3) = t.val % 2 ∧ win0_8.index t (2 : Fin 3) = 0
    ∧ win0_8.xsize (grid0.coords t) (0 : Fin 3) = 1 ∧ win0_8.xsize (grid0.coords t) (1 : Fin 3) = 176 ∧ win0_8.xsize (grid0.coords t) (2 : Fin 3) = 1024 := (by decide +kernel : ∀ t : Fin grid0.N, _)

/-- The blocks cover the array. -/
theorem cover8 (i : S2x352x1024.Idx) : ∃ t : Fin cfg0.N, (cfg0.win 8).flush t = true ∧ i ∈ ((cfg0.win 8).blk t).view.set := by
  have hN : cfg0.N = 4 := N_0
  have h0 : (i 0).val < 2 := (i 0).isLt
  have h1 : (i 1).val < 352 := (i 1).isLt
  have h2 : (i 2).val < 1024 := (i 2).isLt
  obtain ⟨t, ht⟩ : ∃ t : Fin cfg0.N, t.val = (i 0).val * 2 + (i 1).val / 176 := ⟨⟨(i 0).val * 2 + (i 1).val / 176, by omega⟩, rfl⟩
  refine ⟨t, flush0_8 t, ?_⟩
  obtain ⟨e0, e1, e2, n0, n1, n2⟩ := idx8 t
  show i ∈ ((View.whole main_v0_3).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + win0_8.xsize (grid0.coords t) (0 : Fin 3); rw [e0, n0]; omega
  | ⟨1, _⟩ => show win0_8.index t (1 : Fin 3) * 176 ≤ (i 1).val ∧ (i 1).val < win0_8.index t (1 : Fin 3) * 176 + win0_8.xsize (grid0.coords t) (1 : Fin 3); rw [e1, n1]; omega
  | ⟨2, _⟩ => show win0_8.index t (2 : Fin 3) * 1024 ≤ (i 2).val ∧ (i 2).val < win0_8.index t (2 : Fin 3) * 1024 + win0_8.xsize (grid0.coords t) (2 : Fin 3); rw [e2, n2]; omega

theorem whole8 (G : Vec Ideal S2x352x1024 .f32) (hG : ∀ (t : Fin cfg0.N) (p : Fin 176) (q : Fin 1024),
      out0_8 (grid0.coords t) (iblk m c 0 t) (iblk m c 1 t) (iblk m c 2 t) (iblk m c 3 t) (iblk m c 4 t) (ix3 0 p q) = G (ix3 (layer t) (row t p) q)) :
    ((dats m 0 c).arrAt 8 cfg0.N : Vec Ideal S2x352x1024 .f32) = G := by
  refine (dats m 0 c).arrAt_eq_of_cover 8 G (fun t _ => ?_) cover8
  obtain ⟨e0, e1, e2, -⟩ := idx8 t
  rw [flushed8]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 2 = win0_8.index t (0 : Fin 3) * 1 + 1 * 0; omega
  | ⟨1, _⟩ => show t.val % 2 * 176 + (i 1).val = win0_8.index t (1 : Fin 3) * 176 + 1 * (i 1).val; omega
  | ⟨2, _⟩ => show (i 2).val = win0_8.index t (2 : Fin 3) * 1024 + 1 * (i 2).val; omega

/-- The summed gradient. -/
def grad (a b : Vec Ideal S8x352x1024 .bf16) (i : S2x352x1024.Idx) : EReal := if (i 0).val = 1 then total b (i 1) (i 2) else total a (i 1) (i 2)

theorem coord : ∀ t : Fin cfg0.N, (grid0.coords t 0).val = t.val / 2 := (by decide +kernel : ∀ t : Fin grid0.N, _)

theorem grad_block (t : Fin cfg0.N) (p : Fin 176) (q : Fin 1024) :
    (if (grid0.coords t 0).val = 1 then total (iblk m c 1 t) p q else total (iblk m c 0 t) p q)
      = grad (V m c main_arg0) (V m c main_arg1) (ix3 (layer t) (row t p) q) := by
  unfold total
  simp only [blk0, blk1, coord]
  rfl

theorem arr5 : ((dats m 0 c).arrAt 5 cfg0.N : Vec Ideal S2x352x1024 .f32) = fun i => (grad (V m c main_arg0) (V m c main_arg1) i) :=
  whole5 m c _ fun t p q => (grad_apply _ _ _ _ _ _ p q).trans (grad_block m c t p q)

theorem arr6 : ((dats m 0 c).arrAt 6 cfg0.N : Vec Ideal S2x352x1024 .f32) = fun i => Adam.change ((V m c main_arg2 : Vec Ideal S2x352x1024 .f32) i) (grad (V m c main_arg0) (V m c main_arg1) i) ((V m c main_arg3 : Vec Ideal S2x352x1024 .f32) i) ((V m c main_arg4 : Vec Ideal S2x352x1024 .f32) i) :=
  whole6 m c _ fun t p q => (change_apply _ _ _ _ _ _ p q).trans (by rw [grad_block m c t p q, blk2, blk3, blk4])

theorem arr7 : ((dats m 0 c).arrAt 7 cfg0.N : Vec Ideal S2x352x1024 .f32) = fun i => Adam.first (grad (V m c main_arg0) (V m c main_arg1) i) ((V m c main_arg3 : Vec Ideal S2x352x1024 .f32) i) :=
  whole7 m c _ fun t p q => (first_apply _ _ _ _ _ _ p q).trans (by rw [grad_block m c t p q, blk3])

theorem arr8 : ((dats m 0 c).arrAt 8 cfg0.N : Vec Ideal S2x352x1024 .f32) = fun i => Adam.second (grad (V m c main_arg0) (V m c main_arg1) i) ((V m c main_arg4 : Vec Ideal S2x352x1024 .f32) i) :=
  whole8 m c _ fun t p q => (second_apply _ _ _ _ _ _ p q).trans (by rw [grad_block m c t p q, blk4])

end Cert.Kernel15Ideal.Update

end
-- ==== Proof.UpdDownClaim.lean ====
/-
  The update of the two layers' down projections: the kernel's four arrays are the reference's.
-/
module

public import proofs.«01_k».proof.Defs
public import proofs.«01_k».proof.Proof.UpdDown
public import proofs.«01_k».proof.Proof.Gen.Kernel15Ideal
public import proofs.«01_k».proof.Proof.Gen.Reference15Ideal.Run
public import Idealize.ShloMosaic.Lib.Claim

@[expose] public section

set_option maxRecDepth 16384

noncomputable section

namespace Cert.Reference15Ideal.Update

open Cert.Reference15Ideal Cert.Reference15Ideal.Gen Idealize.ShloMosaic Idealize.ShloMosaic.TcCoe Idealize.SL.Sem

/-- The reference's summed gradient at an index. -/
theorem reference_grad (a0 : Vec Ideal S8x352x1024 .bf16) (a1 : Vec Ideal S8x352x1024 .bf16) (i : S2x352x1024.Idx) :
    (concatenate S2x352x1024 0 [⟨S1x352x1024, (broadcastInDim S1x352x1024 ![1, 2] bcast_S352x1024_S1x352x1024_1_2 (Host.reduceAdd (F := Ideal) (extf .f32 a0 bitsLt_bf16_f32) (constant S_ .f32 0x00000000#32) reducesTo_S8x352x1024_S352x1024_d0 h_S_))⟩, ⟨S1x352x1024, (broadcastInDim S1x352x1024 ![1, 2] bcast_S352x1024_S1x352x1024_1_2 (Host.reduceAdd (F := Ideal) (extf .f32 a1 bitsLt_bf16_f32) (constant S_ .f32 0x00000000#32) reducesTo_S8x352x1024_S352x1024_d0 h_S_))⟩] concatenates_S1x352x1024_S1x352x1024_S2x352x1024_d0) i
      = Cert.Kernel15Ideal.Update.grad a0 a1 i := by
  unfold Cert.Kernel15Ideal.Update.grad Adam.total
  idx_vars i
  rcases Nat.lt_or_ge i0.val 1 with h0 | h0
  · refine Eq.trans ?_ (if_neg (show ¬ i0.val = 1 by omega)).symm
    pointwise [dif_pos h0]
  · have h1 : i0.val < 2 := i0.isLt
    refine Eq.trans ?_ (if_pos (show i0.val = 1 by omega)).symm
    pointwise [dif_neg (show ¬ i0.val < 1 by omega)]

end Cert.Reference15Ideal.Update

namespace Cert

open Idealize.ShloMosaic Idealize.SL.Sem
open Cert.Reference15Ideal.Update (reference_grad)

theorem upddown_algebraic : algebraic_Kernel15Ideal_Reference15Ideal (hKernel15Ideal := Cert.Kernel15Ideal.Gen.facts)
    (hReference15Ideal := Cert.Reference15Ideal.Gen.facts) := by
  intro m g m' g' _ hargs
  refine ⟨_, _, _, _, Cert.Kernel15Ideal.Value.run_blocks m g, ?_⟩
  refine (θ_run _ _ _).mono (fun r h c => ?_) (Cert.Reference15Ideal.Value.run m' g')
  obtain ⟨r0, r1, r2, r3, rest⟩ := h c
  obtain ⟨h0, h1, h2, h3, h4⟩ := hargs c
  refine ⟨?_, ?_, ?_, ?_, rest⟩
  · refine r0.trans ?_
    rw [h0, h1, Cert.Kernel15Ideal.Update.arr5]
    funext i
    simp only [Cert.Kernel15Ideal.Gen.V_main_arg0, Cert.Kernel15Ideal.Gen.V_main_arg1]
    exact reference_grad _ _ i
  · refine r1.trans ?_
    rw [h0, h1, h2, h3, h4, Cert.Kernel15Ideal.Update.arr6]
    funext i
    simp only [Cert.Kernel15Ideal.Gen.V_main_arg0, Cert.Kernel15Ideal.Gen.V_main_arg1, Cert.Kernel15Ideal.Gen.V_main_arg2, Cert.Kernel15Ideal.Gen.V_main_arg3, Cert.Kernel15Ideal.Gen.V_main_arg4]
    exact (Adam.host_change ..).trans (by rw [reference_grad])
  · refine r2.trans ?_
    rw [h0, h1, h3, Cert.Kernel15Ideal.Update.arr7]
    funext i
    simp only [Cert.Kernel15Ideal.Gen.V_main_arg0, Cert.Kernel15Ideal.Gen.V_main_arg1, Cert.Kernel15Ideal.Gen.V_main_arg3]
    exact (Adam.host_first ..).trans (by rw [reference_grad])
  · refine r3.trans ?_
    rw [h0, h1, h4, Cert.Kernel15Ideal.Update.arr8]
    funext i
    simp only [Cert.Kernel15Ideal.Gen.V_main_arg0, Cert.Kernel15Ideal.Gen.V_main_arg1, Cert.Kernel15Ideal.Gen.V_main_arg4]
    exact (Adam.host_second ..).trans (by rw [reference_grad])

end Cert

end
-- ==== Proof.UpdGu.lean ====
module

public import proofs.«01_k».proof.Proof.Gen.Kernel14Ideal.Value
public import proofs.«01_k».proof.Proof.Adam

@[expose] public section

set_option maxRecDepth 16384

noncomputable section

/-! # The update of the two layers' gate and up projections, stored transposed

A block of 176 rows is read from each of the eight devices' parts, summed, and stepped; the 8 blocks tile the arrays. -/

namespace Cert.Kernel14Ideal.Update

open Cert.Kernel14Ideal Cert.Kernel14Ideal.Gen Cert.Kernel14Ideal.Value Idealize.ShloMosaic Idealize.ShloMosaic.TcCoe
  Idealize.SL.Sem
open Cert.Adam (corner total)

section
variable (i : grid0.Coords) (x0 x1 : Vec Ideal S8x176x1024 .bf16) (x2 x3 x4 : Vec Ideal S1x176x1024 .f32) (p : Fin 176) (q : Fin 1024)

/-- The point's layer picks the parts. -/
theorem total_apply : k0_pay9 i x0 x1 x2 x3 x4 (ix2 p q) = if (i 0).val = 1 then total x1 p q else total x0 p q := by
  have e0 : k0_pay3 (View.ld x0 r0_0) (View.ld x0 r0_1) (View.ld x0 r0_2) (View.ld x0 r0_3) (View.ld x0 r0_4) (View.ld x0 r0_5) (View.ld x0 r0_6) (View.ld x0 r0_7) (ix2 p q) = total x0 p q := by
    unfold total
    pointwise [k0_pay3]
    rw [Fin.sum_univ_eight]
  unfold k0_pay9
  by_cases h : (i 0).val = 1
  · rw [if_pos h, h]
    unfold total
    pointwise [k0_pay4]
    rw [Fin.sum_univ_eight]
  · have h0 : (i 0).val = 0 := by have : (i 0).val < 2 := (i 0).isLt; omega
    rw [if_neg h, h0, ← e0]
    rfl

theorem grad_apply : out0_5 i x0 x1 x2 x3 x4 (ix3 0 p q) = if (i 0).val = 1 then total x1 p q else total x0 p q := by
  unfold out0_5
  rw [View.canon_unit_zero corner]
  refine Eq.trans ?_ (total_apply i x0 x1 x2 x3 x4 p q)
  pointwise [k0_pay5]

theorem change_apply : out0_6 i x0 x1 x2 x3 x4 (ix3 0 p q) = Adam.change (x2 (ix3 0 p q)) (if (i 0).val = 1 then total x1 p q else total x0 p q) (x3 (ix3 0 p q)) (x4 (ix3 0 p q)) := by
  unfold out0_6
  rw [View.canon_unit_zero corner, ← total_apply i x0 x1 x2 x3 x4 p q]
  simp only [View.ld_unit_zero (S := S1x176x1024) corner]
  pointwise [k0_pay8, k0_pay6, k0_pay7]
  rfl

theorem first_apply : out0_7 i x0 x1 x2 x3 x4 (ix3 0 p q) = Adam.first (if (i 0).val = 1 then total x1 p q else total x0 p q) (x3 (ix3 0 p q)) := by
  unfold out0_7
  rw [View.canon_unit_zero corner, ← total_apply i x0 x1 x2 x3 x4 p q]
  simp only [View.ld_unit_zero (S := S1x176x1024) corner]
  pointwise [k0_pay1, k0_pay6]
  rfl

theorem second_apply : out0_8 i x0 x1 x2 x3 x4 (ix3 0 p q) = Adam.second (if (i 0).val = 1 then total x1 p q else total x0 p q) (x4 (ix3 0 p q)) := by
  unfold out0_8
  rw [View.canon_unit_zero corner, ← total_apply i x0 x1 x2 x3 x4 p q]
  simp only [View.ld_unit_zero (S := S1x176x1024) corner]
  pointwise [k0_pay2, k0_pay7]
  rfl
end

/-! ## The blocks in the arrays -/

variable (m : (ℓ : Loc nD τ sig) → Buf (Elt Ideal) ℓ) (c : Dev nD)

theorem idx0 : ∀ t : Fin cfg0.N, win0_0.index t (0 : Fin 3) = 0 ∧ win0_0.index t (1 : Fin 3) = t.val % 4 ∧ win0_0.index t (2 : Fin 3) = 0 := (by decide +kernel : ∀ t : Fin grid0.N, _)

theorem idx1 : ∀ t : Fin cfg0.N, win0_1.index t (0 : Fin 3) = 0 ∧ win0_1.index t (1 : Fin 3) = t.val % 4 ∧ win0_1.index t (2 : Fin 3) = 0 := (by decide +kernel : ∀ t : Fin grid0.N, _)

theorem idx2 : ∀ t : Fin cfg0.N, win0_2.index t (0 : Fin 3) = t.val / 4 ∧ win0_2.index t (1 : Fin 3) = t.val % 4 ∧ win0_2.index t (2 : Fin 3) = 0 := (by decide +kernel : ∀ t : Fin grid0.N, _)

theorem idx3 : ∀ t : Fin cfg0.N, win0_3.index t (0 : Fin 3) = t.val / 4 ∧ win0_3.index t (1 : Fin 3) = t.val % 4 ∧ win0_3.index t (2 : Fin 3) = 0 := (by decide +kernel : ∀ t : Fin grid0.N, _)

theorem idx4 : ∀ t : Fin cfg0.N, win0_4.index t (0 : Fin 3) = t.val / 4 ∧ win0_4.index t (1 : Fin 3) = t.val % 4 ∧ win0_4.index t (2 : Fin 3) = 0 := (by decide +kernel : ∀ t : Fin grid0.N, _)

/-- The array's row of a block's row. -/
def row (t : Fin cfg0.N) (p : Fin 176) : Fin 704 := ⟨t.val % 4 * 176 + p.val, by have := p.isLt; omega⟩

/-- The layer a point works on. -/
def layer (t : Fin cfg0.N) : Fin 2 := ⟨t.val / 4, by have hN : cfg0.N = 8 := N_0; have := t.isLt; omega⟩

theorem blk0 (t : Fin cfg0.N) (j : Fin 8) (p : Fin 176) (q : Fin 1024) :
    iblk m c 0 t (ix3 j p q) = (V m c main_arg0 : Vec Ideal S8x704x1024 .bf16) (ix3 j (row t p) q) := by
  obtain ⟨e0, e1, e2⟩ := idx0 t
  unfold iblk
  rw [View.read_apply]
  show V m c main_arg0 _ = _
  congr 1
  funext a
  apply Fin.ext
  match a with
  | ⟨0, _⟩ => show win0_0.index t (0 : Fin 3) * 8 + 1 * j.val = j.val; omega
  | ⟨1, _⟩ => show win0_0.index t (1 : Fin 3) * 176 + 1 * p.val = t.val % 4 * 176 + p.val; omega
  | ⟨2, _⟩ => show win0_0.index t (2 : Fin 3) * 1024 + 1 * q.val = q.val; omega

theorem blk1 (t : Fin cfg0.N) (j : Fin 8) (p : Fin 176) (q : Fin 1024) :
    iblk m c 1 t (ix3 j p q) = (V m c main_arg1 : Vec Ideal S8x704x1024 .bf16) (ix3 j (row t p) q) := by
  obtain ⟨e0, e1, e2⟩ := idx1 t
  unfold iblk
  rw [View.read_apply]
  show V m c main_arg1 _ = _
  congr 1
  funext a
  apply Fin.ext
  match a with
  | ⟨0, _⟩ => show win0_1.index t (0 : Fin 3) * 8 + 1 * j.val = j.val; omega
  | ⟨1, _⟩ => show win0_1.index t (1 : Fin 3) * 176 + 1 * p.val = t.val % 4 * 176 + p.val; omega
  | ⟨2, _⟩ => show win0_1.index t (2 : Fin 3) * 1024 + 1 * q.val = q.val; omega

theorem blk2 (t : Fin cfg0.N) (p : Fin 176) (q : Fin 1024) :
    iblk m c 2 t (ix3 0 p q) = (V m c main_v0 : Vec Ideal S2x704x1024 .f32) (ix3 (layer t) (row t p) q) := by
  obtain ⟨e0, e1, e2⟩ := idx2 t
  unfold iblk
  rw [View.read_apply]
  show V m c main_v0 _ = _
  congr 1
  funext a
  apply Fin.ext
  match a with
  | ⟨0, _⟩ => show win0_2.index t (0 : Fin 3) * 1 + 1 * 0 = t.val / 4; omega
  | ⟨1, _⟩ => show win0_2.index t (1 : Fin 3) * 176 + 1 * p.val = t.val % 4 * 176 + p.val; omega
  | ⟨2, _⟩ => show win0_2.index t (2 : Fin 3) * 1024 + 1 * q.val = q.val; omega

theorem blk3 (t : Fin cfg0.N) (p : Fin 176) (q : Fin 1024) :
    iblk m c 3 t (ix3 0 p q) = (V m c main_v1 : Vec Ideal S2x704x1024 .f32) (ix3 (layer t) (row t p) q) := by
  obtain ⟨e0, e1, e2⟩ := idx3 t
  unfold iblk
  rw [View.read_apply]
  show V m c main_v1 _ = _
  congr 1
  funext a
  apply Fin.ext
  match a with
  | ⟨0, _⟩ => show win0_3.index t (0 : Fin 3) * 1 + 1 * 0 = t.val / 4; omega
  | ⟨1, _⟩ => show win0_3.index t (1 : Fin 3) * 176 + 1 * p.val = t.val % 4 * 176 + p.val; omega
  | ⟨2, _⟩ => show win0_3.index t (2 : Fin 3) * 1024 + 1 * q.val = q.val; omega

theorem blk4 (t : Fin cfg0.N) (p : Fin 176) (q : Fin 1024) :
    iblk m c 4 t (ix3 0 p q) = (V m c main_v2 : Vec Ideal S2x704x1024 .f32) (ix3 (layer t) (row t p) q) := by
  obtain ⟨e0, e1, e2⟩ := idx4 t
  unfold iblk
  rw [View.read_apply]
  show V m c main_v2 _ = _
  congr 1
  funext a
  apply Fin.ext
  match a with
  | ⟨0, _⟩ => show win0_4.index t (0 : Fin 3) * 1 + 1 * 0 = t.val / 4; omega
  | ⟨1, _⟩ => show win0_4.index t (1 : Fin 3) * 176 + 1 * p.val = t.val % 4 * 176 + p.val; omega
  | ⟨2, _⟩ => show win0_4.index t (2 : Fin 3) * 1024 + 1 * q.val = q.val; omega

theorem idx5 : ∀ t : Fin cfg0.N, win0_5.index t (0 : Fin 3) = t.val / 4 ∧ win0_5.index t (1 : Fin 3) = t.val % 4 ∧ win0_5.index t (2 : Fin 3) = 0
    ∧ win0_5.xsize (grid0.coords t) (0 : Fin 3) = 1 ∧ win0_5.xsize (grid0.coords t) (1 : Fin 3) = 176 ∧ win0_5.xsize (grid0.coords t) (2 : Fin 3) = 1024 := (by decide +kernel : ∀ t : Fin grid0.N, _)

/-- The blocks cover the array. -/
theorem cover5 (i : S2x704x1024.Idx) : ∃ t : Fin cfg0.N, (cfg0.win 5).flush t = true ∧ i ∈ ((cfg0.win 5).blk t).view.set := by
  have hN : cfg0.N = 8 := N_0
  have h0 : (i 0).val < 2 := (i 0).isLt
  have h1 : (i 1).val < 704 := (i 1).isLt
  have h2 : (i 2).val < 1024 := (i 2).isLt
  obtain ⟨t, ht⟩ : ∃ t : Fin cfg0.N, t.val = (i 0).val * 4 + (i 1).val / 176 := ⟨⟨(i 0).val * 4 + (i 1).val / 176, by omega⟩, rfl⟩
  refine ⟨t, flush0_5 t, ?_⟩
  obtain ⟨e0, e1, e2, n0, n1, n2⟩ := idx5 t
  show i ∈ ((View.whole main_v3_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + win0_5.xsize (grid0.coords t) (0 : Fin 3); rw [e0, n0]; omega
  | ⟨1, _⟩ => show win0_5.index t (1 : Fin 3) * 176 ≤ (i 1).val ∧ (i 1).val < win0_5.index t (1 : Fin 3) * 176 + win0_5.xsize (grid0.coords t) (1 : Fin 3); rw [e1, n1]; omega
  | ⟨2, _⟩ => show win0_5.index t (2 : Fin 3) * 1024 ≤ (i 2).val ∧ (i 2).val < win0_5.index t (2 : Fin 3) * 1024 + win0_5.xsize (grid0.coords t) (2 : Fin 3); rw [e2, n2]; omega

theorem whole5 (G : Vec Ideal S2x704x1024 .f32) (hG : ∀ (t : Fin cfg0.N) (p : Fin 176) (q : Fin 1024),
      out0_5 (grid0.coords t) (iblk m c 0 t) (iblk m c 1 t) (iblk m c 2 t) (iblk m c 3 t) (iblk m c 4 t) (ix3 0 p q) = G (ix3 (layer t) (row t p) q)) :
    ((dats m 0 c).arrAt 5 cfg0.N : Vec Ideal S2x704x1024 .f32) = G := by
  refine (dats m 0 c).arrAt_eq_of_cover 5 G (fun t _ => ?_) cover5
  obtain ⟨e0, e1, e2, -⟩ := idx5 t
  rw [flushed5]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_5.index t (0 : Fin 3) * 1 + 1 * 0; omega
  | ⟨1, _⟩ => show t.val % 4 * 176 + (i 1).val = win0_5.index t (1 : Fin 3) * 176 + 1 * (i 1).val; omega
  | ⟨2, _⟩ => show (i 2).val = win0_5.index t (2 : Fin 3) * 1024 + 1 * (i 2).val; omega

theorem idx6 : ∀ t : Fin cfg0.N, win0_6.index t (0 : Fin 3) = t.val / 4 ∧ win0_6.index t (1 : Fin 3) = t.val % 4 ∧ win0_6.index t (2 : Fin 3) = 0
    ∧ win0_6.xsize (grid0.coords t) (0 : Fin 3) = 1 ∧ win0_6.xsize (grid0.coords t) (1 : Fin 3) = 176 ∧ win0_6.xsize (grid0.coords t) (2 : Fin 3) = 1024 := (by decide +kernel : ∀ t : Fin grid0.N, _)

/-- The blocks cover the array. -/
theorem cover6 (i : S2x704x1024.Idx) : ∃ t : Fin cfg0.N, (cfg0.win 6).flush t = true ∧ i ∈ ((cfg0.win 6).blk t).view.set := by
  have hN : cfg0.N = 8 := N_0
  have h0 : (i 0).val < 2 := (i 0).isLt
  have h1 : (i 1).val < 704 := (i 1).isLt
  have h2 : (i 2).val < 1024 := (i 2).isLt
  obtain ⟨t, ht⟩ : ∃ t : Fin cfg0.N, t.val = (i 0).val * 4 + (i 1).val / 176 := ⟨⟨(i 0).val * 4 + (i 1).val / 176, by omega⟩, rfl⟩
  refine ⟨t, flush0_6 t, ?_⟩
  obtain ⟨e0, e1, e2, n0, n1, n2⟩ := idx6 t
  show i ∈ ((View.whole main_v3_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + win0_6.xsize (grid0.coords t) (0 : Fin 3); rw [e0, n0]; omega
  | ⟨1, _⟩ => show win0_6.index t (1 : Fin 3) * 176 ≤ (i 1).val ∧ (i 1).val < win0_6.index t (1 : Fin 3) * 176 + win0_6.xsize (grid0.coords t) (1 : Fin 3); rw [e1, n1]; omega
  | ⟨2, _⟩ => show win0_6.index t (2 : Fin 3) * 1024 ≤ (i 2).val ∧ (i 2).val < win0_6.index t (2 : Fin 3) * 1024 + win0_6.xsize (grid0.coords t) (2 : Fin 3); rw [e2, n2]; omega

theorem whole6 (G : Vec Ideal S2x704x1024 .f32) (hG : ∀ (t : Fin cfg0.N) (p : Fin 176) (q : Fin 1024),
      out0_6 (grid0.coords t) (iblk m c 0 t) (iblk m c 1 t) (iblk m c 2 t) (iblk m c 3 t) (iblk m c 4 t) (ix3 0 p q) = G (ix3 (layer t) (row t p) q)) :
    ((dats m 0 c).arrAt 6 cfg0.N : Vec Ideal S2x704x1024 .f32) = G := by
  refine (dats m 0 c).arrAt_eq_of_cover 6 G (fun t _ => ?_) cover6
  obtain ⟨e0, e1, e2, -⟩ := idx6 t
  rw [flushed6]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_6.index t (0 : Fin 3) * 1 + 1 * 0; omega
  | ⟨1, _⟩ => show t.val % 4 * 176 + (i 1).val = win0_6.index t (1 : Fin 3) * 176 + 1 * (i 1).val; omega
  | ⟨2, _⟩ => show (i 2).val = win0_6.index t (2 : Fin 3) * 1024 + 1 * (i 2).val; omega

theorem idx7 : ∀ t : Fin cfg0.N, win0_7.index t (0 : Fin 3) = t.val / 4 ∧ win0_7.index t (1 : Fin 3) = t.val % 4 ∧ win0_7.index t (2 : Fin 3) = 0
    ∧ win0_7.xsize (grid0.coords t) (0 : Fin 3) = 1 ∧ win0_7.xsize (grid0.coords t) (1 : Fin 3) = 176 ∧ win0_7.xsize (grid0.coords t) (2 : Fin 3) = 1024 := (by decide +kernel : ∀ t : Fin grid0.N, _)

/-- The blocks cover the array. -/
theorem cover7 (i : S2x704x1024.Idx) : ∃ t : Fin cfg0.N, (cfg0.win 7).flush t = true ∧ i ∈ ((cfg0.win 7).blk t).view.set := by
  have hN : cfg0.N = 8 := N_0
  have h0 : (i 0).val < 2 := (i 0).isLt
  have h1 : (i 1).val < 704 := (i 1).isLt
  have h2 : (i 2).val < 1024 := (i 2).isLt
  obtain ⟨t, ht⟩ : ∃ t : Fin cfg0.N, t.val = (i 0).val * 4 + (i 1).val / 176 := ⟨⟨(i 0).val * 4 + (i 1).val / 176, by omega⟩, rfl⟩
  refine ⟨t, flush0_7 t, ?_⟩
  obtain ⟨e0, e1, e2, n0, n1, n2⟩ := idx7 t
  show i ∈ ((View.whole main_v3_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + win0_7.xsize (grid0.coords t) (0 : Fin 3); rw [e0, n0]; omega
  | ⟨1, _⟩ => show win0_7.index t (1 : Fin 3) * 176 ≤ (i 1).val ∧ (i 1).val < win0_7.index t (1 : Fin 3) * 176 + win0_7.xsize (grid0.coords t) (1 : Fin 3); rw [e1, n1]; omega
  | ⟨2, _⟩ => show win0_7.index t (2 : Fin 3) * 1024 ≤ (i 2).val ∧ (i 2).val < win0_7.index t (2 : Fin 3) * 1024 + win0_7.xsize (grid0.coords t) (2 : Fin 3); rw [e2, n2]; omega

theorem whole7 (G : Vec Ideal S2x704x1024 .f32) (hG : ∀ (t : Fin cfg0.N) (p : Fin 176) (q : Fin 1024),
      out0_7 (grid0.coords t) (iblk m c 0 t) (iblk m c 1 t) (iblk m c 2 t) (iblk m c 3 t) (iblk m c 4 t) (ix3 0 p q) = G (ix3 (layer t) (row t p) q)) :
    ((dats m 0 c).arrAt 7 cfg0.N : Vec Ideal S2x704x1024 .f32) = G := by
  refine (dats m 0 c).arrAt_eq_of_cover 7 G (fun t _ => ?_) cover7
  obtain ⟨e0, e1, e2, -⟩ := idx7 t
  rw [flushed7]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_7.index t (0 : Fin 3) * 1 + 1 * 0; omega
  | ⟨1, _⟩ => show t.val % 4 * 176 + (i 1).val = win0_7.index t (1 : Fin 3) * 176 + 1 * (i 1).val; omega
  | ⟨2, _⟩ => show (i 2).val = win0_7.index t (2 : Fin 3) * 1024 + 1 * (i 2).val; omega

theorem idx8 : ∀ t : Fin cfg0.N, win0_8.index t (0 : Fin 3) = t.val / 4 ∧ win0_8.index t (1 : Fin 3) = t.val % 4 ∧ win0_8.index t (2 : Fin 3) = 0
    ∧ win0_8.xsize (grid0.coords t) (0 : Fin 3) = 1 ∧ win0_8.xsize (grid0.coords t) (1 : Fin 3) = 176 ∧ win0_8.xsize (grid0.coords t) (2 : Fin 3) = 1024 := (by decide +kernel : ∀ t : Fin grid0.N, _)

/-- The blocks cover the array. -/
theorem cover8 (i : S2x704x1024.Idx) : ∃ t : Fin cfg0.N, (cfg0.win 8).flush t = true ∧ i ∈ ((cfg0.win 8).blk t).view.set := by
  have hN : cfg0.N = 8 := N_0
  have h0 : (i 0).val < 2 := (i 0).isLt
  have h1 : (i 1).val < 704 := (i 1).isLt
  have h2 : (i 2).val < 1024 := (i 2).isLt
  obtain ⟨t, ht⟩ : ∃ t : Fin cfg0.N, t.val = (i 0).val * 4 + (i 1).val / 176 := ⟨⟨(i 0).val * 4 + (i 1).val / 176, by omega⟩, rfl⟩
  refine ⟨t, flush0_8 t, ?_⟩
  obtain ⟨e0, e1, e2, n0, n1, n2⟩ := idx8 t
  show i ∈ ((View.whole main_v3_3).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + win0_8.xsize (grid0.coords t) (0 : Fin 3); rw [e0, n0]; omega
  | ⟨1, _⟩ => show win0_8.index t (1 : Fin 3) * 176 ≤ (i 1).val ∧ (i 1).val < win0_8.index t (1 : Fin 3) * 176 + win0_8.xsize (grid0.coords t) (1 : Fin 3); rw [e1, n1]; omega
  | ⟨2, _⟩ => show win0_8.index t (2 : Fin 3) * 1024 ≤ (i 2).val ∧ (i 2).val < win0_8.index t (2 : Fin 3) * 1024 + win0_8.xsize (grid0.coords t) (2 : Fin 3); rw [e2, n2]; omega

theorem whole8 (G : Vec Ideal S2x704x1024 .f32) (hG : ∀ (t : Fin cfg0.N) (p : Fin 176) (q : Fin 1024),
      out0_8 (grid0.coords t) (iblk m c 0 t) (iblk m c 1 t) (iblk m c 2 t) (iblk m c 3 t) (iblk m c 4 t) (ix3 0 p q) = G (ix3 (layer t) (row t p) q)) :
    ((dats m 0 c).arrAt 8 cfg0.N : Vec Ideal S2x704x1024 .f32) = G := by
  refine (dats m 0 c).arrAt_eq_of_cover 8 G (fun t _ => ?_) cover8
  obtain ⟨e0, e1, e2, -⟩ := idx8 t
  rw [flushed8]
  funext i
  rw [View.read_apply]
  change (⟨3, ![1, 176, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_8.index t (0 : Fin 3) * 1 + 1 * 0; omega
  | ⟨1, _⟩ => show t.val % 4 * 176 + (i 1).val = win0_8.index t (1 : Fin 3) * 176 + 1 * (i 1).val; omega
  | ⟨2, _⟩ => show (i 2).val = win0_8.index t (2 : Fin 3) * 1024 + 1 * (i 2).val; omega

/-- The summed gradient. -/
def grad (a b : Vec Ideal S8x704x1024 .bf16) (i : S2x704x1024.Idx) : EReal := if (i 0).val = 1 then total b (i 1) (i 2) else total a (i 1) (i 2)

theorem coord : ∀ t : Fin cfg0.N, (grid0.coords t 0).val = t.val / 4 := (by decide +kernel : ∀ t : Fin grid0.N, _)

theorem grad_block (t : Fin cfg0.N) (p : Fin 176) (q : Fin 1024) :
    (if (grid0.coords t 0).val = 1 then total (iblk m c 1 t) p q else total (iblk m c 0 t) p q)
      = grad (V m c main_arg0) (V m c main_arg1) (ix3 (layer t) (row t p) q) := by
  unfold total
  simp only [blk0, blk1, coord]
  rfl

theorem arr5 : ((dats m 0 c).arrAt 5 cfg0.N : Vec Ideal S2x704x1024 .f32) = fun i => (grad (V m c main_arg0) (V m c main_arg1) i) :=
  whole5 m c _ fun t p q => (grad_apply _ _ _ _ _ _ p q).trans (grad_block m c t p q)

theorem arr6 : ((dats m 0 c).arrAt 6 cfg0.N : Vec Ideal S2x704x1024 .f32) = fun i => Adam.change ((V m c main_v0 : Vec Ideal S2x704x1024 .f32) i) (grad (V m c main_arg0) (V m c main_arg1) i) ((V m c main_v1 : Vec Ideal S2x704x1024 .f32) i) ((V m c main_v2 : Vec Ideal S2x704x1024 .f32) i) :=
  whole6 m c _ fun t p q => (change_apply _ _ _ _ _ _ p q).trans (by rw [grad_block m c t p q, blk2, blk3, blk4])

theorem arr7 : ((dats m 0 c).arrAt 7 cfg0.N : Vec Ideal S2x704x1024 .f32) = fun i => Adam.first (grad (V m c main_arg0) (V m c main_arg1) i) ((V m c main_v1 : Vec Ideal S2x704x1024 .f32) i) :=
  whole7 m c _ fun t p q => (first_apply _ _ _ _ _ _ p q).trans (by rw [grad_block m c t p q, blk3])

theorem arr8 : ((dats m 0 c).arrAt 8 cfg0.N : Vec Ideal S2x704x1024 .f32) = fun i => Adam.second (grad (V m c main_arg0) (V m c main_arg1) i) ((V m c main_v2 : Vec Ideal S2x704x1024 .f32) i) :=
  whole8 m c _ fun t p q => (second_apply _ _ _ _ _ _ p q).trans (by rw [grad_block m c t p q, blk4])

end Cert.Kernel14Ideal.Update

end
-- ==== Proof.UpdGuClaim.lean ====
/-
  The update of the two layers' gate and up projections, stored transposed: the kernel's four arrays are the reference's.
-/
module

public import proofs.«01_k».proof.Defs
public import proofs.«01_k».proof.Proof.UpdGu
public import proofs.«01_k».proof.Proof.Gen.Kernel14Ideal
public import proofs.«01_k».proof.Proof.Gen.Reference14Ideal.Run
public import Idealize.ShloMosaic.Lib.Claim

@[expose] public section

set_option maxRecDepth 16384

noncomputable section

namespace Cert.Kernel14Ideal.Update

open Cert.Kernel14Ideal Cert.Kernel14Ideal.Gen Cert.Kernel14Ideal.Value Idealize.ShloMosaic Idealize.ShloMosaic.TcCoe Idealize.SL.Sem

/-! The call's own arrays are the arguments transposed. -/

theorem host_v0 (m : (ℓ : Loc nD τ sig) → Buf (Elt Ideal) ℓ) (c : Dev nD) :
    (V m c main_v0 : Vec Ideal S2x704x1024 .f32) = transpose S2x704x1024 [0, 2, 1] (m ((c : Thread nD τ).loc main_arg2) : Vec Ideal S2x1024x704 .f32) transposes_S2x1024x704_S2x704x1024_0_2_1 := by
  unfold V
  after_results
  try rfl

theorem host_v1 (m : (ℓ : Loc nD τ sig) → Buf (Elt Ideal) ℓ) (c : Dev nD) :
    (V m c main_v1 : Vec Ideal S2x704x1024 .f32) = transpose S2x704x1024 [0, 2, 1] (m ((c : Thread nD τ).loc main_arg3) : Vec Ideal S2x1024x704 .f32) transposes_S2x1024x704_S2x704x1024_0_2_1 := by
  unfold V
  after_results
  try rfl

theorem host_v2 (m : (ℓ : Loc nD τ sig) → Buf (Elt Ideal) ℓ) (c : Dev nD) :
    (V m c main_v2 : Vec Ideal S2x704x1024 .f32) = transpose S2x704x1024 [0, 2, 1] (m ((c : Thread nD τ).loc main_arg4) : Vec Ideal S2x1024x704 .f32) transposes_S2x1024x704_S2x704x1024_0_2_1 := by
  unfold V
  after_results
  try rfl

theorem transpose_021 (x : Vec Ideal S2x1024x704 .f32) (i : S2x704x1024.Idx) :
    transpose S2x704x1024 [0, 2, 1] x transposes_S2x1024x704_S2x704x1024_0_2_1 i = x (ix3 (i 0) (i 2) (i 1)) := by
  idx_vars i
  pointwise []

/-! The call's arrays of the arguments. -/

theorem result5 (m : (ℓ : Loc nD τ sig) → Buf (Elt Ideal) ℓ) (c : Dev nD) :
    ((dats m 0 c).arrAt 5 cfg0.N : Vec Ideal S2x704x1024 .f32) = fun i => (grad (m ((c : Thread nD τ).loc main_arg0)) (m ((c : Thread nD τ).loc main_arg1)) i) :=
  (arr5 m c).trans (funext fun i => by rw [V_main_arg0, V_main_arg1])

theorem result6 (m : (ℓ : Loc nD τ sig) → Buf (Elt Ideal) ℓ) (c : Dev nD) :
    ((dats m 0 c).arrAt 6 cfg0.N : Vec Ideal S2x704x1024 .f32) = fun i => Adam.change ((m ((c : Thread nD τ).loc main_arg2) : Vec Ideal S2x1024x704 .f32) (ix3 (i 0) (i 2) (i 1))) (grad (m ((c : Thread nD τ).loc main_arg0)) (m ((c : Thread nD τ).loc main_arg1)) i) ((m ((c : Thread nD τ).loc main_arg3) : Vec Ideal S2x1024x704 .f32) (ix3 (i 0) (i 2) (i 1))) ((m ((c : Thread nD τ).loc main_arg4) : Vec Ideal S2x1024x704 .f32) (ix3 (i 0) (i 2) (i 1))) :=
  (arr6 m c).trans (funext fun i => by rw [V_main_arg0, V_main_arg1, host_v0, host_v1, host_v2, transpose_021, transpose_021, transpose_021])

theorem result7 (m : (ℓ : Loc nD τ sig) → Buf (Elt Ideal) ℓ) (c : Dev nD) :
    ((dats m 0 c).arrAt 7 cfg0.N : Vec Ideal S2x704x1024 .f32) = fun i => Adam.first (grad (m ((c : Thread nD τ).loc main_arg0)) (m ((c : Thread nD τ).loc main_arg1)) i) ((m ((c : Thread nD τ).loc main_arg3) : Vec Ideal S2x1024x704 .f32) (ix3 (i 0) (i 2) (i 1))) :=
  (arr7 m c).trans (funext fun i => by rw [V_main_arg0, V_main_arg1, host_v1, transpose_021])

theorem result8 (m : (ℓ : Loc nD τ sig) → Buf (Elt Ideal) ℓ) (c : Dev nD) :
    ((dats m 0 c).arrAt 8 cfg0.N : Vec Ideal S2x704x1024 .f32) = fun i => Adam.second (grad (m ((c : Thread nD τ).loc main_arg0)) (m ((c : Thread nD τ).loc main_arg1)) i) ((m ((c : Thread nD τ).loc main_arg4) : Vec Ideal S2x1024x704 .f32) (ix3 (i 0) (i 2) (i 1))) :=
  (arr8 m c).trans (funext fun i => by rw [V_main_arg0, V_main_arg1, host_v2, transpose_021])

end Cert.Kernel14Ideal.Update

namespace Cert.Reference14Ideal.Update

open Cert.Reference14Ideal Cert.Reference14Ideal.Gen Idealize.ShloMosaic Idealize.ShloMosaic.TcCoe Idealize.SL.Sem

/-- The reference's summed gradient at an index. -/
theorem reference_grad (a0 : Vec Ideal S8x704x1024 .bf16) (a1 : Vec Ideal S8x704x1024 .bf16) (i : S2x1024x704.Idx) :
    (concatenate S2x1024x704 0 [⟨S1x1024x704, (broadcastInDim S1x1024x704 ![1, 2] bcast_S1024x704_S1x1024x704_1_2 (transpose S1024x704 [1, 0] (Host.reduceAdd (F := Ideal) (extf .f32 a0 bitsLt_bf16_f32) (constant S_ .f32 0x00000000#32) reducesTo_S8x704x1024_S704x1024_d0 h_S_) transposes_S704x1024_S1024x704_1_0))⟩, ⟨S1x1024x704, (broadcastInDim S1x1024x704 ![1, 2] bcast_S1024x704_S1x1024x704_1_2 (transpose S1024x704 [1, 0] (Host.reduceAdd (F := Ideal) (extf .f32 a1 bitsLt_bf16_f32) (constant S_ .f32 0x00000000#32) reducesTo_S8x704x1024_S704x1024_d0 h_S_) transposes_S704x1024_S1024x704_1_0))⟩] concatenates_S1x1024x704_S1x1024x704_S2x1024x704_d0) i
      = Cert.Kernel14Ideal.Update.grad a0 a1 (ix3 (i 0) (i 2) (i 1)) := by
  unfold Cert.Kernel14Ideal.Update.grad Adam.total
  idx_vars i
  rcases Nat.lt_or_ge i0.val 1 with h0 | h0
  · refine Eq.trans ?_ (if_neg (show ¬ i0.val = 1 by omega)).symm
    pointwise [dif_pos h0]
  · have h1 : i0.val < 2 := i0.isLt
    refine Eq.trans ?_ (if_pos (show i0.val = 1 by omega)).symm
    pointwise [dif_neg (show ¬ i0.val < 1 by omega)]

theorem turned_grad (a0 : Vec Ideal S8x704x1024 .bf16) (a1 : Vec Ideal S8x704x1024 .bf16) (i : S2x704x1024.Idx) :
    (concatenate S2x1024x704 0 [⟨S1x1024x704, (broadcastInDim S1x1024x704 ![1, 2] bcast_S1024x704_S1x1024x704_1_2 (transpose S1024x704 [1, 0] (Host.reduceAdd (F := Ideal) (extf .f32 a0 bitsLt_bf16_f32) (constant S_ .f32 0x00000000#32) reducesTo_S8x704x1024_S704x1024_d0 h_S_) transposes_S704x1024_S1024x704_1_0))⟩, ⟨S1x1024x704, (broadcastInDim S1x1024x704 ![1, 2] bcast_S1024x704_S1x1024x704_1_2 (transpose S1024x704 [1, 0] (Host.reduceAdd (F := Ideal) (extf .f32 a1 bitsLt_bf16_f32) (constant S_ .f32 0x00000000#32) reducesTo_S8x704x1024_S704x1024_d0 h_S_) transposes_S704x1024_S1024x704_1_0))⟩] concatenates_S1x1024x704_S1x1024x704_S2x1024x704_d0) (ix3 (i 0) (i 2) (i 1))
      = Cert.Kernel14Ideal.Update.grad a0 a1 i :=
  (reference_grad _ _ _).trans (congrArg _ (eq_ix3 i).symm)

end Cert.Reference14Ideal.Update

namespace Cert

open Idealize.ShloMosaic Idealize.SL.Sem
open Cert.Reference14Ideal.Update (turned_grad)

theorem updgu_algebraic : algebraic_Kernel14Ideal_Reference14Ideal (hKernel14Ideal := Cert.Kernel14Ideal.Gen.facts)
    (hReference14Ideal := Cert.Reference14Ideal.Gen.facts) := by
  intro m g m' g' _ hargs
  refine ⟨_, _, _, _, Cert.Kernel14Ideal.Value.run_blocks m g, ?_⟩
  refine (θ_run _ _ _).mono (fun r h c => ?_) (Cert.Reference14Ideal.Value.run m' g')
  obtain ⟨r0, r1, r2, r3, rest⟩ := h c
  obtain ⟨h0, h1, h2, h3, h4⟩ := hargs c
  refine ⟨?_, ?_, ?_, ?_, rest⟩
  · refine r0.trans ?_
    rw [h0, h1, Cert.Kernel14Ideal.Update.result5]
    funext i
    exact (Cert.Kernel14Ideal.Update.transpose_021 _ i).trans (turned_grad _ _ i)
  · refine r1.trans ?_
    rw [h0, h1, h2, h3, h4, Cert.Kernel14Ideal.Update.result6]
    funext i
    exact (Cert.Kernel14Ideal.Update.transpose_021 _ i).trans ((Adam.host_change ..).trans (by rw [turned_grad]))
  · refine r2.trans ?_
    rw [h0, h1, h3, Cert.Kernel14Ideal.Update.result7]
    funext i
    exact (Cert.Kernel14Ideal.Update.transpose_021 _ i).trans ((Adam.host_first ..).trans (by rw [turned_grad]))
  · refine r3.trans ?_
    rw [h0, h1, h4, Cert.Kernel14Ideal.Update.result8]
    funext i
    exact (Cert.Kernel14Ideal.Update.transpose_021 _ i).trans ((Adam.host_second ..).trans (by rw [turned_grad]))

end Cert

end
-- ==== Proof.UpdO.lean ====
module

public import proofs.«01_k».proof.Proof.Gen.Kernel12Ideal.Value
public import proofs.«01_k».proof.Proof.Adam

@[expose] public section

set_option maxRecDepth 16384

noncomputable section

/-! # The update of the attention's output projection (and, at the same shapes, of the second pointwise convolution)

A block of 128 rows is read from each of the eight devices' parts, summed, and stepped; the 1 blocks tile the arrays. -/

namespace Cert.Kernel12Ideal.Update

open Cert.Kernel12Ideal Cert.Kernel12Ideal.Gen Cert.Kernel12Ideal.Value Idealize.ShloMosaic Idealize.ShloMosaic.TcCoe
  Idealize.SL.Sem
open Cert.Adam (corner total)

section
variable (x0 : Vec Ideal S8x128x1024 .bf16) (x1 x2 x3 : Vec Ideal S1x128x1024 .f32) (p : Fin 128) (q : Fin 1024)

theorem total_apply : k0_pay8 x0 x1 x2 x3 (ix2 p q) = total x0 p q := by
  unfold k0_pay8 total
  pointwise [k0_pay3]
  rw [Fin.sum_univ_eight]

theorem grad_apply : out0_4 x0 x1 x2 x3 (ix3 0 p q) = total x0 p q := by
  unfold out0_4
  rw [View.canon_unit_zero corner]
  refine Eq.trans ?_ (total_apply x0 x1 x2 x3 p q)
  pointwise [k0_pay4]

theorem change_apply : out0_5 x0 x1 x2 x3 (ix3 0 p q) = Adam.change (x1 (ix3 0 p q)) (total x0 p q) (x2 (ix3 0 p q)) (x3 (ix3 0 p q)) := by
  unfold out0_5
  rw [View.canon_unit_zero corner, ← total_apply x0 x1 x2 x3 p q]
  simp only [View.ld_unit_zero (S := S1x128x1024) corner]
  pointwise [k0_pay7, k0_pay5, k0_pay6]
  rfl

theorem first_apply : out0_6 x0 x1 x2 x3 (ix3 0 p q) = Adam.first (total x0 p q) (x2 (ix3 0 p q)) := by
  unfold out0_6
  rw [View.canon_unit_zero corner, ← total_apply x0 x1 x2 x3 p q]
  simp only [View.ld_unit_zero (S := S1x128x1024) corner]
  pointwise [k0_pay1, k0_pay5]
  rfl

theorem second_apply : out0_7 x0 x1 x2 x3 (ix3 0 p q) = Adam.second (total x0 p q) (x3 (ix3 0 p q)) := by
  unfold out0_7
  rw [View.canon_unit_zero corner, ← total_apply x0 x1 x2 x3 p q]
  simp only [View.ld_unit_zero (S := S1x128x1024) corner]
  pointwise [k0_pay2, k0_pay6]
  rfl
end

/-! ## The blocks in the arrays -/

variable (m : (ℓ : Loc nD τ sig) → Buf (Elt Ideal) ℓ) (c : Dev nD)

theorem idx0 : ∀ t : Fin cfg0.N, win0_0.index t (0 : Fin 3) = 0 ∧ win0_0.index t (1 : Fin 3) = 0 ∧ win0_0.index t (2 : Fin 3) = 0 := (by decide +kernel : ∀ t : Fin grid0.N, _)

theorem idx1 : ∀ t : Fin cfg0.N, win0_1.index t (0 : Fin 3) = t.val / 1 ∧ win0_1.index t (1 : Fin 3) = 0 ∧ win0_1.index t (2 : Fin 3) = 0 := (by decide +kernel : ∀ t : Fin grid0.N, _)

theorem idx2 : ∀ t : Fin cfg0.N, win0_2.index t (0 : Fin 3) = t.val / 1 ∧ win0_2.index t (1 : Fin 3) = 0 ∧ win0_2.index t (2 : Fin 3) = 0 := (by decide +kernel : ∀ t : Fin grid0.N, _)

theorem idx3 : ∀ t : Fin cfg0.N, win0_3.index t (0 : Fin 3) = t.val / 1 ∧ win0_3.index t (1 : Fin 3) = 0 ∧ win0_3.index t (2 : Fin 3) = 0 := (by decide +kernel : ∀ t : Fin grid0.N, _)

/-- The array's row of a block's row. -/
def row (t : Fin cfg0.N) (p : Fin 128) : Fin 128 := ⟨0 * 128 + p.val, by have := p.isLt; omega⟩

/-- The layer a point works on. -/
def layer (t : Fin cfg0.N) : Fin 1 := ⟨t.val / 1, by have hN : cfg0.N = 1 := N_0; have := t.isLt; omega⟩

theorem blk0 (t : Fin cfg0.N) (j : Fin 8) (p : Fin 128) (q : Fin 1024) :
    iblk m c 0 t (ix3 j p q) = (V m c main_arg0 : Vec Ideal S8x128x1024 .bf16) (ix3 j (row t p) q) := by
  obtain ⟨e0, e1, e2⟩ := idx0 t
  unfold iblk
  rw [View.read_apply]
  show V m c main_arg0 _ = _
  congr 1
  funext a
  apply Fin.ext
  match a with
  | ⟨0, _⟩ => show win0_0.index t (0 : Fin 3) * 8 + 1 * j.val = j.val; omega
  | ⟨1, _⟩ => show win0_0.index t (1 : Fin 3) * 128 + 1 * p.val = 0 * 128 + p.val; omega
  | ⟨2, _⟩ => show win0_0.index t (2 : Fin 3) * 1024 + 1 * q.val = q.val; omega

theorem blk1 (t : Fin cfg0.N) (p : Fin 128) (q : Fin 1024) :
    iblk m c 1 t (ix3 0 p q) = (V m c main_arg1 : Vec Ideal S1x128x1024 .f32) (ix3 (layer t) (row t p) q) := by
  obtain ⟨e0, e1, e2⟩ := idx1 t
  unfold iblk
  rw [View.read_apply]
  show V m c main_arg1 _ = _
  congr 1
  funext a
  apply Fin.ext
  match a with
  | ⟨0, _⟩ => show win0_1.index t (0 : Fin 3) * 1 + 1 * 0 = t.val / 1; omega
  | ⟨1, _⟩ => show win0_1.index t (1 : Fin 3) * 128 + 1 * p.val = 0 * 128 + p.val; omega
  | ⟨2, _⟩ => show win0_1.index t (2 : Fin 3) * 1024 + 1 * q.val = q.val; omega

theorem blk2 (t : Fin cfg0.N) (p : Fin 128) (q : Fin 1024) :
    iblk m c 2 t (ix3 0 p q) = (V m c main_arg2 : Vec Ideal S1x128x1024 .f32) (ix3 (layer t) (row t p) q) := by
  obtain ⟨e0, e1, e2⟩ := idx2 t
  unfold iblk
  rw [View.read_apply]
  show V m c main_arg2 _ = _
  congr 1
  funext a
  apply Fin.ext
  match a with
  | ⟨0, _⟩ => show win0_2.index t (0 : Fin 3) * 1 + 1 * 0 = t.val / 1; omega
  | ⟨1, _⟩ => show win0_2.index t (1 : Fin 3) * 128 + 1 * p.val = 0 * 128 + p.val; omega
  | ⟨2, _⟩ => show win0_2.index t (2 : Fin 3) * 1024 + 1 * q.val = q.val; omega

theorem blk3 (t : Fin cfg0.N) (p : Fin 128) (q : Fin 1024) :
    iblk m c 3 t (ix3 0 p q) = (V m c main_arg3 : Vec Ideal S1x128x1024 .f32) (ix3 (layer t) (row t p) q) := by
  obtain ⟨e0, e1, e2⟩ := idx3 t
  unfold iblk
  rw [View.read_apply]
  show V m c main_arg3 _ = _
  congr 1
  funext a
  apply Fin.ext
  match a with
  | ⟨0, _⟩ => show win0_3.index t (0 : Fin 3) * 1 + 1 * 0 = t.val / 1; omega
  | ⟨1, _⟩ => show win0_3.index t (1 : Fin 3) * 128 + 1 * p.val = 0 * 128 + p.val; omega
  | ⟨2, _⟩ => show win0_3.index t (2 : Fin 3) * 1024 + 1 * q.val = q.val; omega

theorem idx4 : ∀ t : Fin cfg0.N, win0_4.index t (0 : Fin 3) = t.val / 1 ∧ win0_4.index t (1 : Fin 3) = 0 ∧ win0_4.index t (2 : Fin 3) = 0
    ∧ win0_4.xsize (grid0.coords t) (0 : Fin 3) = 1 ∧ win0_4.xsize (grid0.coords t) (1 : Fin 3) = 128 ∧ win0_4.xsize (grid0.coords t) (2 : Fin 3) = 1024 := (by decide +kernel : ∀ t : Fin grid0.N, _)

/-- The blocks cover the array. -/
theorem cover4 (i : S1x128x1024.Idx) : ∃ t : Fin cfg0.N, (cfg0.win 4).flush t = true ∧ i ∈ ((cfg0.win 4).blk t).view.set := by
  have hN : cfg0.N = 1 := N_0
  have h0 : (i 0).val < 1 := (i 0).isLt
  have h1 : (i 1).val < 128 := (i 1).isLt
  have h2 : (i 2).val < 1024 := (i 2).isLt
  obtain ⟨t, ht⟩ : ∃ t : Fin cfg0.N, t.val = (i 0).val * 1 + (i 1).val / 128 := ⟨⟨(i 0).val * 1 + (i 1).val / 128, by omega⟩, rfl⟩
  refine ⟨t, flush0_4 t, ?_⟩
  obtain ⟨e0, e1, e2, n0, n1, n2⟩ := idx4 t
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + win0_4.xsize (grid0.coords t) (0 : Fin 3); rw [e0, n0]; omega
  | ⟨1, _⟩ => show win0_4.index t (1 : Fin 3) * 128 ≤ (i 1).val ∧ (i 1).val < win0_4.index t (1 : Fin 3) * 128 + win0_4.xsize (grid0.coords t) (1 : Fin 3); rw [e1, n1]; omega
  | ⟨2, _⟩ => show win0_4.index t (2 : Fin 3) * 1024 ≤ (i 2).val ∧ (i 2).val < win0_4.index t (2 : Fin 3) * 1024 + win0_4.xsize (grid0.coords t) (2 : Fin 3); rw [e2, n2]; omega

theorem whole4 (G : Vec Ideal S1x128x1024 .f32) (hG : ∀ (t : Fin cfg0.N) (p : Fin 128) (q : Fin 1024),
      out0_4 (iblk m c 0 t) (iblk m c 1 t) (iblk m c 2 t) (iblk m c 3 t) (ix3 0 p q) = G (ix3 (layer t) (row t p) q)) :
    ((dats m 0 c).arrAt 4 cfg0.N : Vec Ideal S1x128x1024 .f32) = G := by
  refine (dats m 0 c).arrAt_eq_of_cover 4 G (fun t _ => ?_) cover4
  obtain ⟨e0, e1, e2, -⟩ := idx4 t
  rw [flushed4]
  funext i
  rw [View.read_apply]
  change (⟨3, ![1, 128, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 1 = win0_4.index t (0 : Fin 3) * 1 + 1 * 0; omega
  | ⟨1, _⟩ => show 0 * 128 + (i 1).val = win0_4.index t (1 : Fin 3) * 128 + 1 * (i 1).val; omega
  | ⟨2, _⟩ => show (i 2).val = win0_4.index t (2 : Fin 3) * 1024 + 1 * (i 2).val; omega

theorem idx5 : ∀ t : Fin cfg0.N, win0_5.index t (0 : Fin 3) = t.val / 1 ∧ win0_5.index t (1 : Fin 3) = 0 ∧ win0_5.index t (2 : Fin 3) = 0
    ∧ win0_5.xsize (grid0.coords t) (0 : Fin 3) = 1 ∧ win0_5.xsize (grid0.coords t) (1 : Fin 3) = 128 ∧ win0_5.xsize (grid0.coords t) (2 : Fin 3) = 1024 := (by decide +kernel : ∀ t : Fin grid0.N, _)

/-- The blocks cover the array. -/
theorem cover5 (i : S1x128x1024.Idx) : ∃ t : Fin cfg0.N, (cfg0.win 5).flush t = true ∧ i ∈ ((cfg0.win 5).blk t).view.set := by
  have hN : cfg0.N = 1 := N_0
  have h0 : (i 0).val < 1 := (i 0).isLt
  have h1 : (i 1).val < 128 := (i 1).isLt
  have h2 : (i 2).val < 1024 := (i 2).isLt
  obtain ⟨t, ht⟩ : ∃ t : Fin cfg0.N, t.val = (i 0).val * 1 + (i 1).val / 128 := ⟨⟨(i 0).val * 1 + (i 1).val / 128, by omega⟩, rfl⟩
  refine ⟨t, flush0_5 t, ?_⟩
  obtain ⟨e0, e1, e2, n0, n1, n2⟩ := idx5 t
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + win0_5.xsize (grid0.coords t) (0 : Fin 3); rw [e0, n0]; omega
  | ⟨1, _⟩ => show win0_5.index t (1 : Fin 3) * 128 ≤ (i 1).val ∧ (i 1).val < win0_5.index t (1 : Fin 3) * 128 + win0_5.xsize (grid0.coords t) (1 : Fin 3); rw [e1, n1]; omega
  | ⟨2, _⟩ => show win0_5.index t (2 : Fin 3) * 1024 ≤ (i 2).val ∧ (i 2).val < win0_5.index t (2 : Fin 3) * 1024 + win0_5.xsize (grid0.coords t) (2 : Fin 3); rw [e2, n2]; omega

theorem whole5 (G : Vec Ideal S1x128x1024 .f32) (hG : ∀ (t : Fin cfg0.N) (p : Fin 128) (q : Fin 1024),
      out0_5 (iblk m c 0 t) (iblk m c 1 t) (iblk m c 2 t) (iblk m c 3 t) (ix3 0 p q) = G (ix3 (layer t) (row t p) q)) :
    ((dats m 0 c).arrAt 5 cfg0.N : Vec Ideal S1x128x1024 .f32) = G := by
  refine (dats m 0 c).arrAt_eq_of_cover 5 G (fun t _ => ?_) cover5
  obtain ⟨e0, e1, e2, -⟩ := idx5 t
  rw [flushed5]
  funext i
  rw [View.read_apply]
  change (⟨3, ![1, 128, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 1 = win0_5.index t (0 : Fin 3) * 1 + 1 * 0; omega
  | ⟨1, _⟩ => show 0 * 128 + (i 1).val = win0_5.index t (1 : Fin 3) * 128 + 1 * (i 1).val; omega
  | ⟨2, _⟩ => show (i 2).val = win0_5.index t (2 : Fin 3) * 1024 + 1 * (i 2).val; omega

theorem idx6 : ∀ t : Fin cfg0.N, win0_6.index t (0 : Fin 3) = t.val / 1 ∧ win0_6.index t (1 : Fin 3) = 0 ∧ win0_6.index t (2 : Fin 3) = 0
    ∧ win0_6.xsize (grid0.coords t) (0 : Fin 3) = 1 ∧ win0_6.xsize (grid0.coords t) (1 : Fin 3) = 128 ∧ win0_6.xsize (grid0.coords t) (2 : Fin 3) = 1024 := (by decide +kernel : ∀ t : Fin grid0.N, _)

/-- The blocks cover the array. -/
theorem cover6 (i : S1x128x1024.Idx) : ∃ t : Fin cfg0.N, (cfg0.win 6).flush t = true ∧ i ∈ ((cfg0.win 6).blk t).view.set := by
  have hN : cfg0.N = 1 := N_0
  have h0 : (i 0).val < 1 := (i 0).isLt
  have h1 : (i 1).val < 128 := (i 1).isLt
  have h2 : (i 2).val < 1024 := (i 2).isLt
  obtain ⟨t, ht⟩ : ∃ t : Fin cfg0.N, t.val = (i 0).val * 1 + (i 1).val / 128 := ⟨⟨(i 0).val * 1 + (i 1).val / 128, by omega⟩, rfl⟩
  refine ⟨t, flush0_6 t, ?_⟩
  obtain ⟨e0, e1, e2, n0, n1, n2⟩ := idx6 t
  show i ∈ ((View.whole main_v0_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + win0_6.xsize (grid0.coords t) (0 : Fin 3); rw [e0, n0]; omega
  | ⟨1, _⟩ => show win0_6.index t (1 : Fin 3) * 128 ≤ (i 1).val ∧ (i 1).val < win0_6.index t (1 : Fin 3) * 128 + win0_6.xsize (grid0.coords t) (1 : Fin 3); rw [e1, n1]; omega
  | ⟨2, _⟩ => show win0_6.index t (2 : Fin 3) * 1024 ≤ (i 2).val ∧ (i 2).val < win0_6.index t (2 : Fin 3) * 1024 + win0_6.xsize (grid0.coords t) (2 : Fin 3); rw [e2, n2]; omega

theorem whole6 (G : Vec Ideal S1x128x1024 .f32) (hG : ∀ (t : Fin cfg0.N) (p : Fin 128) (q : Fin 1024),
      out0_6 (iblk m c 0 t) (iblk m c 1 t) (iblk m c 2 t) (iblk m c 3 t) (ix3 0 p q) = G (ix3 (layer t) (row t p) q)) :
    ((dats m 0 c).arrAt 6 cfg0.N : Vec Ideal S1x128x1024 .f32) = G := by
  refine (dats m 0 c).arrAt_eq_of_cover 6 G (fun t _ => ?_) cover6
  obtain ⟨e0, e1, e2, -⟩ := idx6 t
  rw [flushed6]
  funext i
  rw [View.read_apply]
  change (⟨3, ![1, 128, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 1 = win0_6.index t (0 : Fin 3) * 1 + 1 * 0; omega
  | ⟨1, _⟩ => show 0 * 128 + (i 1).val = win0_6.index t (1 : Fin 3) * 128 + 1 * (i 1).val; omega
  | ⟨2, _⟩ => show (i 2).val = win0_6.index t (2 : Fin 3) * 1024 + 1 * (i 2).val; omega

theorem idx7 : ∀ t : Fin cfg0.N, win0_7.index t (0 : Fin 3) = t.val / 1 ∧ win0_7.index t (1 : Fin 3) = 0 ∧ win0_7.index t (2 : Fin 3) = 0
    ∧ win0_7.xsize (grid0.coords t) (0 : Fin 3) = 1 ∧ win0_7.xsize (grid0.coords t) (1 : Fin 3) = 128 ∧ win0_7.xsize (grid0.coords t) (2 : Fin 3) = 1024 := (by decide +kernel : ∀ t : Fin grid0.N, _)

/-- The blocks cover the array. -/
theorem cover7 (i : S1x128x1024.Idx) : ∃ t : Fin cfg0.N, (cfg0.win 7).flush t = true ∧ i ∈ ((cfg0.win 7).blk t).view.set := by
  have hN : cfg0.N = 1 := N_0
  have h0 : (i 0).val < 1 := (i 0).isLt
  have h1 : (i 1).val < 128 := (i 1).isLt
  have h2 : (i 2).val < 1024 := (i 2).isLt
  obtain ⟨t, ht⟩ : ∃ t : Fin cfg0.N, t.val = (i 0).val * 1 + (i 1).val / 128 := ⟨⟨(i 0).val * 1 + (i 1).val / 128, by omega⟩, rfl⟩
  refine ⟨t, flush0_7 t, ?_⟩
  obtain ⟨e0, e1, e2, n0, n1, n2⟩ := idx7 t
  show i ∈ ((View.whole main_v0_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + win0_7.xsize (grid0.coords t) (0 : Fin 3); rw [e0, n0]; omega
  | ⟨1, _⟩ => show win0_7.index t (1 : Fin 3) * 128 ≤ (i 1).val ∧ (i 1).val < win0_7.index t (1 : Fin 3) * 128 + win0_7.xsize (grid0.coords t) (1 : Fin 3); rw [e1, n1]; omega
  | ⟨2, _⟩ => show win0_7.index t (2 : Fin 3) * 1024 ≤ (i 2).val ∧ (i 2).val < win0_7.index t (2 : Fin 3) * 1024 + win0_7.xsize (grid0.coords t) (2 : Fin 3); rw [e2, n2]; omega

theorem whole7 (G : Vec Ideal S1x128x1024 .f32) (hG : ∀ (t : Fin cfg0.N) (p : Fin 128) (q : Fin 1024),
      out0_7 (iblk m c 0 t) (iblk m c 1 t) (iblk m c 2 t) (iblk m c 3 t) (ix3 0 p q) = G (ix3 (layer t) (row t p) q)) :
    ((dats m 0 c).arrAt 7 cfg0.N : Vec Ideal S1x128x1024 .f32) = G := by
  refine (dats m 0 c).arrAt_eq_of_cover 7 G (fun t _ => ?_) cover7
  obtain ⟨e0, e1, e2, -⟩ := idx7 t
  rw [flushed7]
  funext i
  rw [View.read_apply]
  change (⟨3, ![1, 128, 1024]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 1 = win0_7.index t (0 : Fin 3) * 1 + 1 * 0; omega
  | ⟨1, _⟩ => show 0 * 128 + (i 1).val = win0_7.index t (1 : Fin 3) * 128 + 1 * (i 1).val; omega
  | ⟨2, _⟩ => show (i 2).val = win0_7.index t (2 : Fin 3) * 1024 + 1 * (i 2).val; omega

/-- The summed gradient. -/
def grad (a : Vec Ideal S8x128x1024 .bf16) (i : S1x128x1024.Idx) : EReal := total a (i 1) (i 2)

theorem grad_block (t : Fin cfg0.N) (p : Fin 128) (q : Fin 1024) :
    total (iblk m c 0 t) p q = grad (V m c main_arg0) (ix3 (layer t) (row t p) q) := by
  unfold total
  simp only [blk0]
  rfl

theorem arr4 : ((dats m 0 c).arrAt 4 cfg0.N : Vec Ideal S1x128x1024 .f32) = fun i => (grad (V m c main_arg0) i) :=
  whole4 m c _ fun t p q => (grad_apply _ _ _ _ p q).trans (grad_block m c t p q)

theorem arr5 : ((dats m 0 c).arrAt 5 cfg0.N : Vec Ideal S1x128x1024 .f32) = fun i => Adam.change ((V m c main_arg1 : Vec Ideal S1x128x1024 .f32) i) (grad (V m c main_arg0) i) ((V m c main_arg2 : Vec Ideal S1x128x1024 .f32) i) ((V m c main_arg3 : Vec Ideal S1x128x1024 .f32) i) :=
  whole5 m c _ fun t p q => (change_apply _ _ _ _ p q).trans (by rw [grad_block m c t p q, blk1, blk2, blk3])

theorem arr6 : ((dats m 0 c).arrAt 6 cfg0.N : Vec Ideal S1x128x1024 .f32) = fun i => Adam.first (grad (V m c main_arg0) i) ((V m c main_arg2 : Vec Ideal S1x128x1024 .f32) i) :=
  whole6 m c _ fun t p q => (first_apply _ _ _ _ p q).trans (by rw [grad_block m c t p q, blk2])

theorem arr7 : ((dats m 0 c).arrAt 7 cfg0.N : Vec Ideal S1x128x1024 .f32) = fun i => Adam.second (grad (V m c main_arg0) i) ((V m c main_arg3 : Vec Ideal S1x128x1024 .f32) i) :=
  whole7 m c _ fun t p q => (second_apply _ _ _ _ p q).trans (by rw [grad_block m c t p q, blk3])

end Cert.Kernel12Ideal.Update

end
-- ==== Proof.UpdOClaim.lean ====
/-
  The update of the attention's output projection (and, at the same shapes, of the second pointwise convolution): the kernel's four arrays are the reference's.
-/
module

public import proofs.«01_k».proof.Defs
public import proofs.«01_k».proof.Proof.UpdO
public import proofs.«01_k».proof.Proof.Gen.Kernel12Ideal
public import proofs.«01_k».proof.Proof.Gen.Reference12Ideal.Run
public import Idealize.ShloMosaic.Lib.Claim

@[expose] public section

set_option maxRecDepth 16384

noncomputable section

namespace Cert.Reference12Ideal.Update

open Cert.Reference12Ideal Cert.Reference12Ideal.Gen Idealize.ShloMosaic Idealize.ShloMosaic.TcCoe Idealize.SL.Sem

/-- The reference's summed gradient at an index. -/
theorem reference_grad (a0 : Vec Ideal S8x128x1024 .bf16) (i : S1x128x1024.Idx) :
    (broadcastInDim S1x128x1024 ![1, 2] bcast_S128x1024_S1x128x1024_1_2 (Host.reduceAdd (F := Ideal) (extf .f32 a0 bitsLt_bf16_f32) (constant S_ .f32 0x00000000#32) reducesTo_S8x128x1024_S128x1024_d0 h_S_)) i
      = Cert.Kernel12Ideal.Update.grad a0 i := by
  rw [eq_ix3 i]
  unfold Cert.Kernel12Ideal.Update.grad Adam.total
  pointwise []

end Cert.Reference12Ideal.Update

namespace Cert

open Idealize.ShloMosaic Idealize.SL.Sem
open Cert.Reference12Ideal.Update (reference_grad)

theorem updo_algebraic : algebraic_Kernel12Ideal_Reference12Ideal (hKernel12Ideal := Cert.Kernel12Ideal.Gen.facts)
    (hReference12Ideal := Cert.Reference12Ideal.Gen.facts) := by
  intro m g m' g' _ hargs
  refine ⟨_, _, _, _, Cert.Kernel12Ideal.Value.run_blocks m g, ?_⟩
  refine (θ_run _ _ _).mono (fun r h c => ?_) (Cert.Reference12Ideal.Value.run m' g')
  obtain ⟨r0, r1, r2, r3, rest⟩ := h c
  obtain ⟨h0, h1, h2, h3⟩ := hargs c
  refine ⟨?_, ?_, ?_, ?_, rest⟩
  · refine r0.trans ?_
    rw [h0, Cert.Kernel12Ideal.Update.arr4]
    funext i
    simp only [Cert.Kernel12Ideal.Gen.V_main_arg0]
    exact reference_grad _ i
  · refine r1.trans ?_
    rw [h0, h1, h2, h3, Cert.Kernel12Ideal.Update.arr5]
    funext i
    simp only [Cert.Kernel12Ideal.Gen.V_main_arg0, Cert.Kernel12Ideal.Gen.V_main_arg1, Cert.Kernel12Ideal.Gen.V_main_arg2, Cert.Kernel12Ideal.Gen.V_main_arg3]
    exact (Adam.host_change ..).trans (by rw [reference_grad])
  · refine r2.trans ?_
    rw [h0, h2, Cert.Kernel12Ideal.Update.arr6]
    funext i
    simp only [Cert.Kernel12Ideal.Gen.V_main_arg0, Cert.Kernel12Ideal.Gen.V_main_arg2]
    exact (Adam.host_first ..).trans (by rw [reference_grad])
  · refine r3.trans ?_
    rw [h0, h3, Cert.Kernel12Ideal.Update.arr7]
    funext i
    simp only [Cert.Kernel12Ideal.Gen.V_main_arg0, Cert.Kernel12Ideal.Gen.V_main_arg3]
    exact (Adam.host_second ..).trans (by rw [reference_grad])

end Cert

end
-- ==== Proof.UpdPw1.lean ====
module

public import proofs.«01_k».proof.Proof.Gen.Kernel13Ideal.Value
public import proofs.«01_k».proof.Proof.Adam

@[expose] public section

set_option maxRecDepth 16384

noncomputable section

/-! # The update of the first pointwise convolution

A block of 256 rows is read from each of the eight devices' parts, summed, and stepped; the 4 blocks tile the arrays. -/

namespace Cert.Kernel13Ideal.Update

open Cert.Kernel13Ideal Cert.Kernel13Ideal.Gen Cert.Kernel13Ideal.Value Idealize.ShloMosaic Idealize.ShloMosaic.TcCoe
  Idealize.SL.Sem
open Cert.Adam (corner total)

section
variable (x0 : Vec Ideal S8x256x256 .bf16) (x1 x2 x3 : Vec Ideal S1x256x256 .f32) (p : Fin 256) (q : Fin 256)

theorem total_apply : k0_pay8 x0 x1 x2 x3 (ix2 p q) = total x0 p q := by
  unfold k0_pay8 total
  pointwise [k0_pay3]
  rw [Fin.sum_univ_eight]

theorem grad_apply : out0_4 x0 x1 x2 x3 (ix3 0 p q) = total x0 p q := by
  unfold out0_4
  rw [View.canon_unit_zero corner]
  refine Eq.trans ?_ (total_apply x0 x1 x2 x3 p q)
  pointwise [k0_pay4]

theorem change_apply : out0_5 x0 x1 x2 x3 (ix3 0 p q) = Adam.change (x1 (ix3 0 p q)) (total x0 p q) (x2 (ix3 0 p q)) (x3 (ix3 0 p q)) := by
  unfold out0_5
  rw [View.canon_unit_zero corner, ← total_apply x0 x1 x2 x3 p q]
  simp only [View.ld_unit_zero (S := S1x256x256) corner]
  pointwise [k0_pay7, k0_pay5, k0_pay6]
  rfl

theorem first_apply : out0_6 x0 x1 x2 x3 (ix3 0 p q) = Adam.first (total x0 p q) (x2 (ix3 0 p q)) := by
  unfold out0_6
  rw [View.canon_unit_zero corner, ← total_apply x0 x1 x2 x3 p q]
  simp only [View.ld_unit_zero (S := S1x256x256) corner]
  pointwise [k0_pay1, k0_pay5]
  rfl

theorem second_apply : out0_7 x0 x1 x2 x3 (ix3 0 p q) = Adam.second (total x0 p q) (x3 (ix3 0 p q)) := by
  unfold out0_7
  rw [View.canon_unit_zero corner, ← total_apply x0 x1 x2 x3 p q]
  simp only [View.ld_unit_zero (S := S1x256x256) corner]
  pointwise [k0_pay2, k0_pay6]
  rfl
end

/-! ## The blocks in the arrays -/

variable (m : (ℓ : Loc nD τ sig) → Buf (Elt Ideal) ℓ) (c : Dev nD)

theorem idx0 : ∀ t : Fin cfg0.N, win0_0.index t (0 : Fin 3) = 0 ∧ win0_0.index t (1 : Fin 3) = t.val % 4 ∧ win0_0.index t (2 : Fin 3) = 0 := (by decide +kernel : ∀ t : Fin grid0.N, _)

theorem idx1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)

theorem idx2 : ∀ t : Fin cfg0.N, win0_2.index t (0 : Fin 3) = t.val / 4 ∧ win0_2.index t (1 : Fin 3) = t.val % 4 ∧ win0_2.index t (2 : Fin 3) = 0 := (by decide +kernel : ∀ t : Fin grid0.N, _)

theorem idx3 : ∀ t : Fin cfg0.N, win0_3.index t (0 : Fin 3) = t.val / 4 ∧ win0_3.index t (1 : Fin 3) = t.val % 4 ∧ win0_3.index t (2 : Fin 3) = 0 := (by decide +kernel : ∀ t : Fin grid0.N, _)

/-- The array's row of a block's row. -/
def row (t : Fin cfg0.N) (p : Fin 256) : Fin 1024 := ⟨t.val % 4 * 256 + p.val, by have := p.isLt; omega⟩

/-- The layer a point works on. -/
def layer (t : Fin cfg0.N) : Fin 1 := ⟨t.val / 4, by have hN : cfg0.N = 4 := N_0; have := t.isLt; omega⟩

theorem blk0 (t : Fin cfg0.N) (j : Fin 8) (p : Fin 256) (q : Fin 256) :
    iblk m c 0 t (ix3 j p q) = (V m c main_arg0 : Vec Ideal S8x1024x256 .bf16) (ix3 j (row t p) q) := by
  obtain ⟨e0, e1, e2⟩ := idx0 t
  unfold iblk
  rw [View.read_apply]
  show V m c main_arg0 _ = _
  congr 1
  funext a
  apply Fin.ext
  match a with
  | ⟨0, _⟩ => show win0_0.index t (0 : Fin 3) * 8 + 1 * j.val = j.val; omega
  | ⟨1, _⟩ => show win0_0.index t (1 : Fin 3) * 256 + 1 * p.val = t.val % 4 * 256 + p.val; omega
  | ⟨2, _⟩ => show win0_0.index t (2 : Fin 3) * 256 + 1 * q.val = q.val; omega

theorem blk1 (t : Fin cfg0.N) (p : Fin 256) (q : Fin 256) :
    iblk m c 1 t (ix3 0 p q) = (V m c main_arg1 : Vec Ideal S1x1024x256 .f32) (ix3 (layer t) (row t p) q) := by
  obtain ⟨e0, e1, e2⟩ := idx1 t
  unfold iblk
  rw [View.read_apply]
  show V m c main_arg1 _ = _
  congr 1
  funext a
  apply Fin.ext
  match a with
  | ⟨0, _⟩ => show win0_1.index t (0 : Fin 3) * 1 + 1 * 0 = t.val / 4; omega
  | ⟨1, _⟩ => show win0_1.index t (1 : Fin 3) * 256 + 1 * p.val = t.val % 4 * 256 + p.val; omega
  | ⟨2, _⟩ => show win0_1.index t (2 : Fin 3) * 256 + 1 * q.val = q.val; omega

theorem blk2 (t : Fin cfg0.N) (p : Fin 256) (q : Fin 256) :
    iblk m c 2 t (ix3 0 p q) = (V m c main_arg2 : Vec Ideal S1x1024x256 .f32) (ix3 (layer t) (row t p) q) := by
  obtain ⟨e0, e1, e2⟩ := idx2 t
  unfold iblk
  rw [View.read_apply]
  show V m c main_arg2 _ = _
  congr 1
  funext a
  apply Fin.ext
  match a with
  | ⟨0, _⟩ => show win0_2.index t (0 : Fin 3) * 1 + 1 * 0 = t.val / 4; omega
  | ⟨1, _⟩ => show win0_2.index t (1 : Fin 3) * 256 + 1 * p.val = t.val % 4 * 256 + p.val; omega
  | ⟨2, _⟩ => show win0_2.index t (2 : Fin 3) * 256 + 1 * q.val = q.val; omega

theorem blk3 (t : Fin cfg0.N) (p : Fin 256) (q : Fin 256) :
    iblk m c 3 t (ix3 0 p q) = (V m c main_arg3 : Vec Ideal S1x1024x256 .f32) (ix3 (layer t) (row t p) q) := by
  obtain ⟨e0, e1, e2⟩ := idx3 t
  unfold iblk
  rw [View.read_apply]
  show V m c main_arg3 _ = _
  congr 1
  funext a
  apply Fin.ext
  match a with
  | ⟨0, _⟩ => show win0_3.index t (0 : Fin 3) * 1 + 1 * 0 = t.val / 4; omega
  | ⟨1, _⟩ => show win0_3.index t (1 : Fin 3) * 256 + 1 * p.val = t.val % 4 * 256 + p.val; omega
  | ⟨2, _⟩ => show win0_3.index t (2 : Fin 3) * 256 + 1 * q.val = q.val; omega

theorem idx4 : ∀ t : Fin cfg0.N, win0_4.index t (0 : Fin 3) = t.val / 4 ∧ win0_4.index t (1 : Fin 3) = t.val % 4 ∧ win0_4.index t (2 : Fin 3) = 0
    ∧ win0_4.xsize (grid0.coords t) (0 : Fin 3) = 1 ∧ win0_4.xsize (grid0.coords t) (1 : Fin 3) = 256 ∧ win0_4.xsize (grid0.coords t) (2 : Fin 3) = 256 := (by decide +kernel : ∀ t : Fin grid0.N, _)

/-- The blocks cover the array. -/
theorem cover4 (i : S1x1024x256.Idx) : ∃ t : Fin cfg0.N, (cfg0.win 4).flush t = true ∧ i ∈ ((cfg0.win 4).blk t).view.set := by
  have hN : cfg0.N = 4 := N_0
  have h0 : (i 0).val < 1 := (i 0).isLt
  have h1 : (i 1).val < 1024 := (i 1).isLt
  have h2 : (i 2).val < 256 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_4 t, ?_⟩
  obtain ⟨e0, e1, e2, n0, n1, n2⟩ := idx4 t
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + win0_4.xsize (grid0.coords t) (0 : Fin 3); rw [e0, n0]; omega
  | ⟨1, _⟩ => show win0_4.index t (1 : Fin 3) * 256 ≤ (i 1).val ∧ (i 1).val < win0_4.index t (1 : Fin 3) * 256 + win0_4.xsize (grid0.coords t) (1 : Fin 3); rw [e1, n1]; omega
  | ⟨2, _⟩ => show win0_4.index t (2 : Fin 3) * 256 ≤ (i 2).val ∧ (i 2).val < win0_4.index t (2 : Fin 3) * 256 + win0_4.xsize (grid0.coords t) (2 : Fin 3); rw [e2, n2]; omega

theorem whole4 (G : Vec Ideal S1x1024x256 .f32) (hG : ∀ (t : Fin cfg0.N) (p : Fin 256) (q : Fin 256),
      out0_4 (iblk m c 0 t) (iblk m c 1 t) (iblk m c 2 t) (iblk m c 3 t) (ix3 0 p q) = G (ix3 (layer t) (row t p) q)) :
    ((dats m 0 c).arrAt 4 cfg0.N : Vec Ideal S1x1024x256 .f32) = G := by
  refine (dats m 0 c).arrAt_eq_of_cover 4 G (fun t _ => ?_) cover4
  obtain ⟨e0, e1, e2, -⟩ := idx4 t
  rw [flushed4]
  funext i
  rw [View.read_apply]
  change (⟨3, ![1, 256, 256]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_4.index t (0 : Fin 3) * 1 + 1 * 0; omega
  | ⟨1, _⟩ => show t.val % 4 * 256 + (i 1).val = win0_4.index t (1 : Fin 3) * 256 + 1 * (i 1).val; omega
  | ⟨2, _⟩ => show (i 2).val = win0_4.index t (2 : Fin 3) * 256 + 1 * (i 2).val; omega

theorem idx5 : ∀ t : Fin cfg0.N, win0_5.index t (0 : Fin 3) = t.val / 4 ∧ win0_5.index t (1 : Fin 3) = t.val % 4 ∧ win0_5.index t (2 : Fin 3) = 0
    ∧ win0_5.xsize (grid0.coords t) (0 : Fin 3) = 1 ∧ win0_5.xsize (grid0.coords t) (1 : Fin 3) = 256 ∧ win0_5.xsize (grid0.coords t) (2 : Fin 3) = 256 := (by decide +kernel : ∀ t : Fin grid0.N, _)

/-- The blocks cover the array. -/
theorem cover5 (i : S1x1024x256.Idx) : ∃ t : Fin cfg0.N, (cfg0.win 5).flush t = true ∧ i ∈ ((cfg0.win 5).blk t).view.set := by
  have hN : cfg0.N = 4 := N_0
  have h0 : (i 0).val < 1 := (i 0).isLt
  have h1 : (i 1).val < 1024 := (i 1).isLt
  have h2 : (i 2).val < 256 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_5 t, ?_⟩
  obtain ⟨e0, e1, e2, n0, n1, n2⟩ := idx5 t
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + win0_5.xsize (grid0.coords t) (0 : Fin 3); rw [e0, n0]; omega
  | ⟨1, _⟩ => show win0_5.index t (1 : Fin 3) * 256 ≤ (i 1).val ∧ (i 1).val < win0_5.index t (1 : Fin 3) * 256 + win0_5.xsize (grid0.coords t) (1 : Fin 3); rw [e1, n1]; omega
  | ⟨2, _⟩ => show win0_5.index t (2 : Fin 3) * 256 ≤ (i 2).val ∧ (i 2).val < win0_5.index t (2 : Fin 3) * 256 + win0_5.xsize (grid0.coords t) (2 : Fin 3); rw [e2, n2]; omega

theorem whole5 (G : Vec Ideal S1x1024x256 .f32) (hG : ∀ (t : Fin cfg0.N) (p : Fin 256) (q : Fin 256),
      out0_5 (iblk m c 0 t) (iblk m c 1 t) (iblk m c 2 t) (iblk m c 3 t) (ix3 0 p q) = G (ix3 (layer t) (row t p) q)) :
    ((dats m 0 c).arrAt 5 cfg0.N : Vec Ideal S1x1024x256 .f32) = G := by
  refine (dats m 0 c).arrAt_eq_of_cover 5 G (fun t _ => ?_) cover5
  obtain ⟨e0, e1, e2, -⟩ := idx5 t
  rw [flushed5]
  funext i
  rw [View.read_apply]
  change (⟨3, ![1, 256, 256]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_5.index t (0 : Fin 3) * 1 + 1 * 0; omega
  | ⟨1, _⟩ => show t.val % 4 * 256 + (i 1).val = win0_5.index t (1 : Fin 3) * 256 + 1 * (i 1).val; omega
  | ⟨2, _⟩ => show (i 2).val = win0_5.index t (2 : Fin 3) * 256 + 1 * (i 2).val; omega

theorem idx6 : ∀ t : Fin cfg0.N, win0_6.index t (0 : Fin 3) = t.val / 4 ∧ win0_6.index t (1 : Fin 3) = t.val % 4 ∧ win0_6.index t (2 : Fin 3) = 0
    ∧ win0_6.xsize (grid0.coords t) (0 : Fin 3) = 1 ∧ win0_6.xsize (grid0.coords t) (1 : Fin 3) = 256 ∧ win0_6.xsize (grid0.coords t) (2 : Fin 3) = 256 := (by decide +kernel : ∀ t : Fin grid0.N, _)

/-- The blocks cover the array. -/
theorem cover6 (i : S1x1024x256.Idx) : ∃ t : Fin cfg0.N, (cfg0.win 6).flush t = true ∧ i ∈ ((cfg0.win 6).blk t).view.set := by
  have hN : cfg0.N = 4 := N_0
  have h0 : (i 0).val < 1 := (i 0).isLt
  have h1 : (i 1).val < 1024 := (i 1).isLt
  have h2 : (i 2).val < 256 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_6 t, ?_⟩
  obtain ⟨e0, e1, e2, n0, n1, n2⟩ := idx6 t
  show i ∈ ((View.whole main_v0_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + win0_6.xsize (grid0.coords t) (0 : Fin 3); rw [e0, n0]; omega
  | ⟨1, _⟩ => show win0_6.index t (1 : Fin 3) * 256 ≤ (i 1).val ∧ (i 1).val < win0_6.index t (1 : Fin 3) * 256 + win0_6.xsize (grid0.coords t) (1 : Fin 3); rw [e1, n1]; omega
  | ⟨2, _⟩ => show win0_6.index t (2 : Fin 3) * 256 ≤ (i 2).val ∧ (i 2).val < win0_6.index t (2 : Fin 3) * 256 + win0_6.xsize (grid0.coords t) (2 : Fin 3); rw [e2, n2]; omega

theorem whole6 (G : Vec Ideal S1x1024x256 .f32) (hG : ∀ (t : Fin cfg0.N) (p : Fin 256) (q : Fin 256),
      out0_6 (iblk m c 0 t) (iblk m c 1 t) (iblk m c 2 t) (iblk m c 3 t) (ix3 0 p q) = G (ix3 (layer t) (row t p) q)) :
    ((dats m 0 c).arrAt 6 cfg0.N : Vec Ideal S1x1024x256 .f32) = G := by
  refine (dats m 0 c).arrAt_eq_of_cover 6 G (fun t _ => ?_) cover6
  obtain ⟨e0, e1, e2, -⟩ := idx6 t
  rw [flushed6]
  funext i
  rw [View.read_apply]
  change (⟨3, ![1, 256, 256]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_6.index t (0 : Fin 3) * 1 + 1 * 0; omega
  | ⟨1, _⟩ => show t.val % 4 * 256 + (i 1).val = win0_6.index t (1 : Fin 3) * 256 + 1 * (i 1).val; omega
  | ⟨2, _⟩ => show (i 2).val = win0_6.index t (2 : Fin 3) * 256 + 1 * (i 2).val; omega

theorem idx7 : ∀ t : Fin cfg0.N, win0_7.index t (0 : Fin 3) = t.val / 4 ∧ win0_7.index t (1 : Fin 3) = t.val % 4 ∧ win0_7.index t (2 : Fin 3) = 0
    ∧ win0_7.xsize (grid0.coords t) (0 : Fin 3) = 1 ∧ win0_7.xsize (grid0.coords t) (1 : Fin 3) = 256 ∧ win0_7.xsize (grid0.coords t) (2 : Fin 3) = 256 := (by decide +kernel : ∀ t : Fin grid0.N, _)

/-- The blocks cover the array. -/
theorem cover7 (i : S1x1024x256.Idx) : ∃ t : Fin cfg0.N, (cfg0.win 7).flush t = true ∧ i ∈ ((cfg0.win 7).blk t).view.set := by
  have hN : cfg0.N = 4 := N_0
  have h0 : (i 0).val < 1 := (i 0).isLt
  have h1 : (i 1).val < 1024 := (i 1).isLt
  have h2 : (i 2).val < 256 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_7 t, ?_⟩
  obtain ⟨e0, e1, e2, n0, n1, n2⟩ := idx7 t
  show i ∈ ((View.whole main_v0_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + win0_7.xsize (grid0.coords t) (0 : Fin 3); rw [e0, n0]; omega
  | ⟨1, _⟩ => show win0_7.index t (1 : Fin 3) * 256 ≤ (i 1).val ∧ (i 1).val < win0_7.index t (1 : Fin 3) * 256 + win0_7.xsize (grid0.coords t) (1 : Fin 3); rw [e1, n1]; omega
  | ⟨2, _⟩ => show win0_7.index t (2 : Fin 3) * 256 ≤ (i 2).val ∧ (i 2).val < win0_7.index t (2 : Fin 3) * 256 + win0_7.xsize (grid0.coords t) (2 : Fin 3); rw [e2, n2]; omega

theorem whole7 (G : Vec Ideal S1x1024x256 .f32) (hG : ∀ (t : Fin cfg0.N) (p : Fin 256) (q : Fin 256),
      out0_7 (iblk m c 0 t) (iblk m c 1 t) (iblk m c 2 t) (iblk m c 3 t) (ix3 0 p q) = G (ix3 (layer t) (row t p) q)) :
    ((dats m 0 c).arrAt 7 cfg0.N : Vec Ideal S1x1024x256 .f32) = G := by
  refine (dats m 0 c).arrAt_eq_of_cover 7 G (fun t _ => ?_) cover7
  obtain ⟨e0, e1, e2, -⟩ := idx7 t
  rw [flushed7]
  funext i
  rw [View.read_apply]
  change (⟨3, ![1, 256, 256]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_7.index t (0 : Fin 3) * 1 + 1 * 0; omega
  | ⟨1, _⟩ => show t.val % 4 * 256 + (i 1).val = win0_7.index t (1 : Fin 3) * 256 + 1 * (i 1).val; omega
  | ⟨2, _⟩ => show (i 2).val = win0_7.index t (2 : Fin 3) * 256 + 1 * (i 2).val; omega

/-- The summed gradient. -/
def grad (a : Vec Ideal S8x1024x256 .bf16) (i : S1x1024x256.Idx) : EReal := total a (i 1) (i 2)

theorem grad_block (t : Fin cfg0.N) (p : Fin 256) (q : Fin 256) :
    total (iblk m c 0 t) p q = grad (V m c main_arg0) (ix3 (layer t) (row t p) q) := by
  unfold total
  simp only [blk0]
  rfl

theorem arr4 : ((dats m 0 c).arrAt 4 cfg0.N : Vec Ideal S1x1024x256 .f32) = fun i => (grad (V m c main_arg0) i) :=
  whole4 m c _ fun t p q => (grad_apply _ _ _ _ p q).trans (grad_block m c t p q)

theorem arr5 : ((dats m 0 c).arrAt 5 cfg0.N : Vec Ideal S1x1024x256 .f32) = fun i => Adam.change ((V m c main_arg1 : Vec Ideal S1x1024x256 .f32) i) (grad (V m c main_arg0) i) ((V m c main_arg2 : Vec Ideal S1x1024x256 .f32) i) ((V m c main_arg3 : Vec Ideal S1x1024x256 .f32) i) :=
  whole5 m c _ fun t p q => (change_apply _ _ _ _ p q).trans (by rw [grad_block m c t p q, blk1, blk2, blk3])

theorem arr6 : ((dats m 0 c).arrAt 6 cfg0.N : Vec Ideal S1x1024x256 .f32) = fun i => Adam.first (grad (V m c main_arg0) i) ((V m c main_arg2 : Vec Ideal S1x1024x256 .f32) i) :=
  whole6 m c _ fun t p q => (first_apply _ _ _ _ p q).trans (by rw [grad_block m c t p q, blk2])

theorem arr7 : ((dats m 0 c).arrAt 7 cfg0.N : Vec Ideal S1x1024x256 .f32) = fun i => Adam.second (grad (V m c main_arg0) i) ((V m c main_arg3 : Vec Ideal S1x1024x256 .f32) i) :=
  whole7 m c _ fun t p q => (second_apply _ _ _ _ p q).trans (by rw [grad_block m c t p q, blk3])

end Cert.Kernel13Ideal.Update

end
-- ==== Proof.UpdPw1Claim.lean ====
/-
  The update of the first pointwise convolution: the kernel's four arrays are the reference's.
-/
module

public import proofs.«01_k».proof.Defs
public import proofs.«01_k».proof.Proof.UpdPw1
public import proofs.«01_k».proof.Proof.Gen.Kernel13Ideal
public import proofs.«01_k».proof.Proof.Gen.Reference13Ideal.Run
public import Idealize.ShloMosaic.Lib.Claim

@[expose] public section

set_option maxRecDepth 16384

noncomputable section

namespace Cert.Reference13Ideal.Update

open Cert.Reference13Ideal Cert.Reference13Ideal.Gen Idealize.ShloMosaic Idealize.ShloMosaic.TcCoe Idealize.SL.Sem

/-- The reference's summed gradient at an index. -/
theorem reference_grad (a0 : Vec Ideal S8x1024x256 .bf16) (i : S1x1024x256.Idx) :
    (broadcastInDim S1x1024x256 ![1, 2] bcast_S1024x256_S1x1024x256_1_2 (Host.reduceAdd (F := Ideal) (extf .f32 a0 bitsLt_bf16_f32) (constant S_ .f32 0x00000000#32) reducesTo_S8x1024x256_S1024x256_d0 h_S_)) i
      = Cert.Kernel13Ideal.Update.grad a0 i := by
  rw [eq_ix3 i]
  unfold Cert.Kernel13Ideal.Update.grad Adam.total
  pointwise []

end Cert.Reference13Ideal.Update

namespace Cert

open Idealize.ShloMosaic Idealize.SL.Sem
open Cert.Reference13Ideal.Update (reference_grad)

theorem updpw1_algebraic : algebraic_Kernel13Ideal_Reference13Ideal (hKernel13Ideal := Cert.Kernel13Ideal.Gen.facts)
    (hReference13Ideal := Cert.Reference13Ideal.Gen.facts) := by
  intro m g m' g' _ hargs
  refine ⟨_, _, _, _, Cert.Kernel13Ideal.Value.run_blocks m g, ?_⟩
  refine (θ_run _ _ _).mono (fun r h c => ?_) (Cert.Reference13Ideal.Value.run m' g')
  obtain ⟨r0, r1, r2, r3, rest⟩ := h c
  obtain ⟨h0, h1, h2, h3⟩ := hargs c
  refine ⟨?_, ?_, ?_, ?_, rest⟩
  · refine r0.trans ?_
    rw [h0, Cert.Kernel13Ideal.Update.arr4]
    funext i
    simp only [Cert.Kernel13Ideal.Gen.V_main_arg0]
    exact reference_grad _ i
  · refine r1.trans ?_
    rw [h0, h1, h2, h3, Cert.Kernel13Ideal.Update.arr5]
    funext i
    simp only [Cert.Kernel13Ideal.Gen.V_main_arg0, Cert.Kernel13Ideal.Gen.V_main_arg1, Cert.Kernel13Ideal.Gen.V_main_arg2, Cert.Kernel13Ideal.Gen.V_main_arg3]
    exact (Adam.host_change ..).trans (by rw [reference_grad])
  · refine r2.trans ?_
    rw [h0, h2, Cert.Kernel13Ideal.Update.arr6]
    funext i
    simp only [Cert.Kernel13Ideal.Gen.V_main_arg0, Cert.Kernel13Ideal.Gen.V_main_arg2]
    exact (Adam.host_first ..).trans (by rw [reference_grad])
  · refine r3.trans ?_
    rw [h0, h3, Cert.Kernel13Ideal.Update.arr7]
    funext i
    simp only [Cert.Kernel13Ideal.Gen.V_main_arg0, Cert.Kernel13Ideal.Gen.V_main_arg3]
    exact (Adam.host_second ..).trans (by rw [reference_grad])

end Cert

end
-- ==== Proof.UpdQkv.lean ====
module

public import proofs.«01_k».proof.Proof.Gen.Kernel11Ideal.Value
public import proofs.«01_k».proof.Proof.Adam

@[expose] public section

set_option maxRecDepth 16384

noncomputable section

/-! # The update of the query, key and value projections

A block of 256 rows is read from each of the eight devices' parts, summed, and stepped; the 4 blocks tile the arrays. -/

namespace Cert.Kernel11Ideal.Update

open Cert.Kernel11Ideal Cert.Kernel11Ideal.Gen Cert.Kernel11Ideal.Value Idealize.ShloMosaic Idealize.ShloMosaic.TcCoe
  Idealize.SL.Sem
open Cert.Adam (corner total)

section
variable (x0 : Vec Ideal S8x256x192 .bf16) (x1 x2 x3 : Vec Ideal S1x256x192 .f32) (p : Fin 256) (q : Fin 192)

theorem total_apply : k0_pay8 x0 x1 x2 x3 (ix2 p q) = total x0 p q := by
  unfold k0_pay8 total
  pointwise [k0_pay3]
  rw [Fin.sum_univ_eight]

theorem grad_apply : out0_4 x0 x1 x2 x3 (ix3 0 p q) = total x0 p q := by
  unfold out0_4
  rw [View.canon_unit_zero corner]
  refine Eq.trans ?_ (total_apply x0 x1 x2 x3 p q)
  pointwise [k0_pay4]

theorem change_apply : out0_5 x0 x1 x2 x3 (ix3 0 p q) = Adam.change (x1 (ix3 0 p q)) (total x0 p q) (x2 (ix3 0 p q)) (x3 (ix3 0 p q)) := by
  unfold out0_5
  rw [View.canon_unit_zero corner, ← total_apply x0 x1 x2 x3 p q]
  simp only [View.ld_unit_zero (S := S1x256x192) corner]
  pointwise [k0_pay7, k0_pay5, k0_pay6]
  rfl

theorem first_apply : out0_6 x0 x1 x2 x3 (ix3 0 p q) = Adam.first (total x0 p q) (x2 (ix3 0 p q)) := by
  unfold out0_6
  rw [View.canon_unit_zero corner, ← total_apply x0 x1 x2 x3 p q]
  simp only [View.ld_unit_zero (S := S1x256x192) corner]
  pointwise [k0_pay1, k0_pay5]
  rfl

theorem second_apply : out0_7 x0 x1 x2 x3 (ix3 0 p q) = Adam.second (total x0 p q) (x3 (ix3 0 p q)) := by
  unfold out0_7
  rw [View.canon_unit_zero corner, ← total_apply x0 x1 x2 x3 p q]
  simp only [View.ld_unit_zero (S := S1x256x192) corner]
  pointwise [k0_pay2, k0_pay6]
  rfl
end

/-! ## The blocks in the arrays -/

variable (m : (ℓ : Loc nD τ sig) → Buf (Elt Ideal) ℓ) (c : Dev nD)

theorem idx0 : ∀ t : Fin cfg0.N, win0_0.index t (0 : Fin 3) = 0 ∧ win0_0.index t (1 : Fin 3) = t.val % 4 ∧ win0_0.index t (2 : Fin 3) = 0 := (by decide +kernel : ∀ t : Fin grid0.N, _)

theorem idx1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)

theorem idx2 : ∀ t : Fin cfg0.N, win0_2.index t (0 : Fin 3) = t.val / 4 ∧ win0_2.index t (1 : Fin 3) = t.val % 4 ∧ win0_2.index t (2 : Fin 3) = 0 := (by decide +kernel : ∀ t : Fin grid0.N, _)

theorem idx3 : ∀ t : Fin cfg0.N, win0_3.index t (0 : Fin 3) = t.val / 4 ∧ win0_3.index t (1 : Fin 3) = t.val % 4 ∧ win0_3.index t (2 : Fin 3) = 0 := (by decide +kernel : ∀ t : Fin grid0.N, _)

/-- The array's row of a block's row. -/
def row (t : Fin cfg0.N) (p : Fin 256) : Fin 1024 := ⟨t.val % 4 * 256 + p.val, by have := p.isLt; omega⟩

/-- The layer a point works on. -/
def layer (t : Fin cfg0.N) : Fin 1 := ⟨t.val / 4, by have hN : cfg0.N = 4 := N_0; have := t.isLt; omega⟩

theorem blk0 (t : Fin cfg0.N) (j : Fin 8) (p : Fin 256) (q : Fin 192) :
    iblk m c 0 t (ix3 j p q) = (V m c main_arg0 : Vec Ideal S8x1024x192 .bf16) (ix3 j (row t p) q) := by
  obtain ⟨e0, e1, e2⟩ := idx0 t
  unfold iblk
  rw [View.read_apply]
  show V m c main_arg0 _ = _
  congr 1
  funext a
  apply Fin.ext
  match a with
  | ⟨0, _⟩ => show win0_0.index t (0 : Fin 3) * 8 + 1 * j.val = j.val; omega
  | ⟨1, _⟩ => show win0_0.index t (1 : Fin 3) * 256 + 1 * p.val = t.val % 4 * 256 + p.val; omega
  | ⟨2, _⟩ => show win0_0.index t (2 : Fin 3) * 192 + 1 * q.val = q.val; omega

theorem blk1 (t : Fin cfg0.N) (p : Fin 256) (q : Fin 192) :
    iblk m c 1 t (ix3 0 p q) = (V m c main_arg1 : Vec Ideal S1x1024x192 .f32) (ix3 (layer t) (row t p) q) := by
  obtain ⟨e0, e1, e2⟩ := idx1 t
  unfold iblk
  rw [View.read_apply]
  show V m c main_arg1 _ = _
  congr 1
  funext a
  apply Fin.ext
  match a with
  | ⟨0, _⟩ => show win0_1.index t (0 : Fin 3) * 1 + 1 * 0 = t.val / 4; omega
  | ⟨1, _⟩ => show win0_1.index t (1 : Fin 3) * 256 + 1 * p.val = t.val % 4 * 256 + p.val; omega
  | ⟨2, _⟩ => show win0_1.index t (2 : Fin 3) * 192 + 1 * q.val = q.val; omega

theorem blk2 (t : Fin cfg0.N) (p : Fin 256) (q : Fin 192) :
    iblk m c 2 t (ix3 0 p q) = (V m c main_arg2 : Vec Ideal S1x1024x192 .f32) (ix3 (layer t) (row t p) q) := by
  obtain ⟨e0, e1, e2⟩ := idx2 t
  unfold iblk
  rw [View.read_apply]
  show V m c main_arg2 _ = _
  congr 1
  funext a
  apply Fin.ext
  match a with
  | ⟨0, _⟩ => show win0_2.index t (0 : Fin 3) * 1 + 1 * 0 = t.val / 4; omega
  | ⟨1, _⟩ => show win0_2.index t (1 : Fin 3) * 256 + 1 * p.val = t.val % 4 * 256 + p.val; omega
  | ⟨2, _⟩ => show win0_2.index t (2 : Fin 3) * 192 + 1 * q.val = q.val; omega

theorem blk3 (t : Fin cfg0.N) (p : Fin 256) (q : Fin 192) :
    iblk m c 3 t (ix3 0 p q) = (V m c main_arg3 : Vec Ideal S1x1024x192 .f32) (ix3 (layer t) (row t p) q) := by
  obtain ⟨e0, e1, e2⟩ := idx3 t
  unfold iblk
  rw [View.read_apply]
  show V m c main_arg3 _ = _
  congr 1
  funext a
  apply Fin.ext
  match a with
  | ⟨0, _⟩ => show win0_3.index t (0 : Fin 3) * 1 + 1 * 0 = t.val / 4; omega
  | ⟨1, _⟩ => show win0_3.index t (1 : Fin 3) * 256 + 1 * p.val = t.val % 4 * 256 + p.val; omega
  | ⟨2, _⟩ => show win0_3.index t (2 : Fin 3) * 192 + 1 * q.val = q.val; omega

theorem idx4 : ∀ t : Fin cfg0.N, win0_4.index t (0 : Fin 3) = t.val / 4 ∧ win0_4.index t (1 : Fin 3) = t.val % 4 ∧ win0_4.index t (2 : Fin 3) = 0
    ∧ win0_4.xsize (grid0.coords t) (0 : Fin 3) = 1 ∧ win0_4.xsize (grid0.coords t) (1 : Fin 3) = 256 ∧ win0_4.xsize (grid0.coords t) (2 : Fin 3) = 192 := (by decide +kernel : ∀ t : Fin grid0.N, _)

/-- The blocks cover the array. -/
theorem cover4 (i : S1x1024x192.Idx) : ∃ t : Fin cfg0.N, (cfg0.win 4).flush t = true ∧ i ∈ ((cfg0.win 4).blk t).view.set := by
  have hN : cfg0.N = 4 := N_0
  have h0 : (i 0).val < 1 := (i 0).isLt
  have h1 : (i 1).val < 1024 := (i 1).isLt
  have h2 : (i 2).val < 192 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_4 t, ?_⟩
  obtain ⟨e0, e1, e2, n0, n1, n2⟩ := idx4 t
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + win0_4.xsize (grid0.coords t) (0 : Fin 3); rw [e0, n0]; omega
  | ⟨1, _⟩ => show win0_4.index t (1 : Fin 3) * 256 ≤ (i 1).val ∧ (i 1).val < win0_4.index t (1 : Fin 3) * 256 + win0_4.xsize (grid0.coords t) (1 : Fin 3); rw [e1, n1]; omega
  | ⟨2, _⟩ => show win0_4.index t (2 : Fin 3) * 192 ≤ (i 2).val ∧ (i 2).val < win0_4.index t (2 : Fin 3) * 192 + win0_4.xsize (grid0.coords t) (2 : Fin 3); rw [e2, n2]; omega

theorem whole4 (G : Vec Ideal S1x1024x192 .f32) (hG : ∀ (t : Fin cfg0.N) (p : Fin 256) (q : Fin 192),
      out0_4 (iblk m c 0 t) (iblk m c 1 t) (iblk m c 2 t) (iblk m c 3 t) (ix3 0 p q) = G (ix3 (layer t) (row t p) q)) :
    ((dats m 0 c).arrAt 4 cfg0.N : Vec Ideal S1x1024x192 .f32) = G := by
  refine (dats m 0 c).arrAt_eq_of_cover 4 G (fun t _ => ?_) cover4
  obtain ⟨e0, e1, e2, -⟩ := idx4 t
  rw [flushed4]
  funext i
  rw [View.read_apply]
  change (⟨3, ![1, 256, 192]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_4.index t (0 : Fin 3) * 1 + 1 * 0; omega
  | ⟨1, _⟩ => show t.val % 4 * 256 + (i 1).val = win0_4.index t (1 : Fin 3) * 256 + 1 * (i 1).val; omega
  | ⟨2, _⟩ => show (i 2).val = win0_4.index t (2 : Fin 3) * 192 + 1 * (i 2).val; omega

theorem idx5 : ∀ t : Fin cfg0.N, win0_5.index t (0 : Fin 3) = t.val / 4 ∧ win0_5.index t (1 : Fin 3) = t.val % 4 ∧ win0_5.index t (2 : Fin 3) = 0
    ∧ win0_5.xsize (grid0.coords t) (0 : Fin 3) = 1 ∧ win0_5.xsize (grid0.coords t) (1 : Fin 3) = 256 ∧ win0_5.xsize (grid0.coords t) (2 : Fin 3) = 192 := (by decide +kernel : ∀ t : Fin grid0.N, _)

/-- The blocks cover the array. -/
theorem cover5 (i : S1x1024x192.Idx) : ∃ t : Fin cfg0.N, (cfg0.win 5).flush t = true ∧ i ∈ ((cfg0.win 5).blk t).view.set := by
  have hN : cfg0.N = 4 := N_0
  have h0 : (i 0).val < 1 := (i 0).isLt
  have h1 : (i 1).val < 1024 := (i 1).isLt
  have h2 : (i 2).val < 192 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_5 t, ?_⟩
  obtain ⟨e0, e1, e2, n0, n1, n2⟩ := idx5 t
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + win0_5.xsize (grid0.coords t) (0 : Fin 3); rw [e0, n0]; omega
  | ⟨1, _⟩ => show win0_5.index t (1 : Fin 3) * 256 ≤ (i 1).val ∧ (i 1).val < win0_5.index t (1 : Fin 3) * 256 + win0_5.xsize (grid0.coords t) (1 : Fin 3); rw [e1, n1]; omega
  | ⟨2, _⟩ => show win0_5.index t (2 : Fin 3) * 192 ≤ (i 2).val ∧ (i 2).val < win0_5.index t (2 : Fin 3) * 192 + win0_5.xsize (grid0.coords t) (2 : Fin 3); rw [e2, n2]; omega

theorem whole5 (G : Vec Ideal S1x1024x192 .f32) (hG : ∀ (t : Fin cfg0.N) (p : Fin 256) (q : Fin 192),
      out0_5 (iblk m c 0 t) (iblk m c 1 t) (iblk m c 2 t) (iblk m c 3 t) (ix3 0 p q) = G (ix3 (layer t) (row t p) q)) :
    ((dats m 0 c).arrAt 5 cfg0.N : Vec Ideal S1x1024x192 .f32) = G := by
  refine (dats m 0 c).arrAt_eq_of_cover 5 G (fun t _ => ?_) cover5
  obtain ⟨e0, e1, e2, -⟩ := idx5 t
  rw [flushed5]
  funext i
  rw [View.read_apply]
  change (⟨3, ![1, 256, 192]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_5.index t (0 : Fin 3) * 1 + 1 * 0; omega
  | ⟨1, _⟩ => show t.val % 4 * 256 + (i 1).val = win0_5.index t (1 : Fin 3) * 256 + 1 * (i 1).val; omega
  | ⟨2, _⟩ => show (i 2).val = win0_5.index t (2 : Fin 3) * 192 + 1 * (i 2).val; omega

theorem idx6 : ∀ t : Fin cfg0.N, win0_6.index t (0 : Fin 3) = t.val / 4 ∧ win0_6.index t (1 : Fin 3) = t.val % 4 ∧ win0_6.index t (2 : Fin 3) = 0
    ∧ win0_6.xsize (grid0.coords t) (0 : Fin 3) = 1 ∧ win0_6.xsize (grid0.coords t) (1 : Fin 3) = 256 ∧ win0_6.xsize (grid0.coords t) (2 : Fin 3) = 192 := (by decide +kernel : ∀ t : Fin grid0.N, _)

/-- The blocks cover the array. -/
theorem cover6 (i : S1x1024x192.Idx) : ∃ t : Fin cfg0.N, (cfg0.win 6).flush t = true ∧ i ∈ ((cfg0.win 6).blk t).view.set := by
  have hN : cfg0.N = 4 := N_0
  have h0 : (i 0).val < 1 := (i 0).isLt
  have h1 : (i 1).val < 1024 := (i 1).isLt
  have h2 : (i 2).val < 192 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_6 t, ?_⟩
  obtain ⟨e0, e1, e2, n0, n1, n2⟩ := idx6 t
  show i ∈ ((View.whole main_v0_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + win0_6.xsize (grid0.coords t) (0 : Fin 3); rw [e0, n0]; omega
  | ⟨1, _⟩ => show win0_6.index t (1 : Fin 3) * 256 ≤ (i 1).val ∧ (i 1).val < win0_6.index t (1 : Fin 3) * 256 + win0_6.xsize (grid0.coords t) (1 : Fin 3); rw [e1, n1]; omega
  | ⟨2, _⟩ => show win0_6.index t (2 : Fin 3) * 192 ≤ (i 2).val ∧ (i 2).val < win0_6.index t (2 : Fin 3) * 192 + win0_6.xsize (grid0.coords t) (2 : Fin 3); rw [e2, n2]; omega

theorem whole6 (G : Vec Ideal S1x1024x192 .f32) (hG : ∀ (t : Fin cfg0.N) (p : Fin 256) (q : Fin 192),
      out0_6 (iblk m c 0 t) (iblk m c 1 t) (iblk m c 2 t) (iblk m c 3 t) (ix3 0 p q) = G (ix3 (layer t) (row t p) q)) :
    ((dats m 0 c).arrAt 6 cfg0.N : Vec Ideal S1x1024x192 .f32) = G := by
  refine (dats m 0 c).arrAt_eq_of_cover 6 G (fun t _ => ?_) cover6
  obtain ⟨e0, e1, e2, -⟩ := idx6 t
  rw [flushed6]
  funext i
  rw [View.read_apply]
  change (⟨3, ![1, 256, 192]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_6.index t (0 : Fin 3) * 1 + 1 * 0; omega
  | ⟨1, _⟩ => show t.val % 4 * 256 + (i 1).val = win0_6.index t (1 : Fin 3) * 256 + 1 * (i 1).val; omega
  | ⟨2, _⟩ => show (i 2).val = win0_6.index t (2 : Fin 3) * 192 + 1 * (i 2).val; omega

theorem idx7 : ∀ t : Fin cfg0.N, win0_7.index t (0 : Fin 3) = t.val / 4 ∧ win0_7.index t (1 : Fin 3) = t.val % 4 ∧ win0_7.index t (2 : Fin 3) = 0
    ∧ win0_7.xsize (grid0.coords t) (0 : Fin 3) = 1 ∧ win0_7.xsize (grid0.coords t) (1 : Fin 3) = 256 ∧ win0_7.xsize (grid0.coords t) (2 : Fin 3) = 192 := (by decide +kernel : ∀ t : Fin grid0.N, _)

/-- The blocks cover the array. -/
theorem cover7 (i : S1x1024x192.Idx) : ∃ t : Fin cfg0.N, (cfg0.win 7).flush t = true ∧ i ∈ ((cfg0.win 7).blk t).view.set := by
  have hN : cfg0.N = 4 := N_0
  have h0 : (i 0).val < 1 := (i 0).isLt
  have h1 : (i 1).val < 1024 := (i 1).isLt
  have h2 : (i 2).val < 192 := (i 2).isLt
  obtain ⟨t, ht⟩ : ∃ t : Fin cfg0.N, t.val = (i 0).val * 4 + (i 1).val / 256 := ⟨⟨(i 0).val * 4 + (i 1).val / 256, by omega⟩, rfl⟩
  refine ⟨t, flush0_7 t, ?_⟩
  obtain ⟨e0, e1, e2, n0, n1, n2⟩ := idx7 t
  show i ∈ ((View.whole main_v0_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + win0_7.xsize (grid0.coords t) (0 : Fin 3); rw [e0, n0]; omega
  | ⟨1, _⟩ => show win0_7.index t (1 : Fin 3) * 256 ≤ (i 1).val ∧ (i 1).val < win0_7.index t (1 : Fin 3) * 256 + win0_7.xsize (grid0.coords t) (1 : Fin 3); rw [e1, n1]; omega
  | ⟨2, _⟩ => show win0_7.index t (2 : Fin 3) * 192 ≤ (i 2).val ∧ (i 2).val < win0_7.index t (2 : Fin 3) * 192 + win0_7.xsize (grid0.coords t) (2 : Fin 3); rw [e2, n2]; omega

theorem whole7 (G : Vec Ideal S1x1024x192 .f32) (hG : ∀ (t : Fin cfg0.N) (p : Fin 256) (q : Fin 192),
      out0_7 (iblk m c 0 t) (iblk m c 1 t) (iblk m c 2 t) (iblk m c 3 t) (ix3 0 p q) = G (ix3 (layer t) (row t p) q)) :
    ((dats m 0 c).arrAt 7 cfg0.N : Vec Ideal S1x1024x192 .f32) = G := by
  refine (dats m 0 c).arrAt_eq_of_cover 7 G (fun t _ => ?_) cover7
  obtain ⟨e0, e1, e2, -⟩ := idx7 t
  rw [flushed7]
  funext i
  rw [View.read_apply]
  change (⟨3, ![1, 256, 192]⟩ : Shape).Idx at i
  rw [eq_ix3 i, show i 0 = (0 : Fin 1) from Fin.ext (Nat.lt_one_iff.mp (i 0).isLt)]
  refine (hG t (i 1) (i 2)).trans (congrArg G ?_)
  funext a; apply Fin.ext
  match a with
  | ⟨0, _⟩ => show t.val / 4 = win0_7.index t (0 : Fin 3) * 1 + 1 * 0; omega
  | ⟨1, _⟩ => show t.val % 4 * 256 + (i 1).val = win0_7.index t (1 : Fin 3) * 256 + 1 * (i 1).val; omega
  | ⟨2, _⟩ => show (i 2).val = win0_7.index t (2 : Fin 3) * 192 + 1 * (i 2).val; omega

/-- The summed gradient. -/
def grad (a : Vec Ideal S8x1024x192 .bf16) (i : S1x1024x192.Idx) : EReal := total a (i 1) (i 2)

theorem grad_block (t : Fin cfg0.N) (p : Fin 256) (q : Fin 192) :
    total (iblk m c 0 t) p q = grad (V m c main_arg0) (ix3 (layer t) (row t p) q) := by
  unfold total
  simp only [blk0]
  rfl

theorem arr4 : ((dats m 0 c).arrAt 4 cfg0.N : Vec Ideal S1x1024x192 .f32) = fun i => (grad (V m c main_arg0) i) :=
  whole4 m c _ fun t p q => (grad_apply _ _ _ _ p q).trans (grad_block m c t p q)

theorem arr5 : ((dats m 0 c).arrAt 5 cfg0.N : Vec Ideal S1x1024x192 .f32) = fun i => Adam.change ((V m c main_arg1 : Vec Ideal S1x1024x192 .f32) i) (grad (V m c main_arg0) i) ((V m c main_arg2 : Vec Ideal S1x1024x192 .f32) i) ((V m c main_arg3 : Vec Ideal S1x1024x192 .f32) i) :=
  whole5 m c _ fun t p q => (change_apply _ _ _ _ p q).trans (by rw [grad_block m c t p q, blk1, blk2, blk3])

theorem arr6 : ((dats m 0 c).arrAt 6 cfg0.N : Vec Ideal S1x1024x192 .f32) = fun i => Adam.first (grad (V m c main_arg0) i) ((V m c main_arg2 : Vec Ideal S1x1024x192 .f32) i) :=
  whole6 m c _ fun t p q => (first_apply _ _ _ _ p q).trans (by rw [grad_block m c t p q, blk2])

theorem arr7 : ((dats m 0 c).arrAt 7 cfg0.N : Vec Ideal S1x1024x192 .f32) = fun i => Adam.second (grad (V m c main_arg0) i) ((V m c main_arg3 : Vec Ideal S1x1024x192 .f32) i) :=
  whole7 m c _ fun t p q => (second_apply _ _ _ _ p q).trans (by rw [grad_block m c t p q, blk3])

end Cert.Kernel11Ideal.Update

end
-- ==== Proof.UpdQkvClaim.lean ====
/-
  The update of the query, key and value projections: the kernel's four arrays are the reference's.
-/
module

public import proofs.«01_k».proof.Defs
public import proofs.«01_k».proof.Proof.UpdQkv
public import proofs.«01_k».proof.Proof.Gen.Kernel11Ideal
public import proofs.«01_k».proof.Proof.Gen.Reference11Ideal.Run
public import Idealize.ShloMosaic.Lib.Claim

@[expose] public section

set_option maxRecDepth 16384

noncomputable section

namespace Cert.Reference11Ideal.Update

open Cert.Reference11Ideal Cert.Reference11Ideal.Gen Idealize.ShloMosaic Idealize.ShloMosaic.TcCoe Idealize.SL.Sem

/-- The reference's summed gradient at an index. -/
theorem reference_grad (a0 : Vec Ideal S8x1024x192 .bf16) (i : S1x1024x192.Idx) :
    (broadcastInDim S1x1024x192 ![1, 2] bcast_S1024x192_S1x1024x192_1_2 (Host.reduceAdd (F := Ideal) (extf .f32 a0 bitsLt_bf16_f32) (constant S_ .f32 0x00000000#32) reducesTo_S8x1024x192_S1024x192_d0 h_S_)) i
      = Cert.Kernel11Ideal.Update.grad a0 i := by
  rw [eq_ix3 i]
  unfold Cert.Kernel11Ideal.Update.grad Adam.total
  pointwise []

end Cert.Reference11Ideal.Update

namespace Cert

open Idealize.ShloMosaic Idealize.SL.Sem
open Cert.Reference11Ideal.Update (reference_grad)

theorem updqkv_algebraic : algebraic_Kernel11Ideal_Reference11Ideal (hKernel11Ideal := Cert.Kernel11Ideal.Gen.facts)
    (hReference11Ideal := Cert.Reference11Ideal.Gen.facts) := by
  intro m g m' g' _ hargs
  refine ⟨_, _, _, _, Cert.Kernel11Ideal.Value.run_blocks m g, ?_⟩
  refine (θ_run _ _ _).mono (fun r h c => ?_) (Cert.Reference11Ideal.Value.run m' g')
  obtain ⟨r0, r1, r2, r3, rest⟩ := h c
  obtain ⟨h0, h1, h2, h3⟩ := hargs c
  refine ⟨?_, ?_, ?_, ?_, rest⟩
  · refine r0.trans ?_
    rw [h0, Cert.Kernel11Ideal.Update.arr4]
    funext i
    simp only [Cert.Kernel11Ideal.Gen.V_main_arg0]
    exact reference_grad _ i
  · refine r1.trans ?_
    rw [h0, h1, h2, h3, Cert.Kernel11Ideal.Update.arr5]
    funext i
    simp only [Cert.Kernel11Ideal.Gen.V_main_arg0, Cert.Kernel11Ideal.Gen.V_main_arg1, Cert.Kernel11Ideal.Gen.V_main_arg2, Cert.Kernel11Ideal.Gen.V_main_arg3]
    exact (Adam.host_change ..).trans (by rw [reference_grad])
  · refine r2.trans ?_
    rw [h0, h2, Cert.Kernel11Ideal.Update.arr6]
    funext i
    simp only [Cert.Kernel11Ideal.Gen.V_main_arg0, Cert.Kernel11Ideal.Gen.V_main_arg2]
    exact (Adam.host_first ..).trans (by rw [reference_grad])
  · refine r3.trans ?_
    rw [h0, h3, Cert.Kernel11Ideal.Update.arr7]
    funext i
    simp only [Cert.Kernel11Ideal.Gen.V_main_arg0, Cert.Kernel11Ideal.Gen.V_main_arg3]
    exact (Adam.host_second ..).trans (by rw [reference_grad])

end Cert

end
-- ==== Proof.lean ====
/-
  The certificate: every program's frame is its generated run, nothing was rewritten by the idealization, and each
  value claim is proved in the module of its own call.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Pre_conv_pre_bwd_finite
public import proofs.«01_k».proof.Proof.Gen.Pre_ffn_bwd_finite
public import proofs.«01_k».proof.Proof.Gen.Pre_ffn_loss_finite
public import proofs.«01_k».proof.Proof.Gen.Pre_attn_pre_bwd_finite
public import proofs.«01_k».proof.Proof.AttnPreClaim
public import proofs.«01_k».proof.Proof.ConvPreClaim
public import proofs.«01_k».proof.Proof.DwdClaim
public import proofs.«01_k».proof.Proof.DwguClaim
public import proofs.«01_k».proof.Proof.DwoClaim
public import proofs.«01_k».proof.Proof.Dwpw1Claim
public import proofs.«01_k».proof.Proof.Dwpw2Claim
public import proofs.«01_k».proof.Proof.FfnBwdClaim
public import proofs.«01_k».proof.Proof.FfnLossClaim
public import proofs.«01_k».proof.Proof.PostClaim
public import proofs.«01_k».proof.Proof.SmallStepClaim
public import proofs.«01_k».proof.Proof.SumPartsClaim
public import proofs.«01_k».proof.Proof.UpdDownClaim
public import proofs.«01_k».proof.Proof.UpdGuClaim
public import proofs.«01_k».proof.Proof.UpdOClaim
public import proofs.«01_k».proof.Proof.UpdPw1Claim
public import proofs.«01_k».proof.Proof.UpdQkvClaim
public import Idealize.ShloMosaic.Lib.Quiescent
public import Idealize.ShloMosaic.Adequacy
public import Idealize.ShloMosaic.Init

@[expose] public section

noncomputable section

namespace Cert.Proof

open Idealize.ShloMosaic Idealize.SL.Sem

/-- `ReferenceIdeal` is host code: its run leaves the arguments as they were, and it declares no semaphore. -/
theorem referenceIdeal_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2.2.2, sem_eq_zero_of_no_sems (by decide) r.2⟩)
    (Cert.ReferenceIdeal.Value.run (F := Ideal) m ρ)

/-- `Reference2Ideal` is host code: its run leaves the arguments as they were, and it declares no semaphore. -/
theorem reference2Ideal_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r =>
      (∀ c : Dev Cert.Reference2Ideal.nD, r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2.2, sem_eq_zero_of_no_sems (by decide) r.2⟩)
    (Cert.Reference2Ideal.Value.run (F := Ideal) m ρ)

/-- `Reference3Ideal` is host code: its run leaves the arguments as they were, and it declares no semaphore. -/
theorem reference3Ideal_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r =>
      (∀ c : Dev Cert.Reference3Ideal.nD, r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

/-- `Reference4Ideal` is host code: its run leaves the arguments as they were, and it declares no semaphore. -/
theorem reference4Ideal_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r =>
      (∀ c : Dev Cert.Reference4Ideal.nD, r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

/-- `Reference5Ideal` is host code: its run leaves the arguments as they were, and it declares no semaphore. -/
theorem reference5Ideal_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r =>
      (∀ c : Dev Cert.Reference5Ideal.nD, r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m ρ)

/-- `Reference6Ideal` is host code: its run leaves the arguments as they were, and it declares no semaphore. -/
theorem reference6Ideal_frame (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r =>
      (∀ c : Dev Cert.Reference6Ideal.nD, r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m ρ)

/-- `Reference7Ideal` is host code: its run leaves the arguments as they were, and it declares no semaphore. -/
theorem reference7Ideal_frame (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r =>
      (∀ c : Dev Cert.Reference7Ideal.nD, r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run Cert.Reference7Ideal.defs _ _).mono (fun r h => ⟨fun c => (h c).2, sem_eq_zero_of_no_sems (by decide) r.2⟩)
    (Cert.Reference7Ideal.Value.run (F := Ideal) m ρ)

/-- `Reference8Ideal` is host code: its run leaves the arguments as they were, and it declares no semaphore. -/
theorem reference8Ideal_frame (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r =>
      (∀ c : Dev Cert.Reference8Ideal.nD, r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0) :=
  (θ_run Cert.Reference8Ideal.defs _ _).mono (fun r h => ⟨fun c => (h c).2.2.2.2.2, sem_eq_zero_of_no_sems (by decide) r.2⟩)
    (Cert.Reference8Ideal.Value.run (F := Ideal) m ρ)

/-- `Reference9Ideal` is host code: its run leaves the arguments as they were, and it declares no semaphore. -/
theorem reference9Ideal_frame (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r =>
      (∀ c : Dev Cert.Reference9Ideal.nD, r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0) :=
  (θ_run Cert.Reference9Ideal.defs _ _).mono (fun r h => ⟨fun c => (h c).2.2.2.2, sem_eq_zero_of_no_sems (by decide) r.2⟩)
    (Cert.Reference9Ideal.Value.run (F := Ideal) m ρ)

/-- `Reference10Ideal` is host code: its run leaves the arguments as they were, and it declares no semaphore. -/
theorem reference10Ideal_frame (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r =>
      (∀ c : Dev Cert.Reference10Ideal.nD, r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0) :=
  (θ_run Cert.Reference10Ideal.defs _ _).mono (fun r h => ⟨fun c => (h c).2.2, sem_eq_zero_of_no_sems (by decide) r.2⟩)
    (Cert.Reference10Ideal.Value.run (F := Ideal) m ρ)

/-- `Reference11Ideal` is host code: its run leaves the arguments as they were, and it declares no semaphore. -/
theorem reference11Ideal_frame (m : (ℓ : Loc Cert.Reference11Ideal.nD Cert.Reference11Ideal.τ Cert.Reference11Ideal.sig) → Buf (Elt Ideal) ℓ)
    (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r =>
      (∀ c : Dev Cert.Reference11Ideal.nD, r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0) :=
  (θ_run Cert.Reference11Ideal.defs _ _).mono (fun r h => ⟨fun c => (h c).2.2.2.2, sem_eq_zero_of_no_sems (by decide) r.2⟩)
    (Cert.Reference11Ideal.Value.run (F := Ideal) m ρ)

/-- `Reference12Ideal` is host code: its run leaves the arguments as they were, and it declares no semaphore. -/
theorem reference12Ideal_frame (m : (ℓ : Loc Cert.Reference12Ideal.nD Cert.Reference12Ideal.τ Cert.Reference12Ideal.sig) → Buf (Elt Ideal) ℓ)
    (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r =>
      (∀ c : Dev Cert.Reference12Ideal.nD, r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0) :=
  (θ_run Cert.Reference12Ideal.defs _ _).mono (fun r h => ⟨fun c => (h c).2.2.2.2, sem_eq_zero_of_no_sems (by decide) r.2⟩)
    (Cert.Reference12Ideal.Value.run (F := Ideal) m ρ)

/-- `Reference13Ideal` is host code: its run leaves the arguments as they were, and it declares no semaphore. -/
theorem reference13Ideal_frame (m : (ℓ : Loc Cert.Reference13Ideal.nD Cert.Reference13Ideal.τ Cert.Reference13Ideal.sig) → Buf (Elt Ideal) ℓ)
    (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r =>
      (∀ c : Dev Cert.Reference13Ideal.nD, r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0) :=
  (θ_run Cert.Reference13Ideal.defs _ _).mono (fun r h => ⟨fun c => (h c).2.2.2.2, sem_eq_zero_of_no_sems (by decide) r.2⟩)
    (Cert.Reference13Ideal.Value.run (F := Ideal) m ρ)

/-- `Reference14Ideal` is host code: its run leaves the arguments as they were, and it declares no semaphore. -/
theorem reference14Ideal_frame (m : (ℓ : Loc Cert.Reference14Ideal.nD Cert.Reference14Ideal.τ Cert.Reference14Ideal.sig) → Buf (Elt Ideal) ℓ)
    (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r =>
      (∀ c : Dev Cert.Reference14Ideal.nD, r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0) :=
  (θ_run Cert.Reference14Ideal.defs _ _).mono (fun r h => ⟨fun c => (h c).2.2.2.2, sem_eq_zero_of_no_sems (by decide) r.2⟩)
    (Cert.Reference14Ideal.Value.run (F := Ideal) m ρ)

/-- `Reference15Ideal` is host code: its run leaves the arguments as they were, and it declares no semaphore. -/
theorem reference15Ideal_frame (m : (ℓ : Loc Cert.Reference15Ideal.nD Cert.Reference15Ideal.τ Cert.Reference15Ideal.sig) → Buf (Elt Ideal) ℓ)
    (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r =>
      (∀ c : Dev Cert.Reference15Ideal.nD, r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0) :=
  (θ_run Cert.Reference15Ideal.defs _ _).mono (fun r h => ⟨fun c => (h c).2.2.2.2, sem_eq_zero_of_no_sems (by decide) r.2⟩)
    (Cert.Reference15Ideal.Value.run (F := Ideal) m ρ)

/-- `Reference16Ideal` is host code: its run leaves the arguments as they were, and it declares no semaphore. -/
theorem reference16Ideal_frame (m : (ℓ : Loc Cert.Reference16Ideal.nD Cert.Reference16Ideal.τ Cert.Reference16Ideal.sig) → Buf (Elt Ideal) ℓ)
    (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r =>
      (∀ c : Dev Cert.Reference16Ideal.nD, r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0) :=
  (θ_run Cert.Reference16Ideal.defs _ _).mono (fun r h => ⟨fun c => (h c).2, sem_eq_zero_of_no_sems (by decide) r.2⟩)
    (Cert.Reference16Ideal.Value.run (F := Ideal) m ρ)

/-- `Reference17Ideal` is host code: its run leaves the arguments as they were, and it declares no semaphore. -/
theorem reference17Ideal_frame (m : (ℓ : Loc Cert.Reference17Ideal.nD Cert.Reference17Ideal.τ Cert.Reference17Ideal.sig) → Buf (Elt Ideal) ℓ)
    (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ (fun r =>
      (∀ c : Dev Cert.Reference17Ideal.nD, r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0) :=
  (θ_run Cert.Reference17Ideal.defs _ _).mono (fun r h => ⟨fun c => (h c).2.2.2, sem_eq_zero_of_no_sems (by decide) r.2⟩)
    (Cert.Reference17Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_conv_pre_bwd_finite.Gen.facts, Cert.Pre_ffn_bwd_finite.Gen.facts, Cert.Pre_ffn_loss_finite.Gen.facts, Cert.Pre_attn_pre_bwd_finite.Gen.facts,
  fun m ρ _ => Cert.Kernel.Gen.frame m ρ,
  fun m ρ _ => Cert.KernelIdeal.Gen.frame m ρ,
  fun m ρ _ => Cert.KernelIdeal.Gen.frame m ρ,
  fun m ρ _ => referenceIdeal_frame m ρ,
  fun m ρ _ => referenceIdeal_frame m ρ,
  fun m ρ _ => Cert.Kernel2.Gen.frame m ρ,
  fun m ρ _ => Cert.Kernel2Ideal.Gen.frame m ρ,
  fun m ρ _ => Cert.Kernel2Ideal.Gen.frame m ρ,
  fun m ρ _ => reference2Ideal_frame m ρ,
  fun m ρ _ => reference2Ideal_frame m ρ,
  fun m ρ _ => Cert.Kernel3.Gen.frame m ρ,
  fun m ρ _ => Cert.Kernel3Ideal.Gen.frame m ρ,
  fun m ρ _ => reference3Ideal_frame m ρ,
  fun m ρ _ => Cert.Kernel4.Gen.frame m ρ,
  fun m ρ _ => Cert.Kernel4Ideal.Gen.frame m ρ,
  fun m ρ _ => reference4Ideal_frame m ρ,
  fun m ρ _ => Cert.Kernel5.Gen.frame m ρ,
  fun m ρ _ => Cert.Kernel5Ideal.Gen.frame m ρ,
  fun m ρ _ => reference5Ideal_frame m ρ,
  fun m ρ _ => Cert.Kernel6.Gen.frame m ρ,
  fun m ρ _ => Cert.Kernel6Ideal.Gen.frame m ρ,
  fun m ρ _ => reference6Ideal_frame m ρ,
  fun m ρ _ => Cert.Kernel7.Gen.frame m ρ,
  fun m ρ _ => Cert.Kernel7Ideal.Gen.frame m ρ,
  fun m ρ _ => reference7Ideal_frame m ρ,
  fun m ρ _ => Cert.Kernel8.Gen.frame m ρ,
  fun m ρ _ => Cert.Kernel8Ideal.Gen.frame m ρ,
  fun m ρ _ => Cert.Kernel8Ideal.Gen.frame m ρ,
  fun m ρ _ => reference8Ideal_frame m ρ,
  fun m ρ _ => reference8Ideal_frame m ρ,
  fun m ρ _ => Cert.Kernel9.Gen.frame m ρ,
  fun m ρ _ => Cert.Kernel9Ideal.Gen.frame m ρ,
  fun m ρ _ => Cert.Kernel9Ideal.Gen.frame m ρ,
  fun m ρ _ => reference9Ideal_frame m ρ,
  fun m ρ _ => reference9Ideal_frame m ρ,
  fun m ρ _ => Cert.Kernel10.Gen.frame m ρ,
  fun m ρ _ => Cert.Kernel10Ideal.Gen.frame m ρ,
  fun m ρ _ => reference10Ideal_frame m ρ,
  fun m ρ _ => Cert.Kernel11.Gen.frame m ρ,
  fun m ρ _ => Cert.Kernel11Ideal.Gen.frame m ρ,
  fun m ρ _ => reference11Ideal_frame m ρ,
  fun m ρ _ => Cert.Kernel12.Gen.frame m ρ,
  fun m ρ _ => Cert.Kernel12Ideal.Gen.frame m ρ,
  fun m ρ _ => reference12Ideal_frame m ρ,
  fun m ρ _ => Cert.Kernel13.Gen.frame m ρ,
  fun m ρ _ => Cert.Kernel13Ideal.Gen.frame m ρ,
  fun m ρ _ => reference13Ideal_frame m ρ,
  fun m ρ _ => Cert.Kernel14.Gen.frame m ρ,
  fun m ρ _ => Cert.Kernel14Ideal.Gen.frame m ρ,
  fun m ρ _ => reference14Ideal_frame m ρ,
  fun m ρ _ => Cert.Kernel15.Gen.frame m ρ,
  fun m ρ _ => Cert.Kernel15Ideal.Gen.frame m ρ,
  fun m ρ _ => reference15Ideal_frame m ρ,
  fun m ρ _ => Cert.Kernel16.Gen.frame m ρ,
  fun m ρ _ => Cert.Kernel16Ideal.Gen.frame m ρ,
  fun m ρ _ => reference16Ideal_frame m ρ,
  fun m ρ _ => Cert.Kernel17.Gen.frame m ρ,
  fun m ρ _ => Cert.Kernel17Ideal.Gen.frame m ρ,
  fun m ρ _ => reference17Ideal_frame m ρ,
  trivial,
  Cert.convpre_algebraic,
  trivial,
  Cert.ffnbwd_algebraic,
  trivial,
  Cert.dwgu_algebraic,
  trivial,
  Cert.dwd_algebraic,
  trivial,
  Cert.dwpw1_algebraic,
  trivial,
  Cert.dwpw2_algebraic,
  trivial,
  Cert.dwo_algebraic,
  trivial,
  Cert.ffnloss_algebraic,
  trivial,
  Cert.attnpre_algebraic,
  trivial,
  Cert.post_algebraic,
  trivial,
  Cert.updqkv_algebraic,
  trivial,
  Cert.updo_algebraic,
  trivial,
  Cert.updpw1_algebraic,
  trivial,
  Cert.updgu_algebraic,
  trivial,
  Cert.upddown_algebraic,
  trivial,
  Cert.sumparts_algebraic,
  trivial,
  Cert.smallstep_algebraic⟩

end Cert.Proof

end
